-- ==== Defs.lean ====
def Pre_Kernel [hPre_batch_in_range : Cert.Pre_batch_in_range.Facts] (m : (ℓ : Loc Cert.Kernel.nD Cert.Kernel.τ Cert.Kernel.sig) → Buf (Elt Bits) ℓ) : Prop :=
  ∀ c : Dev Cert.Kernel.nD,
    (Cert.Pre_batch_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_batch_in_range : Cert.Pre_batch_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_in_range [hPre_batch_in_range : Cert.Pre_batch_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_batch_in_range : Cert.Pre_batch_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_batch_in_range [hReferenceIdeal : Cert.ReferenceIdeal.Facts] [hPre_batch_in_range : Cert.Pre_batch_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "seventh" .f32 0x3E124925#32 ((1 / 7 : ℝ) : EReal)

def algebraic_KernelIdeal_ReferenceIdeal [hKernelIdeal : Cert.KernelIdeal.Facts] [hReferenceIdeal : Cert.ReferenceIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_batch_in_range : Cert.Pre_batch_in_range.Facts),
    quiescent_Kernel (hKernel := hKernel) (hPre_batch_in_range := hPre_batch_in_range)
    ∧ quiescent_KernelIdeal (hKernelIdeal := hKernelIdeal) (hPre_batch_in_range := hPre_batch_in_range)
    ∧ quiescent_ReferenceIdeal (hReferenceIdeal := hReferenceIdeal)
    ∧ quiescent_ReferenceIdeal_pre_batch_in_range (hReferenceIdeal := hReferenceIdeal) (hPre_batch_in_range := hPre_batch_in_range)
    ∧ preserves_Kernel_KernelIdeal
    ∧ algebraic_KernelIdeal_ReferenceIdeal (hKernelIdeal := hKernelIdeal) (hReferenceIdeal := hReferenceIdeal) (hPre_batch_in_range := hPre_batch_in_range)
-- ==== Pre_batch_in_range.lean ====
abbrev S4x128x32x32 : Shape := ⟨4, ![4, 128, 32, 32]⟩
abbrev S1000x5 : Shape := ⟨2, ![1000, 5]⟩
abbrev S1000x1 : Shape := ⟨2, ![1000, 1]⟩
abbrev S1000 : Shape := ⟨1, ![1000]⟩
abbrev S_ : Shape := ⟨0, ![]⟩

class Facts : Prop where
  slices_S1000x5_S1000x1_0_0 : S1000x5.Slices ![0, 0] S1000x1
  shapeCasts_S1000x1_S1000 : S1000x1.ShapeCasts S1000
  bcast_S_S1000 : S_.BroadcastsInDim S1000 (![] : Fin 0 → Fin S1000.rank)
  reducesTo_S1000_S_d0 : S1000.ReducesTo [0] S_
  h_S_ : 0 < S_.numel

variable [Facts]

def fn {F : FTy → Type} [FloatOps F] (main_arg0 : FVec F S4x128x32x32 .f32) (main_arg1 : FVec F S1000x5 .f32) : IVec S_ 1 :=
  let main_v0 : FVec F S1000x1 .f32 := (extractStridedSlice S1000x1 ![0, 0] · slices_S1000x5_S1000x1_0_0) main_arg1
  let main_v1 : FVec F S1000 .f32 := shapeCast S1000 main_v0 shapeCasts_S1000x1_S1000
  let main_v2 : IVec S1000 32 := fptosi 32 main_v1
  let main_c : IVec S_ 32 := constantI S_ 32 0#32
  let main_v3 : IVec S1000 32 := broadcastInDim S1000 ![] bcast_S_S1000 main_c
  let main_v4 : IVec S1000 1 := cmpi .sge main_v2 main_v3
  let main_c_0 : IVec S_ 32 := constantI S_ 32 4#32
  let main_v5 : IVec S1000 32 := broadcastInDim S1000 ![] bcast_S_S1000 main_c_0
  let main_v6 : IVec S1000 1 := cmpi .slt main_v2 main_v5
  let main_v7 : IVec S1000 1 := andi main_v4 main_v6
  let main_c_1 : IVec S_ 1 := constantI S_ 1 1#1
  let main_v8 : IVec S_ 1 := (fun x v => Host.reduce IntOp.andi x v reducesTo_S1000_S_d0 h_S_) main_v7 main_c_1
  main_v8
-- ==== Kernel.lean ====
abbrev S4x128x32x32 : Shape := ⟨4, ![4, 128, 32, 32]⟩
abbrev S1000x5 : Shape := ⟨2, ![1000, 5]⟩
abbrev S4x32x32x128 : Shape := ⟨4, ![4, 32, 32, 128]⟩
abbrev S4096x128 : Shape := ⟨2, ![4096, 128]⟩
abbrev S_ : Shape := ⟨0, ![]⟩
abbrev S1024x5 : Shape := ⟨2, ![1024, 5]⟩
abbrev S1 : Shape := ⟨1, ![1]⟩
abbrev S5x1024 : Shape := ⟨2, ![5, 1024]⟩
abbrev S1024x49x128 : Shape := ⟨3, ![1024, 49, 128]⟩
abbrev S16 : Shape := ⟨1, ![16]⟩
abbrev S13x64 : Shape := ⟨2, ![13, 64]⟩
abbrev S832 : Shape := ⟨1, ![832]⟩
abbrev S832x128 : Shape := ⟨2, ![832, 128]⟩
abbrev S49x128 : Shape := ⟨2, ![49, 128]⟩
abbrev S1x16 : Shape := ⟨2, ![1, 16]⟩
abbrev S64x128 : Shape := ⟨2, ![64, 128]⟩
abbrev S1x64 : Shape := ⟨2, ![1, 64]⟩
abbrev S64 : Shape := ⟨1, ![64]⟩
abbrev S1x49x128 : Shape := ⟨3, ![1, 49, 128]⟩
abbrev S1000x49x128 : Shape := ⟨3, ![1000, 49, 128]⟩
abbrev S1000x7x7x128 : Shape := ⟨4, ![1000, 7, 7, 128]⟩
abbrev S1000x128x7x7 : Shape := ⟨4, ![1000, 128, 7, 7]⟩

abbrev nBuf : Table → Nat
  | .hbm => 14
  | .local .scVector .vmem => 9
  | _ => 0

abbrev bufTy : (tb : Table) → Fin (nBuf tb) → BufTy
  | .hbm, ⟨0, _⟩ => ⟨S4x128x32x32, .f32⟩
  | .hbm, ⟨1, _⟩ => ⟨S1000x5, .f32⟩
  | .hbm, ⟨2, _⟩ => ⟨S4x32x32x128, .f32⟩
  | .hbm, ⟨3, _⟩ => ⟨S4096x128, .f32⟩
  | .hbm, ⟨4, _⟩ => ⟨S_, .f32⟩
  | .hbm, ⟨5, _⟩ => ⟨S1024x5, .f32⟩
  | .hbm, ⟨6, _⟩ => ⟨S_, .i32⟩
  | .hbm, ⟨7, _⟩ => ⟨S1, .i32⟩
  | .hbm, ⟨8, _⟩ => ⟨S1024x5, .f32⟩
  | .hbm, ⟨9, _⟩ => ⟨S5x1024, .f32⟩
  | .hbm, ⟨10, _⟩ => ⟨S1024x49x128, .f32⟩
  | .hbm, ⟨11, _⟩ => ⟨S1000x49x128, .f32⟩
  | .hbm, ⟨12, _⟩ => ⟨S1000x7x7x128, .f32⟩
  | .hbm, ⟨13, _⟩ => ⟨S1000x128x7x7, .f32⟩
  | .local .scVector .vmem, ⟨0, _⟩ => ⟨S16, .f32⟩
  | .local .scVector .vmem, ⟨1, _⟩ => ⟨S16, .f32⟩
  | .local .scVector .vmem, ⟨2, _⟩ => ⟨S16, .f32⟩
  | .local .scVector .vmem, ⟨3, _⟩ => ⟨S16, .f32⟩
  | .local .scVector .vmem, ⟨4, _⟩ => ⟨S16, .f32⟩
  | .local .scVector .vmem, ⟨5, _⟩ => ⟨S13x64, .i32⟩
  | .local .scVector .vmem, ⟨6, _⟩ => ⟨S832, .f32⟩
  | .local .scVector .vmem, ⟨7, _⟩ => ⟨S832x128, .f32⟩
  | .local .scVector .vmem, ⟨8, _⟩ => ⟨S49x128, .f32⟩
  | _, _ => ⟨S4x128x32x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v1_scv : Ref sig .scVector := ⟨.hbm, 3, rfl⟩
abbrev main_v5_scv : Ref sig .scVector := ⟨.hbm, 9, rfl⟩
abbrev main_v6_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi v2 c0_i32
  ![0, v3.toNat]
def k0_off2 (i : grid0.Coords) (c0_i32 : BitVec 32) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi v2 c0_i32
  ![1, v3.toNat]
def k0_off3 (i : grid0.Coords) (c0_i32 : BitVec 32) : Fin 2 → Nat :=
  let c2_i32_1 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi v2 c0_i32
  ![2, v3.toNat]
def k0_off4 (i : grid0.Coords) (c0_i32 : BitVec 32) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi v2 c0_i32
  ![3, v3.toNat]
def k0_off5 (i : grid0.Coords) (c0_i32 : BitVec 32) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi v2 c0_i32
  ![4, v3.toNat]
@[reducible] def k0_t1_loop : Scf.Loop 32 :=
  let c0_i32_3 : BitVec 32 := 0#32
  let c16_i32 : BitVec 32 := 16#32
  let v4 : BitVec 32 := Scalar.addi c0_i32_3 c16_i32
  let c1_i32_4 : BitVec 32 := 1#32
  ⟨c0_i32_3, v4, c1_i32_4⟩

def k0_chk1 (v10 : IVec S16 32) : Prop :=
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a)
theorem k0_idx1_inb : ∀ (v10 : IVec S16 32) (k0_hw1 : k0_chk1 v10), ∀ a x, ((![v10] : Fin 1 → IVec S16 32) a x).toNat < S16.size a := fun v10 k0_hw1 => k0_hw1.1
theorem k0_idx2_inb : ∀ (v10 : IVec S16 32) (k0_hw1 : k0_chk1 v10), ∀ a x, ((![v10] : Fin 1 → IVec S16 32) a x).toNat < S16.size a := fun v10 k0_hw1 => k0_hw1.2.1
theorem k0_idx3_inb : ∀ (v10 : IVec S16 32) (k0_hw1 : k0_chk1 v10), ∀ a x, ((![v10] : Fin 1 → IVec S16 32) a x).toNat < S16.size a := fun v10 k0_hw1 => k0_hw1.2.2.1
theorem k0_idx4_inb : ∀ (v10 : IVec S16 32) (k0_hw1 : k0_chk1 v10), ∀ a x, ((![v10] : Fin 1 → IVec S16 32) a x).toNat < S16.size a := fun v10 k0_hw1 => k0_hw1.2.2.2.1
theorem k0_idx5_inb : ∀ (v10 : IVec S16 32) (k0_hw1 : k0_chk1 v10), ∀ a x, ((![v10] : Fin 1 → IVec S16 32) a x).toNat < S16.size a := fun v10 k0_hw1 => k0_hw1.2.2.2.2

def k0_chk2 (v259 : IVec S16 32) (v269 : IVec S16 32) : Prop :=
  (∀ a x, ((![v259, v269] : Fin 2 → IVec S16 32) a x).toNat < S13x64.size a)
theorem k0_idx6_inb : ∀ (v259 : IVec S16 32) (v269 : IVec S16 32) (k0_hw2 : k0_chk2 v259 v269), ∀ a x, ((![v259, v269] : Fin 2 → IVec S16 32) a x).toNat < S13x64.size a := fun v259 v269 k0_hw2 => k0_hw2

def k0_chk3 (v273 : IVec S16 32) : Prop :=
  (∀ a x, ((![v273] : Fin 1 → IVec S16 32) a x).toNat < S832.size a)
theorem k0_idx7_inb : ∀ (v273 : IVec S16 32) (k0_hw3 : k0_chk3 v273), ∀ a x, ((![v273] : Fin 1 → IVec S16 32) a x).toNat < S832.size a := fun v273 k0_hw3 => k0_hw3

def k0_chk4 (v259 : IVec S16 32) (v280 : IVec S16 32) : Prop :=
  (∀ a x, ((![v259, v280] : Fin 2 → IVec S16 32) a x).toNat < S13x64.size a)
theorem k0_idx8_inb : ∀ (v259 : IVec S16 32) (v280 : IVec S16 32) (k0_hw4 : k0_chk4 v259 v280), ∀ a x, ((![v259, v280] : Fin 2 → IVec S16 32) a x).toNat < S13x64.size a := fun v259 v280 k0_hw4 => k0_hw4

def k0_chk5 (v284 : IVec S16 32) : Prop :=
  (∀ a x, ((![v284] : Fin 1 → IVec S16 32) a x).toNat < S832.size a)
theorem k0_idx9_inb : ∀ (v284 : IVec S16 32) (k0_hw5 : k0_chk5 v284), ∀ a x, ((![v284] : Fin 1 → IVec S16 32) a x).toNat < S832.size a := fun v284 k0_hw5 => k0_hw5

def k0_chk6 (v259 : IVec S16 32) (v291 : IVec S16 32) : Prop :=
  (∀ a x, ((![v259, v291] : Fin 2 → IVec S16 32) a x).toNat < S13x64.size a)
theorem k0_idx10_inb : ∀ (v259 : IVec S16 32) (v291 : IVec S16 32) (k0_hw6 : k0_chk6 v259 v291), ∀ a x, ((![v259, v291] : Fin 2 → IVec S16 32) a x).toNat < S13x64.size a := fun v259 v291 k0_hw6 => k0_hw6

def k0_chk7 (v295 : IVec S16 32) : Prop :=
  (∀ a x, ((![v295] : Fin 1 → IVec S16 32) a x).toNat < S832.size a)
theorem k0_idx11_inb : ∀ (v295 : IVec S16 32) (k0_hw7 : k0_chk7 v295), ∀ a x, ((![v295] : Fin 1 → IVec S16 32) a x).toNat < S832.size a := fun v295 k0_hw7 => k0_hw7

def k0_chk8 (v259 : IVec S16 32) (v302 : IVec S16 32) : Prop :=
  (∀ a x, ((![v259, v302] : Fin 2 → IVec S16 32) a x).toNat < S13x64.size a)
theorem k0_idx12_inb : ∀ (v259 : IVec S16 32) (v302 : IVec S16 32) (k0_hw8 : k0_chk8 v259 v302), ∀ a x, ((![v259, v302] : Fin 2 → IVec S16 32) a x).toNat < S13x64.size a := fun v259 v302 k0_hw8 => k0_hw8

def k0_chk9 (v306 : IVec S16 32) : Prop :=
  (∀ a x, ((![v306] : Fin 1 → IVec S16 32) a x).toNat < S832.size a)
theorem k0_idx13_inb : ∀ (v306 : IVec S16 32) (k0_hw9 : k0_chk9 v306), ∀ a x, ((![v306] : Fin 1 → IVec S16 32) a x).toNat < S832.size a := fun v306 k0_hw9 => k0_hw9

def k0_chk10 (v512 : IVec S16 32) (v522 : IVec S16 32) : Prop :=
  (∀ a x, ((![v512, v522] : Fin 2 → IVec S16 32) a x).toNat < S13x64.size a)
theorem k0_idx14_inb : ∀ (v512 : IVec S16 32) (v522 : IVec S16 32) (k0_hw10 : k0_chk10 v512 v522), ∀ a x, ((![v512, v522] : Fin 2 → IVec S16 32) a x).toNat < S13x64.size a := fun v512 v522 k0_hw10 => k0_hw10

def k0_chk11 (v526 : IVec S16 32) : Prop :=
  (∀ a x, ((![v526] : Fin 1 → IVec S16 32) a x).toNat < S832.size a)
theorem k0_idx15_inb : ∀ (v526 : IVec S16 32) (k0_hw11 : k0_chk11 v526), ∀ a x, ((![v526] : Fin 1 → IVec S16 32) a x).toNat < S832.size a := fun v526 k0_hw11 => k0_hw11

def k0_chk12 (v512 : IVec S16 32) (v533 : IVec S16 32) : Prop :=
  (∀ a x, ((![v512, v533] : Fin 2 → IVec S16 32) a x).toNat < S13x64.size a)
theorem k0_idx16_inb : ∀ (v512 : IVec S16 32) (v533 : IVec S16 32) (k0_hw12 : k0_chk12 v512 v533), ∀ a x, ((![v512, v533] : Fin 2 → IVec S16 32) a x).toNat < S13x64.size a := fun v512 v533 k0_hw12 => k0_hw12

def k0_chk13 (v537 : IVec S16 32) : Prop :=
  (∀ a x, ((![v537] : Fin 1 → IVec S16 32) a x).toNat < S832.size a)
theorem k0_idx17_inb : ∀ (v537 : IVec S16 32) (k0_hw13 : k0_chk13 v537), ∀ a x, ((![v537] : Fin 1 → IVec S16 32) a x).toNat < S832.size a := fun v537 k0_hw13 => k0_hw13

def k0_chk14 (v512 : IVec S16 32) (v544 : IVec S16 32) : Prop :=
  (∀ a x, ((![v512, v544] : Fin 2 → IVec S16 32) a x).toNat < S13x64.size a)
theorem k0_idx18_inb : ∀ (v512 : IVec S16 32) (v544 : IVec S16 32) (k0_hw14 : k0_chk14 v512 v544), ∀ a x, ((![v512, v544] : Fin 2 → IVec S16 32) a x).toNat < S13x64.size a := fun v512 v544 k0_hw14 => k0_hw14

def k0_chk15 (v548 : IVec S16 32) : Prop :=
  (∀ a x, ((![v548] : Fin 1 → IVec S16 32) a x).toNat < S832.size a)
theorem k0_idx19_inb : ∀ (v548 : IVec S16 32) (k0_hw15 : k0_chk15 v548), ∀ a x, ((![v548] : Fin 1 → IVec S16 32) a x).toNat < S832.size a := fun v548 k0_hw15 => k0_hw15

def k0_chk16 (v512 : IVec S16 32) (v555 : IVec S16 32) : Prop :=
  (∀ a x, ((![v512, v555] : Fin 2 → IVec S16 32) a x).toNat < S13x64.size a)
theorem k0_idx20_inb : ∀ (v512 : IVec S16 32) (v555 : IVec S16 32) (k0_hw16 : k0_chk16 v512 v555), ∀ a x, ((![v512, v555] : Fin 2 → IVec S16 32) a x).toNat < S13x64.size a := fun v512 v555 k0_hw16 => k0_hw16

def k0_chk17 (v559 : IVec S16 32) : Prop :=
  (∀ a x, ((![v559] : Fin 1 → IVec S16 32) a x).toNat < S832.size a)
theorem k0_idx21_inb : ∀ (v559 : IVec S16 32) (k0_hw17 : k0_chk17 v559), ∀ a x, ((![v559] : Fin 1 → IVec S16 32) a x).toNat < S832.size a := fun v559 k0_hw17 => k0_hw17

def k0_chk18 (v765 : IVec S16 32) (v775 : IVec S16 32) : Prop :=
  (∀ a x, ((![v765, v775] : Fin 2 → IVec S16 32) a x).toNat < S13x64.size a)
theorem k0_idx22_inb : ∀ (v765 : IVec S16 32) (v775 : IVec S16 32) (k0_hw18 : k0_chk18 v765 v775), ∀ a x, ((![v765, v775] : Fin 2 → IVec S16 32) a x).toNat < S13x64.size a := fun v765 v775 k0_hw18 => k0_hw18

def k0_chk19 (v779 : IVec S16 32) : Prop :=
  (∀ a x, ((![v779] : Fin 1 → IVec S16 32) a x).toNat < S832.size a)
theorem k0_idx23_inb : ∀ (v779 : IVec S16 32) (k0_hw19 : k0_chk19 v779), ∀ a x, ((![v779] : Fin 1 → IVec S16 32) a x).toNat < S832.size a := fun v779 k0_hw19 => k0_hw19

def k0_chk20 (v765 : IVec S16 32) (v786 : IVec S16 32) : Prop :=
  (∀ a x, ((![v765, v786] : Fin 2 → IVec S16 32) a x).toNat < S13x64.size a)
theorem k0_idx24_inb : ∀ (v765 : IVec S16 32) (v786 : IVec S16 32) (k0_hw20 : k0_chk20 v765 v786), ∀ a x, ((![v765, v786] : Fin 2 → IVec S16 32) a x).toNat < S13x64.size a := fun v765 v786 k0_hw20 => k0_hw20

def k0_chk21 (v790 : IVec S16 32) : Prop :=
  (∀ a x, ((![v790] : Fin 1 → IVec S16 32) a x).toNat < S832.size a)
theorem k0_idx25_inb : ∀ (v790 : IVec S16 32) (k0_hw21 : k0_chk21 v790), ∀ a x, ((![v790] : Fin 1 → IVec S16 32) a x).toNat < S832.size a := fun v790 k0_hw21 => k0_hw21

def k0_chk22 (v765 : IVec S16 32) (v797 : IVec S16 32) : Prop :=
  (∀ a x, ((![v765, v797] : Fin 2 → IVec S16 32) a x).toNat < S13x64.size a)
theorem k0_idx26_inb : ∀ (v765 : IVec S16 32) (v797 : IVec S16 32) (k0_hw22 : k0_chk22 v765 v797), ∀ a x, ((![v765, v797] : Fin 2 → IVec S16 32) a x).toNat < S13x64.size a := fun v765 v797 k0_hw22 => k0_hw22

def k0_chk23 (v801 : IVec S16 32) : Prop :=
  (∀ a x, ((![v801] : Fin 1 → IVec S16 32) a x).toNat < S832.size a)
theorem k0_idx27_inb : ∀ (v801 : IVec S16 32) (k0_hw23 : k0_chk23 v801), ∀ a x, ((![v801] : Fin 1 → IVec S16 32) a x).toNat < S832.size a := fun v801 k0_hw23 => k0_hw23

def k0_chk24 (v765 : IVec S16 32) (v808 : IVec S16 32) : Prop :=
  (∀ a x, ((![v765, v808] : Fin 2 → IVec S16 32) a x).toNat < S13x64.size a)
theorem k0_idx28_inb : ∀ (v765 : IVec S16 32) (v808 : IVec S16 32) (k0_hw24 : k0_chk24 v765 v808), ∀ a x, ((![v765, v808] : Fin 2 → IVec S16 32) a x).toNat < S13x64.size a := fun v765 v808 k0_hw24 => k0_hw24

def k0_chk25 (v812 : IVec S16 32) : Prop :=
  (∀ a x, ((![v812] : Fin 1 → IVec S16 32) a x).toNat < S832.size a)
theorem k0_idx29_inb : ∀ (v812 : IVec S16 32) (k0_hw25 : k0_chk25 v812), ∀ a x, ((![v812] : Fin 1 → IVec S16 32) a x).toNat < S832.size a := fun v812 k0_hw25 => k0_hw25

def k0_chk26 (v1018 : IVec S16 32) (v1028 : IVec S16 32) : Prop :=
  (∀ a x, ((![v1018, v1028] : Fin 2 → IVec S16 32) a x).toNat < S13x64.size a)
theorem k0_idx30_inb : ∀ (v1018 : IVec S16 32) (v1028 : IVec S16 32) (k0_hw26 : k0_chk26 v1018 v1028), ∀ a x, ((![v1018, v1028] : Fin 2 → IVec S16 32) a x).toNat < S13x64.size a := fun v1018 v1028 k0_hw26 => k0_hw26

def k0_chk27 (v1032 : IVec S16 32) : Prop :=
  (∀ a x, ((![v1032] : Fin 1 → IVec S16 32) a x).toNat < S832.size a)
theorem k0_idx31_inb : ∀ (v1032 : IVec S16 32) (k0_hw27 : k0_chk27 v1032), ∀ a x, ((![v1032] : Fin 1 → IVec S16 32) a x).toNat < S832.size a := fun v1032 k0_hw27 => k0_hw27

def k0_chk28 (v1018 : IVec S16 32) (v1039 : IVec S16 32) : Prop :=
  (∀ a x, ((![v1018, v1039] : Fin 2 → IVec S16 32) a x).toNat < S13x64.size a)
theorem k0_idx32_inb : ∀ (v1018 : IVec S16 32) (v1039 : IVec S16 32) (k0_hw28 : k0_chk28 v1018 v1039), ∀ a x, ((![v1018, v1039] : Fin 2 → IVec S16 32) a x).toNat < S13x64.size a := fun v1018 v1039 k0_hw28 => k0_hw28

def k0_chk29 (v1043 : IVec S16 32) : Prop :=
  (∀ a x, ((![v1043] : Fin 1 → IVec S16 32) a x).toNat < S832.size a)
theorem k0_idx33_inb : ∀ (v1043 : IVec S16 32) (k0_hw29 : k0_chk29 v1043), ∀ a x, ((![v1043] : Fin 1 → IVec S16 32) a x).toNat < S832.size a := fun v1043 k0_hw29 => k0_hw29

def k0_chk30 (v1018 : IVec S16 32) (v1050 : IVec S16 32) : Prop :=
  (∀ a x, ((![v1018, v1050] : Fin 2 → IVec S16 32) a x).toNat < S13x64.size a)
theorem k0_idx34_inb : ∀ (v1018 : IVec S16 32) (v1050 : IVec S16 32) (k0_hw30 : k0_chk30 v1018 v1050), ∀ a x, ((![v1018, v1050] : Fin 2 → IVec S16 32) a x).toNat < S13x64.size a := fun v1018 v1050 k0_hw30 => k0_hw30

def k0_chk31 (v1054 : IVec S16 32) : Prop :=
  (∀ a x, ((![v1054] : Fin 1 → IVec S16 32) a x).toNat < S832.size a)
theorem k0_idx35_inb : ∀ (v1054 : IVec S16 32) (k0_hw31 : k0_chk31 v1054), ∀ a x, ((![v1054] : Fin 1 → IVec S16 32) a x).toNat < S832.size a := fun v1054 k0_hw31 => k0_hw31

def k0_chk32 (v1018 : IVec S16 32) (v1061 : IVec S16 32) : Prop :=
  (∀ a x, ((![v1018, v1061] : Fin 2 → IVec S16 32) a x).toNat < S13x64.size a)
theorem k0_idx36_inb : ∀ (v1018 : IVec S16 32) (v1061 : IVec S16 32) (k0_hw32 : k0_chk32 v1018 v1061), ∀ a x, ((![v1018, v1061] : Fin 2 → IVec S16 32) a x).toNat < S13x64.size a := fun v1018 v1061 k0_hw32 => k0_hw32

def k0_chk33 (v1065 : IVec S16 32) : Prop :=
  (∀ a x, ((![v1065] : Fin 1 → IVec S16 32) a x).toNat < S832.size a)
theorem k0_idx37_inb : ∀ (v1065 : IVec S16 32) (k0_hw33 : k0_chk33 v1065), ∀ a x, ((![v1065] : Fin 1 → IVec S16 32) a x).toNat < S832.size a := fun v1065 k0_hw33 => k0_hw33

def k0_chk34 (v1271 : IVec S16 32) (v1281 : IVec S16 32) : Prop :=
  (∀ a x, ((![v1271, v1281] : Fin 2 → IVec S16 32) a x).toNat < S13x64.size a)
theorem k0_idx38_inb : ∀ (v1271 : IVec S16 32) (v1281 : IVec S16 32) (k0_hw34 : k0_chk34 v1271 v1281), ∀ a x, ((![v1271, v1281] : Fin 2 → IVec S16 32) a x).toNat < S13x64.size a := fun v1271 v1281 k0_hw34 => k0_hw34

def k0_chk35 (v1285 : IVec S16 32) : Prop :=
  (∀ a x, ((![v1285] : Fin 1 → IVec S16 32) a x).toNat < S832.size a)
theorem k0_idx39_inb : ∀ (v1285 : IVec S16 32) (k0_hw35 : k0_chk35 v1285), ∀ a x, ((![v1285] : Fin 1 → IVec S16 32) a x).toNat < S832.size a := fun v1285 k0_hw35 => k0_hw35

def k0_chk36 (v1271 : IVec S16 32) (v1292 : IVec S16 32) : Prop :=
  (∀ a x, ((![v1271, v1292] : Fin 2 → IVec S16 32) a x).toNat < S13x64.size a)
theorem k0_idx40_inb : ∀ (v1271 : IVec S16 32) (v1292 : IVec S16 32) (k0_hw36 : k0_chk36 v1271 v1292), ∀ a x, ((![v1271, v1292] : Fin 2 → IVec S16 32) a x).toNat < S13x64.size a := fun v1271 v1292 k0_hw36 => k0_hw36

def k0_chk37 (v1296 : IVec S16 32) : Prop :=
  (∀ a x, ((![v1296] : Fin 1 → IVec S16 32) a x).toNat < S832.size a)
theorem k0_idx41_inb : ∀ (v1296 : IVec S16 32) (k0_hw37 : k0_chk37 v1296), ∀ a x, ((![v1296] : Fin 1 → IVec S16 32) a x).toNat < S832.size a := fun v1296 k0_hw37 => k0_hw37

def k0_chk38 (v1271 : IVec S16 32) (v1303 : IVec S16 32) : Prop :=
  (∀ a x, ((![v1271, v1303] : Fin 2 → IVec S16 32) a x).toNat < S13x64.size a)
theorem k0_idx42_inb : ∀ (v1271 : IVec S16 32) (v1303 : IVec S16 32) (k0_hw38 : k0_chk38 v1271 v1303), ∀ a x, ((![v1271, v1303] : Fin 2 → IVec S16 32) a x).toNat < S13x64.size a := fun v1271 v1303 k0_hw38 => k0_hw38

def k0_chk39 (v1307 : IVec S16 32) : Prop :=
  (∀ a x, ((![v1307] : Fin 1 → IVec S16 32) a x).toNat < S832.size a)
theorem k0_idx43_inb : ∀ (v1307 : IVec S16 32) (k0_hw39 : k0_chk39 v1307), ∀ a x, ((![v1307] : Fin 1 → IVec S16 32) a x).toNat < S832.size a := fun v1307 k0_hw39 => k0_hw39

def k0_chk40 (v1271 : IVec S16 32) (v1314 : IVec S16 32) : Prop :=
  (∀ a x, ((![v1271, v1314] : Fin 2 → IVec S16 32) a x).toNat < S13x64.size a)
theorem k0_idx44_inb : ∀ (v1271 : IVec S16 32) (v1314 : IVec S16 32) (k0_hw40 : k0_chk40 v1271 v1314), ∀ a x, ((![v1271, v1314] : Fin 2 → IVec S16 32) a x).toNat < S13x64.size a := fun v1271 v1314 k0_hw40 => k0_hw40

def k0_chk41 (v1318 : IVec S16 32) : Prop :=
  (∀ a x, ((![v1318] : Fin 1 → IVec S16 32) a x).toNat < S832.size a)
theorem k0_idx45_inb : ∀ (v1318 : IVec S16 32) (k0_hw41 : k0_chk41 v1318), ∀ a x, ((![v1318] : Fin 1 → IVec S16 32) a x).toNat < S832.size a := fun v1318 k0_hw41 => k0_hw41

def k0_chk42 (v1524 : IVec S16 32) (v1534 : IVec S16 32) : Prop :=
  (∀ a x, ((![v1524, v1534] : Fin 2 → IVec S16 32) a x).toNat < S13x64.size a)
theorem k0_idx46_inb : ∀ (v1524 : IVec S16 32) (v1534 : IVec S16 32) (k0_hw42 : k0_chk42 v1524 v1534), ∀ a x, ((![v1524, v1534] : Fin 2 → IVec S16 32) a x).toNat < S13x64.size a := fun v1524 v1534 k0_hw42 => k0_hw42

def k0_chk43 (v1538 : IVec S16 32) : Prop :=
  (∀ a x, ((![v1538] : Fin 1 → IVec S16 32) a x).toNat < S832.size a)
theorem k0_idx47_inb : ∀ (v1538 : IVec S16 32) (k0_hw43 : k0_chk43 v1538), ∀ a x, ((![v1538] : Fin 1 → IVec S16 32) a x).toNat < S832.size a := fun v1538 k0_hw43 => k0_hw43

def k0_chk44 (v1524 : IVec S16 32) (v1545 : IVec S16 32) : Prop :=
  (∀ a x, ((![v1524, v1545] : Fin 2 → IVec S16 32) a x).toNat < S13x64.size a)
theorem k0_idx48_inb : ∀ (v1524 : IVec S16 32) (v1545 : IVec S16 32) (k0_hw44 : k0_chk44 v1524 v1545), ∀ a x, ((![v1524, v1545] : Fin 2 → IVec S16 32) a x).toNat < S13x64.size a := fun v1524 v1545 k0_hw44 => k0_hw44

def k0_chk45 (v1549 : IVec S16 32) : Prop :=
  (∀ a x, ((![v1549] : Fin 1 → IVec S16 32) a x).toNat < S832.size a)
theorem k0_idx49_inb : ∀ (v1549 : IVec S16 32) (k0_hw45 : k0_chk45 v1549), ∀ a x, ((![v1549] : Fin 1 → IVec S16 32) a x).toNat < S832.size a := fun v1549 k0_hw45 => k0_hw45

def k0_chk46 (v1524 : IVec S16 32) (v1556 : IVec S16 32) : Prop :=
  (∀ a x, ((![v1524, v1556] : Fin 2 → IVec S16 32) a x).toNat < S13x64.size a)
theorem k0_idx50_inb : ∀ (v1524 : IVec S16 32) (v1556 : IVec S16 32) (k0_hw46 : k0_chk46 v1524 v1556), ∀ a x, ((![v1524, v1556] : Fin 2 → IVec S16 32) a x).toNat < S13x64.size a := fun v1524 v1556 k0_hw46 => k0_hw46

def k0_chk47 (v1560 : IVec S16 32) : Prop :=
  (∀ a x, ((![v1560] : Fin 1 → IVec S16 32) a x).toNat < S832.size a)
theorem k0_idx51_inb : ∀ (v1560 : IVec S16 32) (k0_hw47 : k0_chk47 v1560), ∀ a x, ((![v1560] : Fin 1 → IVec S16 32) a x).toNat < S832.size a := fun v1560 k0_hw47 => k0_hw47

def k0_chk48 (v1524 : IVec S16 32) (v1567 : IVec S16 32) : Prop :=
  (∀ a x, ((![v1524, v1567] : Fin 2 → IVec S16 32) a x).toNat < S13x64.size a)
theorem k0_idx52_inb : ∀ (v1524 : IVec S16 32) (v1567 : IVec S16 32) (k0_hw48 : k0_chk48 v1524 v1567), ∀ a x, ((![v1524, v1567] : Fin 2 → IVec S16 32) a x).toNat < S13x64.size a := fun v1524 v1567 k0_hw48 => k0_hw48

def k0_chk49 (v1571 : IVec S16 32) : Prop :=
  (∀ a x, ((![v1571] : Fin 1 → IVec S16 32) a x).toNat < S832.size a)
theorem k0_idx53_inb : ∀ (v1571 : IVec S16 32) (k0_hw49 : k0_chk49 v1571), ∀ a x, ((![v1571] : Fin 1 → IVec S16 32) a x).toNat < S832.size a := fun v1571 k0_hw49 => k0_hw49

def k0_chk50 (v1777 : IVec S16 32) (v1787 : IVec S16 32) : Prop :=
  (∀ a x, ((![v1777, v1787] : Fin 2 → IVec S16 32) a x).toNat < S13x64.size a)
theorem k0_idx54_inb : ∀ (v1777 : IVec S16 32) (v1787 : IVec S16 32) (k0_hw50 : k0_chk50 v1777 v1787), ∀ a x, ((![v1777, v1787] : Fin 2 → IVec S16 32) a x).toNat < S13x64.size a := fun v1777 v1787 k0_hw50 => k0_hw50

def k0_chk51 (v1791 : IVec S16 32) : Prop :=
  (∀ a x, ((![v1791] : Fin 1 → IVec S16 32) a x).toNat < S832.size a)
theorem k0_idx55_inb : ∀ (v1791 : IVec S16 32) (k0_hw51 : k0_chk51 v1791), ∀ a x, ((![v1791] : Fin 1 → IVec S16 32) a x).toNat < S832.size a := fun v1791 k0_hw51 => k0_hw51

def k0_chk52 (v1777 : IVec S16 32) (v1798 : IVec S16 32) : Prop :=
  (∀ a x, ((![v1777, v1798] : Fin 2 → IVec S16 32) a x).toNat < S13x64.size a)
theorem k0_idx56_inb : ∀ (v1777 : IVec S16 32) (v1798 : IVec S16 32) (k0_hw52 : k0_chk52 v1777 v1798), ∀ a x, ((![v1777, v1798] : Fin 2 → IVec S16 32) a x).toNat < S13x64.size a := fun v1777 v1798 k0_hw52 => k0_hw52

def k0_chk53 (v1802 : IVec S16 32) : Prop :=
  (∀ a x, ((![v1802] : Fin 1 → IVec S16 32) a x).toNat < S832.size a)
theorem k0_idx57_inb : ∀ (v1802 : IVec S16 32) (k0_hw53 : k0_chk53 v1802), ∀ a x, ((![v1802] : Fin 1 → IVec S16 32) a x).toNat < S832.size a := fun v1802 k0_hw53 => k0_hw53

def k0_chk54 (v1777 : IVec S16 32) (v1809 : IVec S16 32) : Prop :=
  (∀ a x, ((![v1777, v1809] : Fin 2 → IVec S16 32) a x).toNat < S13x64.size a)
theorem k0_idx58_inb : ∀ (v1777 : IVec S16 32) (v1809 : IVec S16 32) (k0_hw54 : k0_chk54 v1777 v1809), ∀ a x, ((![v1777, v1809] : Fin 2 → IVec S16 32) a x).toNat < S13x64.size a := fun v1777 v1809 k0_hw54 => k0_hw54

def k0_chk55 (v1813 : IVec S16 32) : Prop :=
  (∀ a x, ((![v1813] : Fin 1 → IVec S16 32) a x).toNat < S832.size a)
theorem k0_idx59_inb : ∀ (v1813 : IVec S16 32) (k0_hw55 : k0_chk55 v1813), ∀ a x, ((![v1813] : Fin 1 → IVec S16 32) a x).toNat < S832.size a := fun v1813 k0_hw55 => k0_hw55

def k0_chk56 (v1777 : IVec S16 32) (v1820 : IVec S16 32) : Prop :=
  (∀ a x, ((![v1777, v1820] : Fin 2 → IVec S16 32) a x).toNat < S13x64.size a)
theorem k0_idx60_inb : ∀ (v1777 : IVec S16 32) (v1820 : IVec S16 32) (k0_hw56 : k0_chk56 v1777 v1820), ∀ a x, ((![v1777, v1820] : Fin 2 → IVec S16 32) a x).toNat < S13x64.size a := fun v1777 v1820 k0_hw56 => k0_hw56

def k0_chk57 (v1824 : IVec S16 32) : Prop :=
  (∀ a x, ((![v1824] : Fin 1 → IVec S16 32) a x).toNat < S832.size a)
theorem k0_idx61_inb : ∀ (v1824 : IVec S16 32) (k0_hw57 : k0_chk57 v1824), ∀ a x, ((![v1824] : Fin 1 → IVec S16 32) a x).toNat < S832.size a := fun v1824 k0_hw57 => k0_hw57

def k0_chk58 (v2030 : IVec S16 32) (v2040 : IVec S16 32) : Prop :=
  (∀ a x, ((![v2030, v2040] : Fin 2 → IVec S16 32) a x).toNat < S13x64.size a)
theorem k0_idx62_inb : ∀ (v2030 : IVec S16 32) (v2040 : IVec S16 32) (k0_hw58 : k0_chk58 v2030 v2040), ∀ a x, ((![v2030, v2040] : Fin 2 → IVec S16 32) a x).toNat < S13x64.size a := fun v2030 v2040 k0_hw58 => k0_hw58

def k0_chk59 (v2044 : IVec S16 32) : Prop :=
  (∀ a x, ((![v2044] : Fin 1 → IVec S16 32) a x).toNat < S832.size a)
theorem k0_idx63_inb : ∀ (v2044 : IVec S16 32) (k0_hw59 : k0_chk59 v2044), ∀ a x, ((![v2044] : Fin 1 → IVec S16 32) a x).toNat < S832.size a := fun v2044 k0_hw59 => k0_hw59

def k0_chk60 (v2030 : IVec S16 32) (v2051 : IVec S16 32) : Prop :=
  (∀ a x, ((![v2030, v2051] : Fin 2 → IVec S16 32) a x).toNat < S13x64.size a)
theorem k0_idx64_inb : ∀ (v2030 : IVec S16 32) (v2051 : IVec S16 32) (k0_hw60 : k0_chk60 v2030 v2051), ∀ a x, ((![v2030, v2051] : Fin 2 → IVec S16 32) a x).toNat < S13x64.size a := fun v2030 v2051 k0_hw60 => k0_hw60

def k0_chk61 (v2055 : IVec S16 32) : Prop :=
  (∀ a x, ((![v2055] : Fin 1 → IVec S16 32) a x).toNat < S832.size a)
theorem k0_idx65_inb : ∀ (v2055 : IVec S16 32) (k0_hw61 : k0_chk61 v2055), ∀ a x, ((![v2055] : Fin 1 → IVec S16 32) a x).toNat < S832.size a := fun v2055 k0_hw61 => k0_hw61

def k0_chk62 (v2030 : IVec S16 32) (v2062 : IVec S16 32) : Prop :=
  (∀ a x, ((![v2030, v2062] : Fin 2 → IVec S16 32) a x).toNat < S13x64.size a)
theorem k0_idx66_inb : ∀ (v2030 : IVec S16 32) (v2062 : IVec S16 32) (k0_hw62 : k0_chk62 v2030 v2062), ∀ a x, ((![v2030, v2062] : Fin 2 → IVec S16 32) a x).toNat < S13x64.size a := fun v2030 v2062 k0_hw62 => k0_hw62

def k0_chk63 (v2066 : IVec S16 32) : Prop :=
  (∀ a x, ((![v2066] : Fin 1 → IVec S16 32) a x).toNat < S832.size a)
theorem k0_idx67_inb : ∀ (v2066 : IVec S16 32) (k0_hw63 : k0_chk63 v2066), ∀ a x, ((![v2066] : Fin 1 → IVec S16 32) a x).toNat < S832.size a := fun v2066 k0_hw63 => k0_hw63

def k0_chk64 (v2030 : IVec S16 32) (v2073 : IVec S16 32) : Prop :=
  (∀ a x, ((![v2030, v2073] : Fin 2 → IVec S16 32) a x).toNat < S13x64.size a)
theorem k0_idx68_inb : ∀ (v2030 : IVec S16 32) (v2073 : IVec S16 32) (k0_hw64 : k0_chk64 v2030 v2073), ∀ a x, ((![v2030, v2073] : Fin 2 → IVec S16 32) a x).toNat < S13x64.size a := fun v2030 v2073 k0_hw64 => k0_hw64

def k0_chk65 (v2077 : IVec S16 32) : Prop :=
  (∀ a x, ((![v2077] : Fin 1 → IVec S16 32) a x).toNat < S832.size a)
theorem k0_idx69_inb : ∀ (v2077 : IVec S16 32) (k0_hw65 : k0_chk65 v2077), ∀ a x, ((![v2077] : Fin 1 → IVec S16 32) a x).toNat < S832.size a := fun v2077 k0_hw65 => k0_hw65

def k0_chk66 (v2283 : IVec S16 32) (v2293 : IVec S16 32) : Prop :=
  (∀ a x, ((![v2283, v2293] : Fin 2 → IVec S16 32) a x).toNat < S13x64.size a)
theorem k0_idx70_inb : ∀ (v2283 : IVec S16 32) (v2293 : IVec S16 32) (k0_hw66 : k0_chk66 v2283 v2293), ∀ a x, ((![v2283, v2293] : Fin 2 → IVec S16 32) a x).toNat < S13x64.size a := fun v2283 v2293 k0_hw66 => k0_hw66

def k0_chk67 (v2297 : IVec S16 32) : Prop :=
  (∀ a x, ((![v2297] : Fin 1 → IVec S16 32) a x).toNat < S832.size a)
theorem k0_idx71_inb : ∀ (v2297 : IVec S16 32) (k0_hw67 : k0_chk67 v2297), ∀ a x, ((![v2297] : Fin 1 → IVec S16 32) a x).toNat < S832.size a := fun v2297 k0_hw67 => k0_hw67

def k0_chk68 (v2283 : IVec S16 32) (v2304 : IVec S16 32) : Prop :=
  (∀ a x, ((![v2283, v2304] : Fin 2 → IVec S16 32) a x).toNat < S13x64.size a)
theorem k0_idx72_inb : ∀ (v2283 : IVec S16 32) (v2304 : IVec S16 32) (k0_hw68 : k0_chk68 v2283 v2304), ∀ a x, ((![v2283, v2304] : Fin 2 → IVec S16 32) a x).toNat < S13x64.size a := fun v2283 v2304 k0_hw68 => k0_hw68

def k0_chk69 (v2308 : IVec S16 32) : Prop :=
  (∀ a x, ((![v2308] : Fin 1 → IVec S16 32) a x).toNat < S832.size a)
theorem k0_idx73_inb : ∀ (v2308 : IVec S16 32) (k0_hw69 : k0_chk69 v2308), ∀ a x, ((![v2308] : Fin 1 → IVec S16 32) a x).toNat < S832.size a := fun v2308 k0_hw69 => k0_hw69

def k0_chk70 (v2283 : IVec S16 32) (v2315 : IVec S16 32) : Prop :=
  (∀ a x, ((![v2283, v2315] : Fin 2 → IVec S16 32) a x).toNat < S13x64.size a)
theorem k0_idx74_inb : ∀ (v2283 : IVec S16 32) (v2315 : IVec S16 32) (k0_hw70 : k0_chk70 v2283 v2315), ∀ a x, ((![v2283, v2315] : Fin 2 → IVec S16 32) a x).toNat < S13x64.size a := fun v2283 v2315 k0_hw70 => k0_hw70

def k0_chk71 (v2319 : IVec S16 32) : Prop :=
  (∀ a x, ((![v2319] : Fin 1 → IVec S16 32) a x).toNat < S832.size a)
theorem k0_idx75_inb : ∀ (v2319 : IVec S16 32) (k0_hw71 : k0_chk71 v2319), ∀ a x, ((![v2319] : Fin 1 → IVec S16 32) a x).toNat < S832.size a := fun v2319 k0_hw71 => k0_hw71

def k0_chk72 (v2283 : IVec S16 32) (v2326 : IVec S16 32) : Prop :=
  (∀ a x, ((![v2283, v2326] : Fin 2 → IVec S16 32) a x).toNat < S13x64.size a)
theorem k0_idx76_inb : ∀ (v2283 : IVec S16 32) (v2326 : IVec S16 32) (k0_hw72 : k0_chk72 v2283 v2326), ∀ a x, ((![v2283, v2326] : Fin 2 → IVec S16 32) a x).toNat < S13x64.size a := fun v2283 v2326 k0_hw72 => k0_hw72

def k0_chk73 (v2330 : IVec S16 32) : Prop :=
  (∀ a x, ((![v2330] : Fin 1 → IVec S16 32) a x).toNat < S832.size a)
theorem k0_idx77_inb : ∀ (v2330 : IVec S16 32) (k0_hw73 : k0_chk73 v2330), ∀ a x, ((![v2330] : Fin 1 → IVec S16 32) a x).toNat < S832.size a := fun v2330 k0_hw73 => k0_hw73

def k0_chk74 (v2536 : IVec S16 32) (v2546 : IVec S16 32) : Prop :=
  (∀ a x, ((![v2536, v2546] : Fin 2 → IVec S16 32) a x).toNat < S13x64.size a)
theorem k0_idx78_inb : ∀ (v2536 : IVec S16 32) (v2546 : IVec S16 32) (k0_hw74 : k0_chk74 v2536 v2546), ∀ a x, ((![v2536, v2546] : Fin 2 → IVec S16 32) a x).toNat < S13x64.size a := fun v2536 v2546 k0_hw74 => k0_hw74

def k0_chk75 (v2550 : IVec S16 32) : Prop :=
  (∀ a x, ((![v2550] : Fin 1 → IVec S16 32) a x).toNat < S832.size a)
theorem k0_idx79_inb : ∀ (v2550 : IVec S16 32) (k0_hw75 : k0_chk75 v2550), ∀ a x, ((![v2550] : Fin 1 → IVec S16 32) a x).toNat < S832.size a := fun v2550 k0_hw75 => k0_hw75

def k0_chk76 (v2536 : IVec S16 32) (v2557 : IVec S16 32) : Prop :=
  (∀ a x, ((![v2536, v2557] : Fin 2 → IVec S16 32) a x).toNat < S13x64.size a)
theorem k0_idx80_inb : ∀ (v2536 : IVec S16 32) (v2557 : IVec S16 32) (k0_hw76 : k0_chk76 v2536 v2557), ∀ a x, ((![v2536, v2557] : Fin 2 → IVec S16 32) a x).toNat < S13x64.size a := fun v2536 v2557 k0_hw76 => k0_hw76

def k0_chk77 (v2561 : IVec S16 32) : Prop :=
  (∀ a x, ((![v2561] : Fin 1 → IVec S16 32) a x).toNat < S832.size a)
theorem k0_idx81_inb : ∀ (v2561 : IVec S16 32) (k0_hw77 : k0_chk77 v2561), ∀ a x, ((![v2561] : Fin 1 → IVec S16 32) a x).toNat < S832.size a := fun v2561 k0_hw77 => k0_hw77

def k0_chk78 (v2536 : IVec S16 32) (v2568 : IVec S16 32) : Prop :=
  (∀ a x, ((![v2536, v2568] : Fin 2 → IVec S16 32) a x).toNat < S13x64.size a)
theorem k0_idx82_inb : ∀ (v2536 : IVec S16 32) (v2568 : IVec S16 32) (k0_hw78 : k0_chk78 v2536 v2568), ∀ a x, ((![v2536, v2568] : Fin 2 → IVec S16 32) a x).toNat < S13x64.size a := fun v2536 v2568 k0_hw78 => k0_hw78

def k0_chk79 (v2572 : IVec S16 32) : Prop :=
  (∀ a x, ((![v2572] : Fin 1 → IVec S16 32) a x).toNat < S832.size a)
theorem k0_idx83_inb : ∀ (v2572 : IVec S16 32) (k0_hw79 : k0_chk79 v2572), ∀ a x, ((![v2572] : Fin 1 → IVec S16 32) a x).toNat < S832.size a := fun v2572 k0_hw79 => k0_hw79

def k0_chk80 (v2536 : IVec S16 32) (v2579 : IVec S16 32) : Prop :=
  (∀ a x, ((![v2536, v2579] : Fin 2 → IVec S16 32) a x).toNat < S13x64.size a)
theorem k0_idx84_inb : ∀ (v2536 : IVec S16 32) (v2579 : IVec S16 32) (k0_hw80 : k0_chk80 v2536 v2579), ∀ a x, ((![v2536, v2579] : Fin 2 → IVec S16 32) a x).toNat < S13x64.size a := fun v2536 v2579 k0_hw80 => k0_hw80

def k0_chk81 (v2583 : IVec S16 32) : Prop :=
  (∀ a x, ((![v2583] : Fin 1 → IVec S16 32) a x).toNat < S832.size a)
theorem k0_idx85_inb : ∀ (v2583 : IVec S16 32) (k0_hw81 : k0_chk81 v2583), ∀ a x, ((![v2583] : Fin 1 → IVec S16 32) a x).toNat < S832.size a := fun v2583 k0_hw81 => k0_hw81

def k0_chk82 (v2789 : IVec S16 32) (v2799 : IVec S16 32) : Prop :=
  (∀ a x, ((![v2789, v2799] : Fin 2 → IVec S16 32) a x).toNat < S13x64.size a)
theorem k0_idx86_inb : ∀ (v2789 : IVec S16 32) (v2799 : IVec S16 32) (k0_hw82 : k0_chk82 v2789 v2799), ∀ a x, ((![v2789, v2799] : Fin 2 → IVec S16 32) a x).toNat < S13x64.size a := fun v2789 v2799 k0_hw82 => k0_hw82

def k0_chk83 (v2803 : IVec S16 32) : Prop :=
  (∀ a x, ((![v2803] : Fin 1 → IVec S16 32) a x).toNat < S832.size a)
theorem k0_idx87_inb : ∀ (v2803 : IVec S16 32) (k0_hw83 : k0_chk83 v2803), ∀ a x, ((![v2803] : Fin 1 → IVec S16 32) a x).toNat < S832.size a := fun v2803 k0_hw83 => k0_hw83

def k0_chk84 (v2789 : IVec S16 32) (v2810 : IVec S16 32) : Prop :=
  (∀ a x, ((![v2789, v2810] : Fin 2 → IVec S16 32) a x).toNat < S13x64.size a)
theorem k0_idx88_inb : ∀ (v2789 : IVec S16 32) (v2810 : IVec S16 32) (k0_hw84 : k0_chk84 v2789 v2810), ∀ a x, ((![v2789, v2810] : Fin 2 → IVec S16 32) a x).toNat < S13x64.size a := fun v2789 v2810 k0_hw84 => k0_hw84

def k0_chk85 (v2814 : IVec S16 32) : Prop :=
  (∀ a x, ((![v2814] : Fin 1 → IVec S16 32) a x).toNat < S832.size a)
theorem k0_idx89_inb : ∀ (v2814 : IVec S16 32) (k0_hw85 : k0_chk85 v2814), ∀ a x, ((![v2814] : Fin 1 → IVec S16 32) a x).toNat < S832.size a := fun v2814 k0_hw85 => k0_hw85

def k0_chk86 (v2789 : IVec S16 32) (v2821 : IVec S16 32) : Prop :=
  (∀ a x, ((![v2789, v2821] : Fin 2 → IVec S16 32) a x).toNat < S13x64.size a)
theorem k0_idx90_inb : ∀ (v2789 : IVec S16 32) (v2821 : IVec S16 32) (k0_hw86 : k0_chk86 v2789 v2821), ∀ a x, ((![v2789, v2821] : Fin 2 → IVec S16 32) a x).toNat < S13x64.size a := fun v2789 v2821 k0_hw86 => k0_hw86

def k0_chk87 (v2825 : IVec S16 32) : Prop :=
  (∀ a x, ((![v2825] : Fin 1 → IVec S16 32) a x).toNat < S832.size a)
theorem k0_idx91_inb : ∀ (v2825 : IVec S16 32) (k0_hw87 : k0_chk87 v2825), ∀ a x, ((![v2825] : Fin 1 → IVec S16 32) a x).toNat < S832.size a := fun v2825 k0_hw87 => k0_hw87

def k0_chk88 (v2789 : IVec S16 32) (v2832 : IVec S16 32) : Prop :=
  (∀ a x, ((![v2789, v2832] : Fin 2 → IVec S16 32) a x).toNat < S13x64.size a)
theorem k0_idx92_inb : ∀ (v2789 : IVec S16 32) (v2832 : IVec S16 32) (k0_hw88 : k0_chk88 v2789 v2832), ∀ a x, ((![v2789, v2832] : Fin 2 → IVec S16 32) a x).toNat < S13x64.size a := fun v2789 v2832 k0_hw88 => k0_hw88

def k0_chk89 (v2836 : IVec S16 32) : Prop :=
  (∀ a x, ((![v2836] : Fin 1 → IVec S16 32) a x).toNat < S832.size a)
theorem k0_idx93_inb : ∀ (v2836 : IVec S16 32) (k0_hw89 : k0_chk89 v2836), ∀ a x, ((![v2836] : Fin 1 → IVec S16 32) a x).toNat < S832.size a := fun v2836 k0_hw89 => k0_hw89

def k0_chk90 (v3042 : IVec S16 32) (v3052 : IVec S16 32) : Prop :=
  (∀ a x, ((![v3042, v3052] : Fin 2 → IVec S16 32) a x).toNat < S13x64.size a)
theorem k0_idx94_inb : ∀ (v3042 : IVec S16 32) (v3052 : IVec S16 32) (k0_hw90 : k0_chk90 v3042 v3052), ∀ a x, ((![v3042, v3052] : Fin 2 → IVec S16 32) a x).toNat < S13x64.size a := fun v3042 v3052 k0_hw90 => k0_hw90

def k0_chk91 (v3056 : IVec S16 32) : Prop :=
  (∀ a x, ((![v3056] : Fin 1 → IVec S16 32) a x).toNat < S832.size a)
theorem k0_idx95_inb : ∀ (v3056 : IVec S16 32) (k0_hw91 : k0_chk91 v3056), ∀ a x, ((![v3056] : Fin 1 → IVec S16 32) a x).toNat < S832.size a := fun v3056 k0_hw91 => k0_hw91

def k0_chk92 (v3042 : IVec S16 32) (v3063 : IVec S16 32) : Prop :=
  (∀ a x, ((![v3042, v3063] : Fin 2 → IVec S16 32) a x).toNat < S13x64.size a)
theorem k0_idx96_inb : ∀ (v3042 : IVec S16 32) (v3063 : IVec S16 32) (k0_hw92 : k0_chk92 v3042 v3063), ∀ a x, ((![v3042, v3063] : Fin 2 → IVec S16 32) a x).toNat < S13x64.size a := fun v3042 v3063 k0_hw92 => k0_hw92

def k0_chk93 (v3067 : IVec S16 32) : Prop :=
  (∀ a x, ((![v3067] : Fin 1 → IVec S16 32) a x).toNat < S832.size a)
theorem k0_idx97_inb : ∀ (v3067 : IVec S16 32) (k0_hw93 : k0_chk93 v3067), ∀ a x, ((![v3067] : Fin 1 → IVec S16 32) a x).toNat < S832.size a := fun v3067 k0_hw93 => k0_hw93

def k0_chk94 (v3042 : IVec S16 32) (v3074 : IVec S16 32) : Prop :=
  (∀ a x, ((![v3042, v3074] : Fin 2 → IVec S16 32) a x).toNat < S13x64.size a)
theorem k0_idx98_inb : ∀ (v3042 : IVec S16 32) (v3074 : IVec S16 32) (k0_hw94 : k0_chk94 v3042 v3074), ∀ a x, ((![v3042, v3074] : Fin 2 → IVec S16 32) a x).toNat < S13x64.size a := fun v3042 v3074 k0_hw94 => k0_hw94

def k0_chk95 (v3078 : IVec S16 32) : Prop :=
  (∀ a x, ((![v3078] : Fin 1 → IVec S16 32) a x).toNat < S832.size a)
theorem k0_idx99_inb : ∀ (v3078 : IVec S16 32) (k0_hw95 : k0_chk95 v3078), ∀ a x, ((![v3078] : Fin 1 → IVec S16 32) a x).toNat < S832.size a := fun v3078 k0_hw95 => k0_hw95

def k0_chk96 (v3042 : IVec S16 32) (v3085 : IVec S16 32) : Prop :=
  (∀ a x, ((![v3042, v3085] : Fin 2 → IVec S16 32) a x).toNat < S13x64.size a)
theorem k0_idx100_inb : ∀ (v3042 : IVec S16 32) (v3085 : IVec S16 32) (k0_hw96 : k0_chk96 v3042 v3085), ∀ a x, ((![v3042, v3085] : Fin 2 → IVec S16 32) a x).toNat < S13x64.size a := fun v3042 v3085 k0_hw96 => k0_hw96

def k0_chk97 (v3089 : IVec S16 32) : Prop :=
  (∀ a x, ((![v3089] : Fin 1 → IVec S16 32) a x).toNat < S832.size a)
theorem k0_idx101_inb : ∀ (v3089 : IVec S16 32) (k0_hw97 : k0_chk97 v3089), ∀ a x, ((![v3089] : Fin 1 → IVec S16 32) a x).toNat < S832.size a := fun v3089 k0_hw97 => k0_hw97

def k0_chk98 (v3295 : IVec S16 32) (v3305 : IVec S16 32) : Prop :=
  (∀ a x, ((![v3295, v3305] : Fin 2 → IVec S16 32) a x).toNat < S13x64.size a)
theorem k0_idx102_inb : ∀ (v3295 : IVec S16 32) (v3305 : IVec S16 32) (k0_hw98 : k0_chk98 v3295 v3305), ∀ a x, ((![v3295, v3305] : Fin 2 → IVec S16 32) a x).toNat < S13x64.size a := fun v3295 v3305 k0_hw98 => k0_hw98

def k0_chk99 (v3309 : IVec S16 32) : Prop :=
  (∀ a x, ((![v3309] : Fin 1 → IVec S16 32) a x).toNat < S832.size a)
theorem k0_idx103_inb : ∀ (v3309 : IVec S16 32) (k0_hw99 : k0_chk99 v3309), ∀ a x, ((![v3309] : Fin 1 → IVec S16 32) a x).toNat < S832.size a := fun v3309 k0_hw99 => k0_hw99

def k0_chk100 (v3295 : IVec S16 32) (v3316 : IVec S16 32) : Prop :=
  (∀ a x, ((![v3295, v3316] : Fin 2 → IVec S16 32) a x).toNat < S13x64.size a)
theorem k0_idx104_inb : ∀ (v3295 : IVec S16 32) (v3316 : IVec S16 32) (k0_hw100 : k0_chk100 v3295 v3316), ∀ a x, ((![v3295, v3316] : Fin 2 → IVec S16 32) a x).toNat < S13x64.size a := fun v3295 v3316 k0_hw100 => k0_hw100

def k0_chk101 (v3320 : IVec S16 32) : Prop :=
  (∀ a x, ((![v3320] : Fin 1 → IVec S16 32) a x).toNat < S832.size a)
theorem k0_idx105_inb : ∀ (v3320 : IVec S16 32) (k0_hw101 : k0_chk101 v3320), ∀ a x, ((![v3320] : Fin 1 → IVec S16 32) a x).toNat < S832.size a := fun v3320 k0_hw101 => k0_hw101

def k0_chk102 (v3295 : IVec S16 32) (v3327 : IVec S16 32) : Prop :=
  (∀ a x, ((![v3295, v3327] : Fin 2 → IVec S16 32) a x).toNat < S13x64.size a)
theorem k0_idx106_inb : ∀ (v3295 : IVec S16 32) (v3327 : IVec S16 32) (k0_hw102 : k0_chk102 v3295 v3327), ∀ a x, ((![v3295, v3327] : Fin 2 → IVec S16 32) a x).toNat < S13x64.size a := fun v3295 v3327 k0_hw102 => k0_hw102

def k0_chk103 (v3331 : IVec S16 32) : Prop :=
  (∀ a x, ((![v3331] : Fin 1 → IVec S16 32) a x).toNat < S832.size a)
theorem k0_idx107_inb : ∀ (v3331 : IVec S16 32) (k0_hw103 : k0_chk103 v3331), ∀ a x, ((![v3331] : Fin 1 → IVec S16 32) a x).toNat < S832.size a := fun v3331 k0_hw103 => k0_hw103

def k0_chk104 (v3295 : IVec S16 32) (v3338 : IVec S16 32) : Prop :=
  (∀ a x, ((![v3295, v3338] : Fin 2 → IVec S16 32) a x).toNat < S13x64.size a)
theorem k0_idx108_inb : ∀ (v3295 : IVec S16 32) (v3338 : IVec S16 32) (k0_hw104 : k0_chk104 v3295 v3338), ∀ a x, ((![v3295, v3338] : Fin 2 → IVec S16 32) a x).toNat < S13x64.size a := fun v3295 v3338 k0_hw104 => k0_hw104

def k0_chk105 (v3342 : IVec S16 32) : Prop :=
  (∀ a x, ((![v3342] : Fin 1 → IVec S16 32) a x).toNat < S832.size a)
theorem k0_idx109_inb : ∀ (v3342 : IVec S16 32) (k0_hw105 : k0_chk105 v3342), ∀ a x, ((![v3342] : Fin 1 → IVec S16 32) a x).toNat < S832.size a := fun v3342 k0_hw105 => k0_hw105
@[reducible] def k0_t2_loop : Scf.Loop 32 :=
  let c0_i32_1227 : BitVec 32 := 0#32
  let c49_i32 : BitVec 32 := 49#32
  let v3448 : BitVec 32 := Scalar.addi c0_i32_1227 c49_i32
  let c1_i32_1228 : BitVec 32 := 1#32
  ⟨c0_i32_1227, v3448, c1_i32_1228⟩

def k0_chk106 (v3453 : IVec S16 32) : Prop :=
  (∀ a x, ((![v3453] : Fin 1 → IVec S16 32) a x).toNat < S832.size a)
theorem k0_idx110_inb : ∀ (v3453 : IVec S16 32) (k0_hw106 : k0_chk106 v3453), ∀ a x, ((![v3453] : Fin 1 → IVec S16 32) a x).toNat < S832.size a := fun v3453 k0_hw106 => k0_hw106

def k0_chk107 (v3456 : IVec S16 32) : Prop :=
  (∀ a x, ((![v3456] : Fin 1 → IVec S16 32) a x).toNat < S832.size a)
theorem k0_idx111_inb : ∀ (v3456 : IVec S16 32) (k0_hw107 : k0_chk107 v3456), ∀ a x, ((![v3456] : Fin 1 → IVec S16 32) a x).toNat < S832.size a := fun v3456 k0_hw107 => k0_hw107

def k0_chk108 (v3459 : IVec S16 32) : Prop :=
  (∀ a x, ((![v3459] : Fin 1 → IVec S16 32) a x).toNat < S832.size a)
theorem k0_idx112_inb : ∀ (v3459 : IVec S16 32) (k0_hw108 : k0_chk108 v3459), ∀ a x, ((![v3459] : Fin 1 → IVec S16 32) a x).toNat < S832.size a := fun v3459 k0_hw108 => k0_hw108

def k0_chk109 (v3462 : IVec S16 32) : Prop :=
  (∀ a x, ((![v3462] : Fin 1 → IVec S16 32) a x).toNat < S832.size a)
theorem k0_idx113_inb : ∀ (v3462 : IVec S16 32) (k0_hw109 : k0_chk109 v3462), ∀ a x, ((![v3462] : Fin 1 → IVec S16 32) a x).toNat < S832.size a := fun v3462 k0_hw109 => k0_hw109

def k0_chk110 (v3465 : IVec S16 32) : Prop :=
  (∀ a x, ((![v3465] : Fin 1 → IVec S16 32) a x).toNat < S832.size a)
theorem k0_idx114_inb : ∀ (v3465 : IVec S16 32) (k0_hw110 : k0_chk110 v3465), ∀ a x, ((![v3465] : Fin 1 → IVec S16 32) a x).toNat < S832.size a := fun v3465 k0_hw110 => k0_hw110

def k0_chk111 (v3468 : IVec S16 32) : Prop :=
  (∀ a x, ((![v3468] : Fin 1 → IVec S16 32) a x).toNat < S832.size a)
theorem k0_idx115_inb : ∀ (v3468 : IVec S16 32) (k0_hw111 : k0_chk111 v3468), ∀ a x, ((![v3468] : Fin 1 → IVec S16 32) a x).toNat < S832.size a := fun v3468 k0_hw111 => k0_hw111

def k0_chk112 (v3471 : IVec S16 32) : Prop :=
  (∀ a x, ((![v3471] : Fin 1 → IVec S16 32) a x).toNat < S832.size a)
theorem k0_idx116_inb : ∀ (v3471 : IVec S16 32) (k0_hw112 : k0_chk112 v3471), ∀ a x, ((![v3471] : Fin 1 → IVec S16 32) a x).toNat < S832.size a := fun v3471 k0_hw112 => k0_hw112

def k0_chk113 (v3474 : IVec S16 32) : Prop :=
  (∀ a x, ((![v3474] : Fin 1 → IVec S16 32) a x).toNat < S832.size a)
theorem k0_idx117_inb : ∀ (v3474 : IVec S16 32) (k0_hw113 : k0_chk113 v3474), ∀ a x, ((![v3474] : Fin 1 → IVec S16 32) a x).toNat < S832.size a := fun v3474 k0_hw113 => k0_hw113

def k0_chk114 (v3477 : IVec S16 32) : Prop :=
  (∀ a x, ((![v3477] : Fin 1 → IVec S16 32) a x).toNat < S832.size a)
theorem k0_idx118_inb : ∀ (v3477 : IVec S16 32) (k0_hw114 : k0_chk114 v3477), ∀ a x, ((![v3477] : Fin 1 → IVec S16 32) a x).toNat < S832.size a := fun v3477 k0_hw114 => k0_hw114

def k0_chk115 (v3480 : IVec S16 32) : Prop :=
  (∀ a x, ((![v3480] : Fin 1 → IVec S16 32) a x).toNat < S832.size a)
theorem k0_idx119_inb : ∀ (v3480 : IVec S16 32) (k0_hw115 : k0_chk115 v3480), ∀ a x, ((![v3480] : Fin 1 → IVec S16 32) a x).toNat < S832.size a := fun v3480 k0_hw115 => k0_hw115

def k0_chk116 (v3483 : IVec S16 32) : Prop :=
  (∀ a x, ((![v3483] : Fin 1 → IVec S16 32) a x).toNat < S832.size a)
theorem k0_idx120_inb : ∀ (v3483 : IVec S16 32) (k0_hw116 : k0_chk116 v3483), ∀ a x, ((![v3483] : Fin 1 → IVec S16 32) a x).toNat < S832.size a := fun v3483 k0_hw116 => k0_hw116

def k0_chk117 (v3486 : IVec S16 32) : Prop :=
  (∀ a x, ((![v3486] : Fin 1 → IVec S16 32) a x).toNat < S832.size a)
theorem k0_idx121_inb : ∀ (v3486 : IVec S16 32) (k0_hw117 : k0_chk117 v3486), ∀ a x, ((![v3486] : Fin 1 → IVec S16 32) a x).toNat < S832.size a := fun v3486 k0_hw117 => k0_hw117

def k0_chk118 (v3489 : IVec S16 32) : Prop :=
  (∀ a x, ((![v3489] : Fin 1 → IVec S16 32) a x).toNat < S832.size a)
theorem k0_idx122_inb : ∀ (v3489 : IVec S16 32) (k0_hw118 : k0_chk118 v3489), ∀ a x, ((![v3489] : Fin 1 → IVec S16 32) a x).toNat < S832.size a := fun v3489 k0_hw118 => k0_hw118

def k0_chk119 (v3492 : IVec S16 32) : Prop :=
  (∀ a x, ((![v3492] : Fin 1 → IVec S16 32) a x).toNat < S832.size a)
theorem k0_idx123_inb : ∀ (v3492 : IVec S16 32) (k0_hw119 : k0_chk119 v3492), ∀ a x, ((![v3492] : Fin 1 → IVec S16 32) a x).toNat < S832.size a := fun v3492 k0_hw119 => k0_hw119

def k0_chk120 (v3495 : IVec S16 32) : Prop :=
  (∀ a x, ((![v3495] : Fin 1 → IVec S16 32) a x).toNat < S832.size a)
theorem k0_idx124_inb : ∀ (v3495 : IVec S16 32) (k0_hw120 : k0_chk120 v3495), ∀ a x, ((![v3495] : Fin 1 → IVec S16 32) a x).toNat < S832.size a := fun v3495 k0_hw120 => k0_hw120

def k0_chk121 (v3498 : IVec S16 32) : Prop :=
  (∀ a x, ((![v3498] : Fin 1 → IVec S16 32) a x).toNat < S832.size a)
theorem k0_idx125_inb : ∀ (v3498 : IVec S16 32) (k0_hw121 : k0_chk121 v3498), ∀ a x, ((![v3498] : Fin 1 → IVec S16 32) a x).toNat < S832.size a := fun v3498 k0_hw121 => k0_hw121
def k0_off6 (k0_t2 : Fin k0_t2_loop.trips) (c0_i32_1245 : BitVec 32) (c0_i32_1246 : BitVec 32) : Fin 2 → Nat :=
  let c0_i32_1227 : BitVec 32 := 0#32
  let c1_i32_1228 : BitVec 32 := 1#32
  let arg17 : BitVec 32 := Scf.iv c0_i32_1227 c1_i32_1228 k0_t2
  let c16_i32_1231 : BitVec 32 := 16#32
  let v3451 : BitVec 32 := Scalar.muli arg17 c16_i32_1231
  let v3500 : BitVec 32 := Scalar.addi v3451 c0_i32_1245
  let v3501 : BitVec 32 := Scalar.addi v3500 c0_i32_1246
  let v3502 : Index := Scalar.indexCast v3501
  let c0 : Index := 0#32
  ![v3502.toNat, 0]
def k0_off7 (k0_t2 : Fin k0_t2_loop.trips) : Fin 2 → Nat :=
  let c0_i32_1227 : BitVec 32 := 0#32
  let c1_i32_1228 : BitVec 32 := 1#32
  let arg17 : BitVec 32 := Scf.iv c0_i32_1227 c1_i32_1228 k0_t2
  let v3595 : Index := Scalar.indexCast arg17
  let c0_1292 : Index := 0#32
  ![v3595.toNat, 0]
def k0_off8 (k0_t2 : Fin k0_t2_loop.trips) (c0_i32_1293 : BitVec 32) (c0_i32_1294 : BitVec 32) : Fin 2 → Nat :=
  let c0_i32_1227 : BitVec 32 := 0#32
  let c1_i32_1228 : BitVec 32 := 1#32
  let arg17 : BitVec 32 := Scf.iv c0_i32_1227 c1_i32_1228 k0_t2
  let c16_i32_1231 : BitVec 32 := 16#32
  let v3451 : BitVec 32 := Scalar.muli arg17 c16_i32_1231
  let v3597 : BitVec 32 := Scalar.addi v3451 c0_i32_1293
  let v3598 : BitVec 32 := Scalar.addi v3597 c0_i32_1294
  let v3599 : Index := Scalar.indexCast v3598
  let c16 : Index := 16#32
  ![v3599.toNat, 16]
def k0_off9 (k0_t2 : Fin k0_t2_loop.trips) : Fin 2 → Nat :=
  let c0_i32_1227 : BitVec 32 := 0#32
  let c1_i32_1228 : BitVec 32 := 1#32
  let arg17 : BitVec 32 := Scf.iv c0_i32_1227 c1_i32_1228 k0_t2
  let v3692 : Index := Scalar.indexCast arg17
  let c16_1340 : Index := 16#32
  ![v3692.toNat, 16]
def k0_off10 (k0_t2 : Fin k0_t2_loop.trips) (c0_i32_1341 : BitVec 32) (c0_i32_1342 : BitVec 32) : Fin 2 → Nat :=
  let c0_i32_1227 : BitVec 32 := 0#32
  let c1_i32_1228 : BitVec 32 := 1#32
  let arg17 : BitVec 32 := Scf.iv c0_i32_1227 c1_i32_1228 k0_t2
  let c16_i32_1231 : BitVec 32 := 16#32
  let v3451 : BitVec 32 := Scalar.muli arg17 c16_i32_1231
  let v3694 : BitVec 32 := Scalar.addi v3451 c0_i32_1341
  let v3695 : BitVec 32 := Scalar.addi v3694 c0_i32_1342
  let v3696 : Index := Scalar.indexCast v3695
  let c32 : Index := 32#32
  ![v3696.toNat, 32]
def k0_off11 (k0_t2 : Fin k0_t2_loop.trips) : Fin 2 → Nat :=
  let c0_i32_1227 : BitVec 32 := 0#32
  let c1_i32_1228 : BitVec 32 := 1#32
  let arg17 : BitVec 32 := Scf.iv c0_i32_1227 c1_i32_1228 k0_t2
  let v3789 : Index := Scalar.indexCast arg17
  let c32_1388 : Index := 32#32
  ![v3789.toNat, 32]
def k0_off12 (k0_t2 : Fin k0_t2_loop.trips) (c0_i32_1389 : BitVec 32) (c0_i32_1390 : BitVec 32) : Fin 2 → Nat :=
  let c0_i32_1227 : BitVec 32 := 0#32
  let c1_i32_1228 : BitVec 32 := 1#32
  let arg17 : BitVec 32 := Scf.iv c0_i32_1227 c1_i32_1228 k0_t2
  let c16_i32_1231 : BitVec 32 := 16#32
  let v3451 : BitVec 32 := Scalar.muli arg17 c16_i32_1231
  let v3791 : BitVec 32 := Scalar.addi v3451 c0_i32_1389
  let v3792 : BitVec 32 := Scalar.addi v3791 c0_i32_1390
  let v3793 : Index := Scalar.indexCast v3792
  let c48 : Index := 48#32
  ![v3793.toNat, 48]
def k0_off13 (k0_t2 : Fin k0_t2_loop.trips) : Fin 2 → Nat :=
  let c0_i32_1227 : BitVec 32 := 0#32
  let c1_i32_1228 : BitVec 32 := 1#32
  let arg17 : BitVec 32 := Scf.iv c0_i32_1227 c1_i32_1228 k0_t2
  let v3886 : Index := Scalar.indexCast arg17
  let c48_1436 : Index := 48#32
  ![v3886.toNat, 48]
def k0_off14 (k0_t2 : Fin k0_t2_loop.trips) (c0_i32_1437 : BitVec 32) (c0_i32_1438 : BitVec 32) : Fin 2 → Nat :=
  let c0_i32_1227 : BitVec 32 := 0#32
  let c1_i32_1228 : BitVec 32 := 1#32
  let arg17 : BitVec 32 := Scf.iv c0_i32_1227 c1_i32_1228 k0_t2
  let c16_i32_1231 : BitVec 32 := 16#32
  let v3451 : BitVec 32 := Scalar.muli arg17 c16_i32_1231
  let v3888 : BitVec 32 := Scalar.addi v3451 c0_i32_1437
  let v3889 : BitVec 32 := Scalar.addi v3888 c0_i32_1438
  let v3890 : Index := Scalar.indexCast v3889
  let c64 : Index := 64#32
  ![v3890.toNat, 64]
def k0_off15 (k0_t2 : Fin k0_t2_loop.trips) : Fin 2 → Nat :=
  let c0_i32_1227 : BitVec 32 := 0#32
  let c1_i32_1228 : BitVec 32 := 1#32
  let arg17 : BitVec 32 := Scf.iv c0_i32_1227 c1_i32_1228 k0_t2
  let v3983 : Index := Scalar.indexCast arg17
  let c64_1484 : Index := 64#32
  ![v3983.toNat, 64]
def k0_off16 (k0_t2 : Fin k0_t2_loop.trips) (c0_i32_1485 : BitVec 32) (c0_i32_1486 : BitVec 32) : Fin 2 → Nat :=
  let c0_i32_1227 : BitVec 32 := 0#32
  let c1_i32_1228 : BitVec 32 := 1#32
  let arg17 : BitVec 32 := Scf.iv c0_i32_1227 c1_i32_1228 k0_t2
  let c16_i32_1231 : BitVec 32 := 16#32
  let v3451 : BitVec 32 := Scalar.muli arg17 c16_i32_1231
  let v3985 : BitVec 32 := Scalar.addi v3451 c0_i32_1485
  let v3986 : BitVec 32 := Scalar.addi v3985 c0_i32_1486
  let v3987 : Index := Scalar.indexCast v3986
  let c80 : Index := 80#32
  ![v3987.toNat, 80]
def k0_off17 (k0_t2 : Fin k0_t2_loop.trips) : Fin 2 → Nat :=
  let c0_i32_1227 : BitVec 32 := 0#32
  let c1_i32_1228 : BitVec 32 := 1#32
  let arg17 : BitVec 32 := Scf.iv c0_i32_1227 c1_i32_1228 k0_t2
  let v4080 : Index := Scalar.indexCast arg17
  let c80_1532 : Index := 80#32
  ![v4080.toNat, 80]
def k0_off18 (k0_t2 : Fin k0_t2_loop.trips) (c0_i32_1533 : BitVec 32) (c0_i32_1534 : BitVec 32) : Fin 2 → Nat :=
  let c0_i32_1227 : BitVec 32 := 0#32
  let c1_i32_1228 : BitVec 32 := 1#32
  let arg17 : BitVec 32 := Scf.iv c0_i32_1227 c1_i32_1228 k0_t2
  let c16_i32_1231 : BitVec 32 := 16#32
  let v3451 : BitVec 32 := Scalar.muli arg17 c16_i32_1231
  let v4082 : BitVec 32 := Scalar.addi v3451 c0_i32_1533
  let v4083 : BitVec 32 := Scalar.addi v4082 c0_i32_1534
  let v4084 : Index := Scalar.indexCast v4083
  let c96 : Index := 96#32
  ![v4084.toNat, 96]
def k0_off19 (k0_t2 : Fin k0_t2_loop.trips) : Fin 2 → Nat :=
  let c0_i32_1227 : BitVec 32 := 0#32
  let c1_i32_1228 : BitVec 32 := 1#32
  let arg17 : BitVec 32 := Scf.iv c0_i32_1227 c1_i32_1228 k0_t2
  let v4177 : Index := Scalar.indexCast arg17
  let c96_1580 : Index := 96#32
  ![v4177.toNat, 96]
def k0_off20 (k0_t2 : Fin k0_t2_loop.trips) (c0_i32_1581 : BitVec 32) (c0_i32_1582 : BitVec 32) : Fin 2 → Nat :=
  let c0_i32_1227 : BitVec 32 := 0#32
  let c1_i32_1228 : BitVec 32 := 1#32
  let arg17 : BitVec 32 := Scf.iv c0_i32_1227 c1_i32_1228 k0_t2
  let c16_i32_1231 : BitVec 32 := 16#32
  let v3451 : BitVec 32 := Scalar.muli arg17 c16_i32_1231
  let v4179 : BitVec 32 := Scalar.addi v3451 c0_i32_1581
  let v4180 : BitVec 32 := Scalar.addi v4179 c0_i32_1582
  let v4181 : Index := Scalar.indexCast v4180
  let c112 : Index := 112#32
  ![v4181.toNat, 112]
def k0_off21 (k0_t2 : Fin k0_t2_loop.trips) : Fin 2 → Nat :=
  let c0_i32_1227 : BitVec 32 := 0#32
  let c1_i32_1228 : BitVec 32 := 1#32
  let arg17 : BitVec 32 := Scf.iv c0_i32_1227 c1_i32_1228 k0_t2
  let v4274 : Index := Scalar.indexCast arg17
  let c112_1628 : Index := 112#32
  ![v4274.toNat, 112]
def k0_off22 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v3 : BitVec 32 := Scalar.addi v2 c0_i32
  let c0_i32_3 : BitVec 32 := 0#32
  let c1_i32_4 : BitVec 32 := 1#32
  let arg15 : BitVec 32 := Scf.iv c0_i32_3 c1_i32_4 k0_t1
  let v3450 : BitVec 32 := Scalar.addi v3 arg15
  let c0_i32_1231_r5 : BitVec 32 := 0#32
  let c0_i32_1232_r5 : BitVec 32 := 0#32
  ![v3450.toNat, 0, 0]
@[reducible] def k0_t3_loop : Scf.Loop 32 :=
  let c0_i32_14 : BitVec 32 := 0#32
  let c16_i32_15 : BitVec 32 := 16#32
  let v8 : BitVec 32 := Scalar.addi c0_i32_14 c16_i32_15
  let c1_i32_16 : BitVec 32 := 1#32
  ⟨c0_i32_14, v8, c1_i32_16⟩

def k0_chk122 (v10 : IVec S16 32) : Prop :=
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a)
theorem k0_idx126_inb : ∀ (v10 : IVec S16 32) (k0_hw122 : k0_chk122 v10), ∀ a x, ((![v10] : Fin 1 → IVec S16 32) a x).toNat < S16.size a := fun v10 k0_hw122 => k0_hw122.1
theorem k0_idx127_inb : ∀ (v10 : IVec S16 32) (k0_hw122 : k0_chk122 v10), ∀ a x, ((![v10] : Fin 1 → IVec S16 32) a x).toNat < S16.size a := fun v10 k0_hw122 => k0_hw122.2.1
theorem k0_idx128_inb : ∀ (v10 : IVec S16 32) (k0_hw122 : k0_chk122 v10), ∀ a x, ((![v10] : Fin 1 → IVec S16 32) a x).toNat < S16.size a := fun v10 k0_hw122 => k0_hw122.2.2.1
theorem k0_idx129_inb : ∀ (v10 : IVec S16 32) (k0_hw122 : k0_chk122 v10), ∀ a x, ((![v10] : Fin 1 → IVec S16 32) a x).toNat < S16.size a := fun v10 k0_hw122 => k0_hw122.2.2.2.1
theorem k0_idx130_inb : ∀ (v10 : IVec S16 32) (k0_hw122 : k0_chk122 v10), ∀ a x, ((![v10] : Fin 1 → IVec S16 32) a x).toNat < S16.size a := fun v10 k0_hw122 => k0_hw122.2.2.2.2

def k0_chk123 (v259 : IVec S16 32) (v269 : IVec S16 32) : Prop :=
  (∀ a x, ((![v259, v269] : Fin 2 → IVec S16 32) a x).toNat < S13x64.size a)
theorem k0_idx131_inb : ∀ (v259 : IVec S16 32) (v269 : IVec S16 32) (k0_hw123 : k0_chk123 v259 v269), ∀ a x, ((![v259, v269] : Fin 2 → IVec S16 32) a x).toNat < S13x64.size a := fun v259 v269 k0_hw123 => k0_hw123

def k0_chk124 (v273 : IVec S16 32) : Prop :=
  (∀ a x, ((![v273] : Fin 1 → IVec S16 32) a x).toNat < S832.size a)
theorem k0_idx132_inb : ∀ (v273 : IVec S16 32) (k0_hw124 : k0_chk124 v273), ∀ a x, ((![v273] : Fin 1 → IVec S16 32) a x).toNat < S832.size a := fun v273 k0_hw124 => k0_hw124

def k0_chk125 (v259 : IVec S16 32) (v280 : IVec S16 32) : Prop :=
  (∀ a x, ((![v259, v280] : Fin 2 → IVec S16 32) a x).toNat < S13x64.size a)
theorem k0_idx133_inb : ∀ (v259 : IVec S16 32) (v280 : IVec S16 32) (k0_hw125 : k0_chk125 v259 v280), ∀ a x, ((![v259, v280] : Fin 2 → IVec S16 32) a x).toNat < S13x64.size a := fun v259 v280 k0_hw125 => k0_hw125

def k0_chk126 (v284 : IVec S16 32) : Prop :=
  (∀ a x, ((![v284] : Fin 1 → IVec S16 32) a x).toNat < S832.size a)
theorem k0_idx134_inb : ∀ (v284 : IVec S16 32) (k0_hw126 : k0_chk126 v284), ∀ a x, ((![v284] : Fin 1 → IVec S16 32) a x).toNat < S832.size a := fun v284 k0_hw126 => k0_hw126

def k0_chk127 (v259 : IVec S16 32) (v291 : IVec S16 32) : Prop :=
  (∀ a x, ((![v259, v291] : Fin 2 → IVec S16 32) a x).toNat < S13x64.size a)
theorem k0_idx135_inb : ∀ (v259 : IVec S16 32) (v291 : IVec S16 32) (k0_hw127 : k0_chk127 v259 v291), ∀ a x, ((![v259, v291] : Fin 2 → IVec S16 32) a x).toNat < S13x64.size a := fun v259 v291 k0_hw127 => k0_hw127

def k0_chk128 (v295 : IVec S16 32) : Prop :=
  (∀ a x, ((![v295] : Fin 1 → IVec S16 32) a x).toNat < S832.size a)
theorem k0_idx136_inb : ∀ (v295 : IVec S16 32) (k0_hw128 : k0_chk128 v295), ∀ a x, ((![v295] : Fin 1 → IVec S16 32) a x).toNat < S832.size a := fun v295 k0_hw128 => k0_hw128

def k0_chk129 (v259 : IVec S16 32) (v302 : IVec S16 32) : Prop :=
  (∀ a x, ((![v259, v302] : Fin 2 → IVec S16 32) a x).toNat < S13x64.size a)
theorem k0_idx137_inb : ∀ (v259 : IVec S16 32) (v302 : IVec S16 32) (k0_hw129 : k0_chk129 v259 v302), ∀ a x, ((![v259, v302] : Fin 2 → IVec S16 32) a x).toNat < S13x64.size a := fun v259 v302 k0_hw129 => k0_hw129

def k0_chk130 (v306 : IVec S16 32) : Prop :=
  (∀ a x, ((![v306] : Fin 1 → IVec S16 32) a x).toNat < S832.size a)
theorem k0_idx138_inb : ∀ (v306 : IVec S16 32) (k0_hw130 : k0_chk130 v306), ∀ a x, ((![v306] : Fin 1 → IVec S16 32) a x).toNat < S832.size a := fun v306 k0_hw130 => k0_hw130

def k0_chk131 (v512 : IVec S16 32) (v522 : IVec S16 32) : Prop :=
  (∀ a x, ((![v512, v522] : Fin 2 → IVec S16 32) a x).toNat < S13x64.size a)
theorem k0_idx139_inb : ∀ (v512 : IVec S16 32) (v522 : IVec S16 32) (k0_hw131 : k0_chk131 v512 v522), ∀ a x, ((![v512, v522] : Fin 2 → IVec S16 32) a x).toNat < S13x64.size a := fun v512 v522 k0_hw131 => k0_hw131

def k0_chk132 (v526 : IVec S16 32) : Prop :=
  (∀ a x, ((![v526] : Fin 1 → IVec S16 32) a x).toNat < S832.size a)
theorem k0_idx140_inb : ∀ (v526 : IVec S16 32) (k0_hw132 : k0_chk132 v526), ∀ a x, ((![v526] : Fin 1 → IVec S16 32) a x).toNat < S832.size a := fun v526 k0_hw132 => k0_hw132

def k0_chk133 (v512 : IVec S16 32) (v533 : IVec S16 32) : Prop :=
  (∀ a x, ((![v512, v533] : Fin 2 → IVec S16 32) a x).toNat < S13x64.size a)
theorem k0_idx141_inb : ∀ (v512 : IVec S16 32) (v533 : IVec S16 32) (k0_hw133 : k0_chk133 v512 v533), ∀ a x, ((![v512, v533] : Fin 2 → IVec S16 32) a x).toNat < S13x64.size a := fun v512 v533 k0_hw133 => k0_hw133

def k0_chk134 (v537 : IVec S16 32) : Prop :=
  (∀ a x, ((![v537] : Fin 1 → IVec S16 32) a x).toNat < S832.size a)
theorem k0_idx142_inb : ∀ (v537 : IVec S16 32) (k0_hw134 : k0_chk134 v537), ∀ a x, ((![v537] : Fin 1 → IVec S16 32) a x).toNat < S832.size a := fun v537 k0_hw134 => k0_hw134

def k0_chk135 (v512 : IVec S16 32) (v544 : IVec S16 32) : Prop :=
  (∀ a x, ((![v512, v544] : Fin 2 → IVec S16 32) a x).toNat < S13x64.size a)
theorem k0_idx143_inb : ∀ (v512 : IVec S16 32) (v544 : IVec S16 32) (k0_hw135 : k0_chk135 v512 v544), ∀ a x, ((![v512, v544] : Fin 2 → IVec S16 32) a x).toNat < S13x64.size a := fun v512 v544 k0_hw135 => k0_hw135

def k0_chk136 (v548 : IVec S16 32) : Prop :=
  (∀ a x, ((![v548] : Fin 1 → IVec S16 32) a x).toNat < S832.size a)
theorem k0_idx144_inb : ∀ (v548 : IVec S16 32) (k0_hw136 : k0_chk136 v548), ∀ a x, ((![v548] : Fin 1 → IVec S16 32) a x).toNat < S832.size a := fun v548 k0_hw136 => k0_hw136

def k0_chk137 (v512 : IVec S16 32) (v555 : IVec S16 32) : Prop :=
  (∀ a x, ((![v512, v555] : Fin 2 → IVec S16 32) a x).toNat < S13x64.size a)
theorem k0_idx145_inb : ∀ (v512 : IVec S16 32) (v555 : IVec S16 32) (k0_hw137 : k0_chk137 v512 v555), ∀ a x, ((![v512, v555] : Fin 2 → IVec S16 32) a x).toNat < S13x64.size a := fun v512 v555 k0_hw137 => k0_hw137

def k0_chk138 (v559 : IVec S16 32) : Prop :=
  (∀ a x, ((![v559] : Fin 1 → IVec S16 32) a x).toNat < S832.size a)
theorem k0_idx146_inb : ∀ (v559 : IVec S16 32) (k0_hw138 : k0_chk138 v559), ∀ a x, ((![v559] : Fin 1 → IVec S16 32) a x).toNat < S832.size a := fun v559 k0_hw138 => k0_hw138

def k0_chk139 (v765 : IVec S16 32) (v775 : IVec S16 32) : Prop :=
  (∀ a x, ((![v765, v775] : Fin 2 → IVec S16 32) a x).toNat < S13x64.size a)
theorem k0_idx147_inb : ∀ (v765 : IVec S16 32) (v775 : IVec S16 32) (k0_hw139 : k0_chk139 v765 v775), ∀ a x, ((![v765, v775] : Fin 2 → IVec S16 32) a x).toNat < S13x64.size a := fun v765 v775 k0_hw139 => k0_hw139

def k0_chk140 (v779 : IVec S16 32) : Prop :=
  (∀ a x, ((![v779] : Fin 1 → IVec S16 32) a x).toNat < S832.size a)
theorem k0_idx148_inb : ∀ (v779 : IVec S16 32) (k0_hw140 : k0_chk140 v779), ∀ a x, ((![v779] : Fin 1 → IVec S16 32) a x).toNat < S832.size a := fun v779 k0_hw140 => k0_hw140

def k0_chk141 (v765 : IVec S16 32) (v786 : IVec S16 32) : Prop :=
  (∀ a x, ((![v765, v786] : Fin 2 → IVec S16 32) a x).toNat < S13x64.size a)
theorem k0_idx149_inb : ∀ (v765 : IVec S16 32) (v786 : IVec S16 32) (k0_hw141 : k0_chk141 v765 v786), ∀ a x, ((![v765, v786] : Fin 2 → IVec S16 32) a x).toNat < S13x64.size a := fun v765 v786 k0_hw141 => k0_hw141

def k0_chk142 (v790 : IVec S16 32) : Prop :=
  (∀ a x, ((![v790] : Fin 1 → IVec S16 32) a x).toNat < S832.size a)
theorem k0_idx150_inb : ∀ (v790 : IVec S16 32) (k0_hw142 : k0_chk142 v790), ∀ a x, ((![v790] : Fin 1 → IVec S16 32) a x).toNat < S832.size a := fun v790 k0_hw142 => k0_hw142

def k0_chk143 (v765 : IVec S16 32) (v797 : IVec S16 32) : Prop :=
  (∀ a x, ((![v765, v797] : Fin 2 → IVec S16 32) a x).toNat < S13x64.size a)
theorem k0_idx151_inb : ∀ (v765 : IVec S16 32) (v797 : IVec S16 32) (k0_hw143 : k0_chk143 v765 v797), ∀ a x, ((![v765, v797] : Fin 2 → IVec S16 32) a x).toNat < S13x64.size a := fun v765 v797 k0_hw143 => k0_hw143

def k0_chk144 (v801 : IVec S16 32) : Prop :=
  (∀ a x, ((![v801] : Fin 1 → IVec S16 32) a x).toNat < S832.size a)
theorem k0_idx152_inb : ∀ (v801 : IVec S16 32) (k0_hw144 : k0_chk144 v801), ∀ a x, ((![v801] : Fin 1 → IVec S16 32) a x).toNat < S832.size a := fun v801 k0_hw144 => k0_hw144

def k0_chk145 (v765 : IVec S16 32) (v808 : IVec S16 32) : Prop :=
  (∀ a x, ((![v765, v808] : Fin 2 → IVec S16 32) a x).toNat < S13x64.size a)
theorem k0_idx153_inb : ∀ (v765 : IVec S16 32) (v808 : IVec S16 32) (k0_hw145 : k0_chk145 v765 v808), ∀ a x, ((![v765, v808] : Fin 2 → IVec S16 32) a x).toNat < S13x64.size a := fun v765 v808 k0_hw145 => k0_hw145

def k0_chk146 (v812 : IVec S16 32) : Prop :=
  (∀ a x, ((![v812] : Fin 1 → IVec S16 32) a x).toNat < S832.size a)
theorem k0_idx154_inb : ∀ (v812 : IVec S16 32) (k0_hw146 : k0_chk146 v812), ∀ a x, ((![v812] : Fin 1 → IVec S16 32) a x).toNat < S832.size a := fun v812 k0_hw146 => k0_hw146

def k0_chk147 (v1018 : IVec S16 32) (v1028 : IVec S16 32) : Prop :=
  (∀ a x, ((![v1018, v1028] : Fin 2 → IVec S16 32) a x).toNat < S13x64.size a)
theorem k0_idx155_inb : ∀ (v1018 : IVec S16 32) (v1028 : IVec S16 32) (k0_hw147 : k0_chk147 v1018 v1028), ∀ a x, ((![v1018, v1028] : Fin 2 → IVec S16 32) a x).toNat < S13x64.size a := fun v1018 v1028 k0_hw147 => k0_hw147

def k0_chk148 (v1032 : IVec S16 32) : Prop :=
  (∀ a x, ((![v1032] : Fin 1 → IVec S16 32) a x).toNat < S832.size a)
theorem k0_idx156_inb : ∀ (v1032 : IVec S16 32) (k0_hw148 : k0_chk148 v1032), ∀ a x, ((![v1032] : Fin 1 → IVec S16 32) a x).toNat < S832.size a := fun v1032 k0_hw148 => k0_hw148

def k0_chk149 (v1018 : IVec S16 32) (v1039 : IVec S16 32) : Prop :=
  (∀ a x, ((![v1018, v1039] : Fin 2 → IVec S16 32) a x).toNat < S13x64.size a)
theorem k0_idx157_inb : ∀ (v1018 : IVec S16 32) (v1039 : IVec S16 32) (k0_hw149 : k0_chk149 v1018 v1039), ∀ a x, ((![v1018, v1039] : Fin 2 → IVec S16 32) a x).toNat < S13x64.size a := fun v1018 v1039 k0_hw149 => k0_hw149

def k0_chk150 (v1043 : IVec S16 32) : Prop :=
  (∀ a x, ((![v1043] : Fin 1 → IVec S16 32) a x).toNat < S832.size a)
theorem k0_idx158_inb : ∀ (v1043 : IVec S16 32) (k0_hw150 : k0_chk150 v1043), ∀ a x, ((![v1043] : Fin 1 → IVec S16 32) a x).toNat < S832.size a := fun v1043 k0_hw150 => k0_hw150

def k0_chk151 (v1018 : IVec S16 32) (v1050 : IVec S16 32) : Prop :=
  (∀ a x, ((![v1018, v1050] : Fin 2 → IVec S16 32) a x).toNat < S13x64.size a)
theorem k0_idx159_inb : ∀ (v1018 : IVec S16 32) (v1050 : IVec S16 32) (k0_hw151 : k0_chk151 v1018 v1050), ∀ a x, ((![v1018, v1050] : Fin 2 → IVec S16 32) a x).toNat < S13x64.size a := fun v1018 v1050 k0_hw151 => k0_hw151

def k0_chk152 (v1054 : IVec S16 32) : Prop :=
  (∀ a x, ((![v1054] : Fin 1 → IVec S16 32) a x).toNat < S832.size a)
theorem k0_idx160_inb : ∀ (v1054 : IVec S16 32) (k0_hw152 : k0_chk152 v1054), ∀ a x, ((![v1054] : Fin 1 → IVec S16 32) a x).toNat < S832.size a := fun v1054 k0_hw152 => k0_hw152

def k0_chk153 (v1018 : IVec S16 32) (v1061 : IVec S16 32) : Prop :=
  (∀ a x, ((![v1018, v1061] : Fin 2 → IVec S16 32) a x).toNat < S13x64.size a)
theorem k0_idx161_inb : ∀ (v1018 : IVec S16 32) (v1061 : IVec S16 32) (k0_hw153 : k0_chk153 v1018 v1061), ∀ a x, ((![v1018, v1061] : Fin 2 → IVec S16 32) a x).toNat < S13x64.size a := fun v1018 v1061 k0_hw153 => k0_hw153

def k0_chk154 (v1065 : IVec S16 32) : Prop :=
  (∀ a x, ((![v1065] : Fin 1 → IVec S16 32) a x).toNat < S832.size a)
theorem k0_idx162_inb : ∀ (v1065 : IVec S16 32) (k0_hw154 : k0_chk154 v1065), ∀ a x, ((![v1065] : Fin 1 → IVec S16 32) a x).toNat < S832.size a := fun v1065 k0_hw154 => k0_hw154

def k0_chk155 (v1271 : IVec S16 32) (v1281 : IVec S16 32) : Prop :=
  (∀ a x, ((![v1271, v1281] : Fin 2 → IVec S16 32) a x).toNat < S13x64.size a)
theorem k0_idx163_inb : ∀ (v1271 : IVec S16 32) (v1281 : IVec S16 32) (k0_hw155 : k0_chk155 v1271 v1281), ∀ a x, ((![v1271, v1281] : Fin 2 → IVec S16 32) a x).toNat < S13x64.size a := fun v1271 v1281 k0_hw155 => k0_hw155

def k0_chk156 (v1285 : IVec S16 32) : Prop :=
  (∀ a x, ((![v1285] : Fin 1 → IVec S16 32) a x).toNat < S832.size a)
theorem k0_idx164_inb : ∀ (v1285 : IVec S16 32) (k0_hw156 : k0_chk156 v1285), ∀ a x, ((![v1285] : Fin 1 → IVec S16 32) a x).toNat < S832.size a := fun v1285 k0_hw156 => k0_hw156

def k0_chk157 (v1271 : IVec S16 32) (v1292 : IVec S16 32) : Prop :=
  (∀ a x, ((![v1271, v1292] : Fin 2 → IVec S16 32) a x).toNat < S13x64.size a)
theorem k0_idx165_inb : ∀ (v1271 : IVec S16 32) (v1292 : IVec S16 32) (k0_hw157 : k0_chk157 v1271 v1292), ∀ a x, ((![v1271, v1292] : Fin 2 → IVec S16 32) a x).toNat < S13x64.size a := fun v1271 v1292 k0_hw157 => k0_hw157

def k0_chk158 (v1296 : IVec S16 32) : Prop :=
  (∀ a x, ((![v1296] : Fin 1 → IVec S16 32) a x).toNat < S832.size a)
theorem k0_idx166_inb : ∀ (v1296 : IVec S16 32) (k0_hw158 : k0_chk158 v1296), ∀ a x, ((![v1296] : Fin 1 → IVec S16 32) a x).toNat < S832.size a := fun v1296 k0_hw158 => k0_hw158

def k0_chk159 (v1271 : IVec S16 32) (v1303 : IVec S16 32) : Prop :=
  (∀ a x, ((![v1271, v1303] : Fin 2 → IVec S16 32) a x).toNat < S13x64.size a)
theorem k0_idx167_inb : ∀ (v1271 : IVec S16 32) (v1303 : IVec S16 32) (k0_hw159 : k0_chk159 v1271 v1303), ∀ a x, ((![v1271, v1303] : Fin 2 → IVec S16 32) a x).toNat < S13x64.size a := fun v1271 v1303 k0_hw159 => k0_hw159

def k0_chk160 (v1307 : IVec S16 32) : Prop :=
  (∀ a x, ((![v1307] : Fin 1 → IVec S16 32) a x).toNat < S832.size a)
theorem k0_idx168_inb : ∀ (v1307 : IVec S16 32) (k0_hw160 : k0_chk160 v1307), ∀ a x, ((![v1307] : Fin 1 → IVec S16 32) a x).toNat < S832.size a := fun v1307 k0_hw160 => k0_hw160

def k0_chk161 (v1271 : IVec S16 32) (v1314 : IVec S16 32) : Prop :=
  (∀ a x, ((![v1271, v1314] : Fin 2 → IVec S16 32) a x).toNat < S13x64.size a)
theorem k0_idx169_inb : ∀ (v1271 : IVec S16 32) (v1314 : IVec S16 32) (k0_hw161 : k0_chk161 v1271 v1314), ∀ a x, ((![v1271, v1314] : Fin 2 → IVec S16 32) a x).toNat < S13x64.size a := fun v1271 v1314 k0_hw161 => k0_hw161

def k0_chk162 (v1318 : IVec S16 32) : Prop :=
  (∀ a x, ((![v1318] : Fin 1 → IVec S16 32) a x).toNat < S832.size a)
theorem k0_idx170_inb : ∀ (v1318 : IVec S16 32) (k0_hw162 : k0_chk162 v1318), ∀ a x, ((![v1318] : Fin 1 → IVec S16 32) a x).toNat < S832.size a := fun v1318 k0_hw162 => k0_hw162

def k0_chk163 (v1524 : IVec S16 32) (v1534 : IVec S16 32) : Prop :=
  (∀ a x, ((![v1524, v1534] : Fin 2 → IVec S16 32) a x).toNat < S13x64.size a)
theorem k0_idx171_inb : ∀ (v1524 : IVec S16 32) (v1534 : IVec S16 32) (k0_hw163 : k0_chk163 v1524 v1534), ∀ a x, ((![v1524, v1534] : Fin 2 → IVec S16 32) a x).toNat < S13x64.size a := fun v1524 v1534 k0_hw163 => k0_hw163

def k0_chk164 (v1538 : IVec S16 32) : Prop :=
  (∀ a x, ((![v1538] : Fin 1 → IVec S16 32) a x).toNat < S832.size a)
theorem k0_idx172_inb : ∀ (v1538 : IVec S16 32) (k0_hw164 : k0_chk164 v1538), ∀ a x, ((![v1538] : Fin 1 → IVec S16 32) a x).toNat < S832.size a := fun v1538 k0_hw164 => k0_hw164

def k0_chk165 (v1524 : IVec S16 32) (v1545 : IVec S16 32) : Prop :=
  (∀ a x, ((![v1524, v1545] : Fin 2 → IVec S16 32) a x).toNat < S13x64.size a)
theorem k0_idx173_inb : ∀ (v1524 : IVec S16 32) (v1545 : IVec S16 32) (k0_hw165 : k0_chk165 v1524 v1545), ∀ a x, ((![v1524, v1545] : Fin 2 → IVec S16 32) a x).toNat < S13x64.size a := fun v1524 v1545 k0_hw165 => k0_hw165

def k0_chk166 (v1549 : IVec S16 32) : Prop :=
  (∀ a x, ((![v1549] : Fin 1 → IVec S16 32) a x).toNat < S832.size a)
theorem k0_idx174_inb : ∀ (v1549 : IVec S16 32) (k0_hw166 : k0_chk166 v1549), ∀ a x, ((![v1549] : Fin 1 → IVec S16 32) a x).toNat < S832.size a := fun v1549 k0_hw166 => k0_hw166

def k0_chk167 (v1524 : IVec S16 32) (v1556 : IVec S16 32) : Prop :=
  (∀ a x, ((![v1524, v1556] : Fin 2 → IVec S16 32) a x).toNat < S13x64.size a)
theorem k0_idx175_inb : ∀ (v1524 : IVec S16 32) (v1556 : IVec S16 32) (k0_hw167 : k0_chk167 v1524 v1556), ∀ a x, ((![v1524, v1556] : Fin 2 → IVec S16 32) a x).toNat < S13x64.size a := fun v1524 v1556 k0_hw167 => k0_hw167

def k0_chk168 (v1560 : IVec S16 32) : Prop :=
  (∀ a x, ((![v1560] : Fin 1 → IVec S16 32) a x).toNat < S832.size a)
theorem k0_idx176_inb : ∀ (v1560 : IVec S16 32) (k0_hw168 : k0_chk168 v1560), ∀ a x, ((![v1560] : Fin 1 → IVec S16 32) a x).toNat < S832.size a := fun v1560 k0_hw168 => k0_hw168

def k0_chk169 (v1524 : IVec S16 32) (v1567 : IVec S16 32) : Prop :=
  (∀ a x, ((![v1524, v1567] : Fin 2 → IVec S16 32) a x).toNat < S13x64.size a)
theorem k0_idx177_inb : ∀ (v1524 : IVec S16 32) (v1567 : IVec S16 32) (k0_hw169 : k0_chk169 v1524 v1567), ∀ a x, ((![v1524, v1567] : Fin 2 → IVec S16 32) a x).toNat < S13x64.size a := fun v1524 v1567 k0_hw169 => k0_hw169

def k0_chk170 (v1571 : IVec S16 32) : Prop :=
  (∀ a x, ((![v1571] : Fin 1 → IVec S16 32) a x).toNat < S832.size a)
theorem k0_idx178_inb : ∀ (v1571 : IVec S16 32) (k0_hw170 : k0_chk170 v1571), ∀ a x, ((![v1571] : Fin 1 → IVec S16 32) a x).toNat < S832.size a := fun v1571 k0_hw170 => k0_hw170

def k0_chk171 (v1777 : IVec S16 32) (v1787 : IVec S16 32) : Prop :=
  (∀ a x, ((![v1777, v1787] : Fin 2 → IVec S16 32) a x).toNat < S13x64.size a)
theorem k0_idx179_inb : ∀ (v1777 : IVec S16 32) (v1787 : IVec S16 32) (k0_hw171 : k0_chk171 v1777 v1787), ∀ a x, ((![v1777, v1787] : Fin 2 → IVec S16 32) a x).toNat < S13x64.size a := fun v1777 v1787 k0_hw171 => k0_hw171

def k0_chk172 (v1791 : IVec S16 32) : Prop :=
  (∀ a x, ((![v1791] : Fin 1 → IVec S16 32) a x).toNat < S832.size a)
theorem k0_idx180_inb : ∀ (v1791 : IVec S16 32) (k0_hw172 : k0_chk172 v1791), ∀ a x, ((![v1791] : Fin 1 → IVec S16 32) a x).toNat < S832.size a := fun v1791 k0_hw172 => k0_hw172

def k0_chk173 (v1777 : IVec S16 32) (v1798 : IVec S16 32) : Prop :=
  (∀ a x, ((![v1777, v1798] : Fin 2 → IVec S16 32) a x).toNat < S13x64.size a)
theorem k0_idx181_inb : ∀ (v1777 : IVec S16 32) (v1798 : IVec S16 32) (k0_hw173 : k0_chk173 v1777 v1798), ∀ a x, ((![v1777, v1798] : Fin 2 → IVec S16 32) a x).toNat < S13x64.size a := fun v1777 v1798 k0_hw173 => k0_hw173

def k0_chk174 (v1802 : IVec S16 32) : Prop :=
  (∀ a x, ((![v1802] : Fin 1 → IVec S16 32) a x).toNat < S832.size a)
theorem k0_idx182_inb : ∀ (v1802 : IVec S16 32) (k0_hw174 : k0_chk174 v1802), ∀ a x, ((![v1802] : Fin 1 → IVec S16 32) a x).toNat < S832.size a := fun v1802 k0_hw174 => k0_hw174

def k0_chk175 (v1777 : IVec S16 32) (v1809 : IVec S16 32) : Prop :=
  (∀ a x, ((![v1777, v1809] : Fin 2 → IVec S16 32) a x).toNat < S13x64.size a)
theorem k0_idx183_inb : ∀ (v1777 : IVec S16 32) (v1809 : IVec S16 32) (k0_hw175 : k0_chk175 v1777 v1809), ∀ a x, ((![v1777, v1809] : Fin 2 → IVec S16 32) a x).toNat < S13x64.size a := fun v1777 v1809 k0_hw175 => k0_hw175

def k0_chk176 (v1813 : IVec S16 32) : Prop :=
  (∀ a x, ((![v1813] : Fin 1 → IVec S16 32) a x).toNat < S832.size a)
theorem k0_idx184_inb : ∀ (v1813 : IVec S16 32) (k0_hw176 : k0_chk176 v1813), ∀ a x, ((![v1813] : Fin 1 → IVec S16 32) a x).toNat < S832.size a := fun v1813 k0_hw176 => k0_hw176

def k0_chk177 (v1777 : IVec S16 32) (v1820 : IVec S16 32) : Prop :=
  (∀ a x, ((![v1777, v1820] : Fin 2 → IVec S16 32) a x).toNat < S13x64.size a)
theorem k0_idx185_inb : ∀ (v1777 : IVec S16 32) (v1820 : IVec S16 32) (k0_hw177 : k0_chk177 v1777 v1820), ∀ a x, ((![v1777, v1820] : Fin 2 → IVec S16 32) a x).toNat < S13x64.size a := fun v1777 v1820 k0_hw177 => k0_hw177

def k0_chk178 (v1824 : IVec S16 32) : Prop :=
  (∀ a x, ((![v1824] : Fin 1 → IVec S16 32) a x).toNat < S832.size a)
theorem k0_idx186_inb : ∀ (v1824 : IVec S16 32) (k0_hw178 : k0_chk178 v1824), ∀ a x, ((![v1824] : Fin 1 → IVec S16 32) a x).toNat < S832.size a := fun v1824 k0_hw178 => k0_hw178

def k0_chk179 (v2030 : IVec S16 32) (v2040 : IVec S16 32) : Prop :=
  (∀ a x, ((![v2030, v2040] : Fin 2 → IVec S16 32) a x).toNat < S13x64.size a)
theorem k0_idx187_inb : ∀ (v2030 : IVec S16 32) (v2040 : IVec S16 32) (k0_hw179 : k0_chk179 v2030 v2040), ∀ a x, ((![v2030, v2040] : Fin 2 → IVec S16 32) a x).toNat < S13x64.size a := fun v2030 v2040 k0_hw179 => k0_hw179

def k0_chk180 (v2044 : IVec S16 32) : Prop :=
  (∀ a x, ((![v2044] : Fin 1 → IVec S16 32) a x).toNat < S832.size a)
theorem k0_idx188_inb : ∀ (v2044 : IVec S16 32) (k0_hw180 : k0_chk180 v2044), ∀ a x, ((![v2044] : Fin 1 → IVec S16 32) a x).toNat < S832.size a := fun v2044 k0_hw180 => k0_hw180

def k0_chk181 (v2030 : IVec S16 32) (v2051 : IVec S16 32) : Prop :=
  (∀ a x, ((![v2030, v2051] : Fin 2 → IVec S16 32) a x).toNat < S13x64.size a)
theorem k0_idx189_inb : ∀ (v2030 : IVec S16 32) (v2051 : IVec S16 32) (k0_hw181 : k0_chk181 v2030 v2051), ∀ a x, ((![v2030, v2051] : Fin 2 → IVec S16 32) a x).toNat < S13x64.size a := fun v2030 v2051 k0_hw181 => k0_hw181

def k0_chk182 (v2055 : IVec S16 32) : Prop :=
  (∀ a x, ((![v2055] : Fin 1 → IVec S16 32) a x).toNat < S832.size a)
theorem k0_idx190_inb : ∀ (v2055 : IVec S16 32) (k0_hw182 : k0_chk182 v2055), ∀ a x, ((![v2055] : Fin 1 → IVec S16 32) a x).toNat < S832.size a := fun v2055 k0_hw182 => k0_hw182

def k0_chk183 (v2030 : IVec S16 32) (v2062 : IVec S16 32) : Prop :=
  (∀ a x, ((![v2030, v2062] : Fin 2 → IVec S16 32) a x).toNat < S13x64.size a)
theorem k0_idx191_inb : ∀ (v2030 : IVec S16 32) (v2062 : IVec S16 32) (k0_hw183 : k0_chk183 v2030 v2062), ∀ a x, ((![v2030, v2062] : Fin 2 → IVec S16 32) a x).toNat < S13x64.size a := fun v2030 v2062 k0_hw183 => k0_hw183

def k0_chk184 (v2066 : IVec S16 32) : Prop :=
  (∀ a x, ((![v2066] : Fin 1 → IVec S16 32) a x).toNat < S832.size a)
theorem k0_idx192_inb : ∀ (v2066 : IVec S16 32) (k0_hw184 : k0_chk184 v2066), ∀ a x, ((![v2066] : Fin 1 → IVec S16 32) a x).toNat < S832.size a := fun v2066 k0_hw184 => k0_hw184

def k0_chk185 (v2030 : IVec S16 32) (v2073 : IVec S16 32) : Prop :=
  (∀ a x, ((![v2030, v2073] : Fin 2 → IVec S16 32) a x).toNat < S13x64.size a)
theorem k0_idx193_inb : ∀ (v2030 : IVec S16 32) (v2073 : IVec S16 32) (k0_hw185 : k0_chk185 v2030 v2073), ∀ a x, ((![v2030, v2073] : Fin 2 → IVec S16 32) a x).toNat < S13x64.size a := fun v2030 v2073 k0_hw185 => k0_hw185

def k0_chk186 (v2077 : IVec S16 32) : Prop :=
  (∀ a x, ((![v2077] : Fin 1 → IVec S16 32) a x).toNat < S832.size a)
theorem k0_idx194_inb : ∀ (v2077 : IVec S16 32) (k0_hw186 : k0_chk186 v2077), ∀ a x, ((![v2077] : Fin 1 → IVec S16 32) a x).toNat < S832.size a := fun v2077 k0_hw186 => k0_hw186

def k0_chk187 (v2283 : IVec S16 32) (v2293 : IVec S16 32) : Prop :=
  (∀ a x, ((![v2283, v2293] : Fin 2 → IVec S16 32) a x).toNat < S13x64.size a)
theorem k0_idx195_inb : ∀ (v2283 : IVec S16 32) (v2293 : IVec S16 32) (k0_hw187 : k0_chk187 v2283 v2293), ∀ a x, ((![v2283, v2293] : Fin 2 → IVec S16 32) a x).toNat < S13x64.size a := fun v2283 v2293 k0_hw187 => k0_hw187

def k0_chk188 (v2297 : IVec S16 32) : Prop :=
  (∀ a x, ((![v2297] : Fin 1 → IVec S16 32) a x).toNat < S832.size a)
theorem k0_idx196_inb : ∀ (v2297 : IVec S16 32) (k0_hw188 : k0_chk188 v2297), ∀ a x, ((![v2297] : Fin 1 → IVec S16 32) a x).toNat < S832.size a := fun v2297 k0_hw188 => k0_hw188

def k0_chk189 (v2283 : IVec S16 32) (v2304 : IVec S16 32) : Prop :=
  (∀ a x, ((![v2283, v2304] : Fin 2 → IVec S16 32) a x).toNat < S13x64.size a)
theorem k0_idx197_inb : ∀ (v2283 : IVec S16 32) (v2304 : IVec S16 32) (k0_hw189 : k0_chk189 v2283 v2304), ∀ a x, ((![v2283, v2304] : Fin 2 → IVec S16 32) a x).toNat < S13x64.size a := fun v2283 v2304 k0_hw189 => k0_hw189

def k0_chk190 (v2308 : IVec S16 32) : Prop :=
  (∀ a x, ((![v2308] : Fin 1 → IVec S16 32) a x).toNat < S832.size a)
theorem k0_idx198_inb : ∀ (v2308 : IVec S16 32) (k0_hw190 : k0_chk190 v2308), ∀ a x, ((![v2308] : Fin 1 → IVec S16 32) a x).toNat < S832.size a := fun v2308 k0_hw190 => k0_hw190

def k0_chk191 (v2283 : IVec S16 32) (v2315 : IVec S16 32) : Prop :=
  (∀ a x, ((![v2283, v2315] : Fin 2 → IVec S16 32) a x).toNat < S13x64.size a)
theorem k0_idx199_inb : ∀ (v2283 : IVec S16 32) (v2315 : IVec S16 32) (k0_hw191 : k0_chk191 v2283 v2315), ∀ a x, ((![v2283, v2315] : Fin 2 → IVec S16 32) a x).toNat < S13x64.size a := fun v2283 v2315 k0_hw191 => k0_hw191

def k0_chk192 (v2319 : IVec S16 32) : Prop :=
  (∀ a x, ((![v2319] : Fin 1 → IVec S16 32) a x).toNat < S832.size a)
theorem k0_idx200_inb : ∀ (v2319 : IVec S16 32) (k0_hw192 : k0_chk192 v2319), ∀ a x, ((![v2319] : Fin 1 → IVec S16 32) a x).toNat < S832.size a := fun v2319 k0_hw192 => k0_hw192

def k0_chk193 (v2283 : IVec S16 32) (v2326 : IVec S16 32) : Prop :=
  (∀ a x, ((![v2283, v2326] : Fin 2 → IVec S16 32) a x).toNat < S13x64.size a)
theorem k0_idx201_inb : ∀ (v2283 : IVec S16 32) (v2326 : IVec S16 32) (k0_hw193 : k0_chk193 v2283 v2326), ∀ a x, ((![v2283, v2326] : Fin 2 → IVec S16 32) a x).toNat < S13x64.size a := fun v2283 v2326 k0_hw193 => k0_hw193

def k0_chk194 (v2330 : IVec S16 32) : Prop :=
  (∀ a x, ((![v2330] : Fin 1 → IVec S16 32) a x).toNat < S832.size a)
theorem k0_idx202_inb : ∀ (v2330 : IVec S16 32) (k0_hw194 : k0_chk194 v2330), ∀ a x, ((![v2330] : Fin 1 → IVec S16 32) a x).toNat < S832.size a := fun v2330 k0_hw194 => k0_hw194

def k0_chk195 (v2536 : IVec S16 32) (v2546 : IVec S16 32) : Prop :=
  (∀ a x, ((![v2536, v2546] : Fin 2 → IVec S16 32) a x).toNat < S13x64.size a)
theorem k0_idx203_inb : ∀ (v2536 : IVec S16 32) (v2546 : IVec S16 32) (k0_hw195 : k0_chk195 v2536 v2546), ∀ a x, ((![v2536, v2546] : Fin 2 → IVec S16 32) a x).toNat < S13x64.size a := fun v2536 v2546 k0_hw195 => k0_hw195

def k0_chk196 (v2550 : IVec S16 32) : Prop :=
  (∀ a x, ((![v2550] : Fin 1 → IVec S16 32) a x).toNat < S832.size a)
theorem k0_idx204_inb : ∀ (v2550 : IVec S16 32) (k0_hw196 : k0_chk196 v2550), ∀ a x, ((![v2550] : Fin 1 → IVec S16 32) a x).toNat < S832.size a := fun v2550 k0_hw196 => k0_hw196

def k0_chk197 (v2536 : IVec S16 32) (v2557 : IVec S16 32) : Prop :=
  (∀ a x, ((![v2536, v2557] : Fin 2 → IVec S16 32) a x).toNat < S13x64.size a)
theorem k0_idx205_inb : ∀ (v2536 : IVec S16 32) (v2557 : IVec S16 32) (k0_hw197 : k0_chk197 v2536 v2557), ∀ a x, ((![v2536, v2557] : Fin 2 → IVec S16 32) a x).toNat < S13x64.size a := fun v2536 v2557 k0_hw197 => k0_hw197

def k0_chk198 (v2561 : IVec S16 32) : Prop :=
  (∀ a x, ((![v2561] : Fin 1 → IVec S16 32) a x).toNat < S832.size a)
theorem k0_idx206_inb : ∀ (v2561 : IVec S16 32) (k0_hw198 : k0_chk198 v2561), ∀ a x, ((![v2561] : Fin 1 → IVec S16 32) a x).toNat < S832.size a := fun v2561 k0_hw198 => k0_hw198

def k0_chk199 (v2536 : IVec S16 32) (v2568 : IVec S16 32) : Prop :=
  (∀ a x, ((![v2536, v2568] : Fin 2 → IVec S16 32) a x).toNat < S13x64.size a)
theorem k0_idx207_inb : ∀ (v2536 : IVec S16 32) (v2568 : IVec S16 32) (k0_hw199 : k0_chk199 v2536 v2568), ∀ a x, ((![v2536, v2568] : Fin 2 → IVec S16 32) a x).toNat < S13x64.size a := fun v2536 v2568 k0_hw199 => k0_hw199

def k0_chk200 (v2572 : IVec S16 32) : Prop :=
  (∀ a x, ((![v2572] : Fin 1 → IVec S16 32) a x).toNat < S832.size a)
theorem k0_idx208_inb : ∀ (v2572 : IVec S16 32) (k0_hw200 : k0_chk200 v2572), ∀ a x, ((![v2572] : Fin 1 → IVec S16 32) a x).toNat < S832.size a := fun v2572 k0_hw200 => k0_hw200

def k0_chk201 (v2536 : IVec S16 32) (v2579 : IVec S16 32) : Prop :=
  (∀ a x, ((![v2536, v2579] : Fin 2 → IVec S16 32) a x).toNat < S13x64.size a)
theorem k0_idx209_inb : ∀ (v2536 : IVec S16 32) (v2579 : IVec S16 32) (k0_hw201 : k0_chk201 v2536 v2579), ∀ a x, ((![v2536, v2579] : Fin 2 → IVec S16 32) a x).toNat < S13x64.size a := fun v2536 v2579 k0_hw201 => k0_hw201

def k0_chk202 (v2583 : IVec S16 32) : Prop :=
  (∀ a x, ((![v2583] : Fin 1 → IVec S16 32) a x).toNat < S832.size a)
theorem k0_idx210_inb : ∀ (v2583 : IVec S16 32) (k0_hw202 : k0_chk202 v2583), ∀ a x, ((![v2583] : Fin 1 → IVec S16 32) a x).toNat < S832.size a := fun v2583 k0_hw202 => k0_hw202

def k0_chk203 (v2789 : IVec S16 32) (v2799 : IVec S16 32) : Prop :=
  (∀ a x, ((![v2789, v2799] : Fin 2 → IVec S16 32) a x).toNat < S13x64.size a)
theorem k0_idx211_inb : ∀ (v2789 : IVec S16 32) (v2799 : IVec S16 32) (k0_hw203 : k0_chk203 v2789 v2799), ∀ a x, ((![v2789, v2799] : Fin 2 → IVec S16 32) a x).toNat < S13x64.size a := fun v2789 v2799 k0_hw203 => k0_hw203

def k0_chk204 (v2803 : IVec S16 32) : Prop :=
  (∀ a x, ((![v2803] : Fin 1 → IVec S16 32) a x).toNat < S832.size a)
theorem k0_idx212_inb : ∀ (v2803 : IVec S16 32) (k0_hw204 : k0_chk204 v2803), ∀ a x, ((![v2803] : Fin 1 → IVec S16 32) a x).toNat < S832.size a := fun v2803 k0_hw204 => k0_hw204

def k0_chk205 (v2789 : IVec S16 32) (v2810 : IVec S16 32) : Prop :=
  (∀ a x, ((![v2789, v2810] : Fin 2 → IVec S16 32) a x).toNat < S13x64.size a)
theorem k0_idx213_inb : ∀ (v2789 : IVec S16 32) (v2810 : IVec S16 32) (k0_hw205 : k0_chk205 v2789 v2810), ∀ a x, ((![v2789, v2810] : Fin 2 → IVec S16 32) a x).toNat < S13x64.size a := fun v2789 v2810 k0_hw205 => k0_hw205

def k0_chk206 (v2814 : IVec S16 32) : Prop :=
  (∀ a x, ((![v2814] : Fin 1 → IVec S16 32) a x).toNat < S832.size a)
theorem k0_idx214_inb : ∀ (v2814 : IVec S16 32) (k0_hw206 : k0_chk206 v2814), ∀ a x, ((![v2814] : Fin 1 → IVec S16 32) a x).toNat < S832.size a := fun v2814 k0_hw206 => k0_hw206

def k0_chk207 (v2789 : IVec S16 32) (v2821 : IVec S16 32) : Prop :=
  (∀ a x, ((![v2789, v2821] : Fin 2 → IVec S16 32) a x).toNat < S13x64.size a)
theorem k0_idx215_inb : ∀ (v2789 : IVec S16 32) (v2821 : IVec S16 32) (k0_hw207 : k0_chk207 v2789 v2821), ∀ a x, ((![v2789, v2821] : Fin 2 → IVec S16 32) a x).toNat < S13x64.size a := fun v2789 v2821 k0_hw207 => k0_hw207

def k0_chk208 (v2825 : IVec S16 32) : Prop :=
  (∀ a x, ((![v2825] : Fin 1 → IVec S16 32) a x).toNat < S832.size a)
theorem k0_idx216_inb : ∀ (v2825 : IVec S16 32) (k0_hw208 : k0_chk208 v2825), ∀ a x, ((![v2825] : Fin 1 → IVec S16 32) a x).toNat < S832.size a := fun v2825 k0_hw208 => k0_hw208

def k0_chk209 (v2789 : IVec S16 32) (v2832 : IVec S16 32) : Prop :=
  (∀ a x, ((![v2789, v2832] : Fin 2 → IVec S16 32) a x).toNat < S13x64.size a)
theorem k0_idx217_inb : ∀ (v2789 : IVec S16 32) (v2832 : IVec S16 32) (k0_hw209 : k0_chk209 v2789 v2832), ∀ a x, ((![v2789, v2832] : Fin 2 → IVec S16 32) a x).toNat < S13x64.size a := fun v2789 v2832 k0_hw209 => k0_hw209

def k0_chk210 (v2836 : IVec S16 32) : Prop :=
  (∀ a x, ((![v2836] : Fin 1 → IVec S16 32) a x).toNat < S832.size a)
theorem k0_idx218_inb : ∀ (v2836 : IVec S16 32) (k0_hw210 : k0_chk210 v2836), ∀ a x, ((![v2836] : Fin 1 → IVec S16 32) a x).toNat < S832.size a := fun v2836 k0_hw210 => k0_hw210

def k0_chk211 (v3042 : IVec S16 32) (v3052 : IVec S16 32) : Prop :=
  (∀ a x, ((![v3042, v3052] : Fin 2 → IVec S16 32) a x).toNat < S13x64.size a)
theorem k0_idx219_inb : ∀ (v3042 : IVec S16 32) (v3052 : IVec S16 32) (k0_hw211 : k0_chk211 v3042 v3052), ∀ a x, ((![v3042, v3052] : Fin 2 → IVec S16 32) a x).toNat < S13x64.size a := fun v3042 v3052 k0_hw211 => k0_hw211

def k0_chk212 (v3056 : IVec S16 32) : Prop :=
  (∀ a x, ((![v3056] : Fin 1 → IVec S16 32) a x).toNat < S832.size a)
theorem k0_idx220_inb : ∀ (v3056 : IVec S16 32) (k0_hw212 : k0_chk212 v3056), ∀ a x, ((![v3056] : Fin 1 → IVec S16 32) a x).toNat < S832.size a := fun v3056 k0_hw212 => k0_hw212

def k0_chk213 (v3042 : IVec S16 32) (v3063 : IVec S16 32) : Prop :=
  (∀ a x, ((![v3042, v3063] : Fin 2 → IVec S16 32) a x).toNat < S13x64.size a)
theorem k0_idx221_inb : ∀ (v3042 : IVec S16 32) (v3063 : IVec S16 32) (k0_hw213 : k0_chk213 v3042 v3063), ∀ a x, ((![v3042, v3063] : Fin 2 → IVec S16 32) a x).toNat < S13x64.size a := fun v3042 v3063 k0_hw213 => k0_hw213

def k0_chk214 (v3067 : IVec S16 32) : Prop :=
  (∀ a x, ((![v3067] : Fin 1 → IVec S16 32) a x).toNat < S832.size a)
theorem k0_idx222_inb : ∀ (v3067 : IVec S16 32) (k0_hw214 : k0_chk214 v3067), ∀ a x, ((![v3067] : Fin 1 → IVec S16 32) a x).toNat < S832.size a := fun v3067 k0_hw214 => k0_hw214

def k0_chk215 (v3042 : IVec S16 32) (v3074 : IVec S16 32) : Prop :=
  (∀ a x, ((![v3042, v3074] : Fin 2 → IVec S16 32) a x).toNat < S13x64.size a)
theorem k0_idx223_inb : ∀ (v3042 : IVec S16 32) (v3074 : IVec S16 32) (k0_hw215 : k0_chk215 v3042 v3074), ∀ a x, ((![v3042, v3074] : Fin 2 → IVec S16 32) a x).toNat < S13x64.size a := fun v3042 v3074 k0_hw215 => k0_hw215

def k0_chk216 (v3078 : IVec S16 32) : Prop :=
  (∀ a x, ((![v3078] : Fin 1 → IVec S16 32) a x).toNat < S832.size a)
theorem k0_idx224_inb : ∀ (v3078 : IVec S16 32) (k0_hw216 : k0_chk216 v3078), ∀ a x, ((![v3078] : Fin 1 → IVec S16 32) a x).toNat < S832.size a := fun v3078 k0_hw216 => k0_hw216

def k0_chk217 (v3042 : IVec S16 32) (v3085 : IVec S16 32) : Prop :=
  (∀ a x, ((![v3042, v3085] : Fin 2 → IVec S16 32) a x).toNat < S13x64.size a)
theorem k0_idx225_inb : ∀ (v3042 : IVec S16 32) (v3085 : IVec S16 32) (k0_hw217 : k0_chk217 v3042 v3085), ∀ a x, ((![v3042, v3085] : Fin 2 → IVec S16 32) a x).toNat < S13x64.size a := fun v3042 v3085 k0_hw217 => k0_hw217

def k0_chk218 (v3089 : IVec S16 32) : Prop :=
  (∀ a x, ((![v3089] : Fin 1 → IVec S16 32) a x).toNat < S832.size a)
theorem k0_idx226_inb : ∀ (v3089 : IVec S16 32) (k0_hw218 : k0_chk218 v3089), ∀ a x, ((![v3089] : Fin 1 → IVec S16 32) a x).toNat < S832.size a := fun v3089 k0_hw218 => k0_hw218

def k0_chk219 (v3295 : IVec S16 32) (v3305 : IVec S16 32) : Prop :=
  (∀ a x, ((![v3295, v3305] : Fin 2 → IVec S16 32) a x).toNat < S13x64.size a)
theorem k0_idx227_inb : ∀ (v3295 : IVec S16 32) (v3305 : IVec S16 32) (k0_hw219 : k0_chk219 v3295 v3305), ∀ a x, ((![v3295, v3305] : Fin 2 → IVec S16 32) a x).toNat < S13x64.size a := fun v3295 v3305 k0_hw219 => k0_hw219

def k0_chk220 (v3309 : IVec S16 32) : Prop :=
  (∀ a x, ((![v3309] : Fin 1 → IVec S16 32) a x).toNat < S832.size a)
theorem k0_idx228_inb : ∀ (v3309 : IVec S16 32) (k0_hw220 : k0_chk220 v3309), ∀ a x, ((![v3309] : Fin 1 → IVec S16 32) a x).toNat < S832.size a := fun v3309 k0_hw220 => k0_hw220

def k0_chk221 (v3295 : IVec S16 32) (v3316 : IVec S16 32) : Prop :=
  (∀ a x, ((![v3295, v3316] : Fin 2 → IVec S16 32) a x).toNat < S13x64.size a)
theorem k0_idx229_inb : ∀ (v3295 : IVec S16 32) (v3316 : IVec S16 32) (k0_hw221 : k0_chk221 v3295 v3316), ∀ a x, ((![v3295, v3316] : Fin 2 → IVec S16 32) a x).toNat < S13x64.size a := fun v3295 v3316 k0_hw221 => k0_hw221

def k0_chk222 (v3320 : IVec S16 32) : Prop :=
  (∀ a x, ((![v3320] : Fin 1 → IVec S16 32) a x).toNat < S832.size a)
theorem k0_idx230_inb : ∀ (v3320 : IVec S16 32) (k0_hw222 : k0_chk222 v3320), ∀ a x, ((![v3320] : Fin 1 → IVec S16 32) a x).toNat < S832.size a := fun v3320 k0_hw222 => k0_hw222

def k0_chk223 (v3295 : IVec S16 32) (v3327 : IVec S16 32) : Prop :=
  (∀ a x, ((![v3295, v3327] : Fin 2 → IVec S16 32) a x).toNat < S13x64.size a)
theorem k0_idx231_inb : ∀ (v3295 : IVec S16 32) (v3327 : IVec S16 32) (k0_hw223 : k0_chk223 v3295 v3327), ∀ a x, ((![v3295, v3327] : Fin 2 → IVec S16 32) a x).toNat < S13x64.size a := fun v3295 v3327 k0_hw223 => k0_hw223

def k0_chk224 (v3331 : IVec S16 32) : Prop :=
  (∀ a x, ((![v3331] : Fin 1 → IVec S16 32) a x).toNat < S832.size a)
theorem k0_idx232_inb : ∀ (v3331 : IVec S16 32) (k0_hw224 : k0_chk224 v3331), ∀ a x, ((![v3331] : Fin 1 → IVec S16 32) a x).toNat < S832.size a := fun v3331 k0_hw224 => k0_hw224

def k0_chk225 (v3295 : IVec S16 32) (v3338 : IVec S16 32) : Prop :=
  (∀ a x, ((![v3295, v3338] : Fin 2 → IVec S16 32) a x).toNat < S13x64.size a)
theorem k0_idx233_inb : ∀ (v3295 : IVec S16 32) (v3338 : IVec S16 32) (k0_hw225 : k0_chk225 v3295 v3338), ∀ a x, ((![v3295, v3338] : Fin 2 → IVec S16 32) a x).toNat < S13x64.size a := fun v3295 v3338 k0_hw225 => k0_hw225

def k0_chk226 (v3342 : IVec S16 32) : Prop :=
  (∀ a x, ((![v3342] : Fin 1 → IVec S16 32) a x).toNat < S832.size a)
theorem k0_idx234_inb : ∀ (v3342 : IVec S16 32) (k0_hw226 : k0_chk226 v3342), ∀ a x, ((![v3342] : Fin 1 → IVec S16 32) a x).toNat < S832.size a := fun v3342 k0_hw226 => k0_hw226
@[reducible] def k0_t4_loop : Scf.Loop 32 :=
  let c0_i32_1227 : BitVec 32 := 0#32
  let c49_i32 : BitVec 32 := 49#32
  let v3448 : BitVec 32 := Scalar.addi c0_i32_1227 c49_i32
  let c1_i32_1228 : BitVec 32 := 1#32
  ⟨c0_i32_1227, v3448, c1_i32_1228⟩

def k0_chk227 (v3453 : IVec S16 32) : Prop :=
  (∀ a x, ((![v3453] : Fin 1 → IVec S16 32) a x).toNat < S832.size a)
theorem k0_idx235_inb : ∀ (v3453 : IVec S16 32) (k0_hw227 : k0_chk227 v3453), ∀ a x, ((![v3453] : Fin 1 → IVec S16 32) a x).toNat < S832.size a := fun v3453 k0_hw227 => k0_hw227

def k0_chk228 (v3456 : IVec S16 32) : Prop :=
  (∀ a x, ((![v3456] : Fin 1 → IVec S16 32) a x).toNat < S832.size a)
theorem k0_idx236_inb : ∀ (v3456 : IVec S16 32) (k0_hw228 : k0_chk228 v3456), ∀ a x, ((![v3456] : Fin 1 → IVec S16 32) a x).toNat < S832.size a := fun v3456 k0_hw228 => k0_hw228

def k0_chk229 (v3459 : IVec S16 32) : Prop :=
  (∀ a x, ((![v3459] : Fin 1 → IVec S16 32) a x).toNat < S832.size a)
theorem k0_idx237_inb : ∀ (v3459 : IVec S16 32) (k0_hw229 : k0_chk229 v3459), ∀ a x, ((![v3459] : Fin 1 → IVec S16 32) a x).toNat < S832.size a := fun v3459 k0_hw229 => k0_hw229

def k0_chk230 (v3462 : IVec S16 32) : Prop :=
  (∀ a x, ((![v3462] : Fin 1 → IVec S16 32) a x).toNat < S832.size a)
theorem k0_idx238_inb : ∀ (v3462 : IVec S16 32) (k0_hw230 : k0_chk230 v3462), ∀ a x, ((![v3462] : Fin 1 → IVec S16 32) a x).toNat < S832.size a := fun v3462 k0_hw230 => k0_hw230

def k0_chk231 (v3465 : IVec S16 32) : Prop :=
  (∀ a x, ((![v3465] : Fin 1 → IVec S16 32) a x).toNat < S832.size a)
theorem k0_idx239_inb : ∀ (v3465 : IVec S16 32) (k0_hw231 : k0_chk231 v3465), ∀ a x, ((![v3465] : Fin 1 → IVec S16 32) a x).toNat < S832.size a := fun v3465 k0_hw231 => k0_hw231

def k0_chk232 (v3468 : IVec S16 32) : Prop :=
  (∀ a x, ((![v3468] : Fin 1 → IVec S16 32) a x).toNat < S832.size a)
theorem k0_idx240_inb : ∀ (v3468 : IVec S16 32) (k0_hw232 : k0_chk232 v3468), ∀ a x, ((![v3468] : Fin 1 → IVec S16 32) a x).toNat < S832.size a := fun v3468 k0_hw232 => k0_hw232

def k0_chk233 (v3471 : IVec S16 32) : Prop :=
  (∀ a x, ((![v3471] : Fin 1 → IVec S16 32) a x).toNat < S832.size a)
theorem k0_idx241_inb : ∀ (v3471 : IVec S16 32) (k0_hw233 : k0_chk233 v3471), ∀ a x, ((![v3471] : Fin 1 → IVec S16 32) a x).toNat < S832.size a := fun v3471 k0_hw233 => k0_hw233

def k0_chk234 (v3474 : IVec S16 32) : Prop :=
  (∀ a x, ((![v3474] : Fin 1 → IVec S16 32) a x).toNat < S832.size a)
theorem k0_idx242_inb : ∀ (v3474 : IVec S16 32) (k0_hw234 : k0_chk234 v3474), ∀ a x, ((![v3474] : Fin 1 → IVec S16 32) a x).toNat < S832.size a := fun v3474 k0_hw234 => k0_hw234

def k0_chk235 (v3477 : IVec S16 32) : Prop :=
  (∀ a x, ((![v3477] : Fin 1 → IVec S16 32) a x).toNat < S832.size a)
theorem k0_idx243_inb : ∀ (v3477 : IVec S16 32) (k0_hw235 : k0_chk235 v3477), ∀ a x, ((![v3477] : Fin 1 → IVec S16 32) a x).toNat < S832.size a := fun v3477 k0_hw235 => k0_hw235

def k0_chk236 (v3480 : IVec S16 32) : Prop :=
  (∀ a x, ((![v3480] : Fin 1 → IVec S16 32) a x).toNat < S832.size a)
theorem k0_idx244_inb : ∀ (v3480 : IVec S16 32) (k0_hw236 : k0_chk236 v3480), ∀ a x, ((![v3480] : Fin 1 → IVec S16 32) a x).toNat < S832.size a := fun v3480 k0_hw236 => k0_hw236

def k0_chk237 (v3483 : IVec S16 32) : Prop :=
  (∀ a x, ((![v3483] : Fin 1 → IVec S16 32) a x).toNat < S832.size a)
theorem k0_idx245_inb : ∀ (v3483 : IVec S16 32) (k0_hw237 : k0_chk237 v3483), ∀ a x, ((![v3483] : Fin 1 → IVec S16 32) a x).toNat < S832.size a := fun v3483 k0_hw237 => k0_hw237

def k0_chk238 (v3486 : IVec S16 32) : Prop :=
  (∀ a x, ((![v3486] : Fin 1 → IVec S16 32) a x).toNat < S832.size a)
theorem k0_idx246_inb : ∀ (v3486 : IVec S16 32) (k0_hw238 : k0_chk238 v3486), ∀ a x, ((![v3486] : Fin 1 → IVec S16 32) a x).toNat < S832.size a := fun v3486 k0_hw238 => k0_hw238

def k0_chk239 (v3489 : IVec S16 32) : Prop :=
  (∀ a x, ((![v3489] : Fin 1 → IVec S16 32) a x).toNat < S832.size a)
theorem k0_idx247_inb : ∀ (v3489 : IVec S16 32) (k0_hw239 : k0_chk239 v3489), ∀ a x, ((![v3489] : Fin 1 → IVec S16 32) a x).toNat < S832.size a := fun v3489 k0_hw239 => k0_hw239

def k0_chk240 (v3492 : IVec S16 32) : Prop :=
  (∀ a x, ((![v3492] : Fin 1 → IVec S16 32) a x).toNat < S832.size a)
theorem k0_idx248_inb : ∀ (v3492 : IVec S16 32) (k0_hw240 : k0_chk240 v3492), ∀ a x, ((![v3492] : Fin 1 → IVec S16 32) a x).toNat < S832.size a := fun v3492 k0_hw240 => k0_hw240

def k0_chk241 (v3495 : IVec S16 32) : Prop :=
  (∀ a x, ((![v3495] : Fin 1 → IVec S16 32) a x).toNat < S832.size a)
theorem k0_idx249_inb : ∀ (v3495 : IVec S16 32) (k0_hw241 : k0_chk241 v3495), ∀ a x, ((![v3495] : Fin 1 → IVec S16 32) a x).toNat < S832.size a := fun v3495 k0_hw241 => k0_hw241

def k0_chk242 (v3498 : IVec S16 32) : Prop :=
  (∀ a x, ((![v3498] : Fin 1 → IVec S16 32) a x).toNat < S832.size a)
theorem k0_idx250_inb : ∀ (v3498 : IVec S16 32) (k0_hw242 : k0_chk242 v3498), ∀ a x, ((![v3498] : Fin 1 → IVec S16 32) a x).toNat < S832.size a := fun v3498 k0_hw242 => k0_hw242
def k0_off23 (k0_t4 : Fin k0_t4_loop.trips) (c0_i32_1245 : BitVec 32) (c0_i32_1246 : BitVec 32) : Fin 2 → Nat :=
  let c0_i32_1227 : BitVec 32 := 0#32
  let c1_i32_1228 : BitVec 32 := 1#32
  let arg17 : BitVec 32 := Scf.iv c0_i32_1227 c1_i32_1228 k0_t4
  let c16_i32_1231 : BitVec 32 := 16#32
  let v3451 : BitVec 32 := Scalar.muli arg17 c16_i32_1231
  let v3500 : BitVec 32 := Scalar.addi v3451 c0_i32_1245
  let v3501 : BitVec 32 := Scalar.addi v3500 c0_i32_1246
  let v3502 : Index := Scalar.indexCast v3501
  let c0 : Index := 0#32
  ![v3502.toNat, 0]
def k0_off24 (k0_t4 : Fin k0_t4_loop.trips) : Fin 2 → Nat :=
  let c0_i32_1227 : BitVec 32 := 0#32
  let c1_i32_1228 : BitVec 32 := 1#32
  let arg17 : BitVec 32 := Scf.iv c0_i32_1227 c1_i32_1228 k0_t4
  let v3595 : Index := Scalar.indexCast arg17
  let c0_1292 : Index := 0#32
  ![v3595.toNat, 0]
def k0_off25 (k0_t4 : Fin k0_t4_loop.trips) (c0_i32_1293 : BitVec 32) (c0_i32_1294 : BitVec 32) : Fin 2 → Nat :=
  let c0_i32_1227 : BitVec 32 := 0#32
  let c1_i32_1228 : BitVec 32 := 1#32
  let arg17 : BitVec 32 := Scf.iv c0_i32_1227 c1_i32_1228 k0_t4
  let c16_i32_1231 : BitVec 32 := 16#32
  let v3451 : BitVec 32 := Scalar.muli arg17 c16_i32_1231
  let v3597 : BitVec 32 := Scalar.addi v3451 c0_i32_1293
  let v3598 : BitVec 32 := Scalar.addi v3597 c0_i32_1294
  let v3599 : Index := Scalar.indexCast v3598
  let c16 : Index := 16#32
  ![v3599.toNat, 16]
def k0_off26 (k0_t4 : Fin k0_t4_loop.trips) : Fin 2 → Nat :=
  let c0_i32_1227 : BitVec 32 := 0#32
  let c1_i32_1228 : BitVec 32 := 1#32
  let arg17 : BitVec 32 := Scf.iv c0_i32_1227 c1_i32_1228 k0_t4
  let v3692 : Index := Scalar.indexCast arg17
  let c16_1340 : Index := 16#32
  ![v3692.toNat, 16]
def k0_off27 (k0_t4 : Fin k0_t4_loop.trips) (c0_i32_1341 : BitVec 32) (c0_i32_1342 : BitVec 32) : Fin 2 → Nat :=
  let c0_i32_1227 : BitVec 32 := 0#32
  let c1_i32_1228 : BitVec 32 := 1#32
  let arg17 : BitVec 32 := Scf.iv c0_i32_1227 c1_i32_1228 k0_t4
  let c16_i32_1231 : BitVec 32 := 16#32
  let v3451 : BitVec 32 := Scalar.muli arg17 c16_i32_1231
  let v3694 : BitVec 32 := Scalar.addi v3451 c0_i32_1341
  let v3695 : BitVec 32 := Scalar.addi v3694 c0_i32_1342
  let v3696 : Index := Scalar.indexCast v3695
  let c32 : Index := 32#32
  ![v3696.toNat, 32]
def k0_off28 (k0_t4 : Fin k0_t4_loop.trips) : Fin 2 → Nat :=
  let c0_i32_1227 : BitVec 32 := 0#32
  let c1_i32_1228 : BitVec 32 := 1#32
  let arg17 : BitVec 32 := Scf.iv c0_i32_1227 c1_i32_1228 k0_t4
  let v3789 : Index := Scalar.indexCast arg17
  let c32_1388 : Index := 32#32
  ![v3789.toNat, 32]
def k0_off29 (k0_t4 : Fin k0_t4_loop.trips) (c0_i32_1389 : BitVec 32) (c0_i32_1390 : BitVec 32) : Fin 2 → Nat :=
  let c0_i32_1227 : BitVec 32 := 0#32
  let c1_i32_1228 : BitVec 32 := 1#32
  let arg17 : BitVec 32 := Scf.iv c0_i32_1227 c1_i32_1228 k0_t4
  let c16_i32_1231 : BitVec 32 := 16#32
  let v3451 : BitVec 32 := Scalar.muli arg17 c16_i32_1231
  let v3791 : BitVec 32 := Scalar.addi v3451 c0_i32_1389
  let v3792 : BitVec 32 := Scalar.addi v3791 c0_i32_1390
  let v3793 : Index := Scalar.indexCast v3792
  let c48 : Index := 48#32
  ![v3793.toNat, 48]
def k0_off30 (k0_t4 : Fin k0_t4_loop.trips) : Fin 2 → Nat :=
  let c0_i32_1227 : BitVec 32 := 0#32
  let c1_i32_1228 : BitVec 32 := 1#32
  let arg17 : BitVec 32 := Scf.iv c0_i32_1227 c1_i32_1228 k0_t4
  let v3886 : Index := Scalar.indexCast arg17
  let c48_1436 : Index := 48#32
  ![v3886.toNat, 48]
def k0_off31 (k0_t4 : Fin k0_t4_loop.trips) (c0_i32_1437 : BitVec 32) (c0_i32_1438 : BitVec 32) : Fin 2 → Nat :=
  let c0_i32_1227 : BitVec 32 := 0#32
  let c1_i32_1228 : BitVec 32 := 1#32
  let arg17 : BitVec 32 := Scf.iv c0_i32_1227 c1_i32_1228 k0_t4
  let c16_i32_1231 : BitVec 32 := 16#32
  let v3451 : BitVec 32 := Scalar.muli arg17 c16_i32_1231
  let v3888 : BitVec 32 := Scalar.addi v3451 c0_i32_1437
  let v3889 : BitVec 32 := Scalar.addi v3888 c0_i32_1438
  let v3890 : Index := Scalar.indexCast v3889
  let c64 : Index := 64#32
  ![v3890.toNat, 64]
def k0_off32 (k0_t4 : Fin k0_t4_loop.trips) : Fin 2 → Nat :=
  let c0_i32_1227 : BitVec 32 := 0#32
  let c1_i32_1228 : BitVec 32 := 1#32
  let arg17 : BitVec 32 := Scf.iv c0_i32_1227 c1_i32_1228 k0_t4
  let v3983 : Index := Scalar.indexCast arg17
  let c64_1484 : Index := 64#32
  ![v3983.toNat, 64]
def k0_off33 (k0_t4 : Fin k0_t4_loop.trips) (c0_i32_1485 : BitVec 32) (c0_i32_1486 : BitVec 32) : Fin 2 → Nat :=
  let c0_i32_1227 : BitVec 32 := 0#32
  let c1_i32_1228 : BitVec 32 := 1#32
  let arg17 : BitVec 32 := Scf.iv c0_i32_1227 c1_i32_1228 k0_t4
  let c16_i32_1231 : BitVec 32 := 16#32
  let v3451 : BitVec 32 := Scalar.muli arg17 c16_i32_1231
  let v3985 : BitVec 32 := Scalar.addi v3451 c0_i32_1485
  let v3986 : BitVec 32 := Scalar.addi v3985 c0_i32_1486
  let v3987 : Index := Scalar.indexCast v3986
  let c80 : Index := 80#32
  ![v3987.toNat, 80]
def k0_off34 (k0_t4 : Fin k0_t4_loop.trips) : Fin 2 → Nat :=
  let c0_i32_1227 : BitVec 32 := 0#32
  let c1_i32_1228 : BitVec 32 := 1#32
  let arg17 : BitVec 32 := Scf.iv c0_i32_1227 c1_i32_1228 k0_t4
  let v4080 : Index := Scalar.indexCast arg17
  let c80_1532 : Index := 80#32
  ![v4080.toNat, 80]
def k0_off35 (k0_t4 : Fin k0_t4_loop.trips) (c0_i32_1533 : BitVec 32) (c0_i32_1534 : BitVec 32) : Fin 2 → Nat :=
  let c0_i32_1227 : BitVec 32 := 0#32
  let c1_i32_1228 : BitVec 32 := 1#32
  let arg17 : BitVec 32 := Scf.iv c0_i32_1227 c1_i32_1228 k0_t4
  let c16_i32_1231 : BitVec 32 := 16#32
  let v3451 : BitVec 32 := Scalar.muli arg17 c16_i32_1231
  let v4082 : BitVec 32 := Scalar.addi v3451 c0_i32_1533
  let v4083 : BitVec 32 := Scalar.addi v4082 c0_i32_1534
  let v4084 : Index := Scalar.indexCast v4083
  let c96 : Index := 96#32
  ![v4084.toNat, 96]
def k0_off36 (k0_t4 : Fin k0_t4_loop.trips) : Fin 2 → Nat :=
  let c0_i32_1227 : BitVec 32 := 0#32
  let c1_i32_1228 : BitVec 32 := 1#32
  let arg17 : BitVec 32 := Scf.iv c0_i32_1227 c1_i32_1228 k0_t4
  let v4177 : Index := Scalar.indexCast arg17
  let c96_1580 : Index := 96#32
  ![v4177.toNat, 96]
def k0_off37 (k0_t4 : Fin k0_t4_loop.trips) (c0_i32_1581 : BitVec 32) (c0_i32_1582 : BitVec 32) : Fin 2 → Nat :=
  let c0_i32_1227 : BitVec 32 := 0#32
  let c1_i32_1228 : BitVec 32 := 1#32
  let arg17 : BitVec 32 := Scf.iv c0_i32_1227 c1_i32_1228 k0_t4
  let c16_i32_1231 : BitVec 32 := 16#32
  let v3451 : BitVec 32 := Scalar.muli arg17 c16_i32_1231
  let v4179 : BitVec 32 := Scalar.addi v3451 c0_i32_1581
  let v4180 : BitVec 32 := Scalar.addi v4179 c0_i32_1582
  let v4181 : Index := Scalar.indexCast v4180
  let c112 : Index := 112#32
  ![v4181.toNat, 112]
def k0_off38 (k0_t4 : Fin k0_t4_loop.trips) : Fin 2 → Nat :=
  let c0_i32_1227 : BitVec 32 := 0#32
  let c1_i32_1228 : BitVec 32 := 1#32
  let arg17 : BitVec 32 := Scf.iv c0_i32_1227 c1_i32_1228 k0_t4
  let v4274 : Index := Scalar.indexCast arg17
  let c112_1628 : Index := 112#32
  ![v4274.toNat, 112]
def k0_off39 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_6 : BitVec 32 := 32#32
  let v6 : BitVec 32 := Scalar.muli v1 c32_i32_6
  let c16_i32_7 : BitVec 32 := 16#32
  let v7 : BitVec 32 := Scalar.addi v6 c16_i32_7
  let c0_i32_14 : BitVec 32 := 0#32
  let c1_i32_16 : BitVec 32 := 1#32
  let arg15 : BitVec 32 := Scf.iv c0_i32_14 c1_i32_16 k0_t3
  let v3450 : BitVec 32 := Scalar.addi v7 arg15
  let c0_i32_1231_r11 : BitVec 32 := 0#32
  let c0_i32_1232_r11 : BitVec 32 := 0#32
  ![v3450.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "seventh" => some ((1 / 7 : ℝ) : EReal)
  | _ => none
-- ==== ReferenceIdeal.lean ====
abbrev S4x128x32x32 : Shape := ⟨4, ![4, 128, 32, 32]⟩
abbrev S1000x5 : Shape := ⟨2, ![1000, 5]⟩
abbrev S1000x1 : Shape := ⟨2, ![1000, 1]⟩
abbrev S1000 : Shape := ⟨1, ![1000]⟩
abbrev S1000x4 : Shape := ⟨2, ![1000, 4]⟩
abbrev S_ : Shape := ⟨0, ![]⟩
abbrev S7 : Shape := ⟨1, ![7]⟩
abbrev S1x7 : Shape := ⟨2, ![1, 7]⟩
abbrev S1000x7 : Shape := ⟨2, ![1000, 7]⟩
abbrev S1000x7x1 : Shape := ⟨3, ![1000, 7, 1]⟩
abbrev S1000x1x7 : Shape := ⟨3, ![1000, 1, 7]⟩
abbrev S1000x7x7 : Shape := ⟨3, ![1000, 7, 7]⟩
abbrev S2 : Shape := ⟨1, ![2]⟩
abbrev S1000x1x1 : Shape := ⟨3, ![1000, 1, 1]⟩
abbrev S1x1x2 : Shape := ⟨3, ![1, 1, 2]⟩
abbrev S1000x1x2 : Shape := ⟨3, ![1000, 1, 2]⟩
abbrev S1000x7x2 : Shape := ⟨3, ![1000, 7, 2]⟩
abbrev S1000x1x7x2x1 : Shape := ⟨5, ![1000, 1, 7, 2, 1]⟩
abbrev S1000x7x7x2x2 : Shape := ⟨5, ![1000, 7, 7, 2, 2]⟩
abbrev S1000x7x1x1x2 : Shape := ⟨5, ![1000, 7, 1, 1, 2]⟩
abbrev S4x32x32x128 : Shape := ⟨4, ![4, 32, 32, 128]⟩
abbrev S1000x1x1x1x1 : Shape := ⟨5, ![1000, 1, 1, 1, 1]⟩
abbrev S1000x7x7x2x2x1 : Shape := ⟨6, ![1000, 7, 7, 2, 2, 1]⟩
abbrev S1000x7x7x2x2x3 : Shape := ⟨6, ![1000, 7, 7, 2, 2, 3]⟩
abbrev S1000x7x7x2x2x128 : Shape := ⟨6, ![1000, 7, 7, 2, 2, 128]⟩
abbrev S1000x7x7x128 : Shape := ⟨4, ![1000, 7, 7, 128]⟩
abbrev S1000x7x7x1 : Shape := ⟨4, ![1000, 7, 7, 1]⟩
abbrev S1000x128x7x7 : Shape := ⟨4, ![1000, 128, 7, 7]⟩

abbrev nBuf : Space → Nat
  | .hbm => 369
  | .vmem => 0
  | .smem => 0
  | _ => 0

abbrev hbmTy0_0 (i : Nat) : BufTy := match i % 128 with
  | 0 => ⟨S4x128x32x32, .f32⟩
  | 1 => ⟨S1000x5, .f32⟩
  | 2 => ⟨S1000x1, .f32⟩
  | 3 => ⟨S1000, .f32⟩
  | 4 => ⟨S1000, .i32⟩
  | 5 => ⟨S1000x4, .f32⟩
  | 6 => ⟨S_, .f32⟩
  | 7 => ⟨S1000x4, .f32⟩
  | 8 => ⟨S1000x4, .f32⟩
  | 9 => ⟨S1000x1, .f32⟩
  | 10 => ⟨S1000, .f32⟩
  | 11 => ⟨S_, .f32⟩
  | 12 => ⟨S_, .f32⟩
  | 13 => ⟨S_, .f32⟩
  | 14 => ⟨S1000, .f32⟩
  | 15 => ⟨S1000, .f32⟩
  | 16 => ⟨S_, .f32⟩
  | 17 => ⟨S1000, .f32⟩
  | 18 => ⟨S1000, .f32⟩
  | 19 => ⟨S1000x1, .f32⟩
  | 20 => ⟨S1000, .f32⟩
  | 21 => ⟨S_, .f32⟩
  | 22 => ⟨S_, .f32⟩
  | 23 => ⟨S_, .f32⟩
  | 24 => ⟨S1000, .f32⟩
  | 25 => ⟨S1000, .f32⟩
  | 26 => ⟨S_, .f32⟩
  | 27 => ⟨S1000, .f32⟩
  | 28 => ⟨S1000, .f32⟩
  | 29 => ⟨S1000x1, .f32⟩
  | 30 => ⟨S1000, .f32⟩
  | 31 => ⟨S_, .f32⟩
  | 32 => ⟨S_, .f32⟩
  | 33 => ⟨S_, .f32⟩
  | 34 => ⟨S1000, .f32⟩
  | 35 => ⟨S1000, .f32⟩
  | 36 => ⟨S_, .f32⟩
  | 37 => ⟨S1000, .f32⟩
  | 38 => ⟨S1000, .f32⟩
  | 39 => ⟨S1000x1, .f32⟩
  | 40 => ⟨S1000, .f32⟩
  | 41 => ⟨S_, .f32⟩
  | 42 => ⟨S_, .f32⟩
  | 43 => ⟨S_, .f32⟩
  | 44 => ⟨S1000, .f32⟩
  | 45 => ⟨S1000, .f32⟩
  | 46 => ⟨S_, .f32⟩
  | 47 => ⟨S1000, .f32⟩
  | 48 => ⟨S1000, .f32⟩
  | 49 => ⟨S1000, .i1⟩
  | 50 => ⟨S1000, .i1⟩
  | 51 => ⟨S1000, .i1⟩
  | 52 => ⟨S1000, .f32⟩
  | 53 => ⟨S_, .f32⟩
  | 54 => ⟨S1000, .f32⟩
  | 55 => ⟨S1000, .f32⟩
  | 56 => ⟨S1000, .f32⟩
  | 57 => ⟨S_, .f32⟩
  | 58 => ⟨S1000, .f32⟩
  | 59 => ⟨S1000, .f32⟩
  | 60 => ⟨S7, .f32⟩
  | 61 => ⟨S7, .f32⟩
  | 62 => ⟨S1000x1, .f32⟩
  | 63 => ⟨S1x7, .f32⟩
  | 64 => ⟨S1000x1, .f32⟩
  | 65 => ⟨S1000x7, .f32⟩
  | 66 => ⟨S1000x7, .f32⟩
  | 67 => ⟨S1000x7, .f32⟩
  | 68 => ⟨S1000x7, .f32⟩
  | 69 => ⟨S1000x7, .f32⟩
  | 70 => ⟨S_, .f32⟩
  | 71 => ⟨S_, .f32⟩
  | 72 => ⟨S_, .f32⟩
  | 73 => ⟨S1000x7, .f32⟩
  | 74 => ⟨S1000x7, .f32⟩
  | 75 => ⟨S_, .f32⟩
  | 76 => ⟨S1000x7, .f32⟩
  | 77 => ⟨S1000x7, .f32⟩
  | 78 => ⟨S1000x1, .f32⟩
  | 79 => ⟨S1x7, .f32⟩
  | 80 => ⟨S_, .f32⟩
  | 81 => ⟨S1x7, .f32⟩
  | 82 => ⟨S1x7, .f32⟩
  | 83 => ⟨S1000x1, .f32⟩
  | 84 => ⟨S1000x7, .f32⟩
  | 85 => ⟨S1000x7, .f32⟩
  | 86 => ⟨S1000x7, .f32⟩
  | 87 => ⟨S1000x7, .f32⟩
  | 88 => ⟨S1000x7, .f32⟩
  | 89 => ⟨S_, .f32⟩
  | 90 => ⟨S_, .f32⟩
  | 91 => ⟨S_, .f32⟩
  | 92 => ⟨S1000x7, .f32⟩
  | 93 => ⟨S1000x7, .f32⟩
  | 94 => ⟨S_, .f32⟩
  | 95 => ⟨S1000x7, .f32⟩
  | 96 => ⟨S1000x7, .f32⟩
  | 97 => ⟨S1000x1, .f32⟩
  | 98 => ⟨S1x7, .f32⟩
  | 99 => ⟨S1000x1, .f32⟩
  | 100 => ⟨S1000x7, .f32⟩
  | 101 => ⟨S1000x7, .f32⟩
  | 102 => ⟨S1000x7, .f32⟩
  | 103 => ⟨S1000x7, .f32⟩
  | 104 => ⟨S1000x7, .f32⟩
  | 105 => ⟨S_, .f32⟩
  | 106 => ⟨S_, .f32⟩
  | 107 => ⟨S_, .f32⟩
  | 108 => ⟨S1000x7, .f32⟩
  | 109 => ⟨S1000x7, .f32⟩
  | 110 => ⟨S_, .f32⟩
  | 111 => ⟨S1000x7, .f32⟩
  | 112 => ⟨S1000x7, .f32⟩
  | 113 => ⟨S1000x1, .f32⟩
  | 114 => ⟨S1x7, .f32⟩
  | 115 => ⟨S_, .f32⟩
  | 116 => ⟨S1x7, .f32⟩
  | 117 => ⟨S1x7, .f32⟩
  | 118 => ⟨S1000x1, .f32⟩
  | 119 => ⟨S1000x7, .f32⟩
  | 120 => ⟨S1000x7, .f32⟩
  | 121 => ⟨S1000x7, .f32⟩
  | 122 => ⟨S1000x7, .f32⟩
  | 123 => ⟨S1000x7, .f32⟩
  | 124 => ⟨S_, .f32⟩
  | 125 => ⟨S_, .f32⟩
  | 126 => ⟨S_, .f32⟩
  | 127 => ⟨S1000x7, .f32⟩
  | _ => ⟨S4x128x32x32, .f32⟩

abbrev hbmTy0_1 (i : Nat) : BufTy := match i % 128 with
  | 0 => ⟨S1000x7, .f32⟩
  | 1 => ⟨S_, .f32⟩
  | 2 => ⟨S1000x7, .f32⟩
  | 3 => ⟨S1000x7, .f32⟩
  | 4 => ⟨S1000x7, .i1⟩
  | 5 => ⟨S1000x7x1, .i1⟩
  | 6 => ⟨S1000x7, .i1⟩
  | 7 => ⟨S1000x1x7, .i1⟩
  | 8 => ⟨S1000x7x7, .i1⟩
  | 9 => ⟨S1000x7x7, .i1⟩
  | 10 => ⟨S1000x7x7, .i1⟩
  | 11 => ⟨S2, .f32⟩
  | 12 => ⟨S1000x1x1, .f32⟩
  | 13 => ⟨S_, .f32⟩
  | 14 => ⟨S1000x1x1, .f32⟩
  | 15 => ⟨S1000x1x1, .f32⟩
  | 16 => ⟨S1000x1x1, .f32⟩
  | 17 => ⟨S_, .f32⟩
  | 18 => ⟨S1000x1x1, .f32⟩
  | 19 => ⟨S1000x1x1, .f32⟩
  | 20 => ⟨S1000x7x1, .f32⟩
  | 21 => ⟨S_, .f32⟩
  | 22 => ⟨S1000x1x1, .f32⟩
  | 23 => ⟨S1000x1x1, .f32⟩
  | 24 => ⟨S1000x7x1, .f32⟩
  | 25 => ⟨S1000x7x1, .f32⟩
  | 26 => ⟨S1x1x2, .f32⟩
  | 27 => ⟨S1000x1x2, .f32⟩
  | 28 => ⟨S1000x1x2, .f32⟩
  | 29 => ⟨S1000x1x2, .f32⟩
  | 30 => ⟨S1000x7x2, .f32⟩
  | 31 => ⟨S1000x7x2, .f32⟩
  | 32 => ⟨S1000x7x2, .f32⟩
  | 33 => ⟨S1000x7x1, .f32⟩
  | 34 => ⟨S_, .f32⟩
  | 35 => ⟨S1000x1x1, .f32⟩
  | 36 => ⟨S1000x1x1, .f32⟩
  | 37 => ⟨S1000x7x1, .f32⟩
  | 38 => ⟨S1000x7x1, .f32⟩
  | 39 => ⟨S1x1x2, .f32⟩
  | 40 => ⟨S1000x1x2, .f32⟩
  | 41 => ⟨S1000x1x2, .f32⟩
  | 42 => ⟨S1000x1x2, .f32⟩
  | 43 => ⟨S1000x7x2, .f32⟩
  | 44 => ⟨S1000x7x2, .f32⟩
  | 45 => ⟨S1000x7x2, .f32⟩
  | 46 => ⟨S1000x1x7x2x1, .f32⟩
  | 47 => ⟨S1000x7x7x2x2, .f32⟩
  | 48 => ⟨S1000x7x1x1x2, .f32⟩
  | 49 => ⟨S1000x7x7x2x2, .f32⟩
  | 50 => ⟨S1000x7x7x2x2, .f32⟩
  | 51 => ⟨S_, .i32⟩
  | 52 => ⟨S_, .i32⟩
  | 53 => ⟨S_, .f32⟩
  | 54 => ⟨S1000x7x7x2x2, .f32⟩
  | 55 => ⟨S1000x7x7x2x2, .f32⟩
  | 56 => ⟨S_, .f32⟩
  | 57 => ⟨S1000x7x7x2x2, .f32⟩
  | 58 => ⟨S1000x7x7x2x2, .f32⟩
  | 59 => ⟨S1000x7x7x2x2, .i32⟩
  | 60 => ⟨S_, .i32⟩
  | 61 => ⟨S1000x7x7x2x2, .i32⟩
  | 62 => ⟨S1000x7x7x2x2, .i32⟩
  | 63 => ⟨S_, .i32⟩
  | 64 => ⟨S_, .i32⟩
  | 65 => ⟨S_, .i32⟩
  | 66 => ⟨S1000x7x7x2x2, .i32⟩
  | 67 => ⟨S1000x7x7x2x2, .i32⟩
  | 68 => ⟨S_, .i32⟩
  | 69 => ⟨S1000x7x7x2x2, .i32⟩
  | 70 => ⟨S1000x7x7x2x2, .i32⟩
  | 71 => ⟨S1000x7x7x2x2, .f32⟩
  | 72 => ⟨S_, .i32⟩
  | 73 => ⟨S_, .i32⟩
  | 74 => ⟨S_, .f32⟩
  | 75 => ⟨S1000x7x7x2x2, .f32⟩
  | 76 => ⟨S1000x7x7x2x2, .f32⟩
  | 77 => ⟨S_, .f32⟩
  | 78 => ⟨S1000x7x7x2x2, .f32⟩
  | 79 => ⟨S1000x7x7x2x2, .f32⟩
  | 80 => ⟨S1000x7x7x2x2, .i32⟩
  | 81 => ⟨S_, .i32⟩
  | 82 => ⟨S1000x7x7x2x2, .i32⟩
  | 83 => ⟨S1000x7x7x2x2, .i32⟩
  | 84 => ⟨S_, .i32⟩
  | 85 => ⟨S_, .i32⟩
  | 86 => ⟨S_, .i32⟩
  | 87 => ⟨S1000x7x7x2x2, .i32⟩
  | 88 => ⟨S1000x7x7x2x2, .i32⟩
  | 89 => ⟨S_, .i32⟩
  | 90 => ⟨S1000x7x7x2x2, .i32⟩
  | 91 => ⟨S1000x7x7x2x2, .i32⟩
  | 92 => ⟨S4x32x32x128, .f32⟩
  | 93 => ⟨S1000x1x1x1x1, .i32⟩
  | 94 => ⟨S_, .i32⟩
  | 95 => ⟨S1000x1x1x1x1, .i32⟩
  | 96 => ⟨S1000x1x1x1x1, .i1⟩
  | 97 => ⟨S_, .i32⟩
  | 98 => ⟨S1000x1x1x1x1, .i32⟩
  | 99 => ⟨S1000x1x1x1x1, .i32⟩
  | 100 => ⟨S1000x1x1x1x1, .i32⟩
  | 101 => ⟨S_, .i32⟩
  | 102 => ⟨S1000x7x7x2x2, .i32⟩
  | 103 => ⟨S1000x7x7x2x2, .i1⟩
  | 104 => ⟨S_, .i32⟩
  | 105 => ⟨S1000x7x7x2x2, .i32⟩
  | 106 => ⟨S1000x7x7x2x2, .i32⟩
  | 107 => ⟨S1000x7x7x2x2, .i32⟩
  | 108 => ⟨S_, .i32⟩
  | 109 => ⟨S1000x7x7x2x2, .i32⟩
  | 110 => ⟨S1000x7x7x2x2, .i1⟩
  | 111 => ⟨S_, .i32⟩
  | 112 => ⟨S1000x7x7x2x2, .i32⟩
  | 113 => ⟨S1000x7x7x2x2, .i32⟩
  | 114 => ⟨S1000x7x7x2x2, .i32⟩
  | 115 => ⟨S1000x7x7x2x2, .i32⟩
  | 116 => ⟨S1000x7x7x2x2x1, .i32⟩
  | 117 => ⟨S1000x7x7x2x2x1, .i32⟩
  | 118 => ⟨S1000x7x7x2x2x1, .i32⟩
  | 119 => ⟨S1000x7x7x2x2x3, .i32⟩
  | 120 => ⟨S1000x7x7x2x2x128, .f32⟩
  | 121 => ⟨S_, .i32⟩
  | 122 => ⟨S1000x1x1x1x1, .i32⟩
  | 123 => ⟨S1000x1x1x1x1, .i1⟩
  | 124 => ⟨S_, .i32⟩
  | 125 => ⟨S1000x1x1x1x1, .i32⟩
  | 126 => ⟨S1000x1x1x1x1, .i32⟩
  | 127 => ⟨S1000x1x1x1x1, .i32⟩
  | _ => ⟨S4x128x32x32, .f32⟩

abbrev hbmTy0_2 (i : Nat) : BufTy := match i % 128 with
  | 0 => ⟨S_, .i32⟩
  | 1 => ⟨S1000x7x7x2x2, .i32⟩
  | 2 => ⟨S1000x7x7x2x2, .i1⟩
  | 3 => ⟨S_, .i32⟩
  | 4 => ⟨S1000x7x7x2x2, .i32⟩
  | 5 => ⟨S1000x7x7x2x2, .i32⟩
  | 6 => ⟨S1000x7x7x2x2, .i32⟩
  | 7 => ⟨S_, .i32⟩
  | 8 => ⟨S1000x7x7x2x2, .i32⟩
  | 9 => ⟨S1000x7x7x2x2, .i1⟩
  | 10 => ⟨S_, .i32⟩
  | 11 => ⟨S1000x7x7x2x2, .i32⟩
  | 12 => ⟨S1000x7x7x2x2, .i32⟩
  | 13 => ⟨S1000x7x7x2x2, .i32⟩
  | 14 => ⟨S1000x7x7x2x2, .i32⟩
  | 15 => ⟨S1000x7x7x2x2x1, .i32⟩
  | 16 => ⟨S1000x7x7x2x2x1, .i32⟩
  | 17 => ⟨S1000x7x7x2x2x1, .i32⟩
  | 18 => ⟨S1000x7x7x2x2x3, .i32⟩
  | 19 => ⟨S1000x7x7x2x2x128, .f32⟩
  | 20 => ⟨S_, .i32⟩
  | 21 => ⟨S1000x1x1x1x1, .i32⟩
  | 22 => ⟨S1000x1x1x1x1, .i1⟩
  | 23 => ⟨S_, .i32⟩
  | 24 => ⟨S1000x1x1x1x1, .i32⟩
  | 25 => ⟨S1000x1x1x1x1, .i32⟩
  | 26 => ⟨S1000x1x1x1x1, .i32⟩
  | 27 => ⟨S_, .i32⟩
  | 28 => ⟨S1000x7x7x2x2, .i32⟩
  | 29 => ⟨S1000x7x7x2x2, .i1⟩
  | 30 => ⟨S_, .i32⟩
  | 31 => ⟨S1000x7x7x2x2, .i32⟩
  | 32 => ⟨S1000x7x7x2x2, .i32⟩
  | 33 => ⟨S1000x7x7x2x2, .i32⟩
  | 34 => ⟨S_, .i32⟩
  | 35 => ⟨S1000x7x7x2x2, .i32⟩
  | 36 => ⟨S1000x7x7x2x2, .i1⟩
  | 37 => ⟨S_, .i32⟩
  | 38 => ⟨S1000x7x7x2x2, .i32⟩
  | 39 => ⟨S1000x7x7x2x2, .i32⟩
  | 40 => ⟨S1000x7x7x2x2, .i32⟩
  | 41 => ⟨S1000x7x7x2x2, .i32⟩
  | 42 => ⟨S1000x7x7x2x2x1, .i32⟩
  | 43 => ⟨S1000x7x7x2x2x1, .i32⟩
  | 44 => ⟨S1000x7x7x2x2x1, .i32⟩
  | 45 => ⟨S1000x7x7x2x2x3, .i32⟩
  | 46 => ⟨S1000x7x7x2x2x128, .f32⟩
  | 47 => ⟨S_, .i32⟩
  | 48 => ⟨S1000x1x1x1x1, .i32⟩
  | 49 => ⟨S1000x1x1x1x1, .i1⟩
  | 50 => ⟨S_, .i32⟩
  | 51 => ⟨S1000x1x1x1x1, .i32⟩
  | 52 => ⟨S1000x1x1x1x1, .i32⟩
  | 53 => ⟨S1000x1x1x1x1, .i32⟩
  | 54 => ⟨S_, .i32⟩
  | 55 => ⟨S1000x7x7x2x2, .i32⟩
  | 56 => ⟨S1000x7x7x2x2, .i1⟩
  | 57 => ⟨S_, .i32⟩
  | 58 => ⟨S1000x7x7x2x2, .i32⟩
  | 59 => ⟨S1000x7x7x2x2, .i32⟩
  | 60 => ⟨S1000x7x7x2x2, .i32⟩
  | 61 => ⟨S_, .i32⟩
  | 62 => ⟨S1000x7x7x2x2, .i32⟩
  | 63 => ⟨S1000x7x7x2x2, .i1⟩
  | 64 => ⟨S_, .i32⟩
  | 65 => ⟨S1000x7x7x2x2, .i32⟩
  | 66 => ⟨S1000x7x7x2x2, .i32⟩
  | 67 => ⟨S1000x7x7x2x2, .i32⟩
  | 68 => ⟨S1000x7x7x2x2, .i32⟩
  | 69 => ⟨S1000x7x7x2x2x1, .i32⟩
  | 70 => ⟨S1000x7x7x2x2x1, .i32⟩
  | 71 => ⟨S1000x7x7x2x2x1, .i32⟩
  | 72 => ⟨S1000x7x7x2x2x3, .i32⟩
  | 73 => ⟨S1000x7x7x2x2x128, .f32⟩
  | 74 => ⟨S1000x7x7x2x2, .f32⟩
  | 75 => ⟨S1000x7x7x2x2, .f32⟩
  | 76 => ⟨S1000x7x7x2x2x1, .f32⟩
  | 77 => ⟨S1000x7x7x2x2, .f32⟩
  | 78 => ⟨S1000x7x7x2x2, .f32⟩
  | 79 => ⟨S1000x7x7x2x2x1, .f32⟩
  | 80 => ⟨S1000x7x7x2x2, .f32⟩
  | 81 => ⟨S1000x7x7x2x2, .f32⟩
  | 82 => ⟨S1000x7x7x2x2x1, .f32⟩
  | 83 => ⟨S1000x7x7x2x2, .f32⟩
  | 84 => ⟨S1000x7x7x2x2, .f32⟩
  | 85 => ⟨S1000x7x7x2x2x1, .f32⟩
  | 86 => ⟨S1000x7x7x2x2x128, .f32⟩
  | 87 => ⟨S1000x7x7x2x2x128, .f32⟩
  | 88 => ⟨S1000x7x7x2x2x128, .f32⟩
  | 89 => ⟨S1000x7x7x2x2x128, .f32⟩
  | 90 => ⟨S1000x7x7x2x2x128, .f32⟩
  | 91 => ⟨S1000x7x7x2x2x128, .f32⟩
  | 92 => ⟨S1000x7x7x2x2x128, .f32⟩
  | 93 => ⟨S1000x7x7x2x2x128, .f32⟩
  | 94 => ⟨S1000x7x7x2x2x128, .f32⟩
  | 95 => ⟨S1000x7x7x2x2x128, .f32⟩
  | 96 => ⟨S1000x7x7x2x2x128, .f32⟩
  | 97 => ⟨S1000x7x7x2x2x128, .f32⟩
  | 98 => ⟨S1000x7x7x2x2x128, .f32⟩
  | 99 => ⟨S1000x7x7x2x2x128, .f32⟩
  | 100 => ⟨S1000x7x7x2x2x128, .f32⟩
  | 101 => ⟨S_, .f32⟩
  | 102 => ⟨S1000x7x7x128, .f32⟩
  | 103 => ⟨S1000x1x1, .i1⟩
  | 104 => ⟨S1000x7x7, .i1⟩
  | 105 => ⟨S1000x7x7, .i1⟩
  | 106 => ⟨S1000x7x7x1, .i1⟩
  | 107 => ⟨S_, .f32⟩
  | 108 => ⟨S_, .f32⟩
  | 109 => ⟨S1000x7x7x128, .i1⟩
  | 110 => ⟨S1000x7x7x128, .f32⟩
  | 111 => ⟨S1000x7x7x128, .f32⟩
  | 112 => ⟨S1000x128x7x7, .f32⟩
  | _ => ⟨S4x128x32x32, .f32⟩

abbrev hbmTy (i : Nat) : BufTy := match i / 128 with
  | 0 => hbmTy0_0 i
  | 1 => hbmTy0_1 i
  | 2 => hbmTy0_2 i
  | _ => ⟨S4x128x32x32, .f32⟩

abbrev bufTy : (tb : Table) → Fin (tcTables nBuf tb) → BufTy
  | .hbm, ⟨i, _⟩ => hbmTy i
  | _, _ => ⟨S4x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_cst_5 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_6 : Ref sig .tc := ⟨.hbm, 41, rfl⟩
abbrev main_cst_7 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_8 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_9 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_10 : Ref sig .tc := ⟨.hbm, 70, rfl⟩
abbrev main_cst_11 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_12 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_13 : Ref sig .tc := ⟨.hbm, 89, rfl⟩
abbrev main_cst_14 : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_15 : Ref sig .tc := ⟨.hbm, 105, rfl⟩
abbrev main_cst_16 : Ref sig .tc := ⟨.hbm, 106, rfl⟩
abbrev main_call6_v0 : Ref sig .tc := ⟨.hbm, 107, rfl⟩
abbrev main_call6_v1 : Ref sig .tc := ⟨.hbm, 108, rfl⟩
abbrev main_call6_v2 : Ref sig .tc := ⟨.hbm, 109, rfl⟩
abbrev main_call6_v3 : Ref sig .tc := ⟨.hbm, 110, rfl⟩
abbrev main_call6_v4 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_17 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_cst_18 : Ref sig .tc := ⟨.hbm, 124, rfl⟩
abbrev main_cst_19 : Ref sig .tc := ⟨.hbm, 125, rfl⟩
abbrev main_call7_v0 : Ref sig .tc := ⟨.hbm, 126, rfl⟩
abbrev main_call7_v1 : Ref sig .tc := ⟨.hbm, 127, rfl⟩
abbrev main_call7_v2 : Ref sig .tc := ⟨.hbm, 128, rfl⟩
abbrev main_call7_v3 : Ref sig .tc := ⟨.hbm, 129, rfl⟩
abbrev main_call7_v4 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_cst_20 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_cst_21 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_cst_22 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_cst_23 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_c : Ref sig .tc := ⟨.hbm, 179, rfl⟩
abbrev main_c_24 : Ref sig .tc := ⟨.hbm, 180, rfl⟩
abbrev main_call8_v0 : Ref sig .tc := ⟨.hbm, 181, rfl⟩
abbrev main_call8_v1 : Ref sig .tc := ⟨.hbm, 182, rfl⟩
abbrev main_call8_v2 : Ref sig .tc := ⟨.hbm, 183, rfl⟩
abbrev main_call8_v3 : Ref sig .tc := ⟨.hbm, 184, rfl⟩
abbrev main_call8_v4 : Ref sig .tc := ⟨.hbm, 185, rfl⟩
abbrev main_v112 : Ref sig .tc := ⟨.hbm, 186, rfl⟩
abbrev main_v113 : Ref sig .tc := ⟨.hbm, 187, rfl⟩
abbrev main_c_25 : Ref sig .tc := ⟨.hbm, 188, rfl⟩
abbrev main_v114 : Ref sig .tc := ⟨.hbm, 189, rfl⟩
abbrev main_v115 : Ref sig .tc := ⟨.hbm, 190, rfl⟩
abbrev main_c_26 : Ref sig .tc := ⟨.hbm, 191, rfl⟩
abbrev main_c_27 : Ref sig .tc := ⟨.hbm, 192, rfl⟩
abbrev main_call9_v0 : Ref sig .tc := ⟨.hbm, 193, rfl⟩
abbrev main_call9_v1 : Ref sig .tc := ⟨.hbm, 194, rfl⟩
abbrev main_call9_v2 : Ref sig .tc := ⟨.hbm, 195, rfl⟩
abbrev main_call9_v3 : Ref sig .tc := ⟨.hbm, 196, rfl⟩
abbrev main_call9_v4 : Ref sig .tc := ⟨.hbm, 197, rfl⟩
abbrev main_v116 : Ref sig .tc := ⟨.hbm, 198, rfl⟩
abbrev main_v117 : Ref sig .tc := ⟨.hbm, 199, rfl⟩
abbrev main_c_28 : Ref sig .tc := ⟨.hbm, 200, rfl⟩
abbrev main_c_29 : Ref sig .tc := ⟨.hbm, 201, rfl⟩
abbrev main_call10_v0 : Ref sig .tc := ⟨.hbm, 202, rfl⟩
abbrev main_call10_v1 : Ref sig .tc := ⟨.hbm, 203, rfl⟩
abbrev main_call10_v2 : Ref sig .tc := ⟨.hbm, 204, rfl⟩
abbrev main_call10_v3 : Ref sig .tc := ⟨.hbm, 205, rfl⟩
abbrev main_call10_v4 : Ref sig .tc := ⟨.hbm, 206, rfl⟩
abbrev main_v118 : Ref sig .tc := ⟨.hbm, 207, rfl⟩
abbrev main_v119 : Ref sig .tc := ⟨.hbm, 208, rfl⟩
abbrev main_c_30 : Ref sig .tc := ⟨.hbm, 209, rfl⟩
abbrev main_v120 : Ref sig .tc := ⟨.hbm, 210, rfl⟩
abbrev main_v121 : Ref sig .tc := ⟨.hbm, 211, rfl⟩
abbrev main_c_31 : Ref sig .tc := ⟨.hbm, 212, rfl⟩
abbrev main_c_32 : Ref sig .tc := ⟨.hbm, 213, rfl⟩
abbrev main_call11_v0 : Ref sig .tc := ⟨.hbm, 214, rfl⟩
abbrev main_call11_v1 : Ref sig .tc := ⟨.hbm, 215, rfl⟩
abbrev main_call11_v2 : Ref sig .tc := ⟨.hbm, 216, rfl⟩
abbrev main_call11_v3 : Ref sig .tc := ⟨.hbm, 217, rfl⟩
abbrev main_call11_v4 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_c_33 : Ref sig .tc := ⟨.hbm, 222, rfl⟩
abbrev main_v125 : Ref sig .tc := ⟨.hbm, 223, rfl⟩
abbrev main_v126 : Ref sig .tc := ⟨.hbm, 224, rfl⟩
abbrev main_c_34 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_c_35 : Ref sig .tc := ⟨.hbm, 229, rfl⟩
abbrev main_v130 : Ref sig .tc := ⟨.hbm, 230, rfl⟩
abbrev main_v131 : Ref sig .tc := ⟨.hbm, 231, rfl⟩
abbrev main_c_36 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_c_37 : Ref sig .tc := ⟨.hbm, 236, rfl⟩
abbrev main_v135 : Ref sig .tc := ⟨.hbm, 237, rfl⟩
abbrev main_v136 : Ref sig .tc := ⟨.hbm, 238, rfl⟩
abbrev main_c_38 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_c_39 : Ref sig .tc := ⟨.hbm, 249, rfl⟩
abbrev main_v146 : Ref sig .tc := ⟨.hbm, 250, rfl⟩
abbrev main_v147 : Ref sig .tc := ⟨.hbm, 251, rfl⟩
abbrev main_c_40 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_c_41 : Ref sig .tc := ⟨.hbm, 256, rfl⟩
abbrev main_v151 : Ref sig .tc := ⟨.hbm, 257, rfl⟩
abbrev main_v152 : Ref sig .tc := ⟨.hbm, 258, rfl⟩
abbrev main_c_42 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_c_43 : Ref sig .tc := ⟨.hbm, 263, rfl⟩
abbrev main_v156 : Ref sig .tc := ⟨.hbm, 264, rfl⟩
abbrev main_v157 : Ref sig .tc := ⟨.hbm, 265, rfl⟩
abbrev main_c_44 : Ref sig .tc := ⟨.hbm, 266, rfl⟩
abbrev main_v158 : Ref sig .tc := ⟨.hbm, 267, rfl⟩
abbrev main_v159 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_v163 : Ref sig .tc := ⟨.hbm, 272, rfl⟩
abbrev main_v164 : Ref sig .tc := ⟨.hbm, 273, rfl⟩
abbrev main_v165 : Ref sig .tc := ⟨.hbm, 274, rfl⟩
abbrev main_v166 : Ref sig .tc := ⟨.hbm, 275, rfl⟩
abbrev main_c_45 : Ref sig .tc := ⟨.hbm, 276, rfl⟩
abbrev main_v167 : Ref sig .tc := ⟨.hbm, 277, rfl⟩
abbrev main_v168 : Ref sig .tc := ⟨.hbm, 278, rfl⟩
abbrev main_c_46 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_c_47 : Ref sig .tc := ⟨.hbm, 283, rfl⟩
abbrev main_v172 : Ref sig .tc := ⟨.hbm, 284, rfl⟩
abbrev main_v173 : Ref sig .tc := ⟨.hbm, 285, rfl⟩
abbrev main_c_48 : Ref sig .tc := ⟨.hbm, 286, rfl⟩
abbrev main_v174 : Ref sig .tc := ⟨.hbm, 287, rfl⟩
abbrev main_v175 : Ref sig .tc := ⟨.hbm, 288, rfl⟩
abbrev main_v176 : Ref sig .tc := ⟨.hbm, 289, rfl⟩
abbrev main_c_49 : Ref sig .tc := ⟨.hbm, 290, rfl⟩
abbrev main_v177 : Ref sig .tc := ⟨.hbm, 291, rfl⟩
abbrev main_v178 : Ref sig .tc := ⟨.hbm, 292, rfl⟩
abbrev main_c_50 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_v187 : Ref sig .tc := ⟨.hbm, 302, rfl⟩
abbrev main_c_51 : Ref sig .tc := ⟨.hbm, 303, rfl⟩
abbrev main_v188 : Ref sig .tc := ⟨.hbm, 304, rfl⟩
abbrev main_v189 : Ref sig .tc := ⟨.hbm, 305, rfl⟩
abbrev main_c_52 : Ref sig .tc := ⟨.hbm, 306, rfl⟩
abbrev main_v190 : Ref sig .tc := ⟨.hbm, 307, rfl⟩
abbrev main_v191 : Ref sig .tc := ⟨.hbm, 308, rfl⟩
abbrev main_v192 : Ref sig .tc := ⟨.hbm, 309, rfl⟩
abbrev main_c_53 : Ref sig .tc := ⟨.hbm, 310, rfl⟩
abbrev main_v193 : Ref sig .tc := ⟨.hbm, 311, rfl⟩
abbrev main_v194 : Ref sig .tc := ⟨.hbm, 312, rfl⟩
abbrev main_c_54 : Ref sig .tc := ⟨.hbm, 313, rfl⟩
abbrev main_v195 : Ref sig .tc := ⟨.hbm, 314, rfl⟩
abbrev main_v196 : Ref sig .tc := ⟨.hbm, 315, rfl⟩
abbrev main_v197 : Ref sig .tc := ⟨.hbm, 316, rfl⟩
abbrev main_c_55 : Ref sig .tc := ⟨.hbm, 317, rfl⟩
abbrev main_v198 : Ref sig .tc := ⟨.hbm, 318, rfl⟩
abbrev main_v199 : Ref sig .tc := ⟨.hbm, 319, rfl⟩
abbrev main_c_56 : Ref sig .tc := ⟨.hbm, 320, rfl⟩
abbrev main_v200 : Ref sig .tc := ⟨.hbm, 321, rfl⟩
abbrev main_v201 : Ref sig .tc := ⟨.hbm, 322, rfl⟩
abbrev main_v202 : Ref sig .tc := ⟨.hbm, 323, rfl⟩
abbrev main_v203 : Ref sig .tc := ⟨.hbm, 324, rfl⟩
abbrev main_v204 : Ref sig .tc := ⟨.hbm, 325, rfl⟩
abbrev main_v205 : Ref sig .tc := ⟨.hbm, 326, rfl⟩
abbrev main_v206 : Ref sig .tc := ⟨.hbm, 327, rfl⟩
abbrev main_v207 : Ref sig .tc := ⟨.hbm, 328, rfl⟩
abbrev main_v208 : Ref sig .tc := ⟨.hbm, 329, rfl⟩
abbrev main_v209 : Ref sig .tc := ⟨.hbm, 330, rfl⟩
abbrev main_v210 : Ref sig .tc := ⟨.hbm, 331, rfl⟩
abbrev main_v211 : Ref sig .tc := ⟨.hbm, 332, rfl⟩
abbrev main_v212 : Ref sig .tc := ⟨.hbm, 333, rfl⟩
abbrev main_v213 : Ref sig .tc := ⟨.hbm, 334, rfl⟩
abbrev main_v214 : Ref sig .tc := ⟨.hbm, 335, rfl⟩
abbrev main_v215 : Ref sig .tc := ⟨.hbm, 336, rfl⟩
abbrev main_v216 : Ref sig .tc := ⟨.hbm, 337, rfl⟩
abbrev main_v217 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_v224 : Ref sig .tc := ⟨.hbm, 345, rfl⟩
abbrev main_v225 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_v230 : Ref sig .tc := ⟨.hbm, 351, rfl⟩
abbrev main_v231 : Ref sig .tc := ⟨.hbm, 352, rfl⟩
abbrev main_v232 : Ref sig .tc := ⟨.hbm, 353, rfl⟩
abbrev main_v233 : Ref sig .tc := ⟨.hbm, 354, rfl⟩
abbrev main_v234 : Ref sig .tc := ⟨.hbm, 355, rfl⟩
abbrev main_v235 : Ref sig .tc := ⟨.hbm, 356, rfl⟩
abbrev main_cst_57 : Ref sig .tc := ⟨.hbm, 357, rfl⟩
abbrev main_v236 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_v240 : Ref sig .tc := ⟨.hbm, 362, rfl⟩
abbrev main_cst_58 : Ref sig .tc := ⟨.hbm, 363, rfl⟩
abbrev main_call12_v0 : Ref sig .tc := ⟨.hbm, 364, rfl⟩
abbrev main_call12_v1 : Ref sig .tc := ⟨.hbm, 365, rfl⟩
abbrev main_call12_v2 : Ref sig .tc := ⟨.hbm, 366, rfl⟩
abbrev main_v241 : Ref sig .tc := ⟨.hbm, 367, rfl⟩
abbrev main_v242 : Ref sig .tc := ⟨.hbm, 368, rfl⟩

abbrev nD : Nat := 1
abbrev τ : Topo := Topo.v7x

variable {F : FTy → Type} [FloatOps F]
-- ==== Proof.GatherBatch.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic

@[expose] public section

noncomputable section

/-! Several indirect gathers in flight on one DMA semaphore.

    The kernel starts thirteen gathers on one semaphore before it waits for any of them. Every row a gather moves pays
    the semaphore the same credit, so the rows of all thirteen are the transfers of ONE batch: gather `j` issues the
    next rows of the batch, a wait that is not the last only lowers the counter, and the last one hands back what every
    row delivers. -/

namespace Cert.Proof.Gather

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- The first `o` transfers of a batch's pending ones, and those that stay pending. -/
theorem pending_block {n b o : ℕ} (hb : b + o ≤ n) (Φ : Fin n → sProp 𝕄) :
    bigSep (Transfers.pending b) Φ
      = iprop(bigSep Finset.univ (fun j : Fin o => Φ ⟨b + j.val, by omega⟩) ∗ bigSep (Transfers.pending (b + o)) Φ) := by
  classical
  let f : Fin o ↪ Fin n := ⟨fun j => ⟨b + j.val, by omega⟩, fun j j' h => by simpa [Fin.ext_iff] using h⟩
  have hs : (Transfers.pending b : Finset (Fin n)) = (Finset.univ.map f) ∪ Transfers.pending (b + o) := by
    ext t
    simp only [Transfers.pending, Finset.mem_filter, Finset.mem_univ, true_and, Finset.mem_union, Finset.mem_map]
    constructor
    · intro h
      by_cases ht : t.val < b + o
      · exact .inl ⟨⟨t.val - b, by omega⟩, Fin.ext (by change b + (t.val - b) = t.val; omega)⟩
      · exact .inr (by omega)
    · rintro (⟨j, rfl⟩ | h)
      · change b ≤ b + j.val; omega
      · omega
  have hd : Disjoint (Finset.univ.map f) (Transfers.pending (b + o) : Finset (Fin n)) := by
    refine Finset.disjoint_left.mpr fun t h h' => ?_
    obtain ⟨j, -, rfl⟩ := Finset.mem_map.mp h
    have : b + o ≤ b + j.val := (Finset.mem_filter.mp h').2
    omega
  rw [hs, BI.bigSep_union hd, BI.bigSep_map]
  rfl

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- What the row transfer for entry `j` of a gather hands back: row `j` of the destination, written with the source's row
    that the list names there; the list's entry `j`; a piece of the source's share. -/
abbrev rowBack (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (ho : 0 < s.size hg.axis') (j : Fin (s.size hg.axis')) : sProp 𝕄 :=
  iprop(((dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ))
        ∗ (offs.view.loc c ↦[{offs.view.emb (si.rowMajor.symm (j.cast hn.symm))}]{qo} fo))
      ∗ (src.view.loc c ↦[src.view.set]{pieceOf q _ ho j} fs))

/-- A gather issued into a batch: holding a share of the source, the destination outright, a share of the list whose
    words are in range, and the batch with `b` transfers issued, the tile issues the next transfers, one per row. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) {n b u : ℕ} {D : Fin n → sProp 𝕄}
    (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hb : b + s.size hg.axis' ≤ n) (hu : u ≤ b * N)
    (hD : ∀ j : Fin (s.size hg.axis'), rowBack c src dst hg offs hn q qo fs fd fo hin ho j ⊢ D ⟨b + j.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D b u)
      ⊢ iprop((Transfers.Batch EC c (.dma sem) ι N D (b + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ j, (rd j).dst.view.dmaCredit = s.size hg.axis' * N := sum_rowCredit_eq _ hN rfl
  unfold Transfers.Batch
  iintro ⟨Hs, Hd, Ho, ⟨%γ, %γ₀, %κ, #Hinv, HI, H0, Hcred⟩⟩ Hk
  ihave HI' := (Entails.of_eq (pending_block hb (fun t => count EC (γ t) 0))) $$ HI
  icases HI' with ⟨Ht, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Ht]
  · have hrow : ∀ j, iprop(inv κ (Transfers.batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ ⟨b + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · rw [show (rd j).dst.view.amount (SemLoc.dma sem) = N from (View.amount_dma _ _).trans (hN j)]
        iapply (Transfers.batch_creditUpdate EC (γ₀ := γ₀) ⟨b + j.val, by omega⟩ (hD j))
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Ht]; · isplitl [H2] <;> iassumption
    iapply (Transfers.bigSep_mono_pers Finset.univ _ _ _ fun j _ => hrow j)
    isplitr; · iexact Hinv
    iexact H3
  · iintro Hnew
    iapply Hk
    iexists γ, γ₀, κ
    isplitr; · iexact Hinv
    isplitl [HI]; · iexact HI
    isplitl [H0]; · iexact H0
    rw [show (b + s.size hg.axis') * N - u = (b * N - u) + s.size hg.axis' * N by rw [Nat.add_mul]; omega, ← tallyAt_add]
    isplitl [Hcred] <;> iassumption

end Cert.Proof.Gather

end
-- ==== Proof.Same.lean ====
/- The printed tile program is the one written once in `Body`. -/
module
public import proofs.«01_k».proof.Proof.Body
public import Idealize.ShloMosaic.Lib.Tactic
@[expose] public section
noncomputable section
namespace Cert.Proof.Ker
open Cert.Kernel Cert.Kernel.Facts₀ Cert.Kernel.Facts
open Idealize.ShloMosaic Idealize.SL.Sem
variable {F : FTy → Type} [FloatOps F] [Cert.Kernel.Facts]
/-- The printed windows that end in the bins' loop. -/
theorem part105_eq (i : grid0.Coords) (arg2 : Memref sig .scVector .hbm S4096x128 .f32) (harg2 : arg2.IsWhole) (arg3 : Memref sig .scVector .hbm S5x1024 .f32) (harg3 : arg3.IsWhole) (arg4 : Memref sig .scVector .hbm S1024x49x128 .f32) (harg4 : arg4.IsWhole) (arg5 : Memref sig .scVector .vmem S16 .f32) (harg5 : arg5.IsWhole) (arg6 : Memref sig .scVector .vmem S16 .f32) (harg6 : arg6.IsWhole) (arg7 : Memref sig .scVector .vmem S16 .f32) (harg7 : arg7.IsWhole) (arg8 : Memref sig .scVector .vmem S16 .f32) (harg8 : arg8.IsWhole) (arg9 : Memref sig .scVector .vmem S16 .f32) (harg9 : arg9.IsWhole) (arg10 : Memref sig .scVector .vmem S13x64 .i32) (harg10 : arg10.IsWhole) (arg11 : Memref sig .scVector .vmem S832 .f32) (harg11 : arg11.IsWhole) (arg12 : Memref sig .scVector .vmem S832x128 .f32) (harg12 : arg12.IsWhole) (arg13 : Memref sig .scVector .vmem S49x128 .f32) (harg13 : arg13.IsWhole) (arg14 : DmaSems sig S_) (v10_r0 : DmaSems sig S_) (v10_r1 : DmaSems sig S_) (v10_r2 : DmaSems sig S_) (v10_r3 : DmaSems sig S_) (v10_r4 : DmaSems sig S_) (v3451_r5 : DmaSems sig S_) (v10_r6 : DmaSems sig S_) (v10_r7 : DmaSems sig S_) (v10_r8 : DmaSems sig S_) (v10_r9 : DmaSems sig S_) (v10_r10 : DmaSems sig S_) (v3451_r11 : DmaSems sig S_) :
    (k0_part105 i arg2 harg2 arg3 harg3 arg4 harg4 arg5 harg5 arg6 harg6 arg7 harg7 arg8 harg8 arg9 harg9 arg10 harg10 arg11 harg11 arg12 harg12 arg13 harg13 arg14 v10_r0 v10_r1 v10_r2 v10_r3 v10_r4 v3451_r5 v10_r6 v10_r7 v10_r8 v10_r9 v10_r10 v3451_r11 : TP F i PUnit) = tail5 i arg2 arg11 arg12 arg13 arg14 := by
  sl_kernel_rfl

theorem part211_eq (i : grid0.Coords) (arg2 : Memref sig .scVector .hbm S4096x128 .f32) (harg2 : arg2.IsWhole) (arg3 : Memref sig .scVector .hbm S5x1024 .f32) (harg3 : arg3.IsWhole) (arg4 : Memref sig .scVector .hbm S1024x49x128 .f32) (harg4 : arg4.IsWhole) (arg5 : Memref sig .scVector .vmem S16 .f32) (harg5 : arg5.IsWhole) (arg6 : Memref sig .scVector .vmem S16 .f32) (harg6 : arg6.IsWhole) (arg7 : Memref sig .scVector .vmem S16 .f32) (harg7 : arg7.IsWhole) (arg8 : Memref sig .scVector .vmem S16 .f32) (harg8 : arg8.IsWhole) (arg9 : Memref sig .scVector .vmem S16 .f32) (harg9 : arg9.IsWhole) (arg10 : Memref sig .scVector .vmem S13x64 .i32) (harg10 : arg10.IsWhole) (arg11 : Memref sig .scVector .vmem S832 .f32) (harg11 : arg11.IsWhole) (arg12 : Memref sig .scVector .vmem S832x128 .f32) (harg12 : arg12.IsWhole) (arg13 : Memref sig .scVector .vmem S49x128 .f32) (harg13 : arg13.IsWhole) (arg14 : DmaSems sig S_) (v10_r0 : DmaSems sig S_) (v10_r1 : DmaSems sig S_) (v10_r2 : DmaSems sig S_) (v10_r3 : DmaSems sig S_) (v10_r4 : DmaSems sig S_) (v3451_r5 : DmaSems sig S_) (v10_r6 : DmaSems sig S_) (v10_r7 : DmaSems sig S_) (v10_r8 : DmaSems sig S_) (v10_r9 : DmaSems sig S_) (v10_r10 : DmaSems sig S_) (v3451_r11 : DmaSems sig S_) :
    (k0_part211 i arg2 harg2 arg3 harg3 arg4 harg4 arg5 harg5 arg6 harg6 arg7 harg7 arg8 harg8 arg9 harg9 arg10 harg10 arg11 harg11 arg12 harg12 arg13 harg13 arg14 v10_r0 v10_r1 v10_r2 v10_r3 v10_r4 v3451_r5 v10_r6 v10_r7 v10_r8 v10_r9 v10_r10 v3451_r11 : TP F i PUnit) = tail5 i arg2 arg11 arg12 arg13 arg14 := by
  sl_kernel_rfl
/-- Two loops with the same bodies. -/
theorem for_congr {E : Type → Type} {α : Type} {w : ℕ} (lb ub st : BitVec w) (ok : Scf.OK lb ub st) (x : α) {b b' : Fin (Scf.trips lb ub st) → α → Prog E α}
    (h : ∀ t a, b t a = b' t a) : Scf.for lb ub st ok x b = Scf.for lb ub st ok x b' :=
  congrArg (Scf.for lb ub st ok x) (funext fun t => funext fun a => h t a)
set_option maxHeartbeats 4000000 in
/-- The printed tile program is `tec`. -/
theorem tec_eq (i : grid0.Coords) (arg2 : Memref sig .scVector .hbm S4096x128 .f32) (harg2 : arg2.IsWhole) (arg3 : Memref sig .scVector .hbm S5x1024 .f32) (harg3 : arg3.IsWhole) (arg4 : Memref sig .scVector .hbm S1024x49x128 .f32) (harg4 : arg4.IsWhole) (arg5 : Memref sig .scVector .vmem S16 .f32) (harg5 : arg5.IsWhole) (arg6 : Memref sig .scVector .vmem S16 .f32) (harg6 : arg6.IsWhole) (arg7 : Memref sig .scVector .vmem S16 .f32) (harg7 : arg7.IsWhole) (arg8 : Memref sig .scVector .vmem S16 .f32) (harg8 : arg8.IsWhole) (arg9 : Memref sig .scVector .vmem S16 .f32) (harg9 : arg9.IsWhole) (arg10 : Memref sig .scVector .vmem S13x64 .i32) (harg10 : arg10.IsWhole) (arg11 : Memref sig .scVector .vmem S832 .f32) (harg11 : arg11.IsWhole) (arg12 : Memref sig .scVector .vmem S832x128 .f32) (harg12 : arg12.IsWhole) (arg13 : Memref sig .scVector .vmem S49x128 .f32) (harg13 : arg13.IsWhole) (arg14 : DmaSems sig S_) (v10_r0 : DmaSems sig S_) (v10_r1 : DmaSems sig S_) (v10_r2 : DmaSems sig S_) (v10_r3 : DmaSems sig S_) (v10_r4 : DmaSems sig S_) (v3451_r5 : DmaSems sig S_) (v10_r6 : DmaSems sig S_) (v10_r7 : DmaSems sig S_) (v10_r8 : DmaSems sig S_) (v10_r9 : DmaSems sig S_) (v10_r10 : DmaSems sig S_) (v3451_r11 : DmaSems sig S_) :
    (cc0__tec_body i arg2 harg2 arg3 harg3 arg4 harg4 arg5 harg5 arg6 harg6 arg7 harg7 arg8 harg8 arg9 harg9 arg10 harg10 arg11 harg11 arg12 harg12 arg13 harg13 arg14 v10_r0 v10_r1 v10_r2 v10_r3 v10_r4 v3451_r5 v10_r6 v10_r7 v10_r8 v10_r9 v10_r10 v3451_r11 : TP F i PUnit) = tec i arg2 harg2 arg3 harg3 arg4 harg4 arg5 harg5 arg6 harg6 arg7 harg7 arg8 harg8 arg9 harg9 arg10 harg10 arg11 harg11 arg12 harg12 arg13 harg13 arg14 v10_r0 v10_r1 v10_r2 v10_r3 v10_r4 v3451_r5 v10_r6 v10_r7 v10_r8 v10_r9 v10_r10 v3451_r11 := by
  unfold cc0__tec_body k0_part214 k0_part213 tec fetch
  simp only [bind_assoc, pure_bind]
  rw [part211_eq, part105_eq]
  iterate 10 refine congrArg (Bind.bind _) (funext fun _ => ?_)
  refine congrArg₂ Bind.bind ?_ (funext fun _ => ?_)
  · refine for_congr (E := TpuEff nD τ sig (Elt F) Λ₀ (.scVector ((i 0).castLE hcore0) ((i 1).castLE hsub0))) k0_t1_loop.lb k0_t1_loop.ub k0_t1_loop.st k0_t1_ok 0#32 (fun t a => ?_)
    sl_kernel_rfl
  iterate 10 refine congrArg (Bind.bind _) (funext fun _ => ?_)
  refine congrArg₂ Bind.bind ?_ (funext fun _ => ?_)
  · refine for_congr (E := TpuEff nD τ sig (Elt F) Λ₀ (.scVector ((i 0).castLE hcore0) ((i 1).castLE hsub0))) k0_t3_loop.lb k0_t3_loop.ub k0_t3_loop.st k0_t3_ok 0#32 (fun t a => ?_)
    sl_kernel_rfl
  rfl
end Cert.Proof.Ker
end
-- ==== Proof.Ideal.Body.lean ====
/- The tile's program, written once.

   The printed kernel holds the same code many times over: thirteen chunks of sixteen samples for every region
   of interest, in two groups of sixteen regions. Here each piece is written once, with what changes from copy
   to copy as a parameter, and `roi_group0` / `roi_group1` say that the printed loops' bodies are these pieces. -/
module

public import proofs.«01_k».proof.Defs
public import proofs.«01_k».proof.Proof.Gen.KernelIdeal

@[expose] public section

noncomputable section

namespace Cert.Proof.KerI

open Cert.KernelIdeal Cert.KernelIdeal.Facts₀ Cert.KernelIdeal.Facts
open Idealize.ShloMosaic Idealize.SL.Sem

variable {F : FTy → Type} [FloatOps F] [Named F]
variable [Cert.KernelIdeal.Facts]

/-- One seventh, by its name. -/
abbrev seventh : F .f32 := Named.named κ "seventh" 0x3E124925#32

/-! ## The vector arithmetic of one chunk -/

/-- A vector of one word. -/
abbrev bc (c : BitVec 32) : IVec S16 32 := broadcast S16 c
/-- A vector of one float. -/
abbrev fc (c : F .f32) : FVec F S16 .f32 := broadcast S16 c
/-- A vector of one float literal. -/
abbrev fl (c : BitVec 32) : FVec F S16 .f32 := broadcast S16 (Scalar.ofBits .f32 c : F .f32)

/-- Division rounding down, as jax prints it. -/
def fdiv (a : IVec S16 32) (c : BitVec 32) : IVec S16 32 :=
  select (andi
      (cmpi .ne (subi (extui 32 (cmpi .sgt a (bc 0#32)) natLt_1_32) (extui 32 (cmpi .slt a (bc 0#32)) natLt_1_32))
        (bc (Scalar.subi (Scalar.extui (Scalar.cmpi .sgt c 0#32)) (Scalar.extui (Scalar.cmpi .slt c 0#32)))))
      (cmpi .ne (remsi a (bc c)) (bc 0#32)))
    (subi (divsi a (bc c)) (bc 1#32)) (divsi a (bc c))

/-- The divisor `fmod` uses: one in place of zero. -/
def fmodD (c : BitVec 32) : BitVec 32 := Scalar.select (Scalar.cmpi .eq c 0#32) 1#32 c

/-- The remainder of `fdiv`, as jax prints it. -/
def fmod (a : IVec S16 32) (c : BitVec 32) : IVec S16 32 :=
  select (andi (xori (cmpi .slt (remsi a (bc (fmodD c))) (bc 0#32))
        (broadcastTo S16 (broadcast S16 (Scalar.cmpi .slt (fmodD c) 0#32)) broadcasts_S16_S16))
      (cmpi .ne (remsi a (bc (fmodD c))) (bc 0#32)))
    (addi (remsi a (bc (fmodD c))) (bc (fmodD c))) (remsi a (bc (fmodD c)))

/-- Clip to `[0, 32]`. -/
def clip32 (v : FVec F S16 .f32) : FVec F S16 .f32 := minimumf (fl 0x42000000#32) (maximumf (fl 0x00000000#32) v)
/-- A coordinate of the box on the feature map's scale, clipped. -/
def scaled (v : FVec F S16 .f32) : FVec F S16 .f32 := clip32 (mulf v (fl 0x3D000000#32))
/-- One where the box is not empty, zero where it is. -/
def valid (bx1 by1 bx2 by2 : FVec F S16 .f32) : FVec F S16 .f32 :=
  select (andi (cmpf .ogt bx2 bx1) (cmpf .ogt by2 by1)) (fl 0x3F800000#32) (fl 0x00000000#32)
/-- A seventh of a side. -/
def side (lo hi : FVec F S16 .f32) : FVec F S16 .f32 := mulf (subf hi lo) (fc seventh)
/-- The table's first row of the region's image. -/
def baseRow (b : FVec F S16 .f32) : IVec S16 32 := muli (fptosi 32 b) (bc 1024#32)

/-- The samples' numbers: sixteen from `c`. -/
def samp (c : BitVec 32) : IVec S16 32 := addi (iota .scVector S16 32 [0] iota_S16_d0_w32_scVector) (bc c)
/-- The samples' bin row, bin column, and place inside the bin. -/
def phV (t : IVec S16 32) : IVec S16 32 := fdiv t 28#32
def remV (t : IVec S16 32) : IVec S16 32 := fmod t 28#32
def pwV (t : IVec S16 32) : IVec S16 32 := fdiv (remV t) 4#32
def myV (t : IVec S16 32) : IVec S16 32 := fdiv (fmod (remV t) 4#32) 2#32
def mxV (t : IVec S16 32) : IVec S16 32 := fmod (remV t) 2#32

/-- The bins' lower edge, upper edge, and the samples' coordinate, along one axis. -/
def edgeLo (lo d : FVec F S16 .f32) (p : IVec S16 32) : FVec F S16 .f32 := clip32 (addf lo (mulf (sitofp .f32 p) d))
def edgeHi (lo d : FVec F S16 .f32) (p : IVec S16 32) : FVec F S16 .f32 :=
  clip32 (addf lo (mulf (addf (sitofp .f32 p) (fl 0x3F800000#32)) d))
def coord (lo d : FVec F S16 .f32) (p q : IVec S16 32) : FVec F S16 .f32 :=
  addf (addf (edgeLo lo d p) (mulf d (fl 0x3E800000#32))) (mulf (sitofp .f32 q) (mulf d (fl 0x3F000000#32)))
/-- The region's flag where the bin is not empty, zero where it is. -/
def binValid (by1 bh bx1 bw rvf : FVec F S16 .f32) (t : IVec S16 32) : FVec F S16 .f32 :=
  select (andi (cmpf .ogt (edgeHi by1 bh (phV t)) (edgeLo by1 bh (phV t))) (cmpf .ogt (edgeHi bx1 bw (pwV t)) (edgeLo bx1 bw (pwV t))))
    rvf (fl 0x00000000#32)
/-- The cell a coordinate lies in and the next one. -/
def cell (s : FVec F S16 .f32) : IVec S16 32 := minsi (bc 31#32) (maxsi (bc 0#32) (fptosi 32 s))
def next (i : IVec S16 32) : IVec S16 32 := minsi (addi i (bc 1#32)) (bc 31#32)
/-- The weights of the next cell and of the cell. -/
def wNext (s : FVec F S16 .f32) : FVec F S16 .f32 := subf s (sitofp .f32 (cell s))
def wCell (s : FVec F S16 .f32) : FVec F S16 .f32 := subf (sitofp .f32 (next (cell s))) s
/-- The table's row of a cell. -/
def rowOf (base yy xx : IVec S16 32) : IVec S16 32 := addi (addi base (muli yy (bc 32#32))) xx
/-- Where a corner's row number goes in its chunk's list, and its weight in the weights. -/
def colOf (t : IVec S16 32) (c k : BitVec 32) : IVec S16 32 := addi (muli (subi t (bc c)) (bc 4#32)) (bc k)
def posOf (t : IVec S16 32) (k : BitVec 32) : IVec S16 32 := addi (muli t (bc 4#32)) (bc k)

/-! ## The program's pieces -/

/-- A tile's programs. -/
abbrev TP (F : FTy → Type) [FloatOps F] (i : grid0.Coords) (α : Type) : Type 1 :=
  Prog (TpuEff nD τ sig (Elt F) Λ₀ (.scVector ((i 0).castLE hcore0) ((i 1).castLE hsub0))) α

section Pieces

variable (i : grid0.Coords)

variable (arg2 : Memref sig .scVector .hbm S4096x128 .f32) (harg2 : arg2.IsWhole)
  (arg4 : Memref sig .scVector .hbm S1024x49x128 .f32) (harg4 : arg4.IsWhole)
  (arg5 arg6 arg7 arg8 arg9 : Memref sig .scVector .vmem S16 .f32)
  (arg10 : Memref sig .scVector .vmem S13x64 .i32) (arg11 : Memref sig .scVector .vmem S832 .f32)
  (arg12 : Memref sig .scVector .vmem S832x128 .f32) (arg13 : Memref sig .scVector .vmem S49x128 .f32) (harg13 : arg13.IsWhole)
  (arg14 : DmaSems sig S_)

/-- One corner of sixteen samples: their rows' numbers into the chunk's list, their weights into the weights. -/
def corner (rowc col rows wpos : IVec S16 32) (w : FVec F S16 .f32) : TP F i PUnit := do
  have h : k0_chk2 rowc col := (← Prog.lift (TpuEff.assume (k0_chk2 rowc col) (k0_chk2.dec rowc col))).down
  SparseCore.vectorStoreIdx arg10 ![rowc, col] rows (fun _ => 1#1) false (k0_idx6_inb rowc col h) (View.stores_vmem_bits_univ h_S13x64 rfl)
  have h' : k0_chk3 wpos := (← Prog.lift (TpuEff.assume (k0_chk3 wpos) (k0_chk3.dec wpos))).down
  SparseCore.vectorStoreIdx arg11 ![wpos] w (fun _ => 1#1) false (k0_idx7_inb wpos h') (View.stores_vmem_bits_univ h_S832 rfl)

/-- The row numbers and the weights of one corner of the samples `t`. -/
def rows11 (base : IVec S16 32) (sy sx : FVec F S16 .f32) : IVec S16 32 := rowOf base (cell sy) (cell sx)
def rows12 (base : IVec S16 32) (sy sx : FVec F S16 .f32) : IVec S16 32 := rowOf base (cell sy) (next (cell sx))
def rows21 (base : IVec S16 32) (sy sx : FVec F S16 .f32) : IVec S16 32 := rowOf base (next (cell sy)) (cell sx)
def rows22 (base : IVec S16 32) (sy sx : FVec F S16 .f32) : IVec S16 32 := rowOf base (next (cell sy)) (next (cell sx))

/-- A chunk: the four corners of the sixteen samples from `c`, chunk `ch`. -/
def chunk (base : IVec S16 32) (by1 bh bx1 bw rvf : FVec F S16 .f32) (c ch : BitVec 32) : TP F i PUnit := do
  corner i arg10 arg11 (bc ch) (colOf (samp c) c 0#32)
    (rows11 base (coord by1 bh (phV (samp c)) (myV (samp c))) (coord bx1 bw (pwV (samp c)) (mxV (samp c)))) (posOf (samp c) 0#32)
    (mulf (mulf (wCell (coord by1 bh (phV (samp c)) (myV (samp c)))) (wCell (coord bx1 bw (pwV (samp c)) (mxV (samp c))))) (binValid by1 bh bx1 bw rvf (samp c)))
  corner i arg10 arg11 (bc ch) (colOf (samp c) c 1#32)
    (rows12 base (coord by1 bh (phV (samp c)) (myV (samp c))) (coord bx1 bw (pwV (samp c)) (mxV (samp c)))) (posOf (samp c) 1#32)
    (mulf (mulf (wCell (coord by1 bh (phV (samp c)) (myV (samp c)))) (wNext (coord bx1 bw (pwV (samp c)) (mxV (samp c))))) (binValid by1 bh bx1 bw rvf (samp c)))
  corner i arg10 arg11 (bc ch) (colOf (samp c) c 2#32)
    (rows21 base (coord by1 bh (phV (samp c)) (myV (samp c))) (coord bx1 bw (pwV (samp c)) (mxV (samp c)))) (posOf (samp c) 2#32)
    (mulf (mulf (wNext (coord by1 bh (phV (samp c)) (myV (samp c)))) (wCell (coord bx1 bw (pwV (samp c)) (mxV (samp c))))) (binValid by1 bh bx1 bw rvf (samp c)))
  corner i arg10 arg11 (bc ch) (colOf (samp c) c 3#32)
    (rows22 base (coord by1 bh (phV (samp c)) (myV (samp c))) (coord bx1 bw (pwV (samp c)) (mxV (samp c)))) (posOf (samp c) 3#32)
    (mulf (mulf (wNext (coord by1 bh (phV (samp c)) (myV (samp c)))) (wNext (coord bx1 bw (pwV (samp c)) (mxV (samp c))))) (binValid by1 bh bx1 bw rvf (samp c)))

/-- The rows of the gathered buffer chunk `j` fills, its list, and the whole table, as the streams name them. -/
abbrev rowsAt (r : ℕ) (hr : ∀ a, (![r, 0] : Fin 2 → ℕ) a + S64x128.size a ≤ S832x128.size a) : Memref sig .scVector .vmem S64x128 .f32 :=
  arg12.slice (Rect.unit (s := S832x128) ![r, 0] S64x128.size hr) (fun _ => rfl)
abbrev listAt (j : ℕ) (hj : ∀ a, (![j, 0] : Fin 2 → ℕ) a + S1x64.size a ≤ S13x64.size a) : Memref sig .scVector .vmem S64 .i32 :=
  (arg10.slice (Rect.unit (s := S13x64) ![j, 0] S1x64.size hj) (fun _ => rfl)).squeeze S64 squeezes_S1x64_S64
abbrev tableAll : Memref sig .scVector .hbm S4096x128 .f32 :=
  arg2.slice (Rect.unit (s := S4096x128) ![0, 0] S4096x128.size inb_S4096x128_S4096x128_0_0) (fun _ => rfl)

/-- Start chunk `j`'s gather. -/
def gath (j r : ℕ) (hj : ∀ a, (![j, 0] : Fin 2 → ℕ) a + S1x64.size a ≤ S13x64.size a)
    (hr : ∀ a, (![r, 0] : Fin 2 → ℕ) a + S64x128.size a ≤ S832x128.size a) : TP F i PUnit :=
  SparseCore.enqueueIndirectGather rfl (tableAll arg2) (rowsAt arg12 r hr) gathers_S4096x128_S64x128 (listAt arg10 j hj) rfl arg14.sem
    (View.wordExact_bits rfl) rfl (Or.inl rfl)
/-- Wait for one gather. -/
def waitG (r : ℕ) (hr : ∀ a, (![r, 0] : Fin 2 → ℕ) a + S64x128.size a ≤ S832x128.size a) : TP F i PUnit :=
  SparseCore.waitIndirectGather arg14.sem (tableAll arg2) (rowsAt arg12 r hr) (View.wordExact_bits rfl) (View.wordExact_bits rfl)

/-- One weight of a bin, in every lane. -/
def loadW (p : BitVec 32) (k : BitVec 32) : TP F i (Vec F S16 .f32) := do
  have h : k0_chk106 (bc (Scalar.addi p k)) := (← Prog.lift (TpuEff.assume (k0_chk106 (bc (Scalar.addi p k))) (k0_chk106.dec (bc (Scalar.addi p k))))).down
  SparseCore.vectorLoadIdx arg11 ![bc (Scalar.addi p k)] (k0_idx110_inb _ h) (View.loads_vmem h_S832)

/-- The number of a bin's first gathered row. -/
abbrev binIv (t : Fin k0_t2_loop.trips) : BitVec 32 := Scf.iv 0#32 1#32 t
abbrev binRow (t : Fin k0_t2_loop.trips) : BitVec 32 := Scalar.muli (binIv t) 16#32
/-- Where sixteen elements of a gathered row, and of a bin's result, lie. -/
abbrev offR (t : Fin k0_t2_loop.trips) (p q : BitVec 32) (col : ℕ) : Fin 2 → ℕ :=
  ![(Scalar.indexCast (Scalar.addi (Scalar.addi (binRow t) p) q) : Index).toNat, col]
abbrev offO (t : Fin k0_t2_loop.trips) (col : ℕ) : Fin 2 → ℕ := ![(Scalar.indexCast (binIv t) : Index).toNat, col]

/-- Sixteen elements of a gathered row. -/
def loadR (t : Fin k0_t2_loop.trips) (p q : BitVec 32) (col : ℕ) (h : ∀ a, offR t p q col a + S1x16.size a ≤ S832x128.size a) : TP F i (Vec F S1x16 .f32) :=
  Prog.lift (.load arg12 (Rect.unit (s := S832x128) (offR t p q col) S1x16.size h).toLoadRect (View.loadsAt_vmem h_S1x16))

/-- A weighted row. -/
abbrev term (w : Vec F S16 .f32) (r : Vec F S1x16 .f32) : FVec F S16 .f32 := mulf w (shapeCast S16 r shapeCasts_S1x16_S16)
/-- A sample: its four corners' weighted rows added. -/
abbrev quad (w0 w1 w2 w3 : Vec F S16 .f32) (r0 r1 r2 r3 : Vec F S1x16 .f32) : FVec F S16 .f32 :=
  addf (addf (addf (term w0 r0) (term w1 r1)) (term w2 r2)) (term w3 r3)

/-- Sixteen channels of a bin: the largest of its four samples. -/
def channels (t : Fin k0_t2_loop.trips) (w0 w1 w2 w3 w4 w5 w6 w7 w8 w9 w10 w11 w12 w13 w14 w15 : Vec F S16 .f32) (col : ℕ)
    (h : ∀ (r₁ r₂ : Fin 4) (a), offR t (BitVec.ofNat 32 (4 * r₁.val)) (BitVec.ofNat 32 r₂.val) col a + S1x16.size a ≤ S832x128.size a)
    (ho : ∀ a, offO t col a + S1x16.size a ≤ S49x128.size a) : TP F i PUnit := do
  let r0 ← loadR i arg12 t 0#32 0#32 col (h 0 0)
  let r1 ← loadR i arg12 t 0#32 1#32 col (h 0 1)
  let r2 ← loadR i arg12 t 0#32 2#32 col (h 0 2)
  let r3 ← loadR i arg12 t 0#32 3#32 col (h 0 3)
  let r4 ← loadR i arg12 t 4#32 0#32 col (h 1 0)
  let r5 ← loadR i arg12 t 4#32 1#32 col (h 1 1)
  let r6 ← loadR i arg12 t 4#32 2#32 col (h 1 2)
  let r7 ← loadR i arg12 t 4#32 3#32 col (h 1 3)
  let r8 ← loadR i arg12 t 8#32 0#32 col (h 2 0)
  let r9 ← loadR i arg12 t 8#32 1#32 col (h 2 1)
  let r10 ← loadR i arg12 t 8#32 2#32 col (h 2 2)
  let r11 ← loadR i arg12 t 8#32 3#32 col (h 2 3)
  let r12 ← loadR i arg12 t 12#32 0#32 col (h 3 0)
  let r13 ← loadR i arg12 t 12#32 1#32 col (h 3 1)
  let r14 ← loadR i arg12 t 12#32 2#32 col (h 3 2)
  let r15 ← loadR i arg12 t 12#32 3#32 col (h 3 3)
  let _o : Vec F S1x16 .f32 ← Prog.lift (.load arg13 (Rect.unit (s := S49x128) (offO t col) S1x16.size ho).toLoadRect (View.loadsAt_vmem h_S1x16))
  Prog.lift (.store arg13 (Rect.unit (s := S49x128) (offO t col) S1x16.size ho)
    (shapeCast S1x16 (maximumf (maximumf (maximumf (quad w0 w1 w2 w3 r0 r1 r2 r3) (quad w4 w5 w6 w7 r4 r5 r6 r7)) (quad w8 w9 w10 w11 r8 r9 r10 r11))
      (quad w12 w13 w14 w15 r12 r13 r14 r15)) shapeCasts_S16_S1x16) Finset.univ (View.stores_vmem_bits_univ h_S1x16 rfl) (.inl rfl))

/-- A bin: its sixteen weights, then its channels sixteen at a time. -/
def bin (t : Fin k0_t2_loop.trips) : TP F i (BitVec 32) := do
  let w0 ← loadW i arg11 (binRow t) 0#32
  let w1 ← loadW i arg11 (binRow t) 1#32
  let w2 ← loadW i arg11 (binRow t) 2#32
  let w3 ← loadW i arg11 (binRow t) 3#32
  let w4 ← loadW i arg11 (binRow t) 4#32
  let w5 ← loadW i arg11 (binRow t) 5#32
  let w6 ← loadW i arg11 (binRow t) 6#32
  let w7 ← loadW i arg11 (binRow t) 7#32
  let w8 ← loadW i arg11 (binRow t) 8#32
  let w9 ← loadW i arg11 (binRow t) 9#32
  let w10 ← loadW i arg11 (binRow t) 10#32
  let w11 ← loadW i arg11 (binRow t) 11#32
  let w12 ← loadW i arg11 (binRow t) 12#32
  let w13 ← loadW i arg11 (binRow t) 13#32
  let w14 ← loadW i arg11 (binRow t) 14#32
  let w15 ← loadW i arg11 (binRow t) 15#32
  channels i arg12 arg13 t w0 w1 w2 w3 w4 w5 w6 w7 w8 w9 w10 w11 w12 w13 w14 w15 0 (k0_off6_inb t) (k0_off7_inb t)
  channels i arg12 arg13 t w0 w1 w2 w3 w4 w5 w6 w7 w8 w9 w10 w11 w12 w13 w14 w15 16 (k0_off8_inb t) (k0_off9_inb t)
  channels i arg12 arg13 t w0 w1 w2 w3 w4 w5 w6 w7 w8 w9 w10 w11 w12 w13 w14 w15 32 (k0_off10_inb t) (k0_off11_inb t)
  channels i arg12 arg13 t w0 w1 w2 w3 w4 w5 w6 w7 w8 w9 w10 w11 w12 w13 w14 w15 48 (k0_off12_inb t) (k0_off13_inb t)
  channels i arg12 arg13 t w0 w1 w2 w3 w4 w5 w6 w7 w8 w9 w10 w11 w12 w13 w14 w15 64 (k0_off14_inb t) (k0_off15_inb t)
  channels i arg12 arg13 t w0 w1 w2 w3 w4 w5 w6 w7 w8 w9 w10 w11 w12 w13 w14 w15 80 (k0_off16_inb t) (k0_off17_inb t)
  channels i arg12 arg13 t w0 w1 w2 w3 w4 w5 w6 w7 w8 w9 w10 w11 w12 w13 w14 w15 96 (k0_off18_inb t) (k0_off19_inb t)
  channels i arg12 arg13 t w0 w1 w2 w3 w4 w5 w6 w7 w8 w9 w10 w11 w12 w13 w14 w15 112 (k0_off20_inb t) (k0_off21_inb t)
  pure 0#32

/-- Fetch sixteen words and wait for them. -/
def fetch (src : Memref sig .scVector .hbm S16 .f32) (dst : Memref sig .scVector .vmem S16 .f32) (hs : src.view.WordExact)
    (hd : dst.IsWhole) (sem : DmaSems sig S_) : TP F i PUnit := do
  Prog.lift (.enqueueDma src (.here dst) (.dma sem.sem) hs hd.wordExact ⟨Or.inl rfl, trivial⟩)
  Prog.lift (.waitDma2 sem.sem src dst hs hd.wordExact)

/-- Lane `n` of a fetched buffer, in every lane. -/
def lane (m : Memref sig .scVector .vmem S16 .f32) (n : BitVec 32) (h : ∀ a x, ((![bc n] : Fin 1 → IVec S16 32) a x).toNat < S16.size a) :
    TP F i (Vec F S16 .f32) :=
  SparseCore.vectorLoadIdx m ![bc n] h (View.loads_vmem h_S16)

/-- The thirteen chunks of a region of interest. -/
def chunks (base : IVec S16 32) (by1 bh bx1 bw rvf : FVec F S16 .f32) : TP F i PUnit := do
  chunk i arg10 arg11 base by1 bh bx1 bw rvf 0#32 0#32
  chunk i arg10 arg11 base by1 bh bx1 bw rvf 16#32 1#32
  chunk i arg10 arg11 base by1 bh bx1 bw rvf 32#32 2#32
  chunk i arg10 arg11 base by1 bh bx1 bw rvf 48#32 3#32
  chunk i arg10 arg11 base by1 bh bx1 bw rvf 64#32 4#32
  chunk i arg10 arg11 base by1 bh bx1 bw rvf 80#32 5#32
  chunk i arg10 arg11 base by1 bh bx1 bw rvf 96#32 6#32
  chunk i arg10 arg11 base by1 bh bx1 bw rvf 112#32 7#32
  chunk i arg10 arg11 base by1 bh bx1 bw rvf 128#32 8#32
  chunk i arg10 arg11 base by1 bh bx1 bw rvf 144#32 9#32
  chunk i arg10 arg11 base by1 bh bx1 bw rvf 160#32 10#32
  chunk i arg10 arg11 base by1 bh bx1 bw rvf 176#32 11#32
  chunk i arg10 arg11 base by1 bh bx1 bw rvf 192#32 12#32

/-- The thirteen gathers, all in flight at once, and the first eight waits. -/
def gathers : TP F i PUnit := do
  gath i arg2 arg10 arg12 arg14 0 0 inb_S13x64_S1x64_0_0 inb_S832x128_S64x128_0_0
  gath i arg2 arg10 arg12 arg14 1 64 inb_S13x64_S1x64_1_0 inb_S832x128_S64x128_64_0
  gath i arg2 arg10 arg12 arg14 2 128 inb_S13x64_S1x64_2_0 inb_S832x128_S64x128_128_0
  gath i arg2 arg10 arg12 arg14 3 192 inb_S13x64_S1x64_3_0 inb_S832x128_S64x128_192_0
  gath i arg2 arg10 arg12 arg14 4 256 inb_S13x64_S1x64_4_0 inb_S832x128_S64x128_256_0
  gath i arg2 arg10 arg12 arg14 5 320 inb_S13x64_S1x64_5_0 inb_S832x128_S64x128_320_0
  gath i arg2 arg10 arg12 arg14 6 384 inb_S13x64_S1x64_6_0 inb_S832x128_S64x128_384_0
  gath i arg2 arg10 arg12 arg14 7 448 inb_S13x64_S1x64_7_0 inb_S832x128_S64x128_448_0
  gath i arg2 arg10 arg12 arg14 8 512 inb_S13x64_S1x64_8_0 inb_S832x128_S64x128_512_0
  gath i arg2 arg10 arg12 arg14 9 576 inb_S13x64_S1x64_9_0 inb_S832x128_S64x128_576_0
  gath i arg2 arg10 arg12 arg14 10 640 inb_S13x64_S1x64_10_0 inb_S832x128_S64x128_640_0
  gath i arg2 arg10 arg12 arg14 11 704 inb_S13x64_S1x64_11_0 inb_S832x128_S64x128_704_0
  gath i arg2 arg10 arg12 arg14 12 768 inb_S13x64_S1x64_12_0 inb_S832x128_S64x128_768_0
  waitG i arg2 arg12 arg14 0 inb_S832x128_S64x128_0_0
  waitG i arg2 arg12 arg14 64 inb_S832x128_S64x128_64_0
  waitG i arg2 arg12 arg14 128 inb_S832x128_S64x128_128_0
  waitG i arg2 arg12 arg14 192 inb_S832x128_S64x128_192_0
  waitG i arg2 arg12 arg14 256 inb_S832x128_S64x128_256_0
  waitG i arg2 arg12 arg14 320 inb_S832x128_S64x128_320_0
  waitG i arg2 arg12 arg14 384 inb_S832x128_S64x128_384_0
  waitG i arg2 arg12 arg14 448 inb_S832x128_S64x128_448_0

/-- The last five gathers' waits and the bins. -/
def tail5 : TP F i PUnit := do
  waitG i arg2 arg12 arg14 512 inb_S832x128_S64x128_512_0
  waitG i arg2 arg12 arg14 576 inb_S832x128_S64x128_576_0
  waitG i arg2 arg12 arg14 640 inb_S832x128_S64x128_640_0
  waitG i arg2 arg12 arg14 704 inb_S832x128_S64x128_704_0
  waitG i arg2 arg12 arg14 768 inb_S832x128_S64x128_768_0
  let _ : BitVec 32 ← Scf.Loop.for k0_t2_loop k0_t2_ok 0#32 fun t _ => bin i arg11 arg12 arg13 t
  pure ⟨⟩

/-- One region of interest, lane `n` of the fetched buffers, its result copied to `out`. -/
def roi (n : BitVec 32) (out : Memref sig .scVector .hbm S49x128 .f32) (hout : out.view.WordExact) (sem : DmaSems sig S_) : TP F i (BitVec 32) := do
  have h : k0_chk1 (bc n) := (← Prog.lift (TpuEff.assume (k0_chk1 (bc n)) (k0_chk1.dec (bc n)))).down
  let b ← lane i arg5 n (k0_idx1_inb _ h)
  let x1 ← lane i arg6 n (k0_idx2_inb _ h)
  let y1 ← lane i arg7 n (k0_idx3_inb _ h)
  let x2 ← lane i arg8 n (k0_idx4_inb _ h)
  let y2 ← lane i arg9 n (k0_idx5_inb _ h)
  chunks i arg10 arg11 (baseRow b) (scaled y1) (side (scaled y1) (scaled y2)) (scaled x1) (side (scaled x1) (scaled x2))
    (valid (scaled x1) (scaled y1) (scaled x2) (scaled y2))
  gathers i arg2 arg10 arg12 arg14
  tail5 i arg2 arg11 arg12 arg13 arg14
  Prog.lift (.enqueueDma arg13 (.here out) (.dma sem.sem) harg13.wordExact hout ⟨Or.inl rfl, trivial⟩)
  Prog.lift (.waitDma2 sem.sem arg13 out harg13.wordExact hout)
  pure 0#32

end Pieces

/-- Sixteen words of a row of the boxes, and a row of the result, as the copies name them. -/
abbrev boxAt (arg3 : Memref sig .scVector .hbm S5x1024 .f32) (off : Fin 2 → ℕ) (h : ∀ a, off a + S1x16.size a ≤ S5x1024.size a) : Memref sig .scVector .hbm S16 .f32 :=
  (arg3.slice (Rect.unit (s := S5x1024) off S1x16.size h) (fun _ => rfl)).squeeze S16 squeezes_S1x16_S16
abbrev outAt (arg4 : Memref sig .scVector .hbm S1024x49x128 .f32) (off : Fin 3 → ℕ) (h : ∀ a, off a + S1x49x128.size a ≤ S1024x49x128.size a) :
    Memref sig .scVector .hbm S49x128 .f32 :=
  (arg4.slice (Rect.unit (s := S1024x49x128) off S1x49x128.size h) (fun _ => rfl)).squeeze S49x128 squeezes_S1x49x128_S49x128

/-- The tile's program: two groups of sixteen regions. -/
def tec (i : grid0.Coords) (arg2 : Memref sig .scVector .hbm S4096x128 .f32) (harg2 : arg2.IsWhole) (arg3 : Memref sig .scVector .hbm S5x1024 .f32) (harg3 : arg3.IsWhole) (arg4 : Memref sig .scVector .hbm S1024x49x128 .f32) (harg4 : arg4.IsWhole) (arg5 : Memref sig .scVector .vmem S16 .f32) (harg5 : arg5.IsWhole) (arg6 : Memref sig .scVector .vmem S16 .f32) (harg6 : arg6.IsWhole) (arg7 : Memref sig .scVector .vmem S16 .f32) (harg7 : arg7.IsWhole) (arg8 : Memref sig .scVector .vmem S16 .f32) (harg8 : arg8.IsWhole) (arg9 : Memref sig .scVector .vmem S16 .f32) (harg9 : arg9.IsWhole) (arg10 : Memref sig .scVector .vmem S13x64 .i32) (harg10 : arg10.IsWhole) (arg11 : Memref sig .scVector .vmem S832 .f32) (harg11 : arg11.IsWhole) (arg12 : Memref sig .scVector .vmem S832x128 .f32) (harg12 : arg12.IsWhole) (arg13 : Memref sig .scVector .vmem S49x128 .f32) (harg13 : arg13.IsWhole) (arg14 : DmaSems sig S_) (v10_r0 : DmaSems sig S_) (v10_r1 : DmaSems sig S_) (v10_r2 : DmaSems sig S_) (v10_r3 : DmaSems sig S_) (v10_r4 : DmaSems sig S_) (v3451_r5 : DmaSems sig S_) (v10_r6 : DmaSems sig S_) (v10_r7 : DmaSems sig S_) (v10_r8 : DmaSems sig S_) (v10_r9 : DmaSems sig S_) (v10_r10 : DmaSems sig S_) (v3451_r11 : DmaSems sig S_) : TP F i PUnit := do
  fetch i (boxAt arg3 (k0_off1 i 0#32) (k0_off1_inb i 0)) arg5 ((View.wordExact_bits rfl).reshape _ _) harg5 v10_r0
  fetch i (boxAt arg3 (k0_off2 i 0#32) (k0_off2_inb i 0)) arg6 ((View.wordExact_bits rfl).reshape _ _) harg6 v10_r1
  fetch i (boxAt arg3 (k0_off3 i 0#32) (k0_off3_inb i 0)) arg7 ((View.wordExact_bits rfl).reshape _ _) harg7 v10_r2
  fetch i (boxAt arg3 (k0_off4 i 0#32) (k0_off4_inb i 0)) arg8 ((View.wordExact_bits rfl).reshape _ _) harg8 v10_r3
  fetch i (boxAt arg3 (k0_off5 i 0#32) (k0_off5_inb i 0)) arg9 ((View.wordExact_bits rfl).reshape _ _) harg9 v10_r4
  let _ : BitVec 32 ← Scf.Loop.for k0_t1_loop k0_t1_ok 0#32 fun t _ =>
    roi i arg2 arg5 arg6 arg7 arg8 arg9 arg10 arg11 arg12 arg13 harg13 arg14 (Scf.iv 0#32 1#32 t) (outAt arg4 (k0_off22 i t) (k0_off22_inb i t)) ((View.wordExact_bits rfl).reshape _ _) v3451_r5
  fetch i (boxAt arg3 (k0_off1 i 16#32) (k0_off1_inb i 1)) arg5 ((View.wordExact_bits rfl).reshape _ _) harg5 v10_r6
  fetch i (boxAt arg3 (k0_off2 i 16#32) (k0_off2_inb i 1)) arg6 ((View.wordExact_bits rfl).reshape _ _) harg6 v10_r7
  fetch i (boxAt arg3 (k0_off3 i 16#32) (k0_off3_inb i 1)) arg7 ((View.wordExact_bits rfl).reshape _ _) harg7 v10_r8
  fetch i (boxAt arg3 (k0_off4 i 16#32) (k0_off4_inb i 1)) arg8 ((View.wordExact_bits rfl).reshape _ _) harg8 v10_r9
  fetch i (boxAt arg3 (k0_off5 i 16#32) (k0_off5_inb i 1)) arg9 ((View.wordExact_bits rfl).reshape _ _) harg9 v10_r10
  let _ : BitVec 32 ← Scf.Loop.for k0_t3_loop k0_t3_ok 0#32 fun t _ =>
    roi i arg2 arg5 arg6 arg7 arg8 arg9 arg10 arg11 arg12 arg13 harg13 arg14 (Scf.iv 0#32 1#32 t) (outAt arg4 (k0_off39 i t) (k0_off39_inb i t)) ((View.wordExact_bits rfl).reshape _ _) v3451_r11
  pure ⟨⟩

end Cert.Proof.KerI

end
-- ==== Proof.Ideal.Lists.lean ====
module

public import proofs.«01_k».proof.Proof.Ideal.Body

@[expose] public section

noncomputable section

/-! What the chunks leave in the list of row numbers and in the weights: place `p` of the list and of the weights is
    corner `p % 4` of sample `p / 4`, and the thirteen chunks write every place once. -/

namespace Cert.Proof.KerI

open Cert.KernelIdeal Cert.KernelIdeal.Facts₀ Cert.KernelIdeal.Facts
open Idealize.ShloMosaic Idealize.SL.Sem

variable {F : FTy → Type} [FloatOps F] [Named F]
variable [Cert.KernelIdeal.Facts]

/-! ## A scatter's result at one place -/

/-- Steps that each overwrite the places `P k` with `v k`: where `k₀` alone writes, its value stays. -/
theorem foldl_hit {A B K : Type} (P : K → A → Prop) [∀ k a, Decidable (P k a)] (v : K → B) (a : A) (k₀ : K) (h₀ : P k₀ a) :
    ∀ (l : List K) (f : A → B), (∀ k ∈ l, P k a → k = k₀) → (k₀ ∈ l ∨ f a = v k₀) →
      (l.foldl (fun g k => fun j => if P k j then v k else g j) f) a = v k₀ := by
  intro l
  induction l with
  | nil => intro f _ hm; simpa using hm
  | cons x l ih =>
    intro f hu hm
    refine ih _ (fun k hk => hu k (List.mem_cons_of_mem _ hk)) ?_
    by_cases hx : P x a
    · have := hu x List.mem_cons_self hx
      subst this; exact .inr (if_pos hx)
    · rcases hm with hm | hm
      · rcases List.mem_cons.mp hm with rfl | hm
        · exact absurd h₀ hx
        · exact .inl hm
      · exact .inr ((if_neg hx).trans hm)

/-- Where no step writes, what was there stays. -/
theorem foldl_miss {A B K : Type} (P : K → A → Prop) [∀ k a, Decidable (P k a)] (v : K → B) (a : A) :
    ∀ (l : List K) (f : A → B), (∀ k ∈ l, ¬P k a) → (l.foldl (fun g k => fun j => if P k j then v k else g j) f) a = f a := by
  intro l
  induction l with
  | nil => intro f _; rfl
  | cons x l ih =>
    intro f hu
    rw [List.foldl_cons, ih _ fun k hk => hu k (List.mem_cons_of_mem _ hk), if_neg (hu x List.mem_cons_self)]

/-- A lane of a vector of sixteen. -/
abbrev ln (l : Fin 16) : S16.Idx := Shape.ofLane (d := S16.size) l

theorem storeIdx_unfold {s : Shape} {e : EltTy} (f : Vec F s e) (idxs : Fin s.rank → IVec S16 32) (v : Vec F S16 e)
    (h : ∀ a x, (idxs a x).toNat < s.size a) :
    storeIdx f idxs v (fun _ => 1#1) false h
      = (List.finRange 16).foldl (fun g (k : Fin 16) => fun j => if (∀ a, (j a).val = (idxs a (ln k)).toNat) then v (ln k) else g j) f := by
  unfold storeIdx
  refine congrArg (fun g => List.foldl g f (List.finRange 16)) (funext fun g => funext fun k => ?_)
  simp only [if_true, Bool.false_eq_true, if_false]
  rfl

theorem storeIdx_hit {s : Shape} {e : EltTy} (f : Vec F s e) (idxs : Fin s.rank → IVec S16 32) (v : Vec F S16 e)
    (h : ∀ a x, (idxs a x).toNat < s.size a) (j : s.Idx) (l : Fin 16) (hl : ∀ a, (j a).val = (idxs a (ln l)).toNat)
    (hu : ∀ l' : Fin 16, (∀ a, (j a).val = (idxs a (ln l')).toNat) → l' = l) :
    storeIdx f idxs v (fun _ => 1#1) false h j = v (ln l) := by
  rw [storeIdx_unfold]
  exact foldl_hit (fun (k : Fin 16) (j : s.Idx) => ∀ a, (j a).val = (idxs a (ln k)).toNat) (fun k => v (ln k)) j l hl _ f
    (fun k _ hk => hu k hk) (.inl (List.mem_finRange l))

theorem storeIdx_miss {s : Shape} {e : EltTy} (f : Vec F s e) (idxs : Fin s.rank → IVec S16 32) (v : Vec F S16 e)
    (h : ∀ a x, (idxs a x).toNat < s.size a) (j : s.Idx) (hu : ∀ l : Fin 16, ¬∀ a, (j a).val = (idxs a (ln l)).toNat) :
    storeIdx f idxs v (fun _ => 1#1) false h j = f j := by
  rw [storeIdx_unfold]
  exact foldl_miss (fun (k : Fin 16) (j : s.Idx) => ∀ a, (j a).val = (idxs a (ln k)).toNat) (fun k => v (ln k)) j _ f fun k _ => hu k

/-! ## Where the chunks write -/

/-- The first sample of a chunk, as a word. -/
abbrev cW (ch : ℕ) : BitVec 32 := BitVec.ofNat 32 (16 * ch)

theorem posOf_val (ch : Fin 13) (k : Fin 4) (l : Fin 16) :
    (posOf (samp (cW ch.val)) (BitVec.ofNat 32 k.val) (ln l)).toNat = 64 * ch.val + 4 * l.val + k.val := by
  revert ch k l; decide +kernel
theorem colOf_val (ch : Fin 13) (k : Fin 4) (l : Fin 16) :
    (colOf (samp (cW ch.val)) (cW ch.val) (BitVec.ofNat 32 k.val) (ln l)).toNat = 4 * l.val + k.val := by
  revert ch k l; decide +kernel
theorem bc_val (ch : Fin 13) (l : Fin 16) : (bc (BitVec.ofNat 32 ch.val) (ln l)).toNat = ch.val := by
  revert ch l; decide +kernel

/-! ## What the chunks write -/

/-- A region's numbers that its samples are computed from, one in every lane. -/
structure Reg (F : FTy → Type) where
  /-- the table's first row of the region's image -/
  base : IVec S16 32
  by1 : FVec F S16 .f32
  bh : FVec F S16 .f32
  bx1 : FVec F S16 .f32
  bw : FVec F S16 .f32
  rvf : FVec F S16 .f32

/-- Samples' coordinates. -/
def Reg.sy (R : Reg F) (t : IVec S16 32) : FVec F S16 .f32 := coord R.by1 R.bh (phV t) (myV t)
def Reg.sx (R : Reg F) (t : IVec S16 32) : FVec F S16 .f32 := coord R.bx1 R.bw (pwV t) (mxV t)
/-- Corner `k`'s row numbers. -/
def Reg.rows (R : Reg F) (k : ℕ) (t : IVec S16 32) : IVec S16 32 :=
  match k with
  | 0 => rows11 R.base (R.sy t) (R.sx t)
  | 1 => rows12 R.base (R.sy t) (R.sx t)
  | 2 => rows21 R.base (R.sy t) (R.sx t)
  | _ => rows22 R.base (R.sy t) (R.sx t)
/-- Corner `k`'s weights. -/
def Reg.wts (R : Reg F) (k : ℕ) (t : IVec S16 32) : FVec F S16 .f32 :=
  match k with
  | 0 => mulf (mulf (wCell (R.sy t)) (wCell (R.sx t))) (binValid R.by1 R.bh R.bx1 R.bw R.rvf t)
  | 1 => mulf (mulf (wCell (R.sy t)) (wNext (R.sx t))) (binValid R.by1 R.bh R.bx1 R.bw R.rvf t)
  | 2 => mulf (mulf (wNext (R.sy t)) (wCell (R.sx t))) (binValid R.by1 R.bh R.bx1 R.bw R.rvf t)
  | _ => mulf (mulf (wNext (R.sy t)) (wNext (R.sx t))) (binValid R.by1 R.bh R.bx1 R.bw R.rvf t)

/-- The lane of place `p`. -/
abbrev laneOf (p : ℕ) : S16.Idx := ln ⟨p % 64 / 4, by omega⟩
/-- Place `p` of the list and of the weights. -/
def Reg.list (R : Reg F) (p : ℕ) : BitVec 32 := R.rows (p % 4) (samp (cW (p / 64))) (laneOf p)
def Reg.wt (R : Reg F) (p : ℕ) : F .f32 := R.wts (p % 4) (samp (cW (p / 64))) (laneOf p)

/-- Place `p` is written once chunk `ch` is at corner `k`. -/
def DoneAt (ch k p : ℕ) : Prop := p < 64 * ch ∨ (p < 64 * (ch + 1) ∧ p % 4 < k)
/-- The list and the weights once chunk `ch` is at corner `k`. -/
def Reg.Done (R : Reg F) (ch k : ℕ) (L : Vec F S13x64 .i32) (W : Vec F S832 .f32) : Prop :=
  (∀ j : S13x64.Idx, DoneAt ch k (64 * (j 0).val + (j 1).val) → L j = R.list (64 * (j 0).val + (j 1).val))
    ∧ ∀ j : S832.Idx, DoneAt ch k (j 0).val → W j = R.wt (j 0).val

theorem Reg.Done.zero (R : Reg F) (L : Vec F S13x64 .i32) (W : Vec F S832 .f32) : R.Done 0 0 L W :=
  ⟨fun j h => by rcases h with h | ⟨-, h⟩ <;> omega, fun j h => by rcases h with h | ⟨-, h⟩ <;> omega⟩

theorem Reg.Done.next {R : Reg F} {ch : ℕ} {L : Vec F S13x64 .i32} {W : Vec F S832 .f32} (h : R.Done ch 4 L W) : R.Done (ch + 1) 0 L W :=
  ⟨fun j hj => h.1 j (by rcases hj with h | ⟨-, h⟩; · exact .inr ⟨h, Nat.mod_lt _ (by decide)⟩
                         · omega),
   fun j hj => h.2 j (by rcases hj with h | ⟨-, h⟩; · exact .inr ⟨h, Nat.mod_lt _ (by decide)⟩
                         · omega)⟩

/-- A corner's two scatters. -/
theorem Reg.Done.step {R : Reg F} {L : Vec F S13x64 .i32} {W : Vec F S832 .f32} (ch : Fin 13) (k : Fin 4) (hD : R.Done ch.val k.val L W)
    (h : ∀ a x, ((![bc (BitVec.ofNat 32 ch.val), colOf (samp (cW ch.val)) (cW ch.val) (BitVec.ofNat 32 k.val)] : Fin 2 → IVec S16 32) a x).toNat < S13x64.size a)
    (h' : ∀ a x, ((![posOf (samp (cW ch.val)) (BitVec.ofNat 32 k.val)] : Fin 1 → IVec S16 32) a x).toNat < S832.size a) :
    R.Done ch.val (k.val + 1)
      (storeIdx L ![bc (BitVec.ofNat 32 ch.val), colOf (samp (cW ch.val)) (cW ch.val) (BitVec.ofNat 32 k.val)] (R.rows k.val (samp (cW ch.val))) (fun _ => 1#1) false h)
      (storeIdx W ![posOf (samp (cW ch.val)) (BitVec.ofNat 32 k.val)] (R.wts k.val (samp (cW ch.val))) (fun _ => 1#1) false h') := by
  have hk := k.isLt
  constructor
  · intro j hj
    have hj1 : (j 1).val < 64 := (j 1).isLt
    by_cases hc : (j 0).val = ch.val ∧ (j 1).val % 4 = k.val
    · have e : ∀ l' : Fin 16, (∀ a, (j a).val = ((![bc (BitVec.ofNat 32 ch.val), colOf (samp (cW ch.val)) (cW ch.val) (BitVec.ofNat 32 k.val)] : Fin 2 → IVec S16 32) a (ln l')).toNat)
          ↔ (j 0).val = ch.val ∧ (j 1).val = 4 * l'.val + k.val := fun l' => by
        rw [Fin.forall_fin_two]
        change (j 0).val = (bc (BitVec.ofNat 32 ch.val) (ln l')).toNat ∧ (j 1).val = (colOf (samp (cW ch.val)) (cW ch.val) (BitVec.ofNat 32 k.val) (ln l')).toNat ↔ _
        rw [bc_val, colOf_val]
      have e0 : (64 * (j 0).val + (j 1).val) % 4 = k.val := by omega
      have e1 : (64 * (j 0).val + (j 1).val) / 64 = ch.val := by omega
      rw [storeIdx_hit _ _ _ h j ⟨(64 * (j 0).val + (j 1).val) % 64 / 4, by omega⟩ ((e _).mpr ⟨hc.1, by simp only; omega⟩)
        (fun l' hl' => Fin.ext (by have := ((e l').mp hl').2; simp only; omega))]
      unfold Reg.list; rw [e0, e1]
    · rw [storeIdx_miss _ _ _ h j fun l hl => hc ?_]
      · refine hD.1 j ?_
        rcases hj with hj | ⟨hj, hm⟩
        · exact .inl hj
        · by_cases h64 : 64 * (j 0).val + (j 1).val < 64 * ch.val
          · exact .inl h64
          · exact .inr ⟨hj, by omega⟩
      · rw [Fin.forall_fin_two] at hl
        have h0 : (j 0).val = (bc (BitVec.ofNat 32 ch.val) (ln l)).toNat := hl.1
        have h1 : (j 1).val = (colOf (samp (cW ch.val)) (cW ch.val) (BitVec.ofNat 32 k.val) (ln l)).toNat := hl.2
        rw [bc_val] at h0; rw [colOf_val] at h1
        exact ⟨h0, by omega⟩
  · intro j hj
    by_cases hc : (j 0).val / 64 = ch.val ∧ (j 0).val % 4 = k.val
    · have e : ∀ l' : Fin 16, (∀ a, (j a).val = ((![posOf (samp (cW ch.val)) (BitVec.ofNat 32 k.val)] : Fin 1 → IVec S16 32) a (ln l')).toNat)
          ↔ (j 0).val = 64 * ch.val + 4 * l'.val + k.val := fun l' => by
        rw [Fin.forall_fin_one]
        change (j 0).val = (posOf (samp (cW ch.val)) (BitVec.ofNat 32 k.val) (ln l')).toNat ↔ _
        rw [posOf_val]
      rw [storeIdx_hit _ _ _ h' j ⟨(j 0).val % 64 / 4, by omega⟩ ((e _).mpr (by simp only; omega))
        (fun l' hl' => Fin.ext (by have := (e l').mp hl'; simp only; omega))]
      unfold Reg.wt; rw [hc.1, hc.2]
    · rw [storeIdx_miss _ _ _ h' j fun l hl => hc ?_]
      · refine hD.2 j ?_
        rcases hj with hj | ⟨hj, hm⟩
        · exact .inl hj
        · by_cases h64 : (j 0).val < 64 * ch.val
          · exact .inl h64
          · exact .inr ⟨hj, by omega⟩
      · rw [Fin.forall_fin_one] at hl
        have h0 : (j 0).val = (posOf (samp (cW ch.val)) (BitVec.ofNat 32 k.val) (ln l)).toNat := hl
        rw [posOf_val] at h0
        omega

end Cert.Proof.KerI

end
-- ==== Proof.Ideal.Setup.lean ====
module

public import proofs.«01_k».proof.Proof.Ideal.Lists
public import proofs.«01_k».proof.Proof.GatherBatch

@[expose] public section

noncomputable section

/-! The launch's parameters, the tile's buffers, and the rules of the tile's steps on them. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tile -/

section Tile

variable (d : Dev nD) (i : grid0.Coords)

abbrev cV (i : grid0.Coords) : Fin τ.nSC := (i 0).castLE hcore0
abbrev jV (i : grid0.Coords) : Fin τ.nSub := (i 1).castLE hsub0
/-- The tile's thread. -/
abbrev thr : Thread nD τ := V d (cV i) (jV i)
/-- The weakest precondition of a tile's program. -/
abbrev WP {α : Type} (p : TP F i α) (Q : α → sProp (MT nD τ sig (HIx 1) (Elt F) ℕ UU ℕ)) : sProp (MT nD τ sig (HIx 1) (Elt F) ℕ UU ℕ) :=
  wp frame (wpE (defs₀ (F := F)) 𝒱₀ (thr d i) none) Set.univ p Q

/-- The tile's buffers. -/
abbrev mBox (n : Fin 5) : Memref sig .scVector .vmem S16 .f32 :=
  match n with
  | 0 => Memref.whole cc0_scratch0
  | 1 => Memref.whole cc0_scratch1
  | 2 => Memref.whole cc0_scratch2
  | 3 => Memref.whole cc0_scratch3
  | 4 => Memref.whole cc0_scratch4
abbrev mList : Memref sig .scVector .vmem S13x64 .i32 := Memref.whole cc0_scratch5
abbrev mWt : Memref sig .scVector .vmem S832 .f32 := Memref.whole cc0_scratch6
abbrev mRows : Memref sig .scVector .vmem S832x128 .f32 := Memref.whole cc0_scratch7
abbrev mOut : Memref sig .scVector .vmem S49x128 .f32 := Memref.whole cc0_scratch8

abbrev listPts (L : Vec F S13x64 .i32) : sProp 𝕄 := (thr d i).loc cc0_scratch5 ↦{fullShare} L
abbrev wtPts (W : Vec F S832 .f32) : sProp 𝕄 := (thr d i).loc cc0_scratch6 ↦{fullShare} W
abbrev rowsPts (G : Vec F S832x128 .f32) : sProp 𝕄 := (thr d i).loc cc0_scratch7 ↦{fullShare} G
abbrev outPts (B : Vec F S49x128 .f32) : sProp 𝕄 := (thr d i).loc cc0_scratch8 ↦{fullShare} B

/-- A scatter that ends its program. -/
theorem wp_scatter {s : Shape} {e : EltTy} {base : Memref sig .scVector .vmem s e} {idxs : Fin s.rank → IVec S16 32} {v : Vec F S16 e}
    {mask : IVec S16 1} {add : Bool} {h : ∀ a x, (idxs a x).toNat < s.size a} {hs : (base.access (.whole s)).Stores Finset.univ}
    {f : Buf (Elt F) ((base.access (.whole s)).loc (thr d i))} {Q : PUnit → sProp 𝕄} :
    ((base.access (.whole s)).loc (thr d i) ↦[(base.access (.whole s)).set]{fullShare} f)
      ⊢ iprop((((base.access (.whole s)).loc (thr d i) ↦[(base.access (.whole s)).set]{fullShare}
            ((base.access (.whole s)).write (Elt F) f (storeIdx ((base.access (.whole s)).read (Elt F) f) idxs v mask add h) Finset.univ))
          -∗ Q ⟨⟩)
        -∗ WP d i (SparseCore.vectorStoreIdx base idxs v mask add h hs) Q) := by
  have h0 := SparseCore.wp_vectorStoreIdx (defs := defs₀ (F := F)) 𝒱₀ (thr d i) none Set.univ (base := base) (f := f) (idxs := idxs) (v := v)
    (mask := mask) (add := add) (h := h) (hs := hs) (k := fun x => pure x) (Q := Q)
  rw [bind_pure] at h0
  iintro H Hk
  iapply h0 $$ [H]
  · iexact H
  iintro H
  rw [wp_pure]
  imodintro
  iapply Hk; iexact H

/-- Both scatters of one corner. -/
theorem wp_corner (rowc col rows wpos : IVec S16 32) (w : FVec F S16 .f32) (h : k0_chk2 rowc col) (h' : k0_chk3 wpos)
    (L : Vec F S13x64 .i32) (W : Vec F S832 .f32) (Q : PUnit → sProp 𝕄) :
    iprop((listPts d i L ∗ wtPts d i W)
        ∗ ((listPts d i (storeIdx L ![rowc, col] rows (fun _ => 1#1) false (k0_idx6_inb rowc col h))
            ∗ wtPts d i (storeIdx W ![wpos] w (fun _ => 1#1) false (k0_idx7_inb wpos h'))) -∗ Q ⟨⟩))
      ⊢ WP d i (corner i mList mWt rowc col rows wpos w) Q := by
  unfold corner
  iintro ⟨⟨HL, HW⟩, Hk⟩
  iapply (wp_assume 𝒱₀ (thr d i) none Set.univ h)
  have hs : ((mList).access (.whole S13x64)).set = Finset.univ := Memref.set_access_whole _
  have hs' : ((mWt).access (.whole S832)).set = Finset.univ := Memref.set_access_whole _
  iapply (SparseCore.wp_vectorStoreIdx (defs := defs₀ (F := F)) 𝒱₀ (thr d i) none Set.univ (base := mList) (f := L)) $$ [HL]
  · rw [hs]; iexact HL
  iintro HL
  iapply (wp_assume 𝒱₀ (thr d i) none Set.univ h')
  iapply (wp_scatter d i (base := mWt) (f := W)) $$ [HW]
  · rw [hs']; iexact HW
  iintro HW
  iapply Hk
  have hw : ∀ f w, ((mList).access (.whole S13x64)).write (Elt F) f w Finset.univ = w := Memref.write_access_whole_univ (Elt F) cc0_scratch5
  have hw' : ∀ f w, ((mWt).access (.whole S832)).write (Elt F) f w Finset.univ = w := Memref.write_access_whole_univ (Elt F) cc0_scratch6
  have hr : ((mList).access (.whole S13x64)).read (Elt F) L = L := Memref.read_access_whole (Elt F) cc0_scratch5 L
  have hr' : ((mWt).access (.whole S832)).read (Elt F) W = W := Memref.read_access_whole (Elt F) cc0_scratch6 W
  rw [hs, hs', hw, hw', hr, hr']
  isplitl [HL]
  · iexact HL
  · iexact HW

end Tile

end Cert.Proof.KerI

end
-- ==== Proof.Ideal.Chunks.lean ====
module

public import proofs.«01_k».proof.Proof.Ideal.Setup

@[expose] public section

noncomputable section

/-! The thirteen chunks fill the list of row numbers and the weights. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (i : grid0.Coords)

/-- The list and the weights once chunk `ch` is at corner `k`. -/
def Lists (R : Reg F) (ch k : ℕ) : sProp 𝕄 := iprop(∃ L W, ⌜R.Done ch k L W⌝ ∗ listPts d i L ∗ wtPts d i W)

theorem lane_eq (x : S16.Idx) : ∃ l : Fin 16, x = ln l :=
  ⟨x 0, funext fun a => by obtain rfl : a = 0 := Fin.eq_zero a; exact Fin.ext rfl⟩

theorem chk2_ok (ch : Fin 13) (k : Fin 4) : k0_chk2 (bc (BitVec.ofNat 32 ch.val)) (colOf (samp (cW ch.val)) (cW ch.val) (BitVec.ofNat 32 k.val)) := by
  unfold k0_chk2
  rw [Fin.forall_fin_two]
  refine ⟨fun x => ?_, fun x => ?_⟩ <;> obtain ⟨l, rfl⟩ := lane_eq x
  · exact (bc_val ch l).trans_lt ch.isLt
  · refine (colOf_val ch k l).trans_lt ?_
    change 4 * l.val + k.val < 64
    omega

theorem chk3_ok (ch : Fin 13) (k : Fin 4) : k0_chk3 (posOf (samp (cW ch.val)) (BitVec.ofNat 32 k.val)) := by
  unfold k0_chk3
  rw [Fin.forall_fin_one]
  intro x
  obtain ⟨l, rfl⟩ := lane_eq x
  refine (posOf_val ch k l).trans_lt ?_
  change 64 * ch.val + 4 * l.val + k.val < 832
  omega

/-- One corner of one chunk. -/
theorem wp_corner_step (R : Reg F) (ch : Fin 13) (k : Fin 4) (Q : PUnit → sProp 𝕄) (hQ : Lists d i R ch.val (k.val + 1) ⊢ Q ⟨⟩) :
    Lists d i R ch.val k.val
      ⊢ WP d i (corner i mList mWt (bc (BitVec.ofNat 32 ch.val)) (colOf (samp (cW ch.val)) (cW ch.val) (BitVec.ofNat 32 k.val))
          (R.rows k.val (samp (cW ch.val))) (posOf (samp (cW ch.val)) (BitVec.ofNat 32 k.val)) (R.wts k.val (samp (cW ch.val)))) Q := by
  unfold Lists
  iintro ⟨%L, %W, %hD, HL, HW⟩
  iapply (wp_corner d i _ _ _ _ _ (chk2_ok ch k) (chk3_ok ch k) L W)
  isplitl [HL HW]
  · isplitl [HL] <;> iassumption
  iintro ⟨HL, HW⟩
  iapply hQ
  unfold Lists
  iexists _, _
  isplitr
  · ipureintro; exact hD.step ch k (k0_idx6_inb _ _ (chk2_ok ch k)) (k0_idx7_inb _ (chk3_ok ch k))
  isplitl [HL] <;> iassumption

theorem Lists.next (R : Reg F) (ch : ℕ) : Lists d i R ch 4 ⊢ Lists d i R (ch + 1) 0 := by
  unfold Lists
  iintro ⟨%L, %W, %hD, HL, HW⟩
  iexists L, W
  isplitr; · ipureintro; exact hD.next
  isplitl [HL] <;> iassumption

/-- One chunk. -/
theorem wp_chunk (R : Reg F) (ch : Fin 13) (Q : PUnit → sProp 𝕄) (hQ : Lists d i R (ch.val + 1) 0 ⊢ Q ⟨⟩) :
    Lists d i R ch.val 0
      ⊢ WP d i (chunk i mList mWt R.base R.by1 R.bh R.bx1 R.bw R.rvf (cW ch.val) (BitVec.ofNat 32 ch.val)) Q := by
  unfold chunk WP
  rw [wp_bind]
  refine wp_corner_step d i R ch 0 _ ?_
  rw [wp_bind]
  refine wp_corner_step d i R ch 1 _ ?_
  rw [wp_bind]
  refine wp_corner_step d i R ch 2 _ ?_
  exact wp_corner_step d i R ch 3 _ ((Lists.next d i R ch.val).trans hQ)

/-- All the chunks. -/
theorem wp_chunks (R : Reg F) (Q : PUnit → sProp 𝕄) (hQ : Lists d i R 13 0 ⊢ Q ⟨⟩) :
    Lists d i R 0 0 ⊢ WP d i (chunks i mList mWt R.base R.by1 R.bh R.bx1 R.bw R.rvf) Q := by
  unfold chunks WP
  rw [wp_bind]; refine wp_chunk d i R 0 _ ?_
  rw [wp_bind]; refine wp_chunk d i R 1 _ ?_
  rw [wp_bind]; refine wp_chunk d i R 2 _ ?_
  rw [wp_bind]; refine wp_chunk d i R 3 _ ?_
  rw [wp_bind]; refine wp_chunk d i R 4 _ ?_
  rw [wp_bind]; refine wp_chunk d i R 5 _ ?_
  rw [wp_bind]; refine wp_chunk d i R 6 _ ?_
  rw [wp_bind]; refine wp_chunk d i R 7 _ ?_
  rw [wp_bind]; refine wp_chunk d i R 8 _ ?_
  rw [wp_bind]; refine wp_chunk d i R 9 _ ?_
  rw [wp_bind]; refine wp_chunk d i R 10 _ ?_
  rw [wp_bind]; refine wp_chunk d i R 11 _ ?_
  exact wp_chunk d i R 12 _ hQ

end Tile

end Cert.Proof.KerI

end
-- ==== Proof.Ideal.Gathers.lean ====
module

public import proofs.«01_k».proof.Proof.Ideal.Chunks
public import Idealize.ShloMosaic.Lib.ValueIdxCore

@[expose] public section

noncomputable section

/-! The thirteen gathers of one box, and the waits for them. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx (ix2)

section Tile

variable (d : Dev nD) (i : grid0.Coords)

/-- The transfers' counters. -/
abbrev EC : UEmb Counters (MT nD τ sig (HIx 1) (Elt F) ℕ UU ℕ) := (UEmb.inr : UEmb Counters UU).trans uEmb

/-- The table, as a tile names it. -/
abbrev mTab : Memref sig .scVector .hbm S4096x128 .f32 := Memref.whole main_v1_scv
abbrev semG : DmaSems sig S_ := cc0_scratch9
abbrev tabPts (q : PosShare TreeShare) (T : Vec F S4096x128 .f32) : sProp 𝕄 := (thr d i).loc main_v1_scv ↦{q} T

abbrev hg : S4096x128.Gathers 0 S64x128 := gathers_S4096x128_S64x128

/-- The rows the list names. -/
def gathered (T : Vec F S4096x128 .f32) (L : Vec F S13x64 .i32) : Vec F S832x128 .f32 := fun x =>
  T (ix2 ⟨(L (ix2 ⟨(x 0).val / 64, (Nat.div_lt_iff_lt_mul (by decide)).mpr (x 0).isLt⟩ ⟨(x 0).val % 64, Nat.mod_lt _ (by decide)⟩)).toNat % 4096,
    Nat.mod_lt _ (by decide)⟩ (x 1))

theorem rows_inb (j : Fin 13) : ∀ a, (![64 * j.val, 0] : Fin 2 → ℕ) a + S64x128.size a ≤ S832x128.size a := by
  revert j; decide
theorem list_inb (j : Fin 13) : ∀ a, (![j.val, 0] : Fin 2 → ℕ) a + S1x64.size a ≤ S13x64.size a := by
  revert j; decide

abbrev rowsJ (j : Fin 13) := rowsAt mRows (64 * j.val) (rows_inb j)
abbrev listJ (j : Fin 13) := listAt mList j.val (list_inb j)

theorem listJ_emb : ∀ (j : Fin 13) (k : Fin 64), (listJ j).view.emb (S64.rowMajor.symm k) = ix2 j k := by
  decide +kernel

theorem listJ_in (L : Vec F S13x64 .i32) (hL : ∀ x, (L x).toNat < 4096) (j : Fin 13) :
    ∀ x, ((listJ j).view.read (Elt F) L x).toNat < S4096x128.size hg.axis := fun _ => hL _

/-- What chunk `j`'s row `r` hands back. -/
abbrev back (q : PosShare TreeShare) (T : Vec F S4096x128 .f32) (G : Vec F S832x128 .f32) (L : Vec F S13x64 .i32)
    (hL : ∀ x, (L x).toNat < 4096) (j : Fin 13) (r : Fin 64) : sProp 𝕄 :=
  Gather.rowBack (thr d i) (tableAll mTab) (rowsJ j) hg (listJ j) rfl (pieceOf q 13 (by decide) j) fullShare T G L (listJ_in L hL j) (by decide) r

/-- The same, by the number of the row among all of them. -/
def backs (q : PosShare TreeShare) (T : Vec F S4096x128 .f32) (G : Vec F S832x128 .f32) (L : Vec F S13x64 .i32)
    (hL : ∀ x, (L x).toNat < 4096) (t : Fin 832) : sProp 𝕄 :=
  back d i q T G L hL ⟨t.val / 64, (Nat.div_lt_iff_lt_mul (by decide)).mpr t.isLt⟩ ⟨t.val % 64, Nat.mod_lt _ (by decide)⟩

theorem backs_at (q : PosShare TreeShare) (T : Vec F S4096x128 .f32) (G : Vec F S832x128 .f32) (L : Vec F S13x64 .i32)
    (hL : ∀ x, (L x).toNat < 4096) (j : Fin 13) (r : Fin 64) (h : 64 * j.val + r.val < 832) :
    backs d i q T G L hL ⟨64 * j.val + r.val, h⟩ = back d i q T G L hL j r := by
  unfold backs
  have h1 : (⟨(64 * j.val + r.val) / 64, (Nat.div_lt_iff_lt_mul (by decide)).mpr h⟩ : Fin 13) = j := Fin.ext (by simp only []; omega)
  have h2 : (⟨(64 * j.val + r.val) % 64, Nat.mod_lt _ (by decide)⟩ : Fin 64) = r := Fin.ext (by simp only []; omega)
  simp only [h1, h2]

/-- The batch of all the gathers' rows. -/
abbrev GBatch (ι : HIx 1) (q : PosShare TreeShare) (T : Vec F S4096x128 .f32) (G : Vec F S832x128 .f32) (L : Vec F S13x64 .i32)
    (hL : ∀ x, (L x).toNat < 4096) (b u : ℕ) : sProp 𝕄 :=
  Transfers.Batch EC (thr d i) (.dma semG.sem) ι 4096 (backs d i q T G L hL) b u

theorem row_credit (j : Fin 13) (r : Fin 64) :
    ((rowsJ j).slice (S64x128.rowRect hg.axis' r) (S64x128.stride_rowRect hg.axis' r)).view.dmaCredit = 4096 := by
  revert j r; decide +kernel

theorem wp_gath (ι : HIx 1) (j : Fin 13) (q : PosShare TreeShare) (T : Vec F S4096x128 .f32) (G : Vec F S832x128 .f32) (L : Vec F S13x64 .i32)
    (hL : ∀ x, (L x).toNat < 4096) {α : Type} (k : PUnit → TP F i α) (Q : α → sProp 𝕄) :
    iprop(((tableAll mTab).view.loc (thr d i) ↦[(tableAll mTab).view.set]{pieceOf q 13 (by decide) j} T)
        ∗ ((rowsJ j).view.loc (thr d i) ↦[(rowsJ j).view.set]{fullShare} G)
        ∗ ((listJ j).view.loc (thr d i) ↦[(listJ j).view.set]{fullShare} L)
        ∗ GBatch d i ι q T G L hL (64 * j.val) 0)
      ⊢ iprop((GBatch d i ι q T G L hL (64 * j.val + 64) 0 -∗ WP d i (k ⟨⟩) Q)
        -∗ WP d i (gath i mTab mList mRows semG j.val (64 * j.val) (list_inb j) (rows_inb j) >>= k) Q) := by
  have hb : 64 * j.val + S64x128.size hg.axis' ≤ 832 := by have := j.isLt; change 64 * j.val + 64 ≤ 832; omega
  have hD : ∀ r : Fin (S64x128.size hg.axis'), Gather.rowBack (thr d i) (tableAll mTab) (rowsJ j) hg (listJ j) rfl (pieceOf q 13 (by decide) j) fullShare T G L (listJ_in L hL j) (by decide) r
      ⊢ backs d i q T G L hL ⟨64 * j.val + r.val, by omega⟩ := fun r => Entails.of_eq (backs_at d i q T G L hL j r _).symm
  have h := Gather.wp_gatherBatch (defs := defs₀ (F := F)) EC 𝒱₀ (thr d i) none (src := tableAll mTab) (dst := rowsJ j) (hg := hg) (offs := listJ j) (hn := rfl)
    (sem := semG.sem) (hp := rfl) (hsrc := View.wordExact_bits rfl) (he := rfl) (hsp := Or.inl rfl) (hr := by decide) (k := k) (Q := Q) (q := pieceOf q 13 (by decide) j) (qo := fullShare) (fs := T) (fd := G) (fo := L) (b := 64 * j.val) (u := 0)
    ι 4096 (row_credit j) (by decide) (listJ_in L hL j) hb (Nat.zero_le _) hD
  exact h

theorem block_credit (j : Fin 13) : (rowsJ j).view.dmaCredit = 64 * 4096 := by
  revert j; decide +kernel

/-- A wait that is not the last. -/
theorem wp_waitG (ι : HIx 1) (j : Fin 13) (u : ℕ) (hu : u + 64 * 4096 ≤ 4096 * 832) (q : PosShare TreeShare) (T : Vec F S4096x128 .f32) (G : Vec F S832x128 .f32) (L : Vec F S13x64 .i32)
    (hL : ∀ x, (L x).toNat < 4096) (O : CellTallies nD τ sig (HIx 1)) (W : Waits sig (HIx 1)) {α : Type} (k : PUnit → TP F i α) (Q : α → sProp 𝕄) :
    iprop(GBatch d i ι q T G L hL 832 u ∗ owes (thr d i) O W ∗ MayWait (thr d i) (.dma semG.sem) ι O)
      ⊢ iprop((iprop(GBatch d i ι q T G L hL 832 (u + 64 * 4096) ∗ owes (thr d i) O (insert (SemLoc.dma semG.sem, ι) W)) -∗ WP d i (k ⟨⟩) Q)
        -∗ WP d i (waitG i mTab mRows semG (64 * j.val) (rows_inb j) >>= k) Q) := by
  unfold waitG
  exact Transfers.wp_waitBatchMulO EC 𝒱₀ (thr d i) none (k := k) ι 64 (block_credit j) hu

/-- The last wait. -/
theorem wp_waitLast (ι : HIx 1) (u : ℕ) (hu : u + 64 * 4096 = 4096 * 832) (q : PosShare TreeShare) (T : Vec F S4096x128 .f32) (G : Vec F S832x128 .f32) (L : Vec F S13x64 .i32)
    (hL : ∀ x, (L x).toNat < 4096) (O : CellTallies nD τ sig (HIx 1)) (W : Waits sig (HIx 1)) {α : Type} (k : PUnit → TP F i α) (Q : α → sProp 𝕄) :
    iprop(GBatch d i ι q T G L hL 832 u ∗ owes (thr d i) O W ∗ MayWait (thr d i) (.dma semG.sem) ι O)
      ⊢ iprop((iprop(bigSep Finset.univ (backs d i q T G L hL) ∗ semVal (thr d i, .dma semG.sem) 0 ∗ owes (thr d i) O (insert (SemLoc.dma semG.sem, ι) W)) -∗ WP d i (k ⟨⟩) Q)
        -∗ WP d i (waitG i mTab mRows semG (64 * (12 : Fin 13).val) (rows_inb 12) >>= k) Q) := by
  unfold waitG
  exact Transfers.wp_waitBatchAllO EC 𝒱₀ (thr d i) none (k := k) ι (block_credit 12) (by decide) hu

end Tile

end Cert.Proof.KerI

end
-- ==== Proof.Ideal.Drain.lean ====
module

public import proofs.«01_k».proof.Proof.Ideal.Gathers

@[expose] public section

noncomputable section

/-! The gathers of one box split the buffers into chunks, and give them back whole. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx (ix2)

section Tile

variable (d : Dev nD) (i : grid0.Coords)

theorem rdiv : 13 ∣ S832x128.size 0 := ⟨64, rfl⟩
theorem ldiv : 13 ∣ S13x64.size 0 := ⟨1, rfl⟩

theorem rowsJ_set (j : Fin 13) : (rowsJ j).view.set = (Rect.part (s := S832x128) (a₀ := 0) rdiv j).set := by
  refine (View.set_slice_whole (cc0_scratch7 : Ref sig .scVector) _).trans (congrArg (fun r : Rect _ => r.set) ?_)
  unfold Rect.part Rect.block
  congr 1 <;> funext a
  · match a with
    | 0 => simp [Shape.partIx, Shape.partSize, Nat.mul_comm]
    | 1 => simp [Shape.partIx, Shape.partSize]
  · match a with
    | 0 => simp [Shape.partSize]
    | 1 => simp [Shape.partSize]

theorem listJ_set (j : Fin 13) : (listJ j).view.set = (Rect.part (s := S13x64) (a₀ := 0) ldiv j).set := by
  refine (View.set_reshape _ _).trans ((View.set_slice_whole (cc0_scratch5 : Ref sig .scVector) _).trans (congrArg (fun r : Rect _ => r.set) ?_))
  unfold Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem rowsPts_blocks (G : Vec F S832x128 .f32) :
    rowsPts d i G = bigSep Finset.univ fun j : Fin 13 => ((rowsJ j).view.loc (thr d i) ↦[(rowsJ j).view.set]{fullShare} G : sProp 𝕄) := by
  have hd : ∀ j ∈ (Finset.univ : Finset (Fin 13)), ∀ j' ∈ (Finset.univ : Finset (Fin 13)), j ≠ j' → Disjoint (rowsJ j).view.set (rowsJ j').view.set :=
    fun j _ j' _ h => by rw [rowsJ_set, rowsJ_set]; exact Rect.part_disjoint rdiv h
  have hc : (Finset.univ : Finset (Fin 13)).biUnion (fun j => (rowsJ j).view.set) = Finset.univ :=
    (Finset.biUnion_congr rfl fun j _ => rowsJ_set j).trans (Rect.biUnion_part rdiv)
  refine Eq.trans ?_ (pointsTo_biUnion Finset.univ (ℓ := (thr d i).loc cc0_scratch7) (fun j => (rowsJ j).view.set) hd)
  rw [hc]

theorem listPts_blocks (L : Vec F S13x64 .i32) :
    listPts d i L = bigSep Finset.univ fun j : Fin 13 => ((listJ j).view.loc (thr d i) ↦[(listJ j).view.set]{fullShare} L : sProp 𝕄) := by
  have hd : ∀ j ∈ (Finset.univ : Finset (Fin 13)), ∀ j' ∈ (Finset.univ : Finset (Fin 13)), j ≠ j' → Disjoint (listJ j).view.set (listJ j').view.set :=
    fun j _ j' _ h => by rw [listJ_set, listJ_set]; exact Rect.part_disjoint ldiv h
  have hc : (Finset.univ : Finset (Fin 13)).biUnion (fun j => (listJ j).view.set) = Finset.univ :=
    (Finset.biUnion_congr rfl fun j _ => listJ_set j).trans (Rect.biUnion_part ldiv)
  refine Eq.trans ?_ (pointsTo_biUnion Finset.univ (ℓ := (thr d i).loc cc0_scratch5) (fun j => (listJ j).view.set) hd)
  rw [hc]

theorem tableAll_set : (tableAll mTab).view.set = Finset.univ := by
  refine (View.set_slice_whole (main_v1_scv : Ref sig .scVector) _).trans ?_
  ext x
  simp only [Finset.mem_univ, iff_true]
  exact Rect.mem_set_unit.mpr fun a => by
    match a with
    | 0 => exact ⟨Nat.zero_le _, by have h : (x 0).val < 4096 := (x 0).isLt; simpa using h⟩
    | 1 => exact ⟨Nat.zero_le _, by have h : (x 1).val < 128 := (x 1).isLt; simpa using h⟩

theorem tabPts_pieces (q : PosShare TreeShare) (T : Vec F S4096x128 .f32) :
    tabPts d i q T = bigSep Finset.univ fun j : Fin 13 =>
      ((tableAll mTab).view.loc (thr d i) ↦[(tableAll mTab).view.set]{pieceOf q 13 (by decide) j} T : sProp 𝕄) := by
  refine Eq.trans ?_ (pointsTo_piecesOf (ℓ := (thr d i).loc main_v1_scv) (tableAll mTab).view.set T (by decide : 0 < 13) q)
  rw [tableAll_set]

/-- What a chunk's gather leaves is the chunk of what all of them gather. -/
theorem block_value (T : Vec F S4096x128 .f32) (G : Vec F S832x128 .f32) (L : Vec F S13x64 .i32) (hL : ∀ x, (L x).toNat < 4096) (j : Fin 13) :
    ∀ x ∈ (rowsJ j).view.set, (rowsJ j).view.write (Elt F) G
      (fun y => (tableAll mTab).view.read (Elt F) T (hg.idx (SparseCore.rows ((listJ j).view.read (Elt F) L) rfl (listJ_in L hL j)) y)) Finset.univ x = gathered T L x := by
  intro x hx
  obtain ⟨y, -, rfl⟩ := Finset.mem_map.mp hx
  rw [View.write_emb_of_mem _ _ (Finset.mem_univ y)]
  have hy : (y 0).val < 64 := (y 0).isLt
  have hi : (ix2 ⟨(((rowsJ j).view.emb y) 0).val / 64, (Nat.div_lt_iff_lt_mul (by decide)).mpr (((rowsJ j).view.emb y) 0).isLt⟩
      ⟨(((rowsJ j).view.emb y) 0).val % 64, Nat.mod_lt _ (by decide)⟩ : S13x64.Idx) = (listJ j).view.emb (S64.rowMajor.symm (y 0)) := by
    refine Eq.trans ?_ (listJ_emb j (y 0)).symm
    have e : (((rowsJ j).view.emb y) 0).val = 64 * j.val + 1 * (y 0).val := rfl
    congr 1 <;> refine Fin.ext ?_
    · change (((rowsJ j).view.emb y) 0).val / 64 = j.val; omega
    · change (((rowsJ j).view.emb y) 0).val % 64 = (y 0).val; omega
  change T ((tableAll mTab).view.emb (hg.idx (SparseCore.rows ((listJ j).view.read (Elt F) L) rfl (listJ_in L hL j)) y)) = T (ix2 _ _)
  refine congrArg T (funext fun a => ?_)
  match a with
  | ⟨0, _⟩ =>
    refine Fin.ext ?_
    refine Eq.trans ?_ (congrArg (fun z : S13x64.Idx => (L z).toNat % 4096) hi).symm
    change 0 + 1 * (hg.idx (SparseCore.rows ((listJ j).view.read (Elt F) L) rfl (listJ_in L hL j)) y hg.axis).val = _
    rw [Shape.Gathers.idx_axis, Nat.zero_add, Nat.one_mul]
    exact (Nat.mod_eq_of_lt (hL _)).symm
  | ⟨1, _⟩ =>
    refine Fin.ext ?_
    change 0 + 1 * (hg.idx (SparseCore.rows ((listJ j).view.read (Elt F) L) rfl (listJ_in L hL j)) y 1).val = 0 + 1 * (y 1).val
    rw [Nat.zero_add, Nat.one_mul, Nat.zero_add, Nat.one_mul]
    rfl

theorem join_block (q : PosShare TreeShare) (T : Vec F S4096x128 .f32) (G : Vec F S832x128 .f32) (L : Vec F S13x64 .i32) (hL : ∀ x, (L x).toNat < 4096) (j : Fin 13) :
    bigSep Finset.univ (fun r : Fin 64 => back d i q T G L hL j r)
      ⊢ iprop((((rowsJ j).view.loc (thr d i) ↦[(rowsJ j).view.set]{fullShare} (gathered T L))
        ∗ ((listJ j).view.loc (thr d i) ↦[(listJ j).view.set]{fullShare} L))
        ∗ ((tableAll mTab).view.loc (thr d i) ↦[(tableAll mTab).view.set]{pieceOf q 13 (by decide) j} T)) := by
  have hR := pointsTo_rows_write (Ix := HIx 1) (Name := ℕ) (U := UU) (Lvl := ℕ) (Val := Elt F) (thr d i) (rowsJ j).view hg.axis' G
    (fun r y => (tableAll mTab).view.read (Elt F) T (hg.rowIdx (SparseCore.rows ((listJ j).view.read (Elt F) L) rfl (listJ_in L hL j) r) y))
    (fun y => (tableAll mTab).view.read (Elt F) T (hg.idx (SparseCore.rows ((listJ j).view.read (Elt F) L) rfl (listJ_in L hL j)) y))
    (fun r y => congrArg ((tableAll mTab).view.read (Elt F) T) (Shape.Gathers.idx_rowRect_emb hg _ r y).symm)
  rw [pointsTo_congr (block_value T G L hL j)] at hR
  have hE := pointsTo_entries (Ix := HIx 1) (Name := ℕ) (U := UU) (Lvl := ℕ) (Val := Elt F) (thr d i) (listJ j).view (fun r : Fin 64 => S64.rowMajor.symm r) S64.rowMajor.symm.bijective fullShare L
  have hT := pointsTo_piecesOf (Ix := HIx 1) (Name := ℕ) (U := UU) (Lvl := ℕ) (Val := Elt F) (ℓ := (tableAll mTab).view.loc (thr d i)) (tableAll mTab).view.set T (by decide : 0 < 64) (pieceOf q 13 (by decide) j)
  refine (Transfers.bigSep_sep_out _ _ _).trans (BI.sep_mono ((Transfers.bigSep_sep_out _ _ _).trans (BI.sep_mono ?_ ?_)) ?_)
  · exact hR
  · exact Entails.of_eq hE.symm
  · exact Entails.of_eq hT.symm

theorem backs_blocks (q : PosShare TreeShare) (T : Vec F S4096x128 .f32) (G : Vec F S832x128 .f32) (L : Vec F S13x64 .i32) (hL : ∀ x, (L x).toNat < 4096) :
    bigSep Finset.univ (backs d i q T G L hL) = bigSep Finset.univ fun j : Fin 13 => bigSep Finset.univ fun r : Fin 64 => back d i q T G L hL j r := by
  rw [BI.bigSep_univ_equiv (finProdFinEquiv (m := 13) (n := 64)), BI.bigSep_univ_prod]
  refine BI.bigSep_congr fun j _ => BI.bigSep_congr fun r _ => ?_
  rw [← backs_at d i q T G L hL j r (by have := j.isLt; have := r.isLt; omega)]
  exact congrArg _ (Fin.ext (Nat.add_comm _ _))

/-- All the gathers' rows, handed back, are the three buffers whole. -/
theorem join_all (q : PosShare TreeShare) (T : Vec F S4096x128 .f32) (G : Vec F S832x128 .f32) (L : Vec F S13x64 .i32) (hL : ∀ x, (L x).toNat < 4096) :
    bigSep Finset.univ (backs d i q T G L hL) ⊢ iprop((rowsPts d i (gathered T L) ∗ listPts d i L) ∗ tabPts d i q T) := by
  rw [backs_blocks, rowsPts_blocks, listPts_blocks, tabPts_pieces]
  refine (BI.bigSep_mono fun j _ => join_block d i q T G L hL j).trans ?_
  exact (Transfers.bigSep_sep_out _ _ _).trans (BI.sep_mono (Transfers.bigSep_sep_out _ _ _) (BI.Entails.refl _))

end Tile

end Cert.Proof.KerI

end
-- ==== Proof.Ideal.Phase.lean ====
module

public import proofs.«01_k».proof.Proof.Ideal.Drain

@[expose] public section

noncomputable section

/-! The gathers of one box in order, and the waits for them. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (i : grid0.Coords)

/-- A step's triple, beside what it leaves alone. -/
theorem framed {α : Type} {p : TP F i α} {P R : sProp 𝕄} {P' : α → sProp 𝕄} {Q : α → sProp 𝕄} (h : P ⊢ WP d i p P') (hQ : ∀ a, iprop(P' a ∗ R) ⊢ Q a) :
    iprop(P ∗ R) ⊢ WP d i p Q :=
  (BI.sep_mono_l h).trans ((wp_frame_r frame _ Set.univ).trans (wp_mono frame _ Set.univ hQ))

theorem wp_ret {α : Type} {a : α} {Q : α → sProp 𝕄} : Q a ⊢ WP d i (pure a) Q := by
  unfold WP; rw [wp_pure]; iintro H; imodintro; iexact H

variable (O : CellTallies nD τ sig (HIx 1)) (W₀ : Waits sig (HIx 1))

/-- The tile's debts, and that it may wait: what it has waited for beyond `W₀` are its own transfers. -/
def Duty : sProp 𝕄 :=
  iprop(Transfers.MayWaits (thr d i) (none : HIx 1) O ∗ ∃ W', ⌜∀ p ∈ W', p ∈ W₀ ∨ p.2 = none⌝ ∗ owes (thr d i) O W')

variable (q : PosShare TreeShare) (T : Vec F S4096x128 .f32) (G : Vec F S832x128 .f32) (L : Vec F S13x64 .i32) (hL : ∀ x, (L x).toNat < 4096)

instance (t : Fin 832) : Storable (upEmb : UEmb _ 𝕄) (backs d i q T G L hL t) := by
  unfold backs; infer_instance

/-- What chunk `j`'s gather takes. -/
def piece (j : Fin 13) : sProp 𝕄 :=
  iprop(((tableAll mTab).view.loc (thr d i) ↦[(tableAll mTab).view.set]{pieceOf q 13 (by decide) j} T)
    ∗ ((rowsJ j).view.loc (thr d i) ↦[(rowsJ j).view.set]{fullShare} G)
    ∗ ((listJ j).view.loc (thr d i) ↦[(listJ j).view.set]{fullShare} L))

/-- The first `j` gathers are issued. -/
def Issued (j : ℕ) : sProp 𝕄 := iprop(GBatch d i none q T G L hL (64 * j) 0 ∗ bigSep (Transfers.pending (n := 13) j) (piece d i q T G L) ∗ Duty d i O W₀)

/-- Before the first: the buffers whole, the table's share, the semaphore at zero. -/
theorem issued_zero :
    iprop((((rowsPts d i G ∗ listPts d i L) ∗ tabPts d i q T) ∗ semVal (thr d i, .dma semG.sem) 0) ∗ Duty d i O W₀) ⊢ |={Set.univ}=> Issued d i O W₀ q T G L hL 0 := by
  rw [rowsPts_blocks, listPts_blocks, tabPts_pieces]
  iintro ⟨⟨⟨⟨HR, HL⟩, HT⟩, Hs⟩, HD⟩
  imod (Transfers.batch_alloc' EC (thr d i) (none : HIx 1) 4096 (backs d i q T G L hL)) $$ Hs with Hb
  imodintro
  unfold Issued
  isplitl [Hb]; · iexact Hb
  rw [Transfers.pending_zero]
  isplitr [HD]
  swap; · iexact HD
  unfold piece
  iapply (Transfers.bigSep_sep_in _ _ _)
  isplitl [HT]; · iexact HT
  iapply (Transfers.bigSep_sep_in _ _ _)
  isplitl [HR]; · iexact HR
  iexact HL

theorem wp_issue (j : Fin 13) (Q : PUnit → sProp 𝕄) (hQ : Issued d i O W₀ q T G L hL (j.val + 1) ⊢ Q ⟨⟩) :
    Issued d i O W₀ q T G L hL j.val ⊢ WP d i (gath i mTab mList mRows semG j.val (64 * j.val) (list_inb j) (rows_inb j)) Q := by
  have h := wp_gath d i none j q T G L hL (fun x => pure x) Q
  rw [bind_pure] at h
  unfold Issued at hQ ⊢
  rw [Transfers.bigSep_pending_step (piece d i q T G L) j.val j.isLt]
  iintro ⟨Hb, ⟨Hp, Hr⟩, HD⟩
  unfold piece
  icases Hp with ⟨HT, HR, HL⟩
  iapply h $$ [HT HR HL Hb]
  · isplitl [HT]; · iexact HT
    isplitl [HR]; · iexact HR
    isplitl [HL]; · iexact HL
    iexact Hb
  iintro Hb
  iapply wp_ret
  iapply hQ
  isplitl [Hb]; · iexact Hb
  isplitl [Hr]; · iexact Hr
  iexact HD

/-- All the gathers are issued, and `u` units of their credit are consumed. -/
def Waiting (u : ℕ) : sProp 𝕄 := iprop(GBatch d i none q T G L hL 832 u ∗ Duty d i O W₀)

theorem wp_drain (j : Fin 13) (u : ℕ) (hu : u + 64 * 4096 ≤ 4096 * 832) (Q : PUnit → sProp 𝕄)
    (hQ : Waiting d i O W₀ q T G L hL (u + 64 * 4096) ⊢ Q ⟨⟩) :
    Waiting d i O W₀ q T G L hL u ⊢ WP d i (waitG i mTab mRows semG (64 * j.val) (rows_inb j)) Q := by
  unfold Waiting Duty at hQ ⊢
  iintro ⟨Hb, #Hm, %W, %hW, HO⟩
  have h := wp_waitG d i none j u hu q T G L hL O W (fun x => pure x) Q
  rw [bind_pure] at h
  iapply h $$ [Hb HO]
  · isplitl [Hb]; · iexact Hb
    isplitl [HO]; · iexact HO
    iapply (Transfers.MayWaits.elim (SemLoc.dma semG.sem)) $$ Hm
  iintro ⟨Hb, HO⟩
  iapply wp_ret
  iapply hQ
  isplitl [Hb]; · iexact Hb
  isplitr; · iexact Hm
  iexists _
  isplitr
  swap; · iexact HO
  ipureintro
  intro p hp
  rcases Finset.mem_insert.mp hp with hp | hp
  · exact .inr (hp ▸ rfl)
  · exact hW p hp

theorem wp_last (u : ℕ) (hu : u + 64 * 4096 = 4096 * 832) (Q : PUnit → sProp 𝕄)
    (hQ : iprop((((rowsPts d i (gathered T L) ∗ listPts d i L) ∗ tabPts d i q T) ∗ semVal (thr d i, .dma semG.sem) 0) ∗ Duty d i O W₀) ⊢ Q ⟨⟩) :
    Waiting d i O W₀ q T G L hL u ⊢ WP d i (waitG i mTab mRows semG (64 * (12 : Fin 13).val) (rows_inb 12)) Q := by
  unfold Duty at hQ
  unfold Waiting Duty
  iintro ⟨Hb, #Hm, %W, %hW, HO⟩
  have h := wp_waitLast d i none u hu q T G L hL O W (fun x => pure x) Q
  rw [bind_pure] at h
  iapply h $$ [Hb HO]
  · isplitl [Hb]; · iexact Hb
    isplitl [HO]; · iexact HO
    iapply (Transfers.MayWaits.elim (SemLoc.dma semG.sem)) $$ Hm
  iintro ⟨Hb, Hs, HO⟩
  iapply wp_ret
  iapply hQ
  isplitl [Hb Hs]
  · isplitl [Hb]
    · iapply (join_all d i q T G L hL) $$ Hb
    · iexact Hs
  isplitr; · iexact Hm
  iexists _
  isplitr
  swap; · iexact HO
  ipureintro
  intro p hp
  rcases Finset.mem_insert.mp hp with hp | hp
  · exact .inr (hp ▸ rfl)
  · exact hW p hp

theorem issued_all : Issued d i O W₀ q T G L hL 13 ⊢ Waiting d i O W₀ q T G L hL 0 := by
  unfold Issued Waiting
  iintro ⟨Hb, -, HD⟩
  isplitl [Hb]
  · iexact Hb
  · iexact HD

/-- All the gathers, and the first eight waits. -/
theorem wp_gathers (Q : PUnit → sProp 𝕄) (hQ : Waiting d i O W₀ q T G L hL 2097152 ⊢ Q ⟨⟩) :
    iprop((((rowsPts d i G ∗ listPts d i L) ∗ tabPts d i q T) ∗ semVal (thr d i, .dma semG.sem) 0) ∗ Duty d i O W₀)
      ⊢ WP d i (gathers i mTab mList mRows semG) Q := by
  iintro H
  imod (issued_zero d i O W₀ q T G L hL) $$ H with H
  have h : Issued d i O W₀ q T G L hL 0 ⊢ WP d i (gathers i mTab mList mRows semG) Q := by
    unfold gathers WP
    rw [wp_bind]; refine wp_issue d i O W₀ q T G L hL 0 _ ?_
    rw [wp_bind]; refine wp_issue d i O W₀ q T G L hL 1 _ ?_
    rw [wp_bind]; refine wp_issue d i O W₀ q T G L hL 2 _ ?_
    rw [wp_bind]; refine wp_issue d i O W₀ q T G L hL 3 _ ?_
    rw [wp_bind]; refine wp_issue d i O W₀ q T G L hL 4 _ ?_
    rw [wp_bind]; refine wp_issue d i O W₀ q T G L hL 5 _ ?_
    rw [wp_bind]; refine wp_issue d i O W₀ q T G L hL 6 _ ?_
    rw [wp_bind]; refine wp_issue d i O W₀ q T G L hL 7 _ ?_
    rw [wp_bind]; refine wp_issue d i O W₀ q T G L hL 8 _ ?_
    rw [wp_bind]; refine wp_issue d i O W₀ q T G L hL 9 _ ?_
    rw [wp_bind]; refine wp_issue d i O W₀ q T G L hL 10 _ ?_
    rw [wp_bind]; refine wp_issue d i O W₀ q T G L hL 11 _ ?_
    rw [wp_bind]; refine wp_issue d i O W₀ q T G L hL 12 _ ((issued_all d i O W₀ q T G L hL).trans ?_)
    rw [wp_bind]; refine wp_drain d i O W₀ q T G L hL 0 _ (by decide) _ ?_
    rw [wp_bind]; refine wp_drain d i O W₀ q T G L hL 1 _ (by decide) _ ?_
    rw [wp_bind]; refine wp_drain d i O W₀ q T G L hL 2 _ (by decide) _ ?_
    rw [wp_bind]; refine wp_drain d i O W₀ q T G L hL 3 _ (by decide) _ ?_
    rw [wp_bind]; refine wp_drain d i O W₀ q T G L hL 4 _ (by decide) _ ?_
    rw [wp_bind]; refine wp_drain d i O W₀ q T G L hL 5 _ (by decide) _ ?_
    rw [wp_bind]; refine wp_drain d i O W₀ q T G L hL 6 _ (by decide) _ ?_
    exact wp_drain d i O W₀ q T G L hL 7 _ (by decide) _ hQ
  iapply h $$ H

/-- The last five waits, before what follows them. -/
theorem wp_waits {α : Type} (p : TP F i α) (Q : α → sProp 𝕄)
    (hQ : iprop((((rowsPts d i (gathered T L) ∗ listPts d i L) ∗ tabPts d i q T) ∗ semVal (thr d i, .dma semG.sem) 0) ∗ Duty d i O W₀) ⊢ WP d i p Q) :
    Waiting d i O W₀ q T G L hL 2097152
      ⊢ WP d i (do
          waitG i mTab mRows semG 512 inb_S832x128_S64x128_512_0
          waitG i mTab mRows semG 576 inb_S832x128_S64x128_576_0
          waitG i mTab mRows semG 640 inb_S832x128_S64x128_640_0
          waitG i mTab mRows semG 704 inb_S832x128_S64x128_704_0
          waitG i mTab mRows semG 768 inb_S832x128_S64x128_768_0
          p) Q := by
  unfold WP
  rw [wp_bind]; refine wp_drain d i O W₀ q T G L hL 8 _ (by decide) _ ?_
  rw [wp_bind]; refine wp_drain d i O W₀ q T G L hL 9 _ (by decide) _ ?_
  rw [wp_bind]; refine wp_drain d i O W₀ q T G L hL 10 _ (by decide) _ ?_
  rw [wp_bind]; refine wp_drain d i O W₀ q T G L hL 11 _ (by decide) _ ?_
  rw [wp_bind]; exact wp_last d i O W₀ q T G L hL _ (by decide) _ hQ

end Tile

end Cert.Proof.KerI

end
-- ==== Proof.Ideal.Bins.lean ====
module

public import proofs.«01_k».proof.Proof.Ideal.Phase

@[expose] public section

noncomputable section

/-! The bins of one box: their weighted samples, and the largest of each four. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx (ix1 ix2)

/-! ## What a bin is -/

/-- Sample `s` of a bin, from the bin's weights and its gathered elements of one channel. -/
def sampleAt (w g : ℕ → F .f32) (s : ℕ) : F .f32 :=
  FloatOps.addf (FloatOps.addf (FloatOps.addf (FloatOps.mulf (w (4 * s)) (g (4 * s))) (FloatOps.mulf (w (4 * s + 1)) (g (4 * s + 1))))
    (FloatOps.mulf (w (4 * s + 2)) (g (4 * s + 2)))) (FloatOps.mulf (w (4 * s + 3)) (g (4 * s + 3)))
/-- The largest of its four samples. -/
def poolAt (w g : ℕ → F .f32) : F .f32 :=
  FloatOps.maximumf (FloatOps.maximumf (FloatOps.maximumf (sampleAt w g 0) (sampleAt w g 1)) (sampleAt w g 2)) (sampleAt w g 3)

/-- An element of the gathered rows, and a weight, by number. -/
def gN (G : Vec F S832x128 .f32) (r c : ℕ) : F .f32 := G (ix2 ⟨r % 832, Nat.mod_lt _ (by decide)⟩ ⟨c % 128, Nat.mod_lt _ (by decide)⟩)
def wN (W : Vec F S832 .f32) (p : ℕ) : F .f32 := W (ix1 ⟨p % 832, Nat.mod_lt _ (by decide)⟩)
/-- Bin `t`, channel `c`. -/
def binAt (W : Vec F S832 .f32) (G : Vec F S832x128 .f32) (t c : ℕ) : F .f32 := poolAt (fun k => wN W (16 * t + k)) (fun k => gN G (16 * t + k) c)

/-- The bins below `t`, and bin `t`'s channels below `c`, are written. -/
def BinsDone (W : Vec F S832 .f32) (G : Vec F S832x128 .f32) (t c : ℕ) (B : Vec F S49x128 .f32) : Prop :=
  ∀ x : S49x128.Idx, ((x 0).val < t ∨ ((x 0).val = t ∧ (x 1).val < c)) → B x = binAt W G (x 0).val (x 1).val

theorem cast_of_row {α : Type} (r : S1x16.Idx → α) (l : Fin 16) : shapeCast S16 r shapeCasts_S1x16_S16 (ln l) = r (ix2 0 l) := by
  have h : ∀ l : Fin 16, (Shape.reshapeEquiv (shapeCasts_S1x16_S16 : S1x16.ShapeCasts S16)) (ln l) = ix2 0 l := by decide +kernel
  exact congrArg r (h l)
theorem cast_to_row {α : Type} (v : S16.Idx → α) (l : Fin 16) : shapeCast S1x16 v shapeCasts_S16_S1x16 (ix2 0 l) = v (ln l) := by
  have h : ∀ l : Fin 16, (Shape.reshapeEquiv (shapeCasts_S16_S1x16 : S16.ShapeCasts S1x16)) (ix2 0 l) = ln l := by decide +kernel
  exact congrArg v (h l)

section Tile

variable (d : Dev nD) (i : grid0.Coords)

/-- Sixteen elements of row `r` from column `c`. -/
abbrev rowN (G : Vec F S832x128 .f32) (r c : ℕ) : Vec F S1x16 .f32 := fun x => gN G r (c + (x 1).val)

theorem wp_loadR (t : Fin k0_t2_loop.trips) (r₁ r₂ : Fin 4) (col : ℕ)
    (h : ∀ a, offR t (BitVec.ofNat 32 (4 * r₁.val)) (BitVec.ofNat 32 r₂.val) col a + S1x16.size a ≤ S832x128.size a)
    (G : Vec F S832x128 .f32) (R : sProp 𝕄) (Q : Vec F S1x16 .f32 → sProp 𝕄)
    (hQ : iprop(rowsPts d i G ∗ R) ⊢ Q (rowN G (16 * t.val + (4 * r₁.val + r₂.val)) col)) :
    iprop(rowsPts d i G ∗ R) ⊢ WP d i (loadR i mRows t (BitVec.ofNat 32 (4 * r₁.val)) (BitVec.ofNat 32 r₂.val) col h) Q := by
  have ho : offR t (BitVec.ofNat 32 (4 * r₁.val)) (BitVec.ofNat 32 r₂.val) col = ![16 * t.val + (4 * r₁.val + r₂.val), col] := by
    have e := congrFun (k0_off6_eq t r₁ r₂) 0
    funext a
    match a with
    | 0 => exact e.trans (Nat.add_assoc _ _ _)
    | 1 => rfl
  have hv : ((mRows).access (Rect.unit (s := S832x128) (offR t (BitVec.ofNat 32 (4 * r₁.val)) (BitVec.ofNat 32 r₂.val) col) S1x16.size h)).read (Elt F) G
      = rowN G (16 * t.val + (4 * r₁.val + r₂.val)) col := by
    funext x
    unfold rowN gN
    refine congrArg G (funext fun a => Fin.ext ?_)
    have h0 := h 0
    have h1 := h 1
    rw [ho] at h0 h1
    have h0' : 16 * t.val + (4 * r₁.val + r₂.val) + 1 ≤ 832 := h0
    have h1' : col + 16 ≤ 128 := h1
    have hx0 : (x 0).val < 1 := (x 0).isLt
    have hx1 : (x 1).val < 16 := (x 1).isLt
    match a with
    | ⟨0, _⟩ =>
      change offR t (BitVec.ofNat 32 (4 * r₁.val)) (BitVec.ofNat 32 r₂.val) col 0 + 1 * (x 0).val = (16 * t.val + (4 * r₁.val + r₂.val)) % 832
      have e : offR t (BitVec.ofNat 32 (4 * r₁.val)) (BitVec.ofNat 32 r₂.val) col 0 = 16 * t.val + (4 * r₁.val + r₂.val) := congrFun ho 0
      omega
    | ⟨1, _⟩ =>
      change col + 1 * (x 1).val = (col + (x 1).val) % 128
      omega
  unfold loadR
  iintro ⟨HG, HR⟩
  iapply (wp_load_rect 𝒱₀ (thr d i) none Set.univ (m := mRows) (f := G) (S := Finset.univ) (Finset.subset_univ _)) $$ [HG]
  · iexact HG
  iintro HG
  rw [hv]
  iapply (wp_ret d i)
  iapply hQ
  isplitl [HG] <;> iassumption

theorem word_val : ∀ (t : Fin k0_t2_loop.trips) (n : Fin 16), (Scalar.addi (binRow t) (BitVec.ofNat 32 n.val)).toNat = 16 * t.val + n.val := by
  decide +kernel

/-- Weight `n` of bin `t`, in every lane. -/
abbrev wV (W : Vec F S832 .f32) (t : Fin k0_t2_loop.trips) (n : ℕ) : Vec F S16 .f32 := fun _ => wN W (16 * t.val + n)

theorem wp_loadW (t : Fin k0_t2_loop.trips) (n : Fin 16) (W : Vec F S832 .f32) (R : sProp 𝕄) (Q : Vec F S16 .f32 → sProp 𝕄)
    (hQ : iprop(wtPts d i W ∗ R) ⊢ Q (wV W t n.val)) :
    iprop(wtPts d i W ∗ R) ⊢ WP d i (loadW i mWt (binRow t) (BitVec.ofNat 32 n.val)) Q := by
  have ht : t.val < 49 := t.isLt
  have hv := word_val t n
  have hlt : 16 * t.val + n.val < 832 := by have := n.isLt; omega
  have hc : k0_chk106 (bc (Scalar.addi (binRow t) (BitVec.ofNat 32 n.val))) := by
    unfold k0_chk106
    rw [Fin.forall_fin_one]
    exact fun x => hv.trans_lt hlt
  have hr : ((mWt).access (.whole S832)).read (Elt F) W = W := Memref.read_access_whole (Elt F) cc0_scratch6 W
  have hx : loadIdx W ![bc (Scalar.addi (binRow t) (BitVec.ofNat 32 n.val))] (k0_idx110_inb _ hc) = wV W t n.val := by
    funext x
    refine congrArg W (funext fun a => Fin.ext ?_)
    match a with
    | ⟨0, _⟩ => exact hv.trans (Nat.mod_eq_of_lt hlt).symm
  unfold loadW
  iintro ⟨HW, HR⟩
  iapply (wp_assume 𝒱₀ (thr d i) none Set.univ hc)
  have h0 := SparseCore.wp_vectorLoadIdx (defs := defs₀ (F := F)) 𝒱₀ (thr d i) none Set.univ (base := mWt) (idxs := ![bc (Scalar.addi (binRow t) (BitVec.ofNat 32 n.val))])
    (h := k0_idx110_inb _ hc) (hl := View.loads_vmem h_S832) (q := fullShare) (f := W) (S := Finset.univ) (Finset.subset_univ _) (k := fun x => pure x) (Q := Q)
  rw [bind_pure, hr, hx] at h0
  iapply h0 $$ [HW]
  · iexact HW
  iintro HW
  iapply (wp_ret d i)
  iapply hQ
  isplitl [HW] <;> iassumption

/-- The bin's channels from `col`. -/
theorem wp_channels (t : Fin k0_t2_loop.trips) (col : ℕ)
    (h : ∀ (r₁ r₂ : Fin 4) (a), offR t (BitVec.ofNat 32 (4 * r₁.val)) (BitVec.ofNat 32 r₂.val) col a + S1x16.size a ≤ S832x128.size a)
    (ho : ∀ a, offO t col a + S1x16.size a ≤ S49x128.size a)
    (W : Vec F S832 .f32) (G : Vec F S832x128 .f32) (R : sProp 𝕄) (Q : PUnit → sProp 𝕄)
    (hQ : iprop(rowsPts d i G ∗ (∃ B, ⌜BinsDone W G t.val (col + 16) B⌝ ∗ outPts d i B) ∗ R) ⊢ Q ⟨⟩) :
    iprop(rowsPts d i G ∗ (∃ B, ⌜BinsDone W G t.val col B⌝ ∗ outPts d i B) ∗ R)
      ⊢ WP d i (channels i mRows mOut t (wV W t 0) (wV W t 1) (wV W t 2) (wV W t 3) (wV W t 4) (wV W t 5) (wV W t 6) (wV W t 7) (wV W t 8) (wV W t 9) (wV W t 10) (wV W t 11) (wV W t 12) (wV W t 13) (wV W t 14) (wV W t 15) col h ho) Q := by
  have hoff : offO t col = ![t.val, col] := by
    have e := congrFun (k0_off7_eq t) 0
    funext a
    match a with
    | 0 => exact e
    | 1 => rfl
  have h0 : t.val < 49 := t.isLt
  have h1 : col + 16 ≤ 128 := ho 1
  unfold channels WP
  rw [wp_bind]; refine wp_loadR d i t 0 0 col (h 0 0) G _ _ ?_
  rw [wp_bind]; refine wp_loadR d i t 0 1 col (h 0 1) G _ _ ?_
  rw [wp_bind]; refine wp_loadR d i t 0 2 col (h 0 2) G _ _ ?_
  rw [wp_bind]; refine wp_loadR d i t 0 3 col (h 0 3) G _ _ ?_
  rw [wp_bind]; refine wp_loadR d i t 1 0 col (h 1 0) G _ _ ?_
  rw [wp_bind]; refine wp_loadR d i t 1 1 col (h 1 1) G _ _ ?_
  rw [wp_bind]; refine wp_loadR d i t 1 2 col (h 1 2) G _ _ ?_
  rw [wp_bind]; refine wp_loadR d i t 1 3 col (h 1 3) G _ _ ?_
  rw [wp_bind]; refine wp_loadR d i t 2 0 col (h 2 0) G _ _ ?_
  rw [wp_bind]; refine wp_loadR d i t 2 1 col (h 2 1) G _ _ ?_
  rw [wp_bind]; refine wp_loadR d i t 2 2 col (h 2 2) G _ _ ?_
  rw [wp_bind]; refine wp_loadR d i t 2 3 col (h 2 3) G _ _ ?_
  rw [wp_bind]; refine wp_loadR d i t 3 0 col (h 3 0) G _ _ ?_
  rw [wp_bind]; refine wp_loadR d i t 3 1 col (h 3 1) G _ _ ?_
  rw [wp_bind]; refine wp_loadR d i t 3 2 col (h 3 2) G _ _ ?_
  rw [wp_bind]; refine wp_loadR d i t 3 3 col (h 3 3) G _ _ ?_
  rw [wp_bind]
  iintro ⟨HG, ⟨%B, %hB, HB⟩, HR⟩
  iapply (wp_load_rect 𝒱₀ (thr d i) none Set.univ (m := mOut) (f := B) (S := Finset.univ) (Finset.subset_univ _)) $$ [HB]
  · iexact HB
  iintro HB
  iapply (wp_ret d i)
  iapply (wp_store 𝒱₀ (thr d i) none Set.univ (m := mOut) (f := B) (S := Finset.univ) (Finset.subset_univ _)) $$ [HB]
  · iexact HB
  iintro HB
  iapply (wp_ret d i)
  iapply hQ
  isplitl [HG]; · iexact HG
  isplitl [HB]
  swap; · iexact HR
  iexists _
  isplitr
  swap; · iexact HB
  ipureintro
  intro x hx
  by_cases hm : x ∈ ((mOut).access (Rect.unit (s := S49x128) (offO t col) S1x16.size ho)).set
  · obtain ⟨y, -, rfl⟩ := Finset.mem_map.mp hm
    rw [View.write_emb_of_mem _ _ (Finset.mem_univ y)]
    obtain ⟨l, rfl⟩ : ∃ l : Fin 16, y = ix2 0 l := ⟨y 1, funext fun a => by
      match a with
      | ⟨0, _⟩ => exact @Subsingleton.elim (Fin 1) _ _ _
      | ⟨1, _⟩ => rfl⟩
    have e0 : ((((mOut).access (Rect.unit (s := S49x128) (offO t col) S1x16.size ho)).emb (ix2 0 l)) 0).val = t.val := congrFun hoff 0
    have e1 : ((((mOut).access (Rect.unit (s := S49x128) (offO t col) S1x16.size ho)).emb (ix2 0 l)) 1).val = col + l.val :=
      congrArg (col + ·) (Nat.one_mul _)
    rw [e0, e1]
    refine (cast_eq _ _).trans ((cast_to_row _ l).trans ?_)
    unfold binAt poolAt sampleAt quad term
    simp only [maximumf, addf, mulf, cast_of_row]
    rfl
  · rw [View.write_of_not_mem _ _ _ hm]
    refine hB x ?_
    rcases hx with hx | ⟨hx, hx'⟩
    · exact .inl hx
    · refine .inr ⟨hx, Nat.lt_of_not_le fun hc => hm ?_⟩
      refine (congrArg (x ∈ ·) (View.set_slice_whole (cc0_scratch8 : Ref sig .scVector) _)).mpr ?_
      refine Rect.mem_set_unit.mpr ?_
      rw [hoff]
      intro a
      match a with
      | ⟨0, _⟩ => exact ⟨hx.ge, by change (x 0).val < t.val + 1; omega⟩
      | ⟨1, _⟩ => exact ⟨hc, hx'⟩

/-- One bin. -/
theorem wp_bin (t : Fin k0_t2_loop.trips) (W : Vec F S832 .f32) (G : Vec F S832x128 .f32) (R : sProp 𝕄) (Q : BitVec 32 → sProp 𝕄)
    (hQ : ∀ a, iprop(wtPts d i W ∗ rowsPts d i G ∗ (∃ B, ⌜BinsDone W G (t.val + 1) 0 B⌝ ∗ outPts d i B) ∗ R) ⊢ Q a) :
    iprop(wtPts d i W ∗ rowsPts d i G ∗ (∃ B, ⌜BinsDone W G t.val 0 B⌝ ∗ outPts d i B) ∗ R) ⊢ WP d i (bin i mWt mRows mOut t) Q := by
  unfold bin WP
  rw [wp_bind]; refine wp_loadW d i t 0 W _ _ ?_
  rw [wp_bind]; refine wp_loadW d i t 1 W _ _ ?_
  rw [wp_bind]; refine wp_loadW d i t 2 W _ _ ?_
  rw [wp_bind]; refine wp_loadW d i t 3 W _ _ ?_
  rw [wp_bind]; refine wp_loadW d i t 4 W _ _ ?_
  rw [wp_bind]; refine wp_loadW d i t 5 W _ _ ?_
  rw [wp_bind]; refine wp_loadW d i t 6 W _ _ ?_
  rw [wp_bind]; refine wp_loadW d i t 7 W _ _ ?_
  rw [wp_bind]; refine wp_loadW d i t 8 W _ _ ?_
  rw [wp_bind]; refine wp_loadW d i t 9 W _ _ ?_
  rw [wp_bind]; refine wp_loadW d i t 10 W _ _ ?_
  rw [wp_bind]; refine wp_loadW d i t 11 W _ _ ?_
  rw [wp_bind]; refine wp_loadW d i t 12 W _ _ ?_
  rw [wp_bind]; refine wp_loadW d i t 13 W _ _ ?_
  rw [wp_bind]; refine wp_loadW d i t 14 W _ _ ?_
  rw [wp_bind]; refine wp_loadW d i t 15 W _ _ ?_
  refine (show iprop(wtPts d i W ∗ rowsPts d i G ∗ (∃ B, ⌜BinsDone W G t.val 0 B⌝ ∗ outPts d i B) ∗ R)
    ⊢ iprop(rowsPts d i G ∗ (∃ B, ⌜BinsDone W G t.val 0 B⌝ ∗ outPts d i B) ∗ (wtPts d i W ∗ R)) by
      iintro ⟨HW, HG, HB, HR⟩
      isplitl [HG]; · iexact HG
      isplitl [HB]; · iexact HB
      isplitl [HW] <;> iassumption).trans ?_
  rw [wp_bind]; refine wp_channels d i t 0 _ _ W G _ _ ?_
  rw [wp_bind]; refine wp_channels d i t 16 _ _ W G _ _ ?_
  rw [wp_bind]; refine wp_channels d i t 32 _ _ W G _ _ ?_
  rw [wp_bind]; refine wp_channels d i t 48 _ _ W G _ _ ?_
  rw [wp_bind]; refine wp_channels d i t 64 _ _ W G _ _ ?_
  rw [wp_bind]; refine wp_channels d i t 80 _ _ W G _ _ ?_
  rw [wp_bind]; refine wp_channels d i t 96 _ _ W G _ _ ?_
  rw [wp_bind]; refine wp_channels d i t 112 _ _ W G _ _ ?_
  iintro ⟨HG, ⟨%B, %hB, HB⟩, HW, HR⟩
  iapply (wp_ret d i)
  iapply (hQ _)
  isplitl [HW]; · iexact HW
  isplitl [HG]; · iexact HG
  isplitl [HB]
  swap; · iexact HR
  iexists B
  isplitr
  swap; · iexact HB
  ipureintro
  intro x hx
  have h1 : (x 1).val < 128 := (x 1).isLt
  exact hB x (by omega)

/-- All the bins. -/
theorem wp_bins (W : Vec F S832 .f32) (G : Vec F S832x128 .f32) (R : sProp 𝕄) (Q : BitVec 32 → sProp 𝕄)
    (hQ : ∀ a, iprop(wtPts d i W ∗ rowsPts d i G ∗ (∃ B, ⌜BinsDone W G 49 0 B⌝ ∗ outPts d i B) ∗ R) ⊢ Q a) :
    iprop(wtPts d i W ∗ rowsPts d i G ∗ (∃ B, outPts d i B) ∗ R)
      ⊢ WP d i (Scf.Loop.for k0_t2_loop k0_t2_ok 0#32 fun t _ => bin i mWt mRows mOut t) Q := by
  iintro ⟨HW, HG, ⟨%B, HB⟩, HR⟩
  iapply (Scf.wp_for frame (wpE (defs₀ (F := F)) 𝒱₀ (thr d i) none) Set.univ _ _ _ k0_t2_ok 0#32 (fun t _ => bin i mWt mRows mOut t)
    (fun t _ => iprop(wtPts d i W ∗ rowsPts d i G ∗ (∃ B, ⌜BinsDone W G t 0 B⌝ ∗ outPts d i B) ∗ R))
    (fun t _ => wp_bin d i t W G R _ fun _ => BI.Entails.refl _))
  isplitl [HW HG HB HR]
  · isplitl [HW]; · iexact HW
    isplitl [HG]; · iexact HG
    isplitl [HB]
    swap; · iexact HR
    iexists B
    isplitr
    swap; · iexact HB
    ipureintro
    intro x hx
    omega
  iintro %a H
  rw [show Scf.trips k0_t2_loop.lb k0_t2_loop.ub k0_t2_loop.st = 49 by decide +kernel]
  iapply (hQ a) $$ H

end Tile

end Cert.Proof.KerI

end
-- ==== Proof.Ideal.Copy.lean ====
module

public import proofs.«01_k».proof.Proof.Ideal.Bins

@[expose] public section

noncomputable section

/-! The result of one box copied out. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx (ix1 ix2)

section Tile

variable (d : Dev nD) (i : grid0.Coords) (O : CellTallies nD τ sig (HIx 1)) (W₀ : Waits sig (HIx 1))

/-- A row of the result. -/
abbrev rowPts (off : Fin 3 → ℕ) (hoff : ∀ a, off a + S1x49x128.size a ≤ S1024x49x128.size a) (R : Vec F S1024x49x128 .f32) : sProp 𝕄 :=
  (outAt (Memref.whole main_v6_scv) off hoff).view.loc (thr d i) ↦[(outAt (Memref.whole main_v6_scv) off hoff).view.set]{fullShare} R

theorem row_written (off : Fin 3 → ℕ) (hoff : ∀ a, off a + S1x49x128.size a ≤ S1024x49x128.size a) (f R : Vec F S1024x49x128 .f32) (B : Vec F S49x128 .f32)
    (hR : ∀ x, R ((outAt (Memref.whole main_v6_scv) off hoff).view.emb x) = B x) :
    rowPts d i off hoff ((outAt (Memref.whole main_v6_scv) off hoff).view.writes (Elt F) f [⟨Rect.whole S49x128, B⟩]) = rowPts d i off hoff R := by
  refine pointsTo_congr fun j hj => ?_
  obtain ⟨x, -, rfl⟩ := Finset.mem_map.mp hj
  rw [View.writes_singleton, hR]
  have h := View.write_emb_of_mem (Val := Elt F) (v := (outAt (Memref.whole main_v6_scv) off hoff).view.slice (Rect.whole S49x128)) f B (x := x) (M := Finset.univ) (Finset.mem_univ _)
  have he : ((outAt (Memref.whole main_v6_scv) off hoff).view.slice (Rect.whole S49x128)).emb x = (outAt (Memref.whole main_v6_scv) off hoff).view.emb x := congrArg (outAt (Memref.whole main_v6_scv) off hoff).view.emb (Rect.emb_whole_apply S49x128 x)
  rw [he] at h
  exact h

/-- The result of a box copied out. -/
theorem wp_copy (off : Fin 3 → ℕ) (hoff : ∀ a, off a + S1x49x128.size a ≤ S1024x49x128.size a) (hout : (outAt (Memref.whole main_v6_scv) off hoff).view.WordExact) (sem : DmaSems sig S_)
    (f R : Vec F S1024x49x128 .f32) (B : Vec F S49x128 .f32) (hR : ∀ x, R ((outAt (Memref.whole main_v6_scv) off hoff).view.emb x) = B x) (Q : BitVec 32 → sProp 𝕄)
    (hQ : iprop(outPts d i B ∗ rowPts d i off hoff R ∗ semVal (thr d i, .dma sem.sem) 0 ∗ Duty d i O W₀) ⊢ Q 0#32) :
    iprop(outPts d i B ∗ rowPts d i off hoff f ∗ semVal (thr d i, .dma sem.sem) 0 ∗ Duty d i O W₀)
      ⊢ WP d i (do
          Prog.lift (.enqueueDma mOut (.here (outAt (Memref.whole main_v6_scv) off hoff)) (.dma sem.sem) (Memref.isWhole_whole _).wordExact hout ⟨Or.inl rfl, trivial⟩)
          Prog.lift (.waitDma2 sem.sem mOut (outAt (Memref.whole main_v6_scv) off hoff) (Memref.isWhole_whole _).wordExact hout)
          pure 0#32) Q := by
  unfold Duty at hQ
  unfold Duty rowPts WP
  iintro ⟨HB, Ho, Hs, #Hm, %W, %hW, HO⟩
  ihave HB := (Entails.of_eq (show outPts d i B = ((mOut).view.loc (thr d i) ↦{fullShare} B : sProp 𝕄) from rfl)) $$ HB
  sl_exec
  sl_step
  iapply hQ
  isplitl [HB]; · iexact HB
  isplitl [Ho]
  · iapply (Entails.of_eq (row_written d i off hoff f R B hR))
    iexact Ho
  isplitl [Hs]; · iexact Hs
  isplitr; · iexact Hm
  iexists (insert (SemLoc.dma sem.sem, (default : HIx 1)) W)
  isplitr
  · ipureintro
    intro p hp
    rcases Finset.mem_insert.mp hp with h | hp
    · exact .inr (by rw [h]; rfl)
    · exact hW p hp
  · iexact HO

end Tile

end Cert.Proof.KerI

end
-- ==== Proof.Ideal.Roi.lean ====
module

public import proofs.«01_k».proof.Proof.Ideal.Copy

@[expose] public section

noncomputable section

/-! One region of interest. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx (ix1 ix2)

/-- What a region's program computes with, of its five numbers. -/
def regOf (b x1 y1 x2 y2 : F .f32) : Reg F where
  base := baseRow (fun _ => b)
  by1 := scaled (fun _ => y1)
  bh := side (scaled (fun _ => y1)) (scaled (fun _ => y2))
  bx1 := scaled (fun _ => x1)
  bw := side (scaled (fun _ => x1)) (scaled (fun _ => x2))
  rvf := valid (scaled (fun _ => x1)) (scaled (fun _ => y1)) (scaled (fun _ => x2)) (scaled (fun _ => y2))

/-- A region's result: each bin pooled over its samples, of the table's rows that the list names. -/
def roiVal (T : Vec F S4096x128 .f32) (R : Reg F) : Vec F S49x128 .f32 := fun x =>
  poolAt (fun k => R.wt (16 * (x 0).val + k)) (fun k => T (ix2 ⟨(R.list (16 * (x 0).val + k)).toNat % 4096, Nat.mod_lt _ (by decide)⟩ (x 1)))

theorem chk1_ok (n : BitVec 32) (l : Fin 16) (hn : n.toNat = l.val) : k0_chk1 (bc n) := by
  unfold k0_chk1
  have h : ∀ a x, ((![bc n] : Fin 1 → IVec S16 32) a x).toNat < S16.size a := by
    rw [Fin.forall_fin_one]
    exact fun x => hn.trans_lt l.isLt
  exact ⟨h, h, h, h, h⟩

theorem lane_read (f : Vec F S16 .f32) (n : BitVec 32) (l : Fin 16) (hn : n.toNat = l.val) (h : ∀ a x, ((![bc n] : Fin 1 → IVec S16 32) a x).toNat < S16.size a) :
    loadIdx f ![bc n] h = fun _ => f (ln l) := by
  funext x
  refine congrArg f (funext fun a => Fin.ext ?_)
  match a with
  | ⟨0, _⟩ => exact hn

theorem poolAt_congr {w w' g g' : ℕ → F .f32} (hw : ∀ k < 16, w k = w' k) (hg : ∀ k < 16, g k = g' k) : poolAt w g = poolAt w' g' := by
  unfold poolAt sampleAt
  simp only [hw _ (show 0 < 16 by decide), hg _ (show 0 < 16 by decide), hw, hg, Nat.reduceMul, Nat.reduceAdd, Nat.reduceLT]

/-- The bins over the finished list, weights and gathered rows are the region's result. -/
theorem roi_bins {R : Reg F} {T : Vec F S4096x128 .f32} {L : Vec F S13x64 .i32} {W : Vec F S832 .f32} {B : Vec F S49x128 .f32}
    (hD : R.Done 13 0 L W) (hB : BinsDone W (gathered T L) 49 0 B) : B = roiVal T R := by
  funext x
  have h0 : (x 0).val < 49 := (x 0).isLt
  have h1 : (x 1).val < 128 := (x 1).isLt
  rw [hB x (.inl h0)]
  refine poolAt_congr (fun k hk => ?_) (fun k hk => ?_)
  · have hp : (16 * (x 0).val + k) % 832 = 16 * (x 0).val + k := Nat.mod_eq_of_lt (by omega)
    refine (hD.2 (ix1 _) (.inl ?_)).trans (congrArg R.wt hp)
    change (16 * (x 0).val + k) % 832 < 832
    omega
  · have hp : (16 * (x 0).val + k) % 832 = 16 * (x 0).val + k := Nat.mod_eq_of_lt (by omega)
    have hL := hD.1 (ix2 ⟨(16 * (x 0).val + k) % 832 / 64, by omega⟩ ⟨(16 * (x 0).val + k) % 832 % 64, by omega⟩)
      (.inl (by change 64 * ((16 * (x 0).val + k) % 832 / 64) + (16 * (x 0).val + k) % 832 % 64 < 832; omega))
    have hq : 64 * ((16 * (x 0).val + k) % 832 / 64) + (16 * (x 0).val + k) % 832 % 64 = 16 * (x 0).val + k := by omega
    refine congrArg T (funext fun a => Fin.ext ?_)
    match a with
    | ⟨0, _⟩ => exact congrArg (fun v : BitVec 32 => v.toNat % 4096) (hL.trans (congrArg R.list hq))
    | ⟨1, _⟩ => exact Nat.mod_eq_of_lt h1

theorem list_lt {R : Reg F} {L : Vec F S13x64 .i32} {W : Vec F S832 .f32} (hD : R.Done 13 0 L W) (hR : ∀ p < 832, (R.list p).toNat < 4096) (x : S13x64.Idx) :
    (L x).toNat < 4096 := by
  have h0 : (x 0).val < 13 := (x 0).isLt
  have h1 : (x 1).val < 64 := (x 1).isLt
  rw [hD.1 x (.inl (by omega))]
  exact hR _ (by omega)

section Tile

variable (d : Dev nD) (i : grid0.Coords) (O : CellTallies nD τ sig (HIx 1)) (W₀ : Waits sig (HIx 1))

theorem wp_lane0 (f : Vec F S16 .f32) (n : BitVec 32) (l : Fin 16) (hn : n.toNat = l.val) (h : ∀ a x, ((![bc n] : Fin 1 → IVec S16 32) a x).toNat < S16.size a)
    (R : sProp 𝕄) (Q : Vec F S16 .f32 → sProp 𝕄) (hQ : iprop(((thr d i).loc cc0_scratch0 ↦{fullShare} f) ∗ R) ⊢ Q (fun _ => f (ln l))) :
    iprop(((thr d i).loc cc0_scratch0 ↦{fullShare} f) ∗ R) ⊢ WP d i (lane i (mBox 0) n h) Q := by
  have hr : ((mBox 0).access (.whole S16)).read (Elt F) f = f := Memref.read_access_whole (Elt F) cc0_scratch0 f
  unfold lane
  iintro ⟨HB, HR⟩
  have h0 := SparseCore.wp_vectorLoadIdx (defs := defs₀ (F := F)) 𝒱₀ (thr d i) none Set.univ (base := mBox 0) (idxs := ![bc n])
    (h := h) (hl := View.loads_vmem h_S16) (q := fullShare) (f := f) (S := Finset.univ) (Finset.subset_univ _) (k := fun x => pure x) (Q := Q)
  rw [bind_pure, hr, lane_read f n l hn h] at h0
  iapply h0 $$ [HB]
  · iexact HB
  iintro HB
  iapply (wp_ret d i)
  iapply hQ
  isplitl [HB] <;> iassumption

theorem wp_lane1 (f : Vec F S16 .f32) (n : BitVec 32) (l : Fin 16) (hn : n.toNat = l.val) (h : ∀ a x, ((![bc n] : Fin 1 → IVec S16 32) a x).toNat < S16.size a)
    (R : sProp 𝕄) (Q : Vec F S16 .f32 → sProp 𝕄) (hQ : iprop(((thr d i).loc cc0_scratch1 ↦{fullShare} f) ∗ R) ⊢ Q (fun _ => f (ln l))) :
    iprop(((thr d i).loc cc0_scratch1 ↦{fullShare} f) ∗ R) ⊢ WP d i (lane i (mBox 1) n h) Q := by
  have hr : ((mBox 1).access (.whole S16)).read (Elt F) f = f := Memref.read_access_whole (Elt F) cc0_scratch1 f
  unfold lane
  iintro ⟨HB, HR⟩
  have h0 := SparseCore.wp_vectorLoadIdx (defs := defs₀ (F := F)) 𝒱₀ (thr d i) none Set.univ (base := mBox 1) (idxs := ![bc n])
    (h := h) (hl := View.loads_vmem h_S16) (q := fullShare) (f := f) (S := Finset.univ) (Finset.subset_univ _) (k := fun x => pure x) (Q := Q)
  rw [bind_pure, hr, lane_read f n l hn h] at h0
  iapply h0 $$ [HB]
  · iexact HB
  iintro HB
  iapply (wp_ret d i)
  iapply hQ
  isplitl [HB] <;> iassumption

theorem wp_lane2 (f : Vec F S16 .f32) (n : BitVec 32) (l : Fin 16) (hn : n.toNat = l.val) (h : ∀ a x, ((![bc n] : Fin 1 → IVec S16 32) a x).toNat < S16.size a)
    (R : sProp 𝕄) (Q : Vec F S16 .f32 → sProp 𝕄) (hQ : iprop(((thr d i).loc cc0_scratch2 ↦{fullShare} f) ∗ R) ⊢ Q (fun _ => f (ln l))) :
    iprop(((thr d i).loc cc0_scratch2 ↦{fullShare} f) ∗ R) ⊢ WP d i (lane i (mBox 2) n h) Q := by
  have hr : ((mBox 2).access (.whole S16)).read (Elt F) f = f := Memref.read_access_whole (Elt F) cc0_scratch2 f
  unfold lane
  iintro ⟨HB, HR⟩
  have h0 := SparseCore.wp_vectorLoadIdx (defs := defs₀ (F := F)) 𝒱₀ (thr d i) none Set.univ (base := mBox 2) (idxs := ![bc n])
    (h := h) (hl := View.loads_vmem h_S16) (q := fullShare) (f := f) (S := Finset.univ) (Finset.subset_univ _) (k := fun x => pure x) (Q := Q)
  rw [bind_pure, hr, lane_read f n l hn h] at h0
  iapply h0 $$ [HB]
  · iexact HB
  iintro HB
  iapply (wp_ret d i)
  iapply hQ
  isplitl [HB] <;> iassumption

theorem wp_lane3 (f : Vec F S16 .f32) (n : BitVec 32) (l : Fin 16) (hn : n.toNat = l.val) (h : ∀ a x, ((![bc n] : Fin 1 → IVec S16 32) a x).toNat < S16.size a)
    (R : sProp 𝕄) (Q : Vec F S16 .f32 → sProp 𝕄) (hQ : iprop(((thr d i).loc cc0_scratch3 ↦{fullShare} f) ∗ R) ⊢ Q (fun _ => f (ln l))) :
    iprop(((thr d i).loc cc0_scratch3 ↦{fullShare} f) ∗ R) ⊢ WP d i (lane i (mBox 3) n h) Q := by
  have hr : ((mBox 3).access (.whole S16)).read (Elt F) f = f := Memref.read_access_whole (Elt F) cc0_scratch3 f
  unfold lane
  iintro ⟨HB, HR⟩
  have h0 := SparseCore.wp_vectorLoadIdx (defs := defs₀ (F := F)) 𝒱₀ (thr d i) none Set.univ (base := mBox 3) (idxs := ![bc n])
    (h := h) (hl := View.loads_vmem h_S16) (q := fullShare) (f := f) (S := Finset.univ) (Finset.subset_univ _) (k := fun x => pure x) (Q := Q)
  rw [bind_pure, hr, lane_read f n l hn h] at h0
  iapply h0 $$ [HB]
  · iexact HB
  iintro HB
  iapply (wp_ret d i)
  iapply hQ
  isplitl [HB] <;> iassumption

theorem wp_lane4 (f : Vec F S16 .f32) (n : BitVec 32) (l : Fin 16) (hn : n.toNat = l.val) (h : ∀ a x, ((![bc n] : Fin 1 → IVec S16 32) a x).toNat < S16.size a)
    (R : sProp 𝕄) (Q : Vec F S16 .f32 → sProp 𝕄) (hQ : iprop(((thr d i).loc cc0_scratch4 ↦{fullShare} f) ∗ R) ⊢ Q (fun _ => f (ln l))) :
    iprop(((thr d i).loc cc0_scratch4 ↦{fullShare} f) ∗ R) ⊢ WP d i (lane i (mBox 4) n h) Q := by
  have hr : ((mBox 4).access (.whole S16)).read (Elt F) f = f := Memref.read_access_whole (Elt F) cc0_scratch4 f
  unfold lane
  iintro ⟨HB, HR⟩
  have h0 := SparseCore.wp_vectorLoadIdx (defs := defs₀ (F := F)) 𝒱₀ (thr d i) none Set.univ (base := mBox 4) (idxs := ![bc n])
    (h := h) (hl := View.loads_vmem h_S16) (q := fullShare) (f := f) (S := Finset.univ) (Finset.subset_univ _) (k := fun x => pure x) (Q := Q)
  rw [bind_pure, hr, lane_read f n l hn h] at h0
  iapply h0 $$ [HB]
  · iexact HB
  iintro HB
  iapply (wp_ret d i)
  iapply hQ
  isplitl [HB] <;> iassumption

/-- The five buffers a group of boxes is fetched into. -/
def boxes (f : Fin 5 → Vec F S16 .f32) : sProp 𝕄 :=
  iprop(((thr d i).loc cc0_scratch0 ↦{fullShare} f 0) ∗ ((thr d i).loc cc0_scratch1 ↦{fullShare} f 1) ∗ ((thr d i).loc cc0_scratch2 ↦{fullShare} f 2)
    ∗ ((thr d i).loc cc0_scratch3 ↦{fullShare} f 3) ∗ ((thr d i).loc cc0_scratch4 ↦{fullShare} f 4))

/-- The rest of what a region's program works with. -/
def works (q : PosShare TreeShare) (T : Vec F S4096x128 .f32) : sProp 𝕄 :=
  iprop((∃ L, listPts d i L) ∗ (∃ W, wtPts d i W) ∗ (∃ G, rowsPts d i G) ∗ (∃ B, outPts d i B) ∗ tabPts d i q T ∗ semVal (thr d i, .dma semG.sem) 0 ∗ Duty d i O W₀)

/-- Lane `l`'s region. -/
def regLane (f : Fin 5 → Vec F S16 .f32) (l : Fin 16) : Reg F := regOf (f 0 (ln l)) (f 1 (ln l)) (f 2 (ln l)) (f 3 (ln l)) (f 4 (ln l))

theorem wp_list (q : PosShare TreeShare) (T : Vec F S4096x128 .f32) (R : Reg F) (Q : PUnit → sProp 𝕄)
    (hQ : iprop((∃ L W, ⌜R.Done 13 0 L W⌝ ∗ listPts d i L ∗ wtPts d i W) ∗ (∃ G, rowsPts d i G) ∗ (∃ B, outPts d i B) ∗ tabPts d i q T ∗ semVal (thr d i, .dma semG.sem) 0 ∗ Duty d i O W₀) ⊢ Q ⟨⟩) :
    works d i O W₀ q T ⊢ WP d i (chunks i mList mWt R.base R.by1 R.bh R.bx1 R.bw R.rvf) Q := by
  have h := framed d i (p := chunks i mList mWt R.base R.by1 R.bh R.bx1 R.bw R.rvf) (P := Lists d i R 0 0) (P' := fun _ => Lists d i R 13 0)
    (R := iprop((∃ G, rowsPts d i G) ∗ (∃ B, outPts d i B) ∗ tabPts d i q T ∗ semVal (thr d i, .dma semG.sem) 0 ∗ Duty d i O W₀)) (Q := Q)
    (wp_chunks d i R _ (BI.Entails.refl _)) (fun _ => hQ)
  unfold works
  iintro ⟨⟨%L, HL⟩, ⟨%W, HW⟩, HR⟩
  iapply h
  isplitl [HL HW]
  · unfold Lists
    iexists L; iexists W
    isplitr
    · ipureintro; exact Reg.Done.zero R L W
    · isplitl [HL] <;> iassumption
  · iexact HR

/-- The gathers and the bins. -/
theorem wp_pool (q : PosShare TreeShare) (T : Vec F S4096x128 .f32) (R : Reg F) (hR : ∀ p < 832, (R.list p).toNat < 4096) (Fr : sProp 𝕄) (p : TP F i (BitVec 32)) (Q : BitVec 32 → sProp 𝕄)
    (hQ : iprop((∃ L, listPts d i L) ∗ (∃ W, wtPts d i W) ∗ (∃ G, rowsPts d i G) ∗ outPts d i (roiVal T R) ∗ tabPts d i q T ∗ semVal (thr d i, .dma semG.sem) 0 ∗ Duty d i O W₀ ∗ Fr) ⊢ WP d i p Q) :
    iprop((∃ L W, ⌜R.Done 13 0 L W⌝ ∗ listPts d i L ∗ wtPts d i W) ∗ (∃ G, rowsPts d i G) ∗ (∃ B, outPts d i B) ∗ tabPts d i q T ∗ semVal (thr d i, .dma semG.sem) 0 ∗ Duty d i O W₀ ∗ Fr)
      ⊢ WP d i (do
          gathers i mTab mList mRows semG
          tail5 i mTab mWt mRows mOut semG
          p) Q := by
  iintro ⟨⟨%L, %W, %hD, HL, HW⟩, ⟨%G, HG⟩, HB, HT, HS, HO, HF⟩
  have hL := list_lt hD hR
  have h3 := wp_bins d i W (gathered T L) (iprop(listPts d i L ∗ tabPts d i q T ∗ semVal (thr d i, .dma semG.sem) 0 ∗ Duty d i O W₀ ∗ Fr))
    (fun _ => iprop((∃ L, listPts d i L) ∗ (∃ W, wtPts d i W) ∗ (∃ G, rowsPts d i G) ∗ outPts d i (roiVal T R) ∗ tabPts d i q T ∗ semVal (thr d i, .dma semG.sem) 0 ∗ Duty d i O W₀ ∗ Fr))
    (fun _ => by
      iintro ⟨HW, HG, ⟨%B, %hB, HB⟩, HL, HR⟩
      rw [roi_bins hD hB]
      isplitl [HL]; · iexists _; iexact HL
      isplitl [HW]; · iexists _; iexact HW
      isplitl [HG]; · iexists _; iexact HG
      isplitl [HB] <;> iassumption)
  have h2 : iprop(((((rowsPts d i (gathered T L) ∗ listPts d i L) ∗ tabPts d i q T) ∗ semVal (thr d i, .dma semG.sem) 0) ∗ Duty d i O W₀) ∗ wtPts d i W ∗ (∃ B, outPts d i B) ∗ Fr)
      ⊢ WP d i (do
          let _ : BitVec 32 ← Scf.Loop.for k0_t2_loop k0_t2_ok 0#32 fun t _ => bin i mWt mRows mOut t
          pure PUnit.unit) (fun _ => WP d i p Q) := by
    unfold WP
    rw [wp_bind]
    refine BIBase.Entails.trans ?_ (h3.trans (wp_mono frame _ Set.univ fun _ => hQ.trans (wp_ret d i)))
    iintro ⟨⟨⟨⟨⟨HG, HL⟩, HT⟩, HS⟩, HO⟩, HW, HB, HF⟩
    isplitl [HW]; · iexact HW
    isplitl [HG]; · iexact HG
    isplitl [HB]; · iexact HB
    isplitl [HL]; · iexact HL
    isplitl [HT]; · iexact HT
    isplitl [HS]; · iexact HS
    isplitl [HO] <;> iassumption
  have h1 := framed d i (p := (do
          waitG i mTab mRows semG 512 inb_S832x128_S64x128_512_0
          waitG i mTab mRows semG 576 inb_S832x128_S64x128_576_0
          waitG i mTab mRows semG 640 inb_S832x128_S64x128_640_0
          waitG i mTab mRows semG 704 inb_S832x128_S64x128_704_0
          waitG i mTab mRows semG 768 inb_S832x128_S64x128_768_0
          pure PUnit.unit)) (R := iprop(wtPts d i W ∗ (∃ B, outPts d i B) ∗ Fr))
    (Q := fun _ => WP d i (do
          let _ : BitVec 32 ← Scf.Loop.for k0_t2_loop k0_t2_ok 0#32 fun t _ => bin i mWt mRows mOut t
          pure PUnit.unit) (fun _ => WP d i p Q))
    (wp_waits d i O W₀ q T G L hL (pure PUnit.unit)
      (fun _ => iprop((((rowsPts d i (gathered T L) ∗ listPts d i L) ∗ tabPts d i q T) ∗ semVal (thr d i, .dma semG.sem) 0) ∗ Duty d i O W₀))
      (wp_ret d i))
    (fun _ => h2)
  have h0 := framed d i (p := gathers i mTab mList mRows semG) (R := iprop(wtPts d i W ∗ (∃ B, outPts d i B) ∗ Fr))
    (Q := fun _ => WP d i (tail5 i mTab mWt mRows mOut semG) (fun _ => WP d i p Q))
    (wp_gathers d i O W₀ q T G L hL (fun _ => Waiting d i O W₀ q T G L hL 2097152) (BI.Entails.refl _))
    (fun _ => h1.trans (Entails.of_eq (by unfold WP; rw [← wp_bind]; rfl)))
  unfold WP at h0
  unfold WP
  simp only [wp_bind]
  iapply h0
  isplitl [HG HL HT HS HO]
  · isplitl [HG HL HT HS]
    · isplitl [HG HL HT]
      · isplitl [HG HL]
        · isplitl [HG] <;> iassumption
        · iexact HT
      · iexact HS
    · iexact HO
  · isplitl [HW]; · iexact HW
    isplitl [HB] <;> iassumption

end Tile

end Cert.Proof.KerI

end
-- ==== Proof.Ideal.Region.lean ====
module

public import proofs.«01_k».proof.Proof.Ideal.Roi

@[expose] public section

noncomputable section

/-! One region of interest, from its lane of the boxes to its row of the result. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx (ix1 ix2)

section Tile

variable (d : Dev nD) (i : grid0.Coords) (O : CellTallies nD τ sig (HIx 1)) (W₀ : Waits sig (HIx 1))

theorem wp_lane0' (f : Fin 5 → Vec F S16 .f32) (n : BitVec 32) (l : Fin 16) (hn : n.toNat = l.val) (h : ∀ a x, ((![bc n] : Fin 1 → IVec S16 32) a x).toNat < S16.size a)
    (R : sProp 𝕄) (Q : Vec F S16 .f32 → sProp 𝕄) (hQ : iprop(boxes d i f ∗ R) ⊢ Q (fun _ => f 0 (ln l))) :
    iprop(boxes d i f ∗ R) ⊢ WP d i (lane i (mBox 0) n h) Q := by
  have h0 := wp_lane0 d i (f 0) n l hn h (iprop(((thr d i).loc cc0_scratch1 ↦{fullShare} f 1) ∗ ((thr d i).loc cc0_scratch2 ↦{fullShare} f 2) ∗ ((thr d i).loc cc0_scratch3 ↦{fullShare} f 3) ∗ ((thr d i).loc cc0_scratch4 ↦{fullShare} f 4) ∗ R)) Q (by
    refine BIBase.Entails.trans ?_ hQ
    unfold boxes
    iintro ⟨H0, H1, H2, H3, H4, HR⟩
    isplitl [H0 H1 H2 H3 H4]
    ·
      isplitl [H0]; · iexact H0
      isplitl [H1]; · iexact H1
      isplitl [H2]; · iexact H2
      isplitl [H3]; · iexact H3
      iexact H4
    · iexact HR)
  unfold boxes
  iintro ⟨⟨H0, H1, H2, H3, H4⟩, HR⟩
  iapply h0
  isplitl [H0]; · iexact H0
  isplitl [H1]; · iexact H1
  isplitl [H2]; · iexact H2
  isplitl [H3]; · iexact H3
  isplitl [H4]; · iexact H4
  iexact HR

theorem wp_lane1' (f : Fin 5 → Vec F S16 .f32) (n : BitVec 32) (l : Fin 16) (hn : n.toNat = l.val) (h : ∀ a x, ((![bc n] : Fin 1 → IVec S16 32) a x).toNat < S16.size a)
    (R : sProp 𝕄) (Q : Vec F S16 .f32 → sProp 𝕄) (hQ : iprop(boxes d i f ∗ R) ⊢ Q (fun _ => f 1 (ln l))) :
    iprop(boxes d i f ∗ R) ⊢ WP d i (lane i (mBox 1) n h) Q := by
  have h0 := wp_lane1 d i (f 1) n l hn h (iprop(((thr d i).loc cc0_scratch0 ↦{fullShare} f 0) ∗ ((thr d i).loc cc0_scratch2 ↦{fullShare} f 2) ∗ ((thr d i).loc cc0_scratch3 ↦{fullShare} f 3) ∗ ((thr d i).loc cc0_scratch4 ↦{fullShare} f 4) ∗ R)) Q (by
    refine BIBase.Entails.trans ?_ hQ
    unfold boxes
    iintro ⟨H1, H0, H2, H3, H4, HR⟩
    isplitl [H0 H1 H2 H3 H4]
    ·
      isplitl [H0]; · iexact H0
      isplitl [H1]; · iexact H1
      isplitl [H2]; · iexact H2
      isplitl [H3]; · iexact H3
      iexact H4
    · iexact HR)
  unfold boxes
  iintro ⟨⟨H0, H1, H2, H3, H4⟩, HR⟩
  iapply h0
  isplitl [H1]; · iexact H1
  isplitl [H0]; · iexact H0
  isplitl [H2]; · iexact H2
  isplitl [H3]; · iexact H3
  isplitl [H4]; · iexact H4
  iexact HR

theorem wp_lane2' (f : Fin 5 → Vec F S16 .f32) (n : BitVec 32) (l : Fin 16) (hn : n.toNat = l.val) (h : ∀ a x, ((![bc n] : Fin 1 → IVec S16 32) a x).toNat < S16.size a)
    (R : sProp 𝕄) (Q : Vec F S16 .f32 → sProp 𝕄) (hQ : iprop(boxes d i f ∗ R) ⊢ Q (fun _ => f 2 (ln l))) :
    iprop(boxes d i f ∗ R) ⊢ WP d i (lane i (mBox 2) n h) Q := by
  have h0 := wp_lane2 d i (f 2) n l hn h (iprop(((thr d i).loc cc0_scratch0 ↦{fullShare} f 0) ∗ ((thr d i).loc cc0_scratch1 ↦{fullShare} f 1) ∗ ((thr d i).loc cc0_scratch3 ↦{fullShare} f 3) ∗ ((thr d i).loc cc0_scratch4 ↦{fullShare} f 4) ∗ R)) Q (by
    refine BIBase.Entails.trans ?_ hQ
    unfold boxes
    iintro ⟨H2, H0, H1, H3, H4, HR⟩
    isplitl [H0 H1 H2 H3 H4]
    ·
      isplitl [H0]; · iexact H0
      isplitl [H1]; · iexact H1
      isplitl [H2]; · iexact H2
      isplitl [H3]; · iexact H3
      iexact H4
    · iexact HR)
  unfold boxes
  iintro ⟨⟨H0, H1, H2, H3, H4⟩, HR⟩
  iapply h0
  isplitl [H2]; · iexact H2
  isplitl [H0]; · iexact H0
  isplitl [H1]; · iexact H1
  isplitl [H3]; · iexact H3
  isplitl [H4]; · iexact H4
  iexact HR

theorem wp_lane3' (f : Fin 5 → Vec F S16 .f32) (n : BitVec 32) (l : Fin 16) (hn : n.toNat = l.val) (h : ∀ a x, ((![bc n] : Fin 1 → IVec S16 32) a x).toNat < S16.size a)
    (R : sProp 𝕄) (Q : Vec F S16 .f32 → sProp 𝕄) (hQ : iprop(boxes d i f ∗ R) ⊢ Q (fun _ => f 3 (ln l))) :
    iprop(boxes d i f ∗ R) ⊢ WP d i (lane i (mBox 3) n h) Q := by
  have h0 := wp_lane3 d i (f 3) n l hn h (iprop(((thr d i).loc cc0_scratch0 ↦{fullShare} f 0) ∗ ((thr d i).loc cc0_scratch1 ↦{fullShare} f 1) ∗ ((thr d i).loc cc0_scratch2 ↦{fullShare} f 2) ∗ ((thr d i).loc cc0_scratch4 ↦{fullShare} f 4) ∗ R)) Q (by
    refine BIBase.Entails.trans ?_ hQ
    unfold boxes
    iintro ⟨H3, H0, H1, H2, H4, HR⟩
    isplitl [H0 H1 H2 H3 H4]
    ·
      isplitl [H0]; · iexact H0
      isplitl [H1]; · iexact H1
      isplitl [H2]; · iexact H2
      isplitl [H3]; · iexact H3
      iexact H4
    · iexact HR)
  unfold boxes
  iintro ⟨⟨H0, H1, H2, H3, H4⟩, HR⟩
  iapply h0
  isplitl [H3]; · iexact H3
  isplitl [H0]; · iexact H0
  isplitl [H1]; · iexact H1
  isplitl [H2]; · iexact H2
  isplitl [H4]; · iexact H4
  iexact HR

theorem wp_lane4' (f : Fin 5 → Vec F S16 .f32) (n : BitVec 32) (l : Fin 16) (hn : n.toNat = l.val) (h : ∀ a x, ((![bc n] : Fin 1 → IVec S16 32) a x).toNat < S16.size a)
    (R : sProp 𝕄) (Q : Vec F S16 .f32 → sProp 𝕄) (hQ : iprop(boxes d i f ∗ R) ⊢ Q (fun _ => f 4 (ln l))) :
    iprop(boxes d i f ∗ R) ⊢ WP d i (lane i (mBox 4) n h) Q := by
  have h0 := wp_lane4 d i (f 4) n l hn h (iprop(((thr d i).loc cc0_scratch0 ↦{fullShare} f 0) ∗ ((thr d i).loc cc0_scratch1 ↦{fullShare} f 1) ∗ ((thr d i).loc cc0_scratch2 ↦{fullShare} f 2) ∗ ((thr d i).loc cc0_scratch3 ↦{fullShare} f 3) ∗ R)) Q (by
    refine BIBase.Entails.trans ?_ hQ
    unfold boxes
    iintro ⟨H4, H0, H1, H2, H3, HR⟩
    isplitl [H0 H1 H2 H3 H4]
    ·
      isplitl [H0]; · iexact H0
      isplitl [H1]; · iexact H1
      isplitl [H2]; · iexact H2
      isplitl [H3]; · iexact H3
      iexact H4
    · iexact HR)
  unfold boxes
  iintro ⟨⟨H0, H1, H2, H3, H4⟩, HR⟩
  iapply h0
  isplitl [H4]; · iexact H4
  isplitl [H0]; · iexact H0
  isplitl [H1]; · iexact H1
  isplitl [H2]; · iexact H2
  isplitl [H3]; · iexact H3
  iexact HR

/-- A region's program on the tile's own buffers. -/
abbrev roiAt (n : BitVec 32) (off : Fin 3 → ℕ) (hoff : ∀ a, off a + S1x49x128.size a ≤ S1024x49x128.size a) (hout : (outAt (Memref.whole main_v6_scv) off hoff).view.WordExact) (sem : DmaSems sig S_) : TP F i (BitVec 32) :=
  roi i mTab (mBox 0) (mBox 1) (mBox 2) (mBox 3) (mBox 4) mList mWt mRows mOut (Memref.isWhole_whole _) semG n (outAt (Memref.whole main_v6_scv) off hoff) hout sem

set_option maxRecDepth 20000 in
theorem wp_roi (q : PosShare TreeShare) (T : Vec F S4096x128 .f32) (f : Fin 5 → Vec F S16 .f32) (n : BitVec 32) (l : Fin 16) (hn : n.toNat = l.val)
    (hR : ∀ p < 832, ((regLane f l).list p).toNat < 4096)
    (off : Fin 3 → ℕ) (hoff : ∀ a, off a + S1x49x128.size a ≤ S1024x49x128.size a) (hout : (outAt (Memref.whole main_v6_scv) off hoff).view.WordExact) (sem : DmaSems sig S_)
    (V₀ V : Vec F S1024x49x128 .f32) (hV : ∀ x, V ((outAt (Memref.whole main_v6_scv) off hoff).view.emb x) = roiVal T (regLane f l) x) (Q : BitVec 32 → sProp 𝕄)
    (hQ : iprop(boxes d i f ∗ works d i O W₀ q T ∗ semVal (thr d i, .dma sem.sem) 0 ∗ rowPts d i off hoff V) ⊢ Q 0#32) :
    iprop(boxes d i f ∗ works d i O W₀ q T ∗ semVal (thr d i, .dma sem.sem) 0 ∗ rowPts d i off hoff V₀) ⊢ WP d i (roiAt i n off hoff hout sem) Q := by
  have hc := chk1_ok n l hn
  have h3 := wp_copy d i O W₀ off hoff hout sem V₀ V (roiVal T (regLane f l)) hV
    (fun a => iprop(outPts d i (roiVal T (regLane f l)) ∗ rowPts d i off hoff V ∗ semVal (thr d i, .dma sem.sem) 0 ∗ Duty d i O W₀ ∗ ⌜a = 0#32⌝))
    (by
      iintro ⟨HB, Ho, HS, HO⟩
      isplitl [HB]; · iexact HB
      isplitl [Ho]; · iexact Ho
      isplitl [HS]; · iexact HS
      isplitl [HO]; · iexact HO
      ipureintro; rfl)
  have h2 := wp_pool d i O W₀ q T (regLane f l) hR (iprop(boxes d i f ∗ semVal (thr d i, .dma sem.sem) 0 ∗ rowPts d i off hoff V₀)) _ Q
    (BIBase.Entails.trans (by
      iintro ⟨HL, HW, HG, HB, HT, HS, HO, HX, Hs, Hr⟩
      isplitl [HB Hr Hs HO]
      · isplitl [HB]; · iexact HB
        isplitl [Hr]; · iexact Hr
        isplitl [Hs] <;> iassumption
      · isplitl [HX]; · iexact HX
        isplitl [HL]; · iexact HL
        isplitl [HW]; · iexact HW
        isplitl [HG]; · iexact HG
        isplitl [HT] <;> iassumption)
      (framed d i (R := iprop(boxes d i f ∗ (∃ L, listPts d i L) ∗ (∃ W, wtPts d i W) ∗ (∃ G, rowsPts d i G) ∗ tabPts d i q T ∗ semVal (thr d i, .dma semG.sem) 0)) (Q := Q) h3
        (fun a => by
          iintro ⟨⟨HB, Hr, Hs, HO, %ha⟩, HX, HL, HW, HG, HT, HS⟩
          rw [ha]
          iapply hQ
          isplitl [HX]; · iexact HX
          isplitl [HL HW HG HB HT HS HO]
          · unfold works
            isplitl [HL]; · iexact HL
            isplitl [HW]; · iexact HW
            isplitl [HG]; · iexact HG
            isplitl [HB]; · iexists _; iexact HB
            isplitl [HT]; · iexact HT
            isplitl [HS] <;> iassumption
          · isplitl [Hs] <;> iassumption)))
  have h1 := framed d i (R := iprop(boxes d i f ∗ semVal (thr d i, .dma sem.sem) 0 ∗ rowPts d i off hoff V₀))
    (wp_list d i O W₀ q T (regLane f l) (fun _ => _) (BI.Entails.refl _))
    (fun _ => BIBase.Entails.trans (by
      iintro ⟨⟨HL, HG, HB, HT, HS, HO⟩, HF⟩
      isplitl [HL]; · iexact HL
      isplitl [HG]; · iexact HG
      isplitl [HB]; · iexact HB
      isplitl [HT]; · iexact HT
      isplitl [HS]; · iexact HS
      isplitl [HO] <;> iassumption) h2)
  have h0 := BIBase.Entails.trans (show iprop(boxes d i f ∗ works d i O W₀ q T ∗ semVal (thr d i, .dma sem.sem) 0 ∗ rowPts d i off hoff V₀) ⊢
      iprop(works d i O W₀ q T ∗ boxes d i f ∗ semVal (thr d i, .dma sem.sem) 0 ∗ rowPts d i off hoff V₀) by
    iintro ⟨HX, HK, HF⟩
    isplitl [HK]; · iexact HK
    isplitl [HX] <;> iassumption) h1
  unfold WP at h0
  rw [← wp_bind] at h0
  have hL : iprop(boxes d i f ∗ works d i O W₀ q T ∗ semVal (thr d i, .dma sem.sem) 0 ∗ rowPts d i off hoff V₀) ⊢ WP d i (do
      let b ← lane i (mBox 0) n (k0_idx1_inb _ hc)
      let x1 ← lane i (mBox 1) n (k0_idx2_inb _ hc)
      let y1 ← lane i (mBox 2) n (k0_idx3_inb _ hc)
      let x2 ← lane i (mBox 3) n (k0_idx4_inb _ hc)
      let y2 ← lane i (mBox 4) n (k0_idx5_inb _ hc)
      chunks i mList mWt (baseRow b) (scaled y1) (side (scaled y1) (scaled y2)) (scaled x1) (side (scaled x1) (scaled x2))
        (valid (scaled x1) (scaled y1) (scaled x2) (scaled y2))
      gathers i mTab mList mRows semG
      tail5 i mTab mWt mRows mOut semG
      Prog.lift (.enqueueDma mOut (.here (outAt (Memref.whole main_v6_scv) off hoff)) (.dma sem.sem) (Memref.isWhole_whole _).wordExact hout ⟨Or.inl rfl, trivial⟩)
      Prog.lift (.waitDma2 sem.sem mOut (outAt (Memref.whole main_v6_scv) off hoff) (Memref.isWhole_whole _).wordExact hout)
      pure 0#32) Q := by
    unfold WP
    rw [wp_bind]; refine wp_lane0' d i f n l hn (k0_idx1_inb _ hc) (iprop(works d i O W₀ q T ∗ semVal (thr d i, .dma sem.sem) 0 ∗ rowPts d i off hoff V₀)) _ ?_
    rw [wp_bind]; refine wp_lane1' d i f n l hn (k0_idx2_inb _ hc) (iprop(works d i O W₀ q T ∗ semVal (thr d i, .dma sem.sem) 0 ∗ rowPts d i off hoff V₀)) _ ?_
    rw [wp_bind]; refine wp_lane2' d i f n l hn (k0_idx3_inb _ hc) (iprop(works d i O W₀ q T ∗ semVal (thr d i, .dma sem.sem) 0 ∗ rowPts d i off hoff V₀)) _ ?_
    rw [wp_bind]; refine wp_lane3' d i f n l hn (k0_idx4_inb _ hc) (iprop(works d i O W₀ q T ∗ semVal (thr d i, .dma sem.sem) 0 ∗ rowPts d i off hoff V₀)) _ ?_
    rw [wp_bind]; refine wp_lane4' d i f n l hn (k0_idx5_inb _ hc) (iprop(works d i O W₀ q T ∗ semVal (thr d i, .dma sem.sem) 0 ∗ rowPts d i off hoff V₀)) _ ?_
    exact h0
  unfold roiAt roi
  iintro H
  iapply (wp_assume 𝒱₀ (thr d i) none Set.univ hc)
  iapply hL
  iexact H

end Tile

end Cert.Proof.KerI

end
-- ==== Proof.Ideal.Fetch.lean ====
module

public import proofs.«01_k».proof.Proof.Ideal.Region
public import Idealize.ShloMosaic.Lib.ValueLayout

@[expose] public section

noncomputable section

/-! The boxes fetched, and the rows of the result. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx (ix1 ix2 ix3)

section Tile

variable (d : Dev nD) (i : grid0.Coords) (O : CellTallies nD τ sig (HIx 1)) (W₀ : Waits sig (HIx 1))

abbrev boxPts (q : PosShare TreeShare) (X : Vec F S5x1024 .f32) : sProp 𝕄 := (thr d i).loc main_v5_scv ↦{q} X

theorem wp_fetch0 (q : PosShare TreeShare) (X : Vec F S5x1024 .f32) (f g : Vec F S16 .f32) (off : Fin 2 → ℕ) (hoff : ∀ a, off a + S1x16.size a ≤ S5x1024.size a)
    (hw) (sem : DmaSems sig S_) (hg : (boxAt (Memref.whole main_v5_scv) off hoff).view.read (Elt F) X = g) (R : sProp 𝕄) (Q : PUnit → sProp 𝕄)
    (hQ : iprop(boxPts d i q X ∗ ((thr d i).loc cc0_scratch0 ↦{fullShare} g) ∗ semVal (thr d i, .dma sem.sem) 0 ∗ Duty d i O W₀ ∗ R) ⊢ Q ⟨⟩) :
    iprop(boxPts d i q X ∗ ((thr d i).loc cc0_scratch0 ↦{fullShare} f) ∗ semVal (thr d i, .dma sem.sem) 0 ∗ Duty d i O W₀ ∗ R)
      ⊢ WP d i (fetch i (boxAt (Memref.whole main_v5_scv) off hoff) (mBox 0) hw (Memref.isWhole_whole _) sem) Q := by
  unfold Duty at hQ
  unfold Duty boxPts WP fetch
  iintro ⟨HX, HB, Hs, ⟨#Hm, %W, %hW, HO⟩, HR⟩
  ihave HX := (Entails.of_eq (show boxPts d i q X = ((Memref.whole main_v5_scv).view.loc (thr d i) ↦{q} X : sProp 𝕄) from rfl)) $$ HX
  ihave HB := (Entails.of_eq (show ((thr d i).loc cc0_scratch0 ↦{fullShare} f) = ((mBox 0).view.loc (thr d i) ↦{fullShare} f : sProp 𝕄) from rfl)) $$ HB
  sl_exec
  sl_step
  iapply hQ
  isplitl [HX]; · iexact HX
  isplitl [HB]
  · iapply (Entails.of_eq (show ((mBox 0).view.loc (thr d i) ↦{fullShare} View.write (Elt F) (mBox 0).view f ((boxAt (Memref.whole main_v5_scv) off hoff).view.read (Elt F) X) Finset.univ : sProp 𝕄)
      = ((thr d i).loc cc0_scratch0 ↦{fullShare} g) by rw [hg]; exact congrArg (fun v : Vec F S16 .f32 => ((thr d i).loc cc0_scratch0 ↦{fullShare} v : sProp 𝕄)) (View.write_whole_univ _ _ _)))
    iexact HB
  isplitl [Hs]; · iexact Hs
  isplitl [HO]
  · isplitr; · iexact Hm
    iexists (insert (SemLoc.dma sem.sem, (default : HIx 1)) W)
    isplitr
    · ipureintro
      intro p hp
      rcases Finset.mem_insert.mp hp with h | hp
      · exact .inr (by rw [h]; rfl)
      · exact hW p hp
    · iexact HO
  iexact HR

theorem wp_fetch1 (q : PosShare TreeShare) (X : Vec F S5x1024 .f32) (f g : Vec F S16 .f32) (off : Fin 2 → ℕ) (hoff : ∀ a, off a + S1x16.size a ≤ S5x1024.size a)
    (hw) (sem : DmaSems sig S_) (hg : (boxAt (Memref.whole main_v5_scv) off hoff).view.read (Elt F) X = g) (R : sProp 𝕄) (Q : PUnit → sProp 𝕄)
    (hQ : iprop(boxPts d i q X ∗ ((thr d i).loc cc0_scratch1 ↦{fullShare} g) ∗ semVal (thr d i, .dma sem.sem) 0 ∗ Duty d i O W₀ ∗ R) ⊢ Q ⟨⟩) :
    iprop(boxPts d i q X ∗ ((thr d i).loc cc0_scratch1 ↦{fullShare} f) ∗ semVal (thr d i, .dma sem.sem) 0 ∗ Duty d i O W₀ ∗ R)
      ⊢ WP d i (fetch i (boxAt (Memref.whole main_v5_scv) off hoff) (mBox 1) hw (Memref.isWhole_whole _) sem) Q := by
  unfold Duty at hQ
  unfold Duty boxPts WP fetch
  iintro ⟨HX, HB, Hs, ⟨#Hm, %W, %hW, HO⟩, HR⟩
  ihave HX := (Entails.of_eq (show boxPts d i q X = ((Memref.whole main_v5_scv).view.loc (thr d i) ↦{q} X : sProp 𝕄) from rfl)) $$ HX
  ihave HB := (Entails.of_eq (show ((thr d i).loc cc0_scratch1 ↦{fullShare} f) = ((mBox 1).view.loc (thr d i) ↦{fullShare} f : sProp 𝕄) from rfl)) $$ HB
  sl_exec
  sl_step
  iapply hQ
  isplitl [HX]; · iexact HX
  isplitl [HB]
  · iapply (Entails.of_eq (show ((mBox 1).view.loc (thr d i) ↦{fullShare} View.write (Elt F) (mBox 1).view f ((boxAt (Memref.whole main_v5_scv) off hoff).view.read (Elt F) X) Finset.univ : sProp 𝕄)
      = ((thr d i).loc cc0_scratch1 ↦{fullShare} g) by rw [hg]; exact congrArg (fun v : Vec F S16 .f32 => ((thr d i).loc cc0_scratch1 ↦{fullShare} v : sProp 𝕄)) (View.write_whole_univ _ _ _)))
    iexact HB
  isplitl [Hs]; · iexact Hs
  isplitl [HO]
  · isplitr; · iexact Hm
    iexists (insert (SemLoc.dma sem.sem, (default : HIx 1)) W)
    isplitr
    · ipureintro
      intro p hp
      rcases Finset.mem_insert.mp hp with h | hp
      · exact .inr (by rw [h]; rfl)
      · exact hW p hp
    · iexact HO
  iexact HR

theorem wp_fetch2 (q : PosShare TreeShare) (X : Vec F S5x1024 .f32) (f g : Vec F S16 .f32) (off : Fin 2 → ℕ) (hoff : ∀ a, off a + S1x16.size a ≤ S5x1024.size a)
    (hw) (sem : DmaSems sig S_) (hg : (boxAt (Memref.whole main_v5_scv) off hoff).view.read (Elt F) X = g) (R : sProp 𝕄) (Q : PUnit → sProp 𝕄)
    (hQ : iprop(boxPts d i q X ∗ ((thr d i).loc cc0_scratch2 ↦{fullShare} g) ∗ semVal (thr d i, .dma sem.sem) 0 ∗ Duty d i O W₀ ∗ R) ⊢ Q ⟨⟩) :
    iprop(boxPts d i q X ∗ ((thr d i).loc cc0_scratch2 ↦{fullShare} f) ∗ semVal (thr d i, .dma sem.sem) 0 ∗ Duty d i O W₀ ∗ R)
      ⊢ WP d i (fetch i (boxAt (Memref.whole main_v5_scv) off hoff) (mBox 2) hw (Memref.isWhole_whole _) sem) Q := by
  unfold Duty at hQ
  unfold Duty boxPts WP fetch
  iintro ⟨HX, HB, Hs, ⟨#Hm, %W, %hW, HO⟩, HR⟩
  ihave HX := (Entails.of_eq (show boxPts d i q X = ((Memref.whole main_v5_scv).view.loc (thr d i) ↦{q} X : sProp 𝕄) from rfl)) $$ HX
  ihave HB := (Entails.of_eq (show ((thr d i).loc cc0_scratch2 ↦{fullShare} f) = ((mBox 2).view.loc (thr d i) ↦{fullShare} f : sProp 𝕄) from rfl)) $$ HB
  sl_exec
  sl_step
  iapply hQ
  isplitl [HX]; · iexact HX
  isplitl [HB]
  · iapply (Entails.of_eq (show ((mBox 2).view.loc (thr d i) ↦{fullShare} View.write (Elt F) (mBox 2).view f ((boxAt (Memref.whole main_v5_scv) off hoff).view.read (Elt F) X) Finset.univ : sProp 𝕄)
      = ((thr d i).loc cc0_scratch2 ↦{fullShare} g) by rw [hg]; exact congrArg (fun v : Vec F S16 .f32 => ((thr d i).loc cc0_scratch2 ↦{fullShare} v : sProp 𝕄)) (View.write_whole_univ _ _ _)))
    iexact HB
  isplitl [Hs]; · iexact Hs
  isplitl [HO]
  · isplitr; · iexact Hm
    iexists (insert (SemLoc.dma sem.sem, (default : HIx 1)) W)
    isplitr
    · ipureintro
      intro p hp
      rcases Finset.mem_insert.mp hp with h | hp
      · exact .inr (by rw [h]; rfl)
      · exact hW p hp
    · iexact HO
  iexact HR

theorem wp_fetch3 (q : PosShare TreeShare) (X : Vec F S5x1024 .f32) (f g : Vec F S16 .f32) (off : Fin 2 → ℕ) (hoff : ∀ a, off a + S1x16.size a ≤ S5x1024.size a)
    (hw) (sem : DmaSems sig S_) (hg : (boxAt (Memref.whole main_v5_scv) off hoff).view.read (Elt F) X = g) (R : sProp 𝕄) (Q : PUnit → sProp 𝕄)
    (hQ : iprop(boxPts d i q X ∗ ((thr d i).loc cc0_scratch3 ↦{fullShare} g) ∗ semVal (thr d i, .dma sem.sem) 0 ∗ Duty d i O W₀ ∗ R) ⊢ Q ⟨⟩) :
    iprop(boxPts d i q X ∗ ((thr d i).loc cc0_scratch3 ↦{fullShare} f) ∗ semVal (thr d i, .dma sem.sem) 0 ∗ Duty d i O W₀ ∗ R)
      ⊢ WP d i (fetch i (boxAt (Memref.whole main_v5_scv) off hoff) (mBox 3) hw (Memref.isWhole_whole _) sem) Q := by
  unfold Duty at hQ
  unfold Duty boxPts WP fetch
  iintro ⟨HX, HB, Hs, ⟨#Hm, %W, %hW, HO⟩, HR⟩
  ihave HX := (Entails.of_eq (show boxPts d i q X = ((Memref.whole main_v5_scv).view.loc (thr d i) ↦{q} X : sProp 𝕄) from rfl)) $$ HX
  ihave HB := (Entails.of_eq (show ((thr d i).loc cc0_scratch3 ↦{fullShare} f) = ((mBox 3).view.loc (thr d i) ↦{fullShare} f : sProp 𝕄) from rfl)) $$ HB
  sl_exec
  sl_step
  iapply hQ
  isplitl [HX]; · iexact HX
  isplitl [HB]
  · iapply (Entails.of_eq (show ((mBox 3).view.loc (thr d i) ↦{fullShare} View.write (Elt F) (mBox 3).view f ((boxAt (Memref.whole main_v5_scv) off hoff).view.read (Elt F) X) Finset.univ : sProp 𝕄)
      = ((thr d i).loc cc0_scratch3 ↦{fullShare} g) by rw [hg]; exact congrArg (fun v : Vec F S16 .f32 => ((thr d i).loc cc0_scratch3 ↦{fullShare} v : sProp 𝕄)) (View.write_whole_univ _ _ _)))
    iexact HB
  isplitl [Hs]; · iexact Hs
  isplitl [HO]
  · isplitr; · iexact Hm
    iexists (insert (SemLoc.dma sem.sem, (default : HIx 1)) W)
    isplitr
    · ipureintro
      intro p hp
      rcases Finset.mem_insert.mp hp with h | hp
      · exact .inr (by rw [h]; rfl)
      · exact hW p hp
    · iexact HO
  iexact HR

theorem wp_fetch4 (q : PosShare TreeShare) (X : Vec F S5x1024 .f32) (f g : Vec F S16 .f32) (off : Fin 2 → ℕ) (hoff : ∀ a, off a + S1x16.size a ≤ S5x1024.size a)
    (hw) (sem : DmaSems sig S_) (hg : (boxAt (Memref.whole main_v5_scv) off hoff).view.read (Elt F) X = g) (R : sProp 𝕄) (Q : PUnit → sProp 𝕄)
    (hQ : iprop(boxPts d i q X ∗ ((thr d i).loc cc0_scratch4 ↦{fullShare} g) ∗ semVal (thr d i, .dma sem.sem) 0 ∗ Duty d i O W₀ ∗ R) ⊢ Q ⟨⟩) :
    iprop(boxPts d i q X ∗ ((thr d i).loc cc0_scratch4 ↦{fullShare} f) ∗ semVal (thr d i, .dma sem.sem) 0 ∗ Duty d i O W₀ ∗ R)
      ⊢ WP d i (fetch i (boxAt (Memref.whole main_v5_scv) off hoff) (mBox 4) hw (Memref.isWhole_whole _) sem) Q := by
  unfold Duty at hQ
  unfold Duty boxPts WP fetch
  iintro ⟨HX, HB, Hs, ⟨#Hm, %W, %hW, HO⟩, HR⟩
  ihave HX := (Entails.of_eq (show boxPts d i q X = ((Memref.whole main_v5_scv).view.loc (thr d i) ↦{q} X : sProp 𝕄) from rfl)) $$ HX
  ihave HB := (Entails.of_eq (show ((thr d i).loc cc0_scratch4 ↦{fullShare} f) = ((mBox 4).view.loc (thr d i) ↦{fullShare} f : sProp 𝕄) from rfl)) $$ HB
  sl_exec
  sl_step
  iapply hQ
  isplitl [HX]; · iexact HX
  isplitl [HB]
  · iapply (Entails.of_eq (show ((mBox 4).view.loc (thr d i) ↦{fullShare} View.write (Elt F) (mBox 4).view f ((boxAt (Memref.whole main_v5_scv) off hoff).view.read (Elt F) X) Finset.univ : sProp 𝕄)
      = ((thr d i).loc cc0_scratch4 ↦{fullShare} g) by rw [hg]; exact congrArg (fun v : Vec F S16 .f32 => ((thr d i).loc cc0_scratch4 ↦{fullShare} v : sProp 𝕄)) (View.write_whole_univ _ _ _)))
    iexact HB
  isplitl [Hs]; · iexact Hs
  isplitl [HO]
  · isplitr; · iexact Hm
    iexists (insert (SemLoc.dma sem.sem, (default : HIx 1)) W)
    isplitr
    · ipureintro
      intro p hp
      rcases Finset.mem_insert.mp hp with h | hp
      · exact .inr (by rw [h]; rfl)
      · exact hW p hp
    · iexact HO
  iexact HR

/-- Sixteen words of the boxes' row `k`. -/
def sixteen (X : Vec F S5x1024 .f32) (k : Fin 5) (b : ℕ) : Vec F S16 .f32 := fun x => X (ix2 k ⟨(b + (x 0).val) % 1024, Nat.mod_lt _ (by decide)⟩)

theorem box_read (X : Vec F S5x1024 .f32) (off : Fin 2 → ℕ) (hoff : ∀ a, off a + S1x16.size a ≤ S5x1024.size a) (k : Fin 5) (b : ℕ) (ho : off = ![k.val, b]) :
    (boxAt (Memref.whole main_v5_scv) off hoff).view.read (Elt F) X = sixteen X k b := by
  funext x
  obtain ⟨l, rfl⟩ := lane_eq x
  have hs : ∀ l : Fin 16, (Shape.reshapeEquiv (squeezes_S1x16_S16.numel_eq : S16.numel = S1x16.numel)) (ln l) = ix2 0 l := by decide +kernel
  have h0 : off 0 = k.val := congrFun ho 0
  have h1 : off 1 = b := congrFun ho 1
  have hb := hoff 1
  have hl := l.isLt
  change X ((Rect.unit (s := S5x1024) off S1x16.size hoff).emb ((Shape.reshapeEquiv (squeezes_S1x16_S16.numel_eq : S16.numel = S1x16.numel)) (ln l))) = _
  rw [hs l]
  refine congrArg X (funext fun a => Fin.ext ?_)
  match a with
  | ⟨0, _⟩ =>
    change off 0 + 1 * 0 = k.val
    omega
  | ⟨1, _⟩ =>
    change off 1 + 1 * l.val = (b + l.val) % 1024
    change off 1 + 16 ≤ 1024 at hb
    omega

/-- A row of the result, by number. -/
def rowSet (r : ℕ) : Finset S1024x49x128.Idx := Finset.univ.filter fun x => (x 0).val = r
abbrev resRow (r : ℕ) (V : Vec F S1024x49x128 .f32) : sProp 𝕄 := (thr d i).loc main_v6_scv ↦[rowSet r]{fullShare} V

theorem out_set (off : Fin 3 → ℕ) (hoff : ∀ a, off a + S1x49x128.size a ≤ S1024x49x128.size a) (r : ℕ) (ho : off = ![r, 0, 0]) :
    (outAt (Memref.whole main_v6_scv) off hoff).view.set = rowSet r := by
  change (((Memref.whole main_v6_scv).view.slice (Rect.unit (s := S1024x49x128) off S1x49x128.size hoff)).reshape S49x128 squeezes_S1x49x128_S49x128.numel_eq).set = _
  rw [View.set_reshape]
  refine (View.set_slice_whole (main_v6_scv : Ref sig .scVector) _).trans ?_
  have h0 : off 0 = r := congrFun ho 0
  have h1 : off 1 = 0 := congrFun ho 1
  have h2 : off 2 = 0 := congrFun ho 2
  ext x
  have hx1 : (x 1).val < 49 := (x 1).isLt
  have hx2 : (x 2).val < 128 := (x 2).isLt
  refine Rect.mem_set_unit.trans ?_
  unfold rowSet
  rw [Finset.mem_filter]
  refine ⟨fun h => ⟨Finset.mem_univ _, ?_⟩, fun h a => ?_⟩
  · have := h 0
    change off 0 ≤ (x 0).val ∧ (x 0).val < off 0 + 1 at this
    omega
  · have := h.2
    match a with
    | ⟨0, _⟩ => change off 0 ≤ (x 0).val ∧ (x 0).val < off 0 + 1; omega
    | ⟨1, _⟩ => change off 1 ≤ (x 1).val ∧ (x 1).val < off 1 + 49; omega
    | ⟨2, _⟩ => change off 2 ≤ (x 2).val ∧ (x 2).val < off 2 + 128; omega

theorem out_emb (off : Fin 3 → ℕ) (hoff : ∀ a, off a + S1x49x128.size a ≤ S1024x49x128.size a) (r : ℕ) (hr : r < 1024) (ho : off = ![r, 0, 0]) (x : S49x128.Idx) :
    (outAt (Memref.whole main_v6_scv) off hoff).view.emb x = ix3 ⟨r, hr⟩ (x 0) (x 1) := by
  have h0 : off 0 = r := congrFun ho 0
  have h1 : off 1 = 0 := congrFun ho 1
  have h2 : off 2 = 0 := congrFun ho 2
  have hx : x = ix2 (x 0) (x 1) := funext fun a => by match a with
    | ⟨0, _⟩ => rfl
    | ⟨1, _⟩ => rfl
  change (Rect.unit (s := S1024x49x128) off S1x49x128.size hoff).emb ((Shape.reshapeEquiv (squeezes_S1x49x128_S49x128.numel_eq : S49x128.numel = S1x49x128.numel)) x) = _
  have hs := ValueIdx.reshapeEquiv_ix2_1ab (a := 49) (b := 128) squeezes_S1x49x128_S49x128.numel_eq (x 0) (x 1)
  have hs' : (Shape.reshapeEquiv (squeezes_S1x49x128_S49x128.numel_eq : S49x128.numel = S1x49x128.numel)) x = ix3 (⟨0, Nat.one_pos⟩ : Fin 1) (x 0) (x 1) :=
    (congrArg _ hx).trans hs
  rw [hs']
  funext a
  refine Fin.ext ?_
  match a with
  | ⟨0, _⟩ => change off 0 + 1 * 0 = r; omega
  | ⟨1, _⟩ => change off 1 + 1 * (x 0).val = (x 0).val; omega
  | ⟨2, _⟩ => change off 2 + 1 * (x 1).val = (x 1).val; omega

end Tile

end Cert.Proof.KerI

end
-- ==== Proof.Ideal.Group.lean ====
module

public import proofs.«01_k».proof.Proof.Ideal.Fetch

@[expose] public section

noncomputable section

/-! Sixteen regions of interest. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx (ix1 ix2 ix3)

/-- Row `r` of the boxes' numbers, and the whole result. -/
def regAt (X : Vec F S5x1024 .f32) (r : ℕ) : Reg F :=
  have h : r % 1024 < 1024 := Nat.mod_lt _ (by decide)
  regOf (X (ix2 0 ⟨r % 1024, h⟩)) (X (ix2 1 ⟨r % 1024, h⟩)) (X (ix2 2 ⟨r % 1024, h⟩)) (X (ix2 3 ⟨r % 1024, h⟩)) (X (ix2 4 ⟨r % 1024, h⟩))
def resVal (T : Vec F S4096x128 .f32) (X : Vec F S5x1024 .f32) : Vec F S1024x49x128 .f32 := fun x => roiVal T (regAt X (x 0).val) (ix2 (x 1) (x 2))
/-- Every region's list names rows of the table. -/
def InTable (X : Vec F S5x1024 .f32) : Prop := ∀ r < 1024, ∀ p < 832, ((regAt X r).list p).toNat < 4096

theorem iv_val : ∀ t : Fin 16, (Scf.iv 0#32 1#32 t.val : BitVec 32).toNat = t.val := by decide +kernel

section Tile

variable (d : Dev nD) (i : grid0.Coords) (O : CellTallies nD τ sig (HIx 1)) (W₀ : Waits sig (HIx 1))

theorem rowPts_eq (off : Fin 3 → ℕ) (hoff : ∀ a, off a + S1x49x128.size a ≤ S1024x49x128.size a) (r : ℕ) (ho : off = ![r, 0, 0]) (V : Vec F S1024x49x128 .f32) :
    rowPts d i off hoff V = resRow d i r V :=
  congrArg (fun S : Finset S1024x49x128.Idx => ((thr d i).loc main_v6_scv ↦[S]{fullShare} V : sProp 𝕄)) (out_set off hoff r ho)

/-- A group of sixteen regions of which `n` are done. -/
def groupInv (q : PosShare TreeShare) (T : Vec F S4096x128 .f32) (X : Vec F S5x1024 .f32) (sem : DmaSems sig S_) (V₀ : Vec F S1024x49x128 .f32) (b n : ℕ) : sProp 𝕄 :=
  iprop(boxes d i (fun k => sixteen X k b) ∗ works d i O W₀ q T ∗ semVal (thr d i, .dma sem.sem) 0
    ∗ bigSep Finset.univ (fun t : Fin 16 => resRow d i (b + t.val) (if t.val < n then resVal T X else V₀)))

theorem wp_member (q : PosShare TreeShare) (T : Vec F S4096x128 .f32) (X : Vec F S5x1024 .f32) (hX : InTable X) (sem : DmaSems sig S_) (V₀ : Vec F S1024x49x128 .f32) (b : ℕ) (hb : b + 16 ≤ 1024)
    (t : Fin 16) (n : BitVec 32) (hn : n.toNat = t.val) (off : Fin 3 → ℕ) (hoff : ∀ a, off a + S1x49x128.size a ≤ S1024x49x128.size a)
    (hout : (outAt (Memref.whole main_v6_scv) off hoff).view.WordExact) (ho : off = ![b + t.val, 0, 0]) (Q : BitVec 32 → sProp 𝕄)
    (hQ : groupInv d i O W₀ q T X sem V₀ b (t.val + 1) ⊢ Q 0#32) :
    groupInv d i O W₀ q T X sem V₀ b t.val ⊢ WP d i (roiAt i n off hoff hout sem) Q := by
  have ht := t.isLt
  have hr : regLane (fun k => sixteen X k b) t = regAt X (b + t.val) := rfl
  have h0 := framed d i (R := bigSep (Finset.univ.erase t) (fun s : Fin 16 => resRow d i (b + s.val) (if s.val < t.val + 1 then resVal T X else V₀))) (Q := Q)
    (wp_roi d i O W₀ q T (fun k => sixteen X k b) n t hn (hR := by rw [hr]; exact hX _ (by omega)) off hoff hout sem V₀ (resVal T X)
      (hV := fun x => by
        rw [out_emb off hoff (b + t.val) (by omega) ho x, hr]
        exact congrArg (roiVal T (regAt X (b + t.val))) (funext fun a => by match a with
          | ⟨0, _⟩ => rfl
          | ⟨1, _⟩ => rfl))
      (Q := fun a => iprop((boxes d i (fun k => sixteen X k b) ∗ works d i O W₀ q T ∗ semVal (thr d i, .dma sem.sem) 0 ∗ rowPts d i off hoff (resVal T X)) ∗ ⌜a = 0#32⌝)) (by
        iintro H
        isplitl [H]; · iexact H
        ipureintro; rfl))
    (fun a => by
      refine BIBase.Entails.trans ?_ (show iprop(groupInv d i O W₀ q T X sem V₀ b (t.val + 1) ∗ ⌜a = 0#32⌝) ⊢ Q a by
        iintro ⟨H, %ha⟩
        rw [ha]
        iapply hQ $$ H)
      unfold groupInv
      rw [SparseCore.bigSep_erase' (Finset.mem_univ t) (Φ := fun s : Fin 16 => resRow d i (b + s.val) (if s.val < t.val + 1 then resVal T X else V₀)),
        if_pos (Nat.lt_succ_self t.val), rowPts_eq d i off hoff _ ho]
      iintro ⟨⟨⟨HX, HK, Hs, Hr⟩, %ha⟩, HV⟩
      isplitl [HX HK Hs Hr HV]
      · isplitl [HX]; · iexact HX
        isplitl [HK]; · iexact HK
        isplitl [Hs]; · iexact Hs
        isplitl [Hr] <;> iassumption
      · ipureintro; exact ha)
  refine BIBase.Entails.trans ?_ h0
  unfold groupInv
  rw [SparseCore.bigSep_erase' (Finset.mem_univ t) (Φ := fun s : Fin 16 => resRow d i (b + s.val) (if s.val < t.val then resVal T X else V₀)),
    if_neg (Nat.lt_irrefl t.val), rowPts_eq d i off hoff _ ho,
    bigSep_congr (s := Finset.univ.erase t) (Φ := fun s : Fin 16 => resRow d i (b + s.val) (if s.val < t.val then resVal T X else V₀))
      (Ψ := fun s : Fin 16 => resRow d i (b + s.val) (if s.val < t.val + 1 then resVal T X else V₀)) (fun s hs => by
        have hne : s.val ≠ t.val := fun h => (Finset.mem_erase.mp hs).1 (Fin.ext h)
        by_cases h : s.val < t.val
        · rw [if_pos h, if_pos (by omega)]
        · rw [if_neg h, if_neg (by omega)])]
  iintro ⟨HX, HK, Hs, Hr, HV⟩
  isplitl [HX HK Hs Hr]
  · isplitl [HX]; · iexact HX
    isplitl [HK]; · iexact HK
    isplitl [Hs] <;> iassumption
  · iexact HV

set_option maxRecDepth 20000 in
/-- The first sixteen regions. -/
theorem wp_first (q : PosShare TreeShare) (T : Vec F S4096x128 .f32) (X : Vec F S5x1024 .f32) (hX : InTable X) (sem : DmaSems sig S_) (V₀ : Vec F S1024x49x128 .f32)
    (hout : ∀ t, (outAt (Memref.whole main_v6_scv) (k0_off22 i t) (k0_off22_inb i t)).view.WordExact)
    (R : sProp 𝕄) (Q : BitVec 32 → sProp 𝕄)
    (hQ : ∀ a, iprop((boxes d i (fun k => sixteen X k (64 * (i 1).val + 32 * (i 0).val)) ∗ works d i O W₀ q T ∗ semVal (thr d i, .dma sem.sem) 0
      ∗ bigSep Finset.univ (fun t : Fin 16 => resRow d i (64 * (i 1).val + 32 * (i 0).val + t.val) (resVal T X))) ∗ R) ⊢ Q a) :
    iprop((boxes d i (fun k => sixteen X k (64 * (i 1).val + 32 * (i 0).val)) ∗ works d i O W₀ q T ∗ semVal (thr d i, .dma sem.sem) 0
      ∗ bigSep Finset.univ (fun t : Fin 16 => resRow d i (64 * (i 1).val + 32 * (i 0).val + t.val) V₀)) ∗ R)
      ⊢ WP d i (Scf.Loop.for k0_t1_loop k0_t1_ok 0#32 fun t _ => roiAt i (Scf.iv 0#32 1#32 t) (k0_off22 i t) (k0_off22_inb i t) (hout t) sem) Q := by
  have hi0 : (i 0).val < 2 := (i 0).isLt
  have hi1 : (i 1).val < 16 := (i 1).isLt
  iintro ⟨⟨HX, HK, Hs, HV⟩, HR⟩
  iapply (Scf.wp_for frame (wpE (defs₀ (F := F)) 𝒱₀ (thr d i) none) Set.univ _ _ _ k0_t1_ok 0#32 (fun t _ => roiAt i (Scf.iv 0#32 1#32 t) (k0_off22 i t) (k0_off22_inb i t) (hout t) sem)
    (fun n _ => groupInv d i O W₀ q T X sem V₀ (64 * (i 1).val + 32 * (i 0).val) n)
    (fun t a => by
      have ht : t.val < 16 := t.isLt
      have hn : (Scf.iv 0#32 1#32 t : BitVec 32).toNat = (⟨t.val, ht⟩ : Fin 16).val := iv_val ⟨t.val, ht⟩
      have ho : k0_off22 i t = ![64 * (i 1).val + 32 * (i 0).val + t.val, 0, 0] := (k0_off22_eq i t).trans (congrArg (fun n : ℕ => ![n, 0, 0]) (by omega))
      exact wp_member d i O W₀ q T X hX sem V₀ (64 * (i 1).val + 32 * (i 0).val) (by omega) ⟨t.val, ht⟩ _ hn _ (k0_off22_inb i t) (hout t) ho _ (BI.Entails.refl _)))
  isplitl [HX HK Hs HV]
  · unfold groupInv
    isplitl [HX]; · iexact HX
    isplitl [HK]; · iexact HK
    isplitl [Hs]; · iexact Hs
    iapply (Entails.of_eq (bigSep_congr fun t _ => congrArg (resRow d i (64 * (i 1).val + 32 * (i 0).val + t.val)) (if_neg (Nat.not_lt_zero _)).symm))
    iexact HV
  iintro %a H
  rw [show Scf.trips k0_t1_loop.lb k0_t1_loop.ub k0_t1_loop.st = 16 by decide +kernel]
  iapply (hQ a)
  isplitl [H]
  · unfold groupInv
    icases H with ⟨HX, HK, Hs, HV⟩
    isplitl [HX]; · iexact HX
    isplitl [HK]; · iexact HK
    isplitl [Hs]; · iexact Hs
    iapply (Entails.of_eq (bigSep_congr fun t _ => congrArg (resRow d i (64 * (i 1).val + 32 * (i 0).val + t.val)) (if_pos t.isLt)))
    iexact HV
  · iexact HR

set_option maxRecDepth 20000 in
/-- The second sixteen regions. -/
theorem wp_second (q : PosShare TreeShare) (T : Vec F S4096x128 .f32) (X : Vec F S5x1024 .f32) (hX : InTable X) (sem : DmaSems sig S_) (V₀ : Vec F S1024x49x128 .f32)
    (hout : ∀ t, (outAt (Memref.whole main_v6_scv) (k0_off39 i t) (k0_off39_inb i t)).view.WordExact)
    (R : sProp 𝕄) (Q : BitVec 32 → sProp 𝕄)
    (hQ : ∀ a, iprop((boxes d i (fun k => sixteen X k (64 * (i 1).val + 32 * (i 0).val + 16)) ∗ works d i O W₀ q T ∗ semVal (thr d i, .dma sem.sem) 0
      ∗ bigSep Finset.univ (fun t : Fin 16 => resRow d i (64 * (i 1).val + 32 * (i 0).val + 16 + t.val) (resVal T X))) ∗ R) ⊢ Q a) :
    iprop((boxes d i (fun k => sixteen X k (64 * (i 1).val + 32 * (i 0).val + 16)) ∗ works d i O W₀ q T ∗ semVal (thr d i, .dma sem.sem) 0
      ∗ bigSep Finset.univ (fun t : Fin 16 => resRow d i (64 * (i 1).val + 32 * (i 0).val + 16 + t.val) V₀)) ∗ R)
      ⊢ WP d i (Scf.Loop.for k0_t3_loop k0_t3_ok 0#32 fun t _ => roiAt i (Scf.iv 0#32 1#32 t) (k0_off39 i t) (k0_off39_inb i t) (hout t) sem) Q := by
  have hi0 : (i 0).val < 2 := (i 0).isLt
  have hi1 : (i 1).val < 16 := (i 1).isLt
  iintro ⟨⟨HX, HK, Hs, HV⟩, HR⟩
  iapply (Scf.wp_for frame (wpE (defs₀ (F := F)) 𝒱₀ (thr d i) none) Set.univ _ _ _ k0_t3_ok 0#32 (fun t _ => roiAt i (Scf.iv 0#32 1#32 t) (k0_off39 i t) (k0_off39_inb i t) (hout t) sem)
    (fun n _ => groupInv d i O W₀ q T X sem V₀ (64 * (i 1).val + 32 * (i 0).val + 16) n)
    (fun t a => by
      have ht : t.val < 16 := t.isLt
      have hn : (Scf.iv 0#32 1#32 t : BitVec 32).toNat = (⟨t.val, ht⟩ : Fin 16).val := iv_val ⟨t.val, ht⟩
      have ho : k0_off39 i t = ![64 * (i 1).val + 32 * (i 0).val + 16 + t.val, 0, 0] := (k0_off39_eq i t).trans (congrArg (fun n : ℕ => ![n, 0, 0]) (by omega))
      exact wp_member d i O W₀ q T X hX sem V₀ (64 * (i 1).val + 32 * (i 0).val + 16) (by omega) ⟨t.val, ht⟩ _ hn _ (k0_off39_inb i t) (hout t) ho _ (BI.Entails.refl _)))
  isplitl [HX HK Hs HV]
  · unfold groupInv
    isplitl [HX]; · iexact HX
    isplitl [HK]; · iexact HK
    isplitl [Hs]; · iexact Hs
    iapply (Entails.of_eq (bigSep_congr fun t _ => congrArg (resRow d i (64 * (i 1).val + 32 * (i 0).val + 16 + t.val)) (if_neg (Nat.not_lt_zero _)).symm))
    iexact HV
  iintro %a H
  rw [show Scf.trips k0_t3_loop.lb k0_t3_loop.ub k0_t3_loop.st = 16 by decide +kernel]
  iapply (hQ a)
  isplitl [H]
  · unfold groupInv
    icases H with ⟨HX, HK, Hs, HV⟩
    isplitl [HX]; · iexact HX
    isplitl [HK]; · iexact HK
    isplitl [Hs]; · iexact Hs
    iapply (Entails.of_eq (bigSep_congr fun t _ => congrArg (resRow d i (64 * (i 1).val + 32 * (i 0).val + 16 + t.val)) (if_pos t.isLt)))
    iexact HV
  · iexact HR

/-- Five rows' words fetched. -/
theorem wp_fetches (q : PosShare TreeShare) (X : Vec F S5x1024 .f32) (f g : Fin 5 → Vec F S16 .f32) (o0 : Fin 2 → ℕ) (ho0 : ∀ a, o0 a + S1x16.size a ≤ S5x1024.size a) (hw0) (o1 : Fin 2 → ℕ) (ho1 : ∀ a, o1 a + S1x16.size a ≤ S5x1024.size a) (hw1) (o2 : Fin 2 → ℕ) (ho2 : ∀ a, o2 a + S1x16.size a ≤ S5x1024.size a) (hw2) (o3 : Fin 2 → ℕ) (ho3 : ∀ a, o3 a + S1x16.size a ≤ S5x1024.size a) (hw3) (o4 : Fin 2 → ℕ) (ho4 : ∀ a, o4 a + S1x16.size a ≤ S5x1024.size a) (hw4)
    (s0 s1 s2 s3 s4 : DmaSems sig S_) (hg0 : (boxAt (Memref.whole main_v5_scv) o0 ho0).view.read (Elt F) X = g 0) (hg1 : (boxAt (Memref.whole main_v5_scv) o1 ho1).view.read (Elt F) X = g 1) (hg2 : (boxAt (Memref.whole main_v5_scv) o2 ho2).view.read (Elt F) X = g 2) (hg3 : (boxAt (Memref.whole main_v5_scv) o3 ho3).view.read (Elt F) X = g 3) (hg4 : (boxAt (Memref.whole main_v5_scv) o4 ho4).view.read (Elt F) X = g 4) (R : sProp 𝕄) {α : Type} (p : TP F i α) (Q : α → sProp 𝕄)
    (hQ : iprop(boxPts d i q X ∗ boxes d i g ∗ semVal (thr d i, .dma s0.sem) 0 ∗ semVal (thr d i, .dma s1.sem) 0 ∗ semVal (thr d i, .dma s2.sem) 0 ∗ semVal (thr d i, .dma s3.sem) 0 ∗ semVal (thr d i, .dma s4.sem) 0 ∗ Duty d i O W₀ ∗ R) ⊢ WP d i p Q) :
    iprop(boxPts d i q X ∗ boxes d i f ∗ semVal (thr d i, .dma s0.sem) 0 ∗ semVal (thr d i, .dma s1.sem) 0 ∗ semVal (thr d i, .dma s2.sem) 0 ∗ semVal (thr d i, .dma s3.sem) 0 ∗ semVal (thr d i, .dma s4.sem) 0 ∗ Duty d i O W₀ ∗ R)
      ⊢ WP d i (do
          fetch i (boxAt (Memref.whole main_v5_scv) o0 ho0) (mBox 0) hw0 (Memref.isWhole_whole _) s0
          fetch i (boxAt (Memref.whole main_v5_scv) o1 ho1) (mBox 1) hw1 (Memref.isWhole_whole _) s1
          fetch i (boxAt (Memref.whole main_v5_scv) o2 ho2) (mBox 2) hw2 (Memref.isWhole_whole _) s2
          fetch i (boxAt (Memref.whole main_v5_scv) o3 ho3) (mBox 3) hw3 (Memref.isWhole_whole _) s3
          fetch i (boxAt (Memref.whole main_v5_scv) o4 ho4) (mBox 4) hw4 (Memref.isWhole_whole _) s4
          p) Q := by
  unfold WP
  refine BIBase.Entails.trans (Q := iprop(boxPts d i q X ∗ ((thr d i).loc cc0_scratch0 ↦{fullShare} f 0) ∗ ((thr d i).loc cc0_scratch1 ↦{fullShare} f 1) ∗ ((thr d i).loc cc0_scratch2 ↦{fullShare} f 2) ∗ ((thr d i).loc cc0_scratch3 ↦{fullShare} f 3) ∗ ((thr d i).loc cc0_scratch4 ↦{fullShare} f 4) ∗ semVal (thr d i, .dma s0.sem) 0 ∗ semVal (thr d i, .dma s1.sem) 0 ∗ semVal (thr d i, .dma s2.sem) 0 ∗ semVal (thr d i, .dma s3.sem) 0 ∗ semVal (thr d i, .dma s4.sem) 0 ∗ Duty d i O W₀ ∗ R)) ?_ ?_
  · unfold boxes
    iintro ⟨HX, ⟨B0, B1, B2, B3, B4⟩, HR⟩
    isplitl [HX]; · iexact HX
    isplitl [B0]; · iexact B0
    isplitl [B1]; · iexact B1
    isplitl [B2]; · iexact B2
    isplitl [B3]; · iexact B3
    isplitl [B4]; · iexact B4
    iexact HR

  rw [wp_bind]; refine BIBase.Entails.trans ?_ (wp_fetch0 d i O W₀ q X (f 0) (g 0) o0 ho0 hw0 s0 hg0 iprop(((thr d i).loc cc0_scratch1 ↦{fullShare} f 1) ∗ ((thr d i).loc cc0_scratch2 ↦{fullShare} f 2) ∗ ((thr d i).loc cc0_scratch3 ↦{fullShare} f 3) ∗ ((thr d i).loc cc0_scratch4 ↦{fullShare} f 4) ∗ semVal (thr d i, .dma s1.sem) 0 ∗ semVal (thr d i, .dma s2.sem) 0 ∗ semVal (thr d i, .dma s3.sem) 0 ∗ semVal (thr d i, .dma s4.sem) 0 ∗ R) _ ?_)
  · iintro ⟨HX, B0, B1, B2, B3, B4, S0, S1, S2, S3, S4, HD, HR⟩
    isplitl [HX]; · iexact HX
    isplitl [B0]; · iexact B0
    isplitl [S0]; · iexact S0
    isplitl [HD]; · iexact HD
    isplitl [B1]; · iexact B1
    isplitl [B2]; · iexact B2
    isplitl [B3]; · iexact B3
    isplitl [B4]; · iexact B4
    isplitl [S1]; · iexact S1
    isplitl [S2]; · iexact S2
    isplitl [S3]; · iexact S3
    isplitl [S4]; · iexact S4
    iexact HR
  rw [wp_bind]; refine BIBase.Entails.trans ?_ (wp_fetch1 d i O W₀ q X (f 1) (g 1) o1 ho1 hw1 s1 hg1 iprop(((thr d i).loc cc0_scratch0 ↦{fullShare} g 0) ∗ ((thr d i).loc cc0_scratch2 ↦{fullShare} f 2) ∗ ((thr d i).loc cc0_scratch3 ↦{fullShare} f 3) ∗ ((thr d i).loc cc0_scratch4 ↦{fullShare} f 4) ∗ semVal (thr d i, .dma s0.sem) 0 ∗ semVal (thr d i, .dma s2.sem) 0 ∗ semVal (thr d i, .dma s3.sem) 0 ∗ semVal (thr d i, .dma s4.sem) 0 ∗ R) _ ?_)
  · iintro ⟨HX, B0, S0, HD, B1, B2, B3, B4, S1, S2, S3, S4, HR⟩
    isplitl [HX]; · iexact HX
    isplitl [B1]; · iexact B1
    isplitl [S1]; · iexact S1
    isplitl [HD]; · iexact HD
    isplitl [B0]; · iexact B0
    isplitl [B2]; · iexact B2
    isplitl [B3]; · iexact B3
    isplitl [B4]; · iexact B4
    isplitl [S0]; · iexact S0
    isplitl [S2]; · iexact S2
    isplitl [S3]; · iexact S3
    isplitl [S4]; · iexact S4
    iexact HR
  rw [wp_bind]; refine BIBase.Entails.trans ?_ (wp_fetch2 d i O W₀ q X (f 2) (g 2) o2 ho2 hw2 s2 hg2 iprop(((thr d i).loc cc0_scratch0 ↦{fullShare} g 0) ∗ ((thr d i).loc cc0_scratch1 ↦{fullShare} g 1) ∗ ((thr d i).loc cc0_scratch3 ↦{fullShare} f 3) ∗ ((thr d i).loc cc0_scratch4 ↦{fullShare} f 4) ∗ semVal (thr d i, .dma s0.sem) 0 ∗ semVal (thr d i, .dma s1.sem) 0 ∗ semVal (thr d i, .dma s3.sem) 0 ∗ semVal (thr d i, .dma s4.sem) 0 ∗ R) _ ?_)
  · iintro ⟨HX, B1, S1, HD, B0, B2, B3, B4, S0, S2, S3, S4, HR⟩
    isplitl [HX]; · iexact HX
    isplitl [B2]; · iexact B2
    isplitl [S2]; · iexact S2
    isplitl [HD]; · iexact HD
    isplitl [B0]; · iexact B0
    isplitl [B1]; · iexact B1
    isplitl [B3]; · iexact B3
    isplitl [B4]; · iexact B4
    isplitl [S0]; · iexact S0
    isplitl [S1]; · iexact S1
    isplitl [S3]; · iexact S3
    isplitl [S4]; · iexact S4
    iexact HR
  rw [wp_bind]; refine BIBase.Entails.trans ?_ (wp_fetch3 d i O W₀ q X (f 3) (g 3) o3 ho3 hw3 s3 hg3 iprop(((thr d i).loc cc0_scratch0 ↦{fullShare} g 0) ∗ ((thr d i).loc cc0_scratch1 ↦{fullShare} g 1) ∗ ((thr d i).loc cc0_scratch2 ↦{fullShare} g 2) ∗ ((thr d i).loc cc0_scratch4 ↦{fullShare} f 4) ∗ semVal (thr d i, .dma s0.sem) 0 ∗ semVal (thr d i, .dma s1.sem) 0 ∗ semVal (thr d i, .dma s2.sem) 0 ∗ semVal (thr d i, .dma s4.sem) 0 ∗ R) _ ?_)
  · iintro ⟨HX, B2, S2, HD, B0, B1, B3, B4, S0, S1, S3, S4, HR⟩
    isplitl [HX]; · iexact HX
    isplitl [B3]; · iexact B3
    isplitl [S3]; · iexact S3
    isplitl [HD]; · iexact HD
    isplitl [B0]; · iexact B0
    isplitl [B1]; · iexact B1
    isplitl [B2]; · iexact B2
    isplitl [B4]; · iexact B4
    isplitl [S0]; · iexact S0
    isplitl [S1]; · iexact S1
    isplitl [S2]; · iexact S2
    isplitl [S4]; · iexact S4
    iexact HR
  rw [wp_bind]; refine BIBase.Entails.trans ?_ (wp_fetch4 d i O W₀ q X (f 4) (g 4) o4 ho4 hw4 s4 hg4 iprop(((thr d i).loc cc0_scratch0 ↦{fullShare} g 0) ∗ ((thr d i).loc cc0_scratch1 ↦{fullShare} g 1) ∗ ((thr d i).loc cc0_scratch2 ↦{fullShare} g 2) ∗ ((thr d i).loc cc0_scratch3 ↦{fullShare} g 3) ∗ semVal (thr d i, .dma s0.sem) 0 ∗ semVal (thr d i, .dma s1.sem) 0 ∗ semVal (thr d i, .dma s2.sem) 0 ∗ semVal (thr d i, .dma s3.sem) 0 ∗ R) _ ?_)
  · iintro ⟨HX, B3, S3, HD, B0, B1, B2, B4, S0, S1, S2, S4, HR⟩
    isplitl [HX]; · iexact HX
    isplitl [B4]; · iexact B4
    isplitl [S4]; · iexact S4
    isplitl [HD]; · iexact HD
    isplitl [B0]; · iexact B0
    isplitl [B1]; · iexact B1
    isplitl [B2]; · iexact B2
    isplitl [B3]; · iexact B3
    isplitl [S0]; · iexact S0
    isplitl [S1]; · iexact S1
    isplitl [S2]; · iexact S2
    isplitl [S3]; · iexact S3
    iexact HR

  refine BIBase.Entails.trans ?_ hQ
  unfold boxes
  iintro ⟨HX, B4, S4, HD, B0, B1, B2, B3, S0, S1, S2, S3, HR⟩
  isplitl [HX]; · iexact HX
  isplitl [B0 B1 B2 B3 B4]
  · isplitl [B0]; · iexact B0
    isplitl [B1]; · iexact B1
    isplitl [B2]; · iexact B2
    isplitl [B3] <;> iassumption
  isplitl [S0]; · iexact S0
  isplitl [S1]; · iexact S1
  isplitl [S2]; · iexact S2
  isplitl [S3]; · iexact S3
  isplitl [S4]; · iexact S4
  isplitl [HD]; · iexact HD
  iexact HR

end Tile

end Cert.Proof.KerI

end
-- ==== Proof.Ideal.Tec.lean ====
module

public import proofs.«01_k».proof.Proof.Ideal.Group

@[expose] public section

noncomputable section

/-! The tile. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx (ix1 ix2 ix3)

section Tile

variable (d : Dev nD) (i : grid0.Coords) (O : CellTallies nD τ sig (HIx 1)) (W₀ : Waits sig (HIx 1))

/-- The tile's program on its own buffers. -/
abbrev tecAt : TP F i PUnit :=
  tec i mTab (Memref.isWhole_whole _) (Memref.whole main_v5_scv) (Memref.isWhole_whole _) (Memref.whole main_v6_scv) (Memref.isWhole_whole _)
    (mBox 0) (Memref.isWhole_whole _) (mBox 1) (Memref.isWhole_whole _) (mBox 2) (Memref.isWhole_whole _) (mBox 3) (Memref.isWhole_whole _) (mBox 4) (Memref.isWhole_whole _)
    mList (Memref.isWhole_whole _) mWt (Memref.isWhole_whole _) mRows (Memref.isWhole_whole _) mOut (Memref.isWhole_whole _)
    semG cc0_scoped0 cc0_scoped1 cc0_scoped2 cc0_scoped3 cc0_scoped4 cc0_scoped5 cc0_scoped6 cc0_scoped7 cc0_scoped8 cc0_scoped9 cc0_scoped10 cc0_scoped11

/-- What a tile holds between its two groups: `V` and `V'` are the result's rows of the groups. -/
def tileSt (q : PosShare TreeShare) (T : Vec F S4096x128 .f32) (X : Vec F S5x1024 .f32) (V V' : Vec F S1024x49x128 .f32) : sProp 𝕄 :=
  iprop(boxPts d i q X ∗ (∃ f, boxes d i f) ∗ works d i O W₀ q T ∗ (semVal (thr d i, .dma cc0_scoped0.sem) 0 ∗ semVal (thr d i, .dma cc0_scoped1.sem) 0 ∗ semVal (thr d i, .dma cc0_scoped2.sem) 0 ∗ semVal (thr d i, .dma cc0_scoped3.sem) 0 ∗ semVal (thr d i, .dma cc0_scoped4.sem) 0 ∗ semVal (thr d i, .dma cc0_scoped5.sem) 0 ∗ semVal (thr d i, .dma cc0_scoped6.sem) 0 ∗ semVal (thr d i, .dma cc0_scoped7.sem) 0 ∗ semVal (thr d i, .dma cc0_scoped8.sem) 0 ∗ semVal (thr d i, .dma cc0_scoped9.sem) 0 ∗ semVal (thr d i, .dma cc0_scoped10.sem) 0 ∗ semVal (thr d i, .dma cc0_scoped11.sem) 0) ∗ bigSep Finset.univ (fun t : Fin 16 => resRow d i (64 * (i 1).val + 32 * (i 0).val + t.val) V) ∗ bigSep Finset.univ (fun t : Fin 16 => resRow d i (64 * (i 1).val + 32 * (i 0).val + 16 + t.val) V'))

set_option maxRecDepth 20000 in
theorem wp_half1 (q : PosShare TreeShare) (T : Vec F S4096x128 .f32) (X : Vec F S5x1024 .f32) (hX : InTable X) (V₀ : Vec F S1024x49x128 .f32) (p : TP F i PUnit) (Q : PUnit → sProp 𝕄)
    (hQ : tileSt d i O W₀ q T X (resVal T X) V₀ ⊢ WP d i p Q) :
    tileSt d i O W₀ q T X V₀ V₀ ⊢ WP d i (do
          fetch i (boxAt (Memref.whole main_v5_scv) (k0_off1 i 0#32) (k0_off1_inb i 0)) (mBox 0) ((View.wordExact_bits rfl).reshape _ _) (Memref.isWhole_whole _) cc0_scoped0
          fetch i (boxAt (Memref.whole main_v5_scv) (k0_off2 i 0#32) (k0_off2_inb i 0)) (mBox 1) ((View.wordExact_bits rfl).reshape _ _) (Memref.isWhole_whole _) cc0_scoped1
          fetch i (boxAt (Memref.whole main_v5_scv) (k0_off3 i 0#32) (k0_off3_inb i 0)) (mBox 2) ((View.wordExact_bits rfl).reshape _ _) (Memref.isWhole_whole _) cc0_scoped2
          fetch i (boxAt (Memref.whole main_v5_scv) (k0_off4 i 0#32) (k0_off4_inb i 0)) (mBox 3) ((View.wordExact_bits rfl).reshape _ _) (Memref.isWhole_whole _) cc0_scoped3
          fetch i (boxAt (Memref.whole main_v5_scv) (k0_off5 i 0#32) (k0_off5_inb i 0)) (mBox 4) ((View.wordExact_bits rfl).reshape _ _) (Memref.isWhole_whole _) cc0_scoped4
          let _ : BitVec 32 ← Scf.Loop.for k0_t1_loop k0_t1_ok 0#32 fun t _ =>
            roi i mTab (mBox 0) (mBox 1) (mBox 2) (mBox 3) (mBox 4) mList mWt mRows mOut (Memref.isWhole_whole _) semG (Scf.iv 0#32 1#32 t) (outAt (Memref.whole main_v6_scv) (k0_off22 i t) (k0_off22_inb i t)) ((View.wordExact_bits rfl).reshape _ _) cc0_scoped5
          p) Q := by
  unfold tileSt
  iintro ⟨HX, ⟨%f, HF⟩, HK, ⟨S0, S1, S2, S3, S4, S5, S6, S7, S8, S9, S10, S11⟩, HR1, HR2⟩
  have h2 := wp_first d i O W₀ q T X hX cc0_scoped5 V₀ (fun t => (View.wordExact_bits rfl).reshape _ _) iprop(boxPts d i q X ∗ semVal (thr d i, .dma cc0_scoped0.sem) 0 ∗ semVal (thr d i, .dma cc0_scoped1.sem) 0 ∗ semVal (thr d i, .dma cc0_scoped2.sem) 0 ∗ semVal (thr d i, .dma cc0_scoped3.sem) 0 ∗ semVal (thr d i, .dma cc0_scoped4.sem) 0 ∗ semVal (thr d i, .dma cc0_scoped6.sem) 0 ∗ semVal (thr d i, .dma cc0_scoped7.sem) 0 ∗ semVal (thr d i, .dma cc0_scoped8.sem) 0 ∗ semVal (thr d i, .dma cc0_scoped9.sem) 0 ∗ semVal (thr d i, .dma cc0_scoped10.sem) 0 ∗ semVal (thr d i, .dma cc0_scoped11.sem) 0 ∗ bigSep Finset.univ (fun t : Fin 16 => resRow d i (64 * (i 1).val + 32 * (i 0).val + 16 + t.val) V₀)) (fun _ => WP d i p Q) (fun _ => by
    refine BIBase.Entails.trans ?_ hQ
    unfold tileSt
    iintro ⟨⟨HF, HK, S5, HR1⟩, HX, S0, S1, S2, S3, S4, S6, S7, S8, S9, S10, S11, HR2⟩
    isplitl [HX]; · iexact HX
    isplitl [HF]; · iexists _; iexact HF
    isplitl [HK]; · iexact HK
    isplitl [S0 S1 S2 S3 S4 S5 S6 S7 S8 S9 S10 S11]
    ·
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11

    isplitl [HR1] <;> iassumption)
  have h1 := wp_fetches d i O W₀ q X f (fun k => sixteen X k (64 * (i 1).val + 32 * (i 0).val))
      (k0_off1 i 0#32) (k0_off1_inb i 0) ((View.wordExact_bits rfl).reshape _ _)
      (k0_off2 i 0#32) (k0_off2_inb i 0) ((View.wordExact_bits rfl).reshape _ _)
      (k0_off3 i 0#32) (k0_off3_inb i 0) ((View.wordExact_bits rfl).reshape _ _)
      (k0_off4 i 0#32) (k0_off4_inb i 0) ((View.wordExact_bits rfl).reshape _ _)
      (k0_off5 i 0#32) (k0_off5_inb i 0) ((View.wordExact_bits rfl).reshape _ _)
      cc0_scoped0 cc0_scoped1 cc0_scoped2 cc0_scoped3 cc0_scoped4
      (box_read X (k0_off1 i 0#32) (k0_off1_inb i 0) 0 (64 * (i 1).val + 32 * (i 0).val) (k0_off1_eq i 0))
      (box_read X (k0_off2 i 0#32) (k0_off2_inb i 0) 1 (64 * (i 1).val + 32 * (i 0).val) (k0_off2_eq i 0))
      (box_read X (k0_off3 i 0#32) (k0_off3_inb i 0) 2 (64 * (i 1).val + 32 * (i 0).val) (k0_off3_eq i 0))
      (box_read X (k0_off4 i 0#32) (k0_off4_inb i 0) 3 (64 * (i 1).val + 32 * (i 0).val) (k0_off4_eq i 0))
      (box_read X (k0_off5 i 0#32) (k0_off5_inb i 0) 4 (64 * (i 1).val + 32 * (i 0).val) (k0_off5_eq i 0))
      iprop(((∃ L, listPts d i L) ∗ (∃ W, wtPts d i W) ∗ (∃ G, rowsPts d i G) ∗ (∃ B, outPts d i B) ∗ tabPts d i q T ∗ semVal (thr d i, .dma semG.sem) 0) ∗ semVal (thr d i, .dma cc0_scoped5.sem) 0 ∗ semVal (thr d i, .dma cc0_scoped6.sem) 0 ∗ semVal (thr d i, .dma cc0_scoped7.sem) 0 ∗ semVal (thr d i, .dma cc0_scoped8.sem) 0 ∗ semVal (thr d i, .dma cc0_scoped9.sem) 0 ∗ semVal (thr d i, .dma cc0_scoped10.sem) 0 ∗ semVal (thr d i, .dma cc0_scoped11.sem) 0 ∗ bigSep Finset.univ (fun t : Fin 16 => resRow d i (64 * (i 1).val + 32 * (i 0).val + t.val) V₀) ∗ bigSep Finset.univ (fun t : Fin 16 => resRow d i (64 * (i 1).val + 32 * (i 0).val + 16 + t.val) V₀)) (do
          let _ : BitVec 32 ← Scf.Loop.for k0_t1_loop k0_t1_ok 0#32 fun t _ =>
            roi i mTab (mBox 0) (mBox 1) (mBox 2) (mBox 3) (mBox 4) mList mWt mRows mOut (Memref.isWhole_whole _) semG (Scf.iv 0#32 1#32 t) (outAt (Memref.whole main_v6_scv) (k0_off22 i t) (k0_off22_inb i t)) ((View.wordExact_bits rfl).reshape _ _) cc0_scoped5
          p) Q (by
    unfold WP
    rw [wp_bind]
    refine BIBase.Entails.trans ?_ h2
    iintro ⟨HX, HF, S0, S1, S2, S3, S4, HD, ⟨HL, HW, HG, HB, HT, HS⟩, S5, S6, S7, S8, S9, S10, S11, HR1, HR2⟩
    isplitl [HF HL HW HG HB HT HS HD S5 HR1]
    · isplitl [HF]; · iexact HF
      isplitl [HL HW HG HB HT HS HD]
      · unfold works
        isplitl [HL]; · iexact HL
        isplitl [HW]; · iexact HW
        isplitl [HG]; · iexact HG
        isplitl [HB]; · iexact HB
        isplitl [HT]; · iexact HT
        isplitl [HS]; · iexact HS
        iexact HD

      isplitl [S5] <;> iassumption
    ·
      isplitl [HX]; · iexact HX
      isplitl [S0]; · iexact S0
      isplitl [S1]; · iexact S1
      isplitl [S2]; · iexact S2
      isplitl [S3]; · iexact S3
      isplitl [S4]; · iexact S4
      isplitl [S6]; · iexact S6
      isplitl [S7]; · iexact S7
      isplitl [S8]; · iexact S8
      isplitl [S9]; · iexact S9
      isplitl [S10]; · iexact S10
      isplitl [S11]; · iexact S11
      iexact HR2
)
  iapply h1
  unfold works
  icases HK with ⟨HL, HW, HG, HB, HT, HS, HD⟩
  isplitl [HX]; · iexact HX
  isplitl [HF]; · iexact HF
  isplitl [S0]; · iexact S0
  isplitl [S1]; · iexact S1
  isplitl [S2]; · iexact S2
  isplitl [S3]; · iexact S3
  isplitl [S4]; · iexact S4
  isplitl [HD]; · iexact HD
  isplitl [HL HW HG HB HT HS]
  ·
    isplitl [HL]; · iexact HL
    isplitl [HW]; · iexact HW
    isplitl [HG]; · iexact HG
    isplitl [HB]; · iexact HB
    isplitl [HT]; · iexact HT
    iexact HS

  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [HR1]; · iexact HR1
  iexact HR2

set_option maxRecDepth 20000 in
theorem wp_half2 (q : PosShare TreeShare) (T : Vec F S4096x128 .f32) (X : Vec F S5x1024 .f32) (hX : InTable X) (V₀ : Vec F S1024x49x128 .f32) (p : TP F i PUnit) (Q : PUnit → sProp 𝕄)
    (hQ : tileSt d i O W₀ q T X (resVal T X) (resVal T X) ⊢ WP d i p Q) :
    tileSt d i O W₀ q T X (resVal T X) V₀ ⊢ WP d i (do
          fetch i (boxAt (Memref.whole main_v5_scv) (k0_off1 i 16#32) (k0_off1_inb i 1)) (mBox 0) ((View.wordExact_bits rfl).reshape _ _) (Memref.isWhole_whole _) cc0_scoped6
          fetch i (boxAt (Memref.whole main_v5_scv) (k0_off2 i 16#32) (k0_off2_inb i 1)) (mBox 1) ((View.wordExact_bits rfl).reshape _ _) (Memref.isWhole_whole _) cc0_scoped7
          fetch i (boxAt (Memref.whole main_v5_scv) (k0_off3 i 16#32) (k0_off3_inb i 1)) (mBox 2) ((View.wordExact_bits rfl).reshape _ _) (Memref.isWhole_whole _) cc0_scoped8
          fetch i (boxAt (Memref.whole main_v5_scv) (k0_off4 i 16#32) (k0_off4_inb i 1)) (mBox 3) ((View.wordExact_bits rfl).reshape _ _) (Memref.isWhole_whole _) cc0_scoped9
          fetch i (boxAt (Memref.whole main_v5_scv) (k0_off5 i 16#32) (k0_off5_inb i 1)) (mBox 4) ((View.wordExact_bits rfl).reshape _ _) (Memref.isWhole_whole _) cc0_scoped10
          let _ : BitVec 32 ← Scf.Loop.for k0_t3_loop k0_t3_ok 0#32 fun t _ =>
            roi i mTab (mBox 0) (mBox 1) (mBox 2) (mBox 3) (mBox 4) mList mWt mRows mOut (Memref.isWhole_whole _) semG (Scf.iv 0#32 1#32 t) (outAt (Memref.whole main_v6_scv) (k0_off39 i t) (k0_off39_inb i t)) ((View.wordExact_bits rfl).reshape _ _) cc0_scoped11
          p) Q := by
  unfold tileSt
  iintro ⟨HX, ⟨%f, HF⟩, HK, ⟨S0, S1, S2, S3, S4, S5, S6, S7, S8, S9, S10, S11⟩, HR1, HR2⟩
  have h2 := wp_second d i O W₀ q T X hX cc0_scoped11 V₀ (fun t => (View.wordExact_bits rfl).reshape _ _) iprop(boxPts d i q X ∗ semVal (thr d i, .dma cc0_scoped0.sem) 0 ∗ semVal (thr d i, .dma cc0_scoped1.sem) 0 ∗ semVal (thr d i, .dma cc0_scoped2.sem) 0 ∗ semVal (thr d i, .dma cc0_scoped3.sem) 0 ∗ semVal (thr d i, .dma cc0_scoped4.sem) 0 ∗ semVal (thr d i, .dma cc0_scoped5.sem) 0 ∗ semVal (thr d i, .dma cc0_scoped6.sem) 0 ∗ semVal (thr d i, .dma cc0_scoped7.sem) 0 ∗ semVal (thr d i, .dma cc0_scoped8.sem) 0 ∗ semVal (thr d i, .dma cc0_scoped9.sem) 0 ∗ semVal (thr d i, .dma cc0_scoped10.sem) 0 ∗ bigSep Finset.univ (fun t : Fin 16 => resRow d i (64 * (i 1).val + 32 * (i 0).val + t.val) (resVal T X))) (fun _ => WP d i p Q) (fun _ => by
    refine BIBase.Entails.trans ?_ hQ
    unfold tileSt
    iintro ⟨⟨HF, HK, S11, HR2⟩, HX, S0, S1, S2, S3, S4, S5, S6, S7, S8, S9, S10, HR1⟩
    isplitl [HX]; · iexact HX
    isplitl [HF]; · iexists _; iexact HF
    isplitl [HK]; · iexact HK
    isplitl [S0 S1 S2 S3 S4 S5 S6 S7 S8 S9 S10 S11]
    ·
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11

    isplitl [HR1] <;> iassumption)
  have h1 := wp_fetches d i O W₀ q X f (fun k => sixteen X k (64 * (i 1).val + 32 * (i 0).val + 16))
      (k0_off1 i 16#32) (k0_off1_inb i 1) ((View.wordExact_bits rfl).reshape _ _)
      (k0_off2 i 16#32) (k0_off2_inb i 1) ((View.wordExact_bits rfl).reshape _ _)
      (k0_off3 i 16#32) (k0_off3_inb i 1) ((View.wordExact_bits rfl).reshape _ _)
      (k0_off4 i 16#32) (k0_off4_inb i 1) ((View.wordExact_bits rfl).reshape _ _)
      (k0_off5 i 16#32) (k0_off5_inb i 1) ((View.wordExact_bits rfl).reshape _ _)
      cc0_scoped6 cc0_scoped7 cc0_scoped8 cc0_scoped9 cc0_scoped10
      (box_read X (k0_off1 i 16#32) (k0_off1_inb i 1) 0 (64 * (i 1).val + 32 * (i 0).val + 16) (k0_off1_eq i 1))
      (box_read X (k0_off2 i 16#32) (k0_off2_inb i 1) 1 (64 * (i 1).val + 32 * (i 0).val + 16) (k0_off2_eq i 1))
      (box_read X (k0_off3 i 16#32) (k0_off3_inb i 1) 2 (64 * (i 1).val + 32 * (i 0).val + 16) (k0_off3_eq i 1))
      (box_read X (k0_off4 i 16#32) (k0_off4_inb i 1) 3 (64 * (i 1).val + 32 * (i 0).val + 16) (k0_off4_eq i 1))
      (box_read X (k0_off5 i 16#32) (k0_off5_inb i 1) 4 (64 * (i 1).val + 32 * (i 0).val + 16) (k0_off5_eq i 1))
      iprop(((∃ L, listPts d i L) ∗ (∃ W, wtPts d i W) ∗ (∃ G, rowsPts d i G) ∗ (∃ B, outPts d i B) ∗ tabPts d i q T ∗ semVal (thr d i, .dma semG.sem) 0) ∗ semVal (thr d i, .dma cc0_scoped0.sem) 0 ∗ semVal (thr d i, .dma cc0_scoped1.sem) 0 ∗ semVal (thr d i, .dma cc0_scoped2.sem) 0 ∗ semVal (thr d i, .dma cc0_scoped3.sem) 0 ∗ semVal (thr d i, .dma cc0_scoped4.sem) 0 ∗ semVal (thr d i, .dma cc0_scoped5.sem) 0 ∗ semVal (thr d i, .dma cc0_scoped11.sem) 0 ∗ bigSep Finset.univ (fun t : Fin 16 => resRow d i (64 * (i 1).val + 32 * (i 0).val + t.val) (resVal T X)) ∗ bigSep Finset.univ (fun t : Fin 16 => resRow d i (64 * (i 1).val + 32 * (i 0).val + 16 + t.val) V₀)) (do
          let _ : BitVec 32 ← Scf.Loop.for k0_t3_loop k0_t3_ok 0#32 fun t _ =>
            roi i mTab (mBox 0) (mBox 1) (mBox 2) (mBox 3) (mBox 4) mList mWt mRows mOut (Memref.isWhole_whole _) semG (Scf.iv 0#32 1#32 t) (outAt (Memref.whole main_v6_scv) (k0_off39 i t) (k0_off39_inb i t)) ((View.wordExact_bits rfl).reshape _ _) cc0_scoped11
          p) Q (by
    unfold WP
    rw [wp_bind]
    refine BIBase.Entails.trans ?_ h2
    iintro ⟨HX, HF, S6, S7, S8, S9, S10, HD, ⟨HL, HW, HG, HB, HT, HS⟩, S0, S1, S2, S3, S4, S5, S11, HR1, HR2⟩
    isplitl [HF HL HW HG HB HT HS HD S11 HR2]
    · isplitl [HF]; · iexact HF
      isplitl [HL HW HG HB HT HS HD]
      · unfold works
        isplitl [HL]; · iexact HL
        isplitl [HW]; · iexact HW
        isplitl [HG]; · iexact HG
        isplitl [HB]; · iexact HB
        isplitl [HT]; · iexact HT
        isplitl [HS]; · iexact HS
        iexact HD

      isplitl [S11] <;> iassumption
    ·
      isplitl [HX]; · iexact HX
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact HR1
)
  iapply h1
  unfold works
  icases HK with ⟨HL, HW, HG, HB, HT, HS, HD⟩
  isplitl [HX]; · iexact HX
  isplitl [HF]; · iexact HF
  isplitl [S6]; · iexact S6
  isplitl [S7]; · iexact S7
  isplitl [S8]; · iexact S8
  isplitl [S9]; · iexact S9
  isplitl [S10]; · iexact S10
  isplitl [HD]; · iexact HD
  isplitl [HL HW HG HB HT HS]
  ·
    isplitl [HL]; · iexact HL
    isplitl [HW]; · iexact HW
    isplitl [HG]; · iexact HG
    isplitl [HB]; · iexact HB
    isplitl [HT]; · iexact HT
    iexact HS

  isplitl [S0]; · iexact S0
  isplitl [S1]; · iexact S1
  isplitl [S2]; · iexact S2
  isplitl [S3]; · iexact S3
  isplitl [S4]; · iexact S4
  isplitl [S5]; · iexact S5
  isplitl [S11]; · iexact S11
  isplitl [HR1]; · iexact HR1
  iexact HR2

set_option maxRecDepth 20000 in
theorem wp_tec (q : PosShare TreeShare) (T : Vec F S4096x128 .f32) (X : Vec F S5x1024 .f32) (hX : InTable X) (V₀ : Vec F S1024x49x128 .f32) :
    tileSt d i O W₀ q T X V₀ V₀ ⊢ WP d i (tecAt i) (fun _ => tileSt d i O W₀ q T X (resVal T X) (resVal T X)) := by
  unfold tecAt tec
  refine wp_half1 d i O W₀ q T X hX V₀ _ _ ?_
  exact wp_half2 d i O W₀ q T X hX V₀ _ _ (wp_ret d i)

end Tile

end Cert.Proof.KerI

end
-- ==== Proof.Ideal.Same.lean ====
/- The printed tile program is the one written once in `Body`. -/
module
public import proofs.«01_k».proof.Proof.Ideal.Body
public import Idealize.ShloMosaic.Lib.Tactic
@[expose] public section
noncomputable section
namespace Cert.Proof.KerI
open Cert.KernelIdeal Cert.KernelIdeal.Facts₀ Cert.KernelIdeal.Facts
open Idealize.ShloMosaic Idealize.SL.Sem
variable {F : FTy → Type} [FloatOps F] [Named F] [Cert.KernelIdeal.Facts]
/-- The printed windows that end in the bins' loop. -/
theorem part105_eq (i : grid0.Coords) (arg2 : Memref sig .scVector .hbm S4096x128 .f32) (harg2 : arg2.IsWhole) (arg3 : Memref sig .scVector .hbm S5x1024 .f32) (harg3 : arg3.IsWhole) (arg4 : Memref sig .scVector .hbm S1024x49x128 .f32) (harg4 : arg4.IsWhole) (arg5 : Memref sig .scVector .vmem S16 .f32) (harg5 : arg5.IsWhole) (arg6 : Memref sig .scVector .vmem S16 .f32) (harg6 : arg6.IsWhole) (arg7 : Memref sig .scVector .vmem S16 .f32) (harg7 : arg7.IsWhole) (arg8 : Memref sig .scVector .vmem S16 .f32) (harg8 : arg8.IsWhole) (arg9 : Memref sig .scVector .vmem S16 .f32) (harg9 : arg9.IsWhole) (arg10 : Memref sig .scVector .vmem S13x64 .i32) (harg10 : arg10.IsWhole) (arg11 : Memref sig .scVector .vmem S832 .f32) (harg11 : arg11.IsWhole) (arg12 : Memref sig .scVector .vmem S832x128 .f32) (harg12 : arg12.IsWhole) (arg13 : Memref sig .scVector .vmem S49x128 .f32) (harg13 : arg13.IsWhole) (arg14 : DmaSems sig S_) (v10_r0 : DmaSems sig S_) (v10_r1 : DmaSems sig S_) (v10_r2 : DmaSems sig S_) (v10_r3 : DmaSems sig S_) (v10_r4 : DmaSems sig S_) (v3451_r5 : DmaSems sig S_) (v10_r6 : DmaSems sig S_) (v10_r7 : DmaSems sig S_) (v10_r8 : DmaSems sig S_) (v10_r9 : DmaSems sig S_) (v10_r10 : DmaSems sig S_) (v3451_r11 : DmaSems sig S_) :
    (k0_part105 i arg2 harg2 arg3 harg3 arg4 harg4 arg5 harg5 arg6 harg6 arg7 harg7 arg8 harg8 arg9 harg9 arg10 harg10 arg11 harg11 arg12 harg12 arg13 harg13 arg14 v10_r0 v10_r1 v10_r2 v10_r3 v10_r4 v3451_r5 v10_r6 v10_r7 v10_r8 v10_r9 v10_r10 v3451_r11 : TP F i PUnit) = tail5 i arg2 arg11 arg12 arg13 arg14 := by
  sl_kernel_rfl

theorem part211_eq (i : grid0.Coords) (arg2 : Memref sig .scVector .hbm S4096x128 .f32) (harg2 : arg2.IsWhole) (arg3 : Memref sig .scVector .hbm S5x1024 .f32) (harg3 : arg3.IsWhole) (arg4 : Memref sig .scVector .hbm S1024x49x128 .f32) (harg4 : arg4.IsWhole) (arg5 : Memref sig .scVector .vmem S16 .f32) (harg5 : arg5.IsWhole) (arg6 : Memref sig .scVector .vmem S16 .f32) (harg6 : arg6.IsWhole) (arg7 : Memref sig .scVector .vmem S16 .f32) (harg7 : arg7.IsWhole) (arg8 : Memref sig .scVector .vmem S16 .f32) (harg8 : arg8.IsWhole) (arg9 : Memref sig .scVector .vmem S16 .f32) (harg9 : arg9.IsWhole) (arg10 : Memref sig .scVector .vmem S13x64 .i32) (harg10 : arg10.IsWhole) (arg11 : Memref sig .scVector .vmem S832 .f32) (harg11 : arg11.IsWhole) (arg12 : Memref sig .scVector .vmem S832x128 .f32) (harg12 : arg12.IsWhole) (arg13 : Memref sig .scVector .vmem S49x128 .f32) (harg13 : arg13.IsWhole) (arg14 : DmaSems sig S_) (v10_r0 : DmaSems sig S_) (v10_r1 : DmaSems sig S_) (v10_r2 : DmaSems sig S_) (v10_r3 : DmaSems sig S_) (v10_r4 : DmaSems sig S_) (v3451_r5 : DmaSems sig S_) (v10_r6 : DmaSems sig S_) (v10_r7 : DmaSems sig S_) (v10_r8 : DmaSems sig S_) (v10_r9 : DmaSems sig S_) (v10_r10 : DmaSems sig S_) (v3451_r11 : DmaSems sig S_) :
    (k0_part211 i arg2 harg2 arg3 harg3 arg4 harg4 arg5 harg5 arg6 harg6 arg7 harg7 arg8 harg8 arg9 harg9 arg10 harg10 arg11 harg11 arg12 harg12 arg13 harg13 arg14 v10_r0 v10_r1 v10_r2 v10_r3 v10_r4 v3451_r5 v10_r6 v10_r7 v10_r8 v10_r9 v10_r10 v3451_r11 : TP F i PUnit) = tail5 i arg2 arg11 arg12 arg13 arg14 := by
  sl_kernel_rfl
/-- Two loops with the same bodies. -/
theorem for_congr {E : Type → Type} {α : Type} {w : ℕ} (lb ub st : BitVec w) (ok : Scf.OK lb ub st) (x : α) {b b' : Fin (Scf.trips lb ub st) → α → Prog E α}
    (h : ∀ t a, b t a = b' t a) : Scf.for lb ub st ok x b = Scf.for lb ub st ok x b' :=
  congrArg (Scf.for lb ub st ok x) (funext fun t => funext fun a => h t a)
set_option maxHeartbeats 4000000 in
/-- The printed tile program is `tec`. -/
theorem tec_eq (i : grid0.Coords) (arg2 : Memref sig .scVector .hbm S4096x128 .f32) (harg2 : arg2.IsWhole) (arg3 : Memref sig .scVector .hbm S5x1024 .f32) (harg3 : arg3.IsWhole) (arg4 : Memref sig .scVector .hbm S1024x49x128 .f32) (harg4 : arg4.IsWhole) (arg5 : Memref sig .scVector .vmem S16 .f32) (harg5 : arg5.IsWhole) (arg6 : Memref sig .scVector .vmem S16 .f32) (harg6 : arg6.IsWhole) (arg7 : Memref sig .scVector .vmem S16 .f32) (harg7 : arg7.IsWhole) (arg8 : Memref sig .scVector .vmem S16 .f32) (harg8 : arg8.IsWhole) (arg9 : Memref sig .scVector .vmem S16 .f32) (harg9 : arg9.IsWhole) (arg10 : Memref sig .scVector .vmem S13x64 .i32) (harg10 : arg10.IsWhole) (arg11 : Memref sig .scVector .vmem S832 .f32) (harg11 : arg11.IsWhole) (arg12 : Memref sig .scVector .vmem S832x128 .f32) (harg12 : arg12.IsWhole) (arg13 : Memref sig .scVector .vmem S49x128 .f32) (harg13 : arg13.IsWhole) (arg14 : DmaSems sig S_) (v10_r0 : DmaSems sig S_) (v10_r1 : DmaSems sig S_) (v10_r2 : DmaSems sig S_) (v10_r3 : DmaSems sig S_) (v10_r4 : DmaSems sig S_) (v3451_r5 : DmaSems sig S_) (v10_r6 : DmaSems sig S_) (v10_r7 : DmaSems sig S_) (v10_r8 : DmaSems sig S_) (v10_r9 : DmaSems sig S_) (v10_r10 : DmaSems sig S_) (v3451_r11 : DmaSems sig S_) :
    (cc0__tec_body i arg2 harg2 arg3 harg3 arg4 harg4 arg5 harg5 arg6 harg6 arg7 harg7 arg8 harg8 arg9 harg9 arg10 harg10 arg11 harg11 arg12 harg12 arg13 harg13 arg14 v10_r0 v10_r1 v10_r2 v10_r3 v10_r4 v3451_r5 v10_r6 v10_r7 v10_r8 v10_r9 v10_r10 v3451_r11 : TP F i PUnit) = tec i arg2 harg2 arg3 harg3 arg4 harg4 arg5 harg5 arg6 harg6 arg7 harg7 arg8 harg8 arg9 harg9 arg10 harg10 arg11 harg11 arg12 harg12 arg13 harg13 arg14 v10_r0 v10_r1 v10_r2 v10_r3 v10_r4 v3451_r5 v10_r6 v10_r7 v10_r8 v10_r9 v10_r10 v3451_r11 := by
  unfold cc0__tec_body k0_part214 k0_part213 tec fetch
  simp only [bind_assoc, pure_bind]
  rw [part211_eq, part105_eq]
  iterate 10 refine congrArg (Bind.bind _) (funext fun _ => ?_)
  refine congrArg₂ Bind.bind ?_ (funext fun _ => ?_)
  · refine for_congr (E := TpuEff nD τ sig (Elt F) Λ₀ (.scVector ((i 0).castLE hcore0) ((i 1).castLE hsub0))) k0_t1_loop.lb k0_t1_loop.ub k0_t1_loop.st k0_t1_ok 0#32 (fun t a => ?_)
    sl_kernel_rfl
  iterate 10 refine congrArg (Bind.bind _) (funext fun _ => ?_)
  refine congrArg₂ Bind.bind ?_ (funext fun _ => ?_)
  · refine for_congr (E := TpuEff nD τ sig (Elt F) Λ₀ (.scVector ((i 0).castLE hcore0) ((i 1).castLE hsub0))) k0_t3_loop.lb k0_t3_loop.ub k0_t3_loop.st k0_t3_ok 0#32 (fun t a => ?_)
    sl_kernel_rfl
  rfl
end Cert.Proof.KerI
end
-- ==== Proof.Ideal.Task.lean ====
module

public import proofs.«01_k».proof.Proof.Ideal.Tec
public import proofs.«01_k».proof.Proof.Ideal.Same
public import Idealize.ShloMosaic.Lib.SparseCore.Quiescent

@[expose] public section

noncomputable section

/-! A tile's task, from what its thread owns. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx (ix1 ix2 ix3)

section Tile

variable (d : Dev nD) (i : grid0.Coords)

/-! ## What a tile owns -/

def semSet : Finset (SemLoc sig) := {.dma cc0_scratch9.sem, .dma cc0_scoped0.sem, .dma cc0_scoped1.sem, .dma cc0_scoped2.sem, .dma cc0_scoped3.sem, .dma cc0_scoped4.sem, .dma cc0_scoped5.sem, .dma cc0_scoped6.sem, .dma cc0_scoped7.sem, .dma cc0_scoped8.sem, .dma cc0_scoped9.sem, .dma cc0_scoped10.sem, .dma cc0_scoped11.sem}
def bufSet : Finset (Ref sig .scVector) := {cc0_scratch0, cc0_scratch1, cc0_scratch2, cc0_scratch3, cc0_scratch4, cc0_scratch5, cc0_scratch6, cc0_scratch7, cc0_scratch8}

/-- The tile's semaphores and the rest of its own. -/
def otherSems : sProp 𝕄 := bigSep (ownCells (thr d i) \ semSet.map ⟨fun s => ((thr d i, s) : GSem nD τ sig), fun _ _ e => (Prod.mk.inj e).2⟩) fun g => semVal g 0
/-- The tile's buffers and the rest of its own. -/
def otherBufs : sProp 𝕄 :=
  bigSep (ownRefs (τ := τ) (.scVector (cV i) (jV i)) \ bufSet.map ⟨(Proc.scVector (cV i) (jV i)).devRef, Proc.devRef_injective _⟩) fun b => iprop(∃ f, ((d, b) : Loc nD τ sig) ↦{fullShare} f)

omit [FloatOps F] in
theorem ownSems0_tile : (ownSems0 (thr d i) : sProp 𝕄) = iprop((semVal (thr d i, .dma cc0_scratch9.sem) 0 ∗ semVal (thr d i, .dma cc0_scoped0.sem) 0 ∗ semVal (thr d i, .dma cc0_scoped1.sem) 0 ∗ semVal (thr d i, .dma cc0_scoped2.sem) 0 ∗ semVal (thr d i, .dma cc0_scoped3.sem) 0 ∗ semVal (thr d i, .dma cc0_scoped4.sem) 0 ∗ semVal (thr d i, .dma cc0_scoped5.sem) 0 ∗ semVal (thr d i, .dma cc0_scoped6.sem) 0 ∗ semVal (thr d i, .dma cc0_scoped7.sem) 0 ∗ semVal (thr d i, .dma cc0_scoped8.sem) 0 ∗ semVal (thr d i, .dma cc0_scoped9.sem) 0 ∗ semVal (thr d i, .dma cc0_scoped10.sem) 0 ∗ semVal (thr d i, .dma cc0_scoped11.sem) 0) ∗ otherSems d i) := by
  have hs : ∀ s ∈ semSet, s.isScoped .scVector = true := by decide
  unfold SparseCore.Cfg.ownSems0 otherSems
  rw [SparseCore.bigSep_sdiff_split' (t := semSet.map ⟨fun s => ((thr d i, s) : GSem nD τ sig), fun _ _ e => (Prod.mk.inj e).2⟩) (fun g hg => ?_), BI.bigSep_map]
  · unfold semSet
    rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
    rfl
  · obtain ⟨s, h, rfl⟩ := Finset.mem_map.mp hg
    exact mem_ownCells.mpr ⟨rfl, hs s h⟩

omit [FloatOps F] in
theorem bufSet_sep (Φ : Ref sig .scVector → sProp 𝕄) : bigSep bufSet Φ = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7 ∗ Φ cc0_scratch8) := by
  unfold bufSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem ownBufs_tile : (ownBufs (thr d i) : sProp 𝕄) = iprop(((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f) ∗ (∃ f, (thr d i).loc cc0_scratch7 ↦{fullShare} f) ∗ (∃ f, (thr d i).loc cc0_scratch8 ↦{fullShare} f)) ∗ otherBufs d i) := by
  unfold SparseCore.Cfg.ownBufs otherBufs
  rw [show (thr d i).2 = .scVector (cV i) (jV i) from rfl, SparseCore.bigSep_sdiff_split' (t := bufSet.map ⟨(Proc.scVector (cV i) (jV i)).devRef, Proc.devRef_injective _⟩) (fun g hg => ?_), BI.bigSep_map]
  · rw [bufSet_sep]; rfl
  · obtain ⟨b, h, rfl⟩ := Finset.mem_map.mp hg
    simp only [bufSet, Finset.mem_insert, Finset.mem_singleton] at h
    rcases h with rfl | rfl | rfl | rfl | rfl | rfl | rfl | rfl | rfl <;> exact SparseCore.Cfg.mem_ownRefs_of_owner (p := Proc.scVector (cV i) (jV i)) rfl

/-! ## The task -/

/-- The rows of the result that are the tile's, at `V`. -/
def tileRows (V : Vec F S1024x49x128 .f32) : sProp 𝕄 :=
  iprop(bigSep Finset.univ (fun t : Fin 16 => resRow d i (64 * (i 1).val + 32 * (i 0).val + t.val) V) ∗ bigSep Finset.univ (fun t : Fin 16 => resRow d i (64 * (i 1).val + 32 * (i 0).val + 16 + t.val) V))

set_option maxRecDepth 20000 in
/-- The task of tile `i`: from its shares of the table and of the boxes and its rows of the result, the rows written. -/
theorem tile_body (hF : (K (F := F)).Facts) (q : PosShare TreeShare) (T : Vec F S4096x128 .f32) (X : Vec F S5x1024 .f32) (hX : InTable X) (V₀ : Vec F S1024x49x128 .f32)
    (O : CellTallies nD τ sig (HIx 1)) (W : Waits sig (HIx 1)) (hO : ∀ g, O g none = 0) :
    iprop(levAts (K (F := F)).L (K (F := F)).lev ∗ emp ∗ (tabPts d i q T ∗ boxPts d i q X ∗ tileRows d i V₀)
        ∗ scopedBufs (thr d i) ∗ scopedSems0 (thr d i) ∗ owes (thr d i) O W)
      ⊢ WP d i (tecAt i) fun _ => iprop((tabPts d i q T ∗ boxPts d i q X ∗ tileRows d i (resVal T X))
            ∗ scopedBufs (thr d i) ∗ scopedSems0 (thr d i)
            ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i), ownSems0_tile, ownBufs_tile]
  refine BIBase.Entails.trans ?_ ((framed d i (R := iprop(otherBufs d i ∗ otherSems d i)) (wp_tec d i O W q T X hX V₀) (fun _ => ?_)))
  · unfold tileSt works boxes Duty tileRows
    iintro ⟨#Hlv, -, ⟨HT, HX, HR1, HR2⟩, ⟨⟨⟨%f0, H0⟩, ⟨%f1, H1⟩, ⟨%f2, H2⟩, ⟨%f3, H3⟩, ⟨%f4, H4⟩, H5, H6, H7, H8⟩, Hbufs⟩, ⟨⟨S9, C0, C1, C2, C3, C4, C5, C6, C7, C8, C9, C10, C11⟩, Hsems⟩, HO⟩
    ihave Hmw := (show levAts (K (F := F)).L (K (F := F)).lev ⊢ Transfers.MayWaits (thr d i) (none : HIx 1) O from
      (K (F := F)).mayWaits_none (thr := thr d i) hO) $$ Hlv
    isplitr [Hbufs Hsems]
    · isplitl [HX]; · iexact HX
      isplitl [H0 H1 H2 H3 H4]
      · iexists (fun | 0 => f0 | 1 => f1 | 2 => f2 | 3 => f3 | 4 => f4)
        isplitl [H0]; · iexact H0
        isplitl [H1]; · iexact H1
        isplitl [H2]; · iexact H2
        isplitl [H3]; · iexact H3
        iexact H4
      isplitl [H5 H6 H7 H8 HT S9 HO]
      · isplitl [H5]; · iexact H5
        isplitl [H6]; · iexact H6
        isplitl [H7]; · iexact H7
        isplitl [H8]; · iexact H8
        isplitl [HT]; · iexact HT
        isplitl [S9]; · iexact S9
        isplitr; · iexact Hmw
        iexists W
        isplitr
        · ipureintro; exact fun p hp => .inl hp
        iexact HO
      isplitl [C0 C1 C2 C3 C4 C5 C6 C7 C8 C9 C10 C11]
      · isplitl [C0]; · iexact C0
        isplitl [C1]; · iexact C1
        isplitl [C2]; · iexact C2
        isplitl [C3]; · iexact C3
        isplitl [C4]; · iexact C4
        isplitl [C5]; · iexact C5
        isplitl [C6]; · iexact C6
        isplitl [C7]; · iexact C7
        isplitl [C8]; · iexact C8
        isplitl [C9]; · iexact C9
        isplitl [C10]; · iexact C10
        iexact C11
      isplitl [HR1]; · iexact HR1
      iexact HR2
    isplitl [Hbufs]; · iexact Hbufs
    iexact Hsems
  · unfold tileSt works boxes Duty tileRows
    iintro ⟨⟨HX, ⟨%f, H0, H1, H2, H3, H4⟩, ⟨H5, H6, H7, H8, HT, S9, -, HO⟩, ⟨C0, C1, C2, C3, C4, C5, C6, C7, C8, C9, C10, C11⟩, HR1, HR2⟩, Hbufs, Hsems⟩
    isplitl [HT HX HR1 HR2]
    · isplitl [HT]; · iexact HT
      isplitl [HX]; · iexact HX
      isplitl [HR1]; · iexact HR1
      iexact HR2
    isplitl [H0 H1 H2 H3 H4 H5 H6 H7 H8 Hbufs]
    · isplitr [Hbufs]
      · isplitl [H0]; · iexists _; iexact H0
        isplitl [H1]; · iexists _; iexact H1
        isplitl [H2]; · iexists _; iexact H2
        isplitl [H3]; · iexists _; iexact H3
        isplitl [H4]; · iexists _; iexact H4
        isplitl [H5]; · iexact H5
        isplitl [H6]; · iexact H6
        isplitl [H7]; · iexact H7
        iexact H8
      iexact Hbufs
    isplitr [HO]
    · isplitr [Hsems]
      · isplitl [S9]; · iexact S9
        isplitl [C0]; · iexact C0
        isplitl [C1]; · iexact C1
        isplitl [C2]; · iexact C2
        isplitl [C3]; · iexact C3
        isplitl [C4]; · iexact C4
        isplitl [C5]; · iexact C5
        isplitl [C6]; · iexact C6
        isplitl [C7]; · iexact C7
        isplitl [C8]; · iexact C8
        isplitl [C9]; · iexact C9
        isplitl [C10]; · iexact C10
        iexact C11
      iexact Hsems
    iexact HO

end Tile

end Cert.Proof.KerI

end
-- ==== Proof.Ideal.Launch.lean ====
module

public import proofs.«01_k».proof.Proof.Ideal.Task
public import Idealize.ShloMosaic.Lib.StableHlo.Run
public import Idealize.ShloMosaic.Lib.Pipeline.Kit

@[expose] public section

noncomputable section

/-! The launch: what the call takes and brings back, @main, the run. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx (ix1 ix2 ix3)
open Idealize.ShloMosaic.StableHlo (held held_sub_split held_congr wp_hlo_within)

variable (m : (ℓ : Loc nD τ sig) → Buf (Elt F) ℓ) (ρ : Dev nD → PrngReg)

/-! ## The values of @main -/

abbrev r_arg0 : DevRef τ sig := Proc.devRef .tc (main_arg0 : Ref sig .tc)
abbrev r_arg1 : DevRef τ sig := Proc.devRef .tc (main_arg1 : Ref sig .tc)
abbrev r_v0 : DevRef τ sig := Proc.devRef .tc (main_v0 : Ref sig .tc)
abbrev r_v1 : DevRef τ sig := Proc.devRef .tc (main_v1 : Ref sig .tc)
abbrev r_cst : DevRef τ sig := Proc.devRef .tc (main_cst : Ref sig .tc)
abbrev r_v2 : DevRef τ sig := Proc.devRef .tc (main_v2 : Ref sig .tc)
abbrev r_c : DevRef τ sig := Proc.devRef .tc (main_c : Ref sig .tc)
abbrev r_v3 : DevRef τ sig := Proc.devRef .tc (main_v3 : Ref sig .tc)
abbrev r_v4 : DevRef τ sig := Proc.devRef .tc (main_v4 : Ref sig .tc)
abbrev r_v5 : DevRef τ sig := Proc.devRef .tc (main_v5 : Ref sig .tc)
abbrev r_v6 : DevRef τ sig := Proc.devRef .tc (main_v6 : Ref sig .tc)
abbrev r_v7 : DevRef τ sig := Proc.devRef .tc (main_v7 : Ref sig .tc)
abbrev r_v8 : DevRef τ sig := Proc.devRef .tc (main_v8 : Ref sig .tc)
abbrev r_v9 : DevRef τ sig := Proc.devRef .tc (main_v9 : Ref sig .tc)
abbrev op0 : HloOp τ sig (Elt F) := StableHlo.unary main_arg0 main_v0 ((transpose S4x32x32x128 [0, 2, 3, 1] · transposes_S4x128x32x32_S4x32x32x128_0_2_3_1) : (⟨S4x128x32x32, .f32⟩ : BufTy).Contents (Elt F) → (⟨S4x32x32x128, .f32⟩ : BufTy).Contents (Elt F))
abbrev op1 : HloOp τ sig (Elt F) := StableHlo.reshape main_v0 main_v1 (rfl : (.f32 : EltTy) = .f32) shapeCasts_S4x32x32x128_S4096x128
abbrev op2 : HloOp τ sig (Elt F) := StableHlo.nullary main_cst (constant S_ .f32 0x00000000#32)
abbrev op3 : HloOp τ sig (Elt F) := StableHlo.unary main_cst main_v2 (broadcastInDim S1024x5 ![] bcast_S_S1024x5 : (⟨S_, .f32⟩ : BufTy).Contents (Elt F) → (⟨S1024x5, .f32⟩ : BufTy).Contents (Elt F))
abbrev op4 : HloOp τ sig (Elt F) := StableHlo.nullary main_c (constantI S_ 32 0#32)
abbrev op5 : HloOp τ sig (Elt F) := StableHlo.unary main_c main_v3 (broadcastInDim S1 ![] bcast_S_S1 : (⟨S_, .i32⟩ : BufTy).Contents (Elt F) → (⟨S1, .i32⟩ : BufTy).Contents (Elt F))
abbrev op6 : HloOp τ sig (Elt F) := StableHlo.ternary main_v2 main_v3 main_arg1 main_v4 ((fun x i u => Host.scatter scatter_S1024x5_S1_S1000x5_01_n_0_0 (fun _ b => b) x i u) : (⟨S1024x5, .f32⟩ : BufTy).Contents (Elt F) → (⟨S1, .i32⟩ : BufTy).Contents (Elt F) → (⟨S1000x5, .f32⟩ : BufTy).Contents (Elt F) → (⟨S1024x5, .f32⟩ : BufTy).Contents (Elt F))
abbrev op7 : HloOp τ sig (Elt F) := StableHlo.unary main_v4 main_v5 ((transpose S5x1024 [1, 0] · transposes_S1024x5_S5x1024_1_0) : (⟨S1024x5, .f32⟩ : BufTy).Contents (Elt F) → (⟨S5x1024, .f32⟩ : BufTy).Contents (Elt F))
abbrev op8 : HloOp τ sig (Elt F) := StableHlo.unary main_v6 main_v7 ((extractStridedSlice S1000x49x128 ![0, 0, 0] · slices_S1024x49x128_S1000x49x128_0_0_0) : (⟨S1024x49x128, .f32⟩ : BufTy).Contents (Elt F) → (⟨S1000x49x128, .f32⟩ : BufTy).Contents (Elt F))
abbrev op9 : HloOp τ sig (Elt F) := StableHlo.reshape main_v7 main_v8 (rfl : (.f32 : EltTy) = .f32) shapeCasts_S1000x49x128_S1000x7x7x128
abbrev op10 : HloOp τ sig (Elt F) := StableHlo.unary main_v8 main_v9 ((transpose S1000x128x7x7 [0, 3, 1, 2] · transposes_S1000x7x7x128_S1000x128x7x7_0_3_1_2) : (⟨S1000x7x7x128, .f32⟩ : BufTy).Contents (Elt F) → (⟨S1000x128x7x7, .f32⟩ : BufTy).Contents (Elt F))

/-- The arrays of @main. -/
abbrev arrs : Finset (DevRef τ sig) := {r_arg0, r_arg1, r_v0, r_v1, r_cst, r_v2, r_c, r_v3, r_v4, r_v5, r_v6, r_v7, r_v8, r_v9}

/-- The launch's contents; those before the call; those after it; those at the end. -/
def V0 (d : Dev nD) : Valuation τ sig (Elt F) := fun b => m (d, b)
def V1 (d : Dev nD) : Valuation τ sig (Elt F) := (op0 (F := F)).result (V0 m d)
def V2 (d : Dev nD) : Valuation τ sig (Elt F) := (op1 (F := F)).result (V1 m d)
def V3 (d : Dev nD) : Valuation τ sig (Elt F) := (op2 (F := F)).result (V2 m d)
def V4 (d : Dev nD) : Valuation τ sig (Elt F) := (op3 (F := F)).result (V3 m d)
def V5 (d : Dev nD) : Valuation τ sig (Elt F) := (op4 (F := F)).result (V4 m d)
def V6 (d : Dev nD) : Valuation τ sig (Elt F) := (op5 (F := F)).result (V5 m d)
def V7 (d : Dev nD) : Valuation τ sig (Elt F) := (op6 (F := F)).result (V6 m d)
def V8 (d : Dev nD) : Valuation τ sig (Elt F) := (op7 (F := F)).result (V7 m d)

/-- The table and the boxes the call reads. -/
def tabOf (d : Dev nD) : Vec F S4096x128 .f32 := V8 m d r_v1
def boxOf (d : Dev nD) : Vec F S5x1024 .f32 := V8 m d r_v5

def V9 (d : Dev nD) : Valuation τ sig (Elt F) := Function.update (V8 m d) r_v6 (resVal (tabOf m d) (boxOf m d) : Vec F S1024x49x128 .f32)
def V10 (d : Dev nD) : Valuation τ sig (Elt F) := (op8 (F := F)).result (V9 m d)
def V11 (d : Dev nD) : Valuation τ sig (Elt F) := (op9 (F := F)).result (V10 m d)
def V12 (d : Dev nD) : Valuation τ sig (Elt F) := (op10 (F := F)).result (V11 m d)
theorem sub0 : (op0 (F := F)).bufs ⊆ arrs := show ({r_arg0, r_v0} : Finset (DevRef τ sig)) ⊆ arrs by decide
theorem sub1 : (op1 (F := F)).bufs ⊆ arrs := show ({r_v0, r_v1} : Finset (DevRef τ sig)) ⊆ arrs by decide
theorem sub2 : (op2 (F := F)).bufs ⊆ arrs := show ({r_cst} : Finset (DevRef τ sig)) ⊆ arrs by decide
theorem sub3 : (op3 (F := F)).bufs ⊆ arrs := show ({r_cst, r_v2} : Finset (DevRef τ sig)) ⊆ arrs by decide
theorem sub4 : (op4 (F := F)).bufs ⊆ arrs := show ({r_c} : Finset (DevRef τ sig)) ⊆ arrs by decide
theorem sub5 : (op5 (F := F)).bufs ⊆ arrs := show ({r_c, r_v3} : Finset (DevRef τ sig)) ⊆ arrs by decide
theorem sub6 : (op6 (F := F)).bufs ⊆ arrs := show ({r_v2, r_v3, r_arg1, r_v4} : Finset (DevRef τ sig)) ⊆ arrs by decide
theorem sub7 : (op7 (F := F)).bufs ⊆ arrs := show ({r_v4, r_v5} : Finset (DevRef τ sig)) ⊆ arrs by decide
theorem sub8 : (op8 (F := F)).bufs ⊆ arrs := show ({r_v6, r_v7} : Finset (DevRef τ sig)) ⊆ arrs by decide
theorem sub9 : (op9 (F := F)).bufs ⊆ arrs := show ({r_v7, r_v8} : Finset (DevRef τ sig)) ⊆ arrs by decide
theorem sub10 : (op10 (F := F)).bufs ⊆ arrs := show ({r_v8, r_v9} : Finset (DevRef τ sig)) ⊆ arrs by decide

theorem keep (d : Dev nD) (b : DevRef τ sig) (h : b ∉ ({r_v0, r_v1, r_cst, r_v2, r_c, r_v3, r_v4, r_v5} : Finset (DevRef τ sig))) : V8 m d b = m (d, b) := by
  simp only [Finset.mem_insert, Finset.mem_singleton, not_or] at h
  obtain ⟨h0, h1, h2, h3, h4, h5, h6, h7⟩ := h
  unfold V8 V7 V6 V5 V4 V3 V2 V1
  rw [(op7 (F := F)).result_of_not_mem _ (show b ∉ ({r_v5} : Finset (DevRef τ sig)) from fun h => h7 (Finset.mem_singleton.mp h)),
    (op6 (F := F)).result_of_not_mem _ (show b ∉ ({r_v4} : Finset (DevRef τ sig)) from fun h => h6 (Finset.mem_singleton.mp h)),
    (op5 (F := F)).result_of_not_mem _ (show b ∉ ({r_v3} : Finset (DevRef τ sig)) from fun h => h5 (Finset.mem_singleton.mp h)),
    (op4 (F := F)).result_of_not_mem _ (show b ∉ ({r_c} : Finset (DevRef τ sig)) from fun h => h4 (Finset.mem_singleton.mp h)),
    (op3 (F := F)).result_of_not_mem _ (show b ∉ ({r_v2} : Finset (DevRef τ sig)) from fun h => h3 (Finset.mem_singleton.mp h)),
    (op2 (F := F)).result_of_not_mem _ (show b ∉ ({r_cst} : Finset (DevRef τ sig)) from fun h => h2 (Finset.mem_singleton.mp h)),
    (op1 (F := F)).result_of_not_mem _ (show b ∉ ({r_v1} : Finset (DevRef τ sig)) from fun h => h1 (Finset.mem_singleton.mp h)),
    (op0 (F := F)).result_of_not_mem _ (show b ∉ ({r_v0} : Finset (DevRef τ sig)) from fun h => h0 (Finset.mem_singleton.mp h))]
  rfl

theorem keep' (d : Dev nD) (b : DevRef τ sig) (h : b ∉ ({r_v7, r_v8, r_v9, r_v6} : Finset (DevRef τ sig))) : V12 m d b = V8 m d b := by
  simp only [Finset.mem_insert, Finset.mem_singleton, not_or] at h
  obtain ⟨h8, h9, h10, h⟩ := h
  unfold V12 V11 V10
  rw [(op10 (F := F)).result_of_not_mem _ (show b ∉ ({r_v9} : Finset (DevRef τ sig)) from fun h => h10 (Finset.mem_singleton.mp h)),
    (op9 (F := F)).result_of_not_mem _ (show b ∉ ({r_v8} : Finset (DevRef τ sig)) from fun h => h9 (Finset.mem_singleton.mp h)),
    (op8 (F := F)).result_of_not_mem _ (show b ∉ ({r_v7} : Finset (DevRef τ sig)) from fun h => h8 (Finset.mem_singleton.mp h))]
  exact Function.update_of_ne h _ _

/-! ## What goes with the call -/

theorem nCore_zero : (K (F := F)).nCore 0 = 2 := rfl
theorem nSub_zero : (K (F := F)).nSub 0 = 16 := rfl

/-- Tile `j` of SparseCore `c`. -/
def tileAt (c : Fin 2) (j : Fin 16) : grid0.Coords := fun | 0 => c | 1 => j | ⟨_ + 2, h⟩ => absurd h (Nat.not_lt.2 (Nat.le_add_left _ _))

/-- A SparseCore's share, and a tile's. -/
def qC (c : Fin 2) : PosShare TreeShare := pieceOf fullShare 2 (by decide) c
def qT (c : Fin 2) (j : Fin 16) : PosShare TreeShare := pieceOf (qC c) 16 (by decide) j

abbrev tLoc (d : Dev nD) : Loc nD τ sig := (SparseCore.T d).loc main_v1
abbrev xLoc (d : Dev nD) : Loc nD τ sig := (SparseCore.T d).loc main_v5
abbrev oLoc (d : Dev nD) : Loc nD τ sig := (SparseCore.T d).loc main_v6

/-- What tile `(c, j)` takes and brings back, the result at `V`. -/
def tilePay (d : Dev nD) (c : Fin 2) (j : Fin 16) (V : Vec F S1024x49x128 .f32) : sProp 𝕄 :=
  iprop((tLoc d ↦{qT c j} tabOf m d) ∗ (xLoc d ↦{qT c j} boxOf m d) ∗ tileRows d (tileAt c j) V)
/-- What SparseCore `c` takes and brings back. -/
def corePay (d : Dev nD) (c : Fin 2) (V : Vec F S1024x49x128 .f32) : sProp 𝕄 :=
  iprop((tLoc d ↦{qC c} tabOf m d) ∗ (xLoc d ↦{qC c} boxOf m d) ∗ bigSep Finset.univ fun j : Fin 16 => tileRows d (tileAt c j) V)

instance (d : Dev nD) (i : grid0.Coords) (V : Vec F S1024x49x128 .f32) : BI.Storable (upEmb : UEmb _ 𝕄) (tileRows d i V) := by
  unfold tileRows; infer_instance
instance (d : Dev nD) (c : Fin 2) (j : Fin 16) (V : Vec F S1024x49x128 .f32) : BI.Storable (upEmb : UEmb _ 𝕄) (tilePay m d c j V) := by
  unfold tilePay; infer_instance
instance (d : Dev nD) (c : Fin 2) (V : Vec F S1024x49x128 .f32) : BI.Storable (upEmb : UEmb _ 𝕄) (corePay m d c V) := by
  unfold corePay; infer_instance

/-- The result before the call, and after. -/
def out0 (d : Dev nD) : Vec F S1024x49x128 .f32 := V8 m d r_v6
def out1 (d : Dev nD) : Vec F S1024x49x128 .f32 := resVal (tabOf m d) (boxOf m d)

def P : (K (F := F)).Pay (nD := nD) (Val := Elt F) (Name := ℕ) (U := UU) where
  st := fun q d c => match q with | 0 => corePay m d (Fin.cast nCore_zero c) (out0 m d)
  dn := fun q d c => match q with | 0 => corePay m d (Fin.cast nCore_zero c) (out1 m d)
  go := fun q d c j => match q with | 0 => tilePay m d (Fin.cast nCore_zero c) (Fin.cast nSub_zero j) (out0 m d)
  td := fun q d c j => match q with | 0 => tilePay m d (Fin.cast nCore_zero c) (Fin.cast nSub_zero j) (out1 m d)
  x := fun _ _ => iprop(emp)

instance P_storable : (P (F := F) m).IsStorable where
  st q d c := match q with | 0 => (inferInstance : BI.Storable (upEmb : UEmb _ 𝕄) (corePay m d (Fin.cast nCore_zero c) (out0 m d)))
  dn q d c := match q with | 0 => (inferInstance : BI.Storable (upEmb : UEmb _ 𝕄) (corePay m d (Fin.cast nCore_zero c) (out1 m d)))
  go q d c j := match q with | 0 => (inferInstance : BI.Storable (upEmb : UEmb _ 𝕄) (tilePay m d (Fin.cast nCore_zero c) (Fin.cast nSub_zero j) (out0 m d)))
  td q d c j := match q with | 0 => (inferInstance : BI.Storable (upEmb : UEmb _ 𝕄) (tilePay m d (Fin.cast nCore_zero c) (Fin.cast nSub_zero j) (out1 m d)))

/-! ## The tile's obligation -/

theorem task_eq (c : Fin τ.nSC) (s : Fin τ.nSub) :
    defs₀ (F := F) (.scVector c s) 0 ()
      = SparseCore.onTile hcore0 hsub0 (fun c s => cc0__tec_body (tileAt c s) (Memref.whole main_v1_scv) (Memref.isWhole_whole _) (Memref.whole main_v5_scv) (Memref.isWhole_whole _) (Memref.whole main_v6_scv) (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
          (Memref.whole cc0_scratch5) (Memref.isWhole_whole _) (Memref.whole cc0_scratch6) (Memref.isWhole_whole _) (Memref.whole cc0_scratch7) (Memref.isWhole_whole _) (Memref.whole cc0_scratch8) (Memref.isWhole_whole _)
          cc0_scratch9 cc0_scoped0 cc0_scoped1 cc0_scoped2 cc0_scoped3 cc0_scoped4 cc0_scoped5 cc0_scoped6 cc0_scoped7 cc0_scoped8 cc0_scoped9 cc0_scoped10 cc0_scoped11) ⟨⟩ c s := rfl

omit [FloatOps F] in
theorem own_band {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %hW', HO⟩
  iexists W'
  isplitr
  · ipureintro; exact fun p hp => (hW' p hp).imp_right Or.inl
  · iexact HO

set_option maxRecDepth 16384 in
theorem tileObl (hX : ∀ d, InTable (boxOf m d)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [task_eq]; simp only [SparseCore.onTile, hci, and_self, ↓reduceDIte]
  rw [tec_eq]
  exact (tile_body d (tileAt ⟨_, hci.1⟩ ⟨_, hci.2⟩) facts (qT ⟨_, hci.1⟩ ⟨_, hci.2⟩) (tabOf m d) (boxOf m d) (hX d) (out0 m d) O W hO).trans
    (wp_mono frame _ _ fun _ => own_band)

/-! ## The splits -/

theorem bigSep_cores (Φ : Fin 2 → sProp 𝕄) : (bigSep Finset.univ fun c : Fin ((K (F := F)).nCore 0) => Φ (Fin.cast nCore_zero c)) = bigSep Finset.univ Φ :=
  bigSep_congr fun _ _ => congrArg Φ (Fin.ext rfl)
theorem bigSep_subs (Φ : Fin 16 → sProp 𝕄) : (bigSep Finset.univ fun j : Fin ((K (F := F)).nSub 0) => Φ (Fin.cast nSub_zero j)) = bigSep Finset.univ Φ :=
  bigSep_congr fun _ _ => congrArg Φ (Fin.ext rfl)

theorem core_tiles (d : Dev nD) (c : Fin 2) (V : Vec F S1024x49x128 .f32) :
    corePay m d c V = bigSep Finset.univ fun j : Fin 16 => tilePay m d c j V := by
  unfold corePay tilePay qT
  rw [bigSep_sep', bigSep_sep', ← pointsTo_piecesOf, ← pointsTo_piecesOf]

theorem vecSplit : (K (F := F)).VecSplit' (P m) 0 := by
  intro d c
  show corePay m d (Fin.cast nCore_zero c) (out0 m d) ⊢ |={Set.univ}=> iprop(
      (bigSep Finset.univ fun j : Fin ((K (F := F)).nSub 0) => tilePay m d (Fin.cast nCore_zero c) (Fin.cast nSub_zero j) (out0 m d))
      ∗ ((bigSep Finset.univ fun j : Fin ((K (F := F)).nSub 0) => tilePay m d (Fin.cast nCore_zero c) (Fin.cast nSub_zero j) (out1 m d))
          -∗ corePay m d (Fin.cast nCore_zero c) (out1 m d)))
  rw [bigSep_subs (F := F) (fun j => tilePay m d (Fin.cast nCore_zero c) j (out0 m d)),
    bigSep_subs (F := F) (fun j => tilePay m d (Fin.cast nCore_zero c) j (out1 m d)), core_tiles, core_tiles]
  iintro H; imodintro
  isplitl [H]; · iexact H
  iintro H; iexact H

/-- The row of the result that place `t` of tile `(c, j)` writes. -/
def rowNo : (Fin 2 × Fin 16) × (Fin 16 ⊕ Fin 16) → ℕ
  | ((c, j), .inl t) => 64 * j.val + 32 * c.val + t.val
  | ((c, j), .inr t) => 64 * j.val + 32 * c.val + 16 + t.val

theorem rowNo_inj {a b : (Fin 2 × Fin 16) × (Fin 16 ⊕ Fin 16)} (h : rowNo a = rowNo b) : a = b := by
  obtain ⟨⟨c, j⟩, t | t⟩ := a <;> obtain ⟨⟨c', j'⟩, t' | t'⟩ := b <;> simp only [rowNo] at h
  · obtain rfl : c = c' := Fin.ext (by omega)
    obtain rfl : j = j' := Fin.ext (by omega)
    obtain rfl : t = t' := Fin.ext (by omega)
    rfl
  · exfalso; omega
  · exfalso; omega
  · obtain rfl : c = c' := Fin.ext (by omega)
    obtain rfl : j = j' := Fin.ext (by omega)
    obtain rfl : t = t' := Fin.ext (by omega)
    rfl

theorem rowNo_surj (r : ℕ) (hr : r < 1024) : ∃ a, rowNo a = r := by
  by_cases h : r % 32 < 16
  · exact ⟨((⟨r / 32 % 2, by omega⟩, ⟨r / 64, by omega⟩), .inl ⟨r % 32, h⟩), by simp only [rowNo]; omega⟩
  · exact ⟨((⟨r / 32 % 2, by omega⟩, ⟨r / 64, by omega⟩), .inr ⟨r % 32 - 16, by omega⟩), by simp only [rowNo]; omega⟩

set_option maxRecDepth 20000 in
omit [FloatOps F] in
/-- The result whole is its rows, tile by tile. -/
theorem out_rows (d : Dev nD) (V : Vec F S1024x49x128 .f32) :
    (oLoc d ↦{fullShare} V : sProp 𝕄) = bigSep Finset.univ fun c : Fin 2 => bigSep Finset.univ fun j : Fin 16 => tileRows d (tileAt c j) V := by
  have hd : ∀ a ∈ (Finset.univ : Finset ((Fin 2 × Fin 16) × (Fin 16 ⊕ Fin 16))), ∀ b ∈ (Finset.univ : Finset ((Fin 2 × Fin 16) × (Fin 16 ⊕ Fin 16))),
      a ≠ b → Disjoint (rowSet (rowNo a)) (rowSet (rowNo b)) := by
    intro a _ b _ hab
    refine Finset.disjoint_left.mpr fun x hx hy => hab (rowNo_inj ?_)
    exact (Finset.mem_filter.mp hx).2.symm.trans (Finset.mem_filter.mp hy).2
  have hu : (Finset.univ : Finset ((Fin 2 × Fin 16) × (Fin 16 ⊕ Fin 16))).biUnion (fun a => rowSet (rowNo a)) = Finset.univ := by
    refine Finset.eq_univ_iff_forall.mpr fun x => ?_
    have hx : (x 0).val < 1024 := (x 0).isLt
    obtain ⟨a, ha⟩ := rowNo_surj (x 0).val hx
    exact Finset.mem_biUnion.mpr ⟨a, Finset.mem_univ _, Finset.mem_filter.mpr ⟨Finset.mem_univ _, ha.symm⟩⟩
  rw [← hu]
  refine (pointsTo_biUnion (Val := Elt F) (ℓ := oLoc d) (q := fullShare) (f := V) Finset.univ (fun a => rowSet (rowNo a)) hd).trans ?_
  rw [BI.bigSep_univ_prod, BI.bigSep_univ_prod]
  refine bigSep_congr fun c _ => bigSep_congr fun j _ => ?_
  rw [BI.bigSep_univ_sum]
  rfl

theorem cores_eq (d : Dev nD) (V : Vec F S1024x49x128 .f32) :
    (bigSep Finset.univ fun c : Fin 2 => corePay m d c V)
      = iprop((tLoc d ↦{fullShare} tabOf m d) ∗ (xLoc d ↦{fullShare} boxOf m d) ∗ oLoc d ↦{fullShare} V) := by
  unfold corePay qC
  rw [bigSep_sep', bigSep_sep', ← pointsTo_piecesOf, ← pointsTo_piecesOf, ← out_rows]

theorem st0_eq (d : Dev nD) : (bigSep Finset.univ fun c : Fin ((K (F := F)).nCore 0) => (P m).st 0 d c)
    = iprop((tLoc d ↦{fullShare} tabOf m d) ∗ (xLoc d ↦{fullShare} boxOf m d) ∗ oLoc d ↦{fullShare} out0 m d) :=
  (bigSep_cores (F := F) (fun c => corePay m d c (out0 m d))).trans (cores_eq m d _)
theorem dn0_eq (d : Dev nD) : (bigSep Finset.univ fun c : Fin ((K (F := F)).nCore 0) => (P m).dn 0 d c)
    = iprop((tLoc d ↦{fullShare} tabOf m d) ∗ (xLoc d ↦{fullShare} boxOf m d) ∗ oLoc d ↦{fullShare} out1 m d) :=
  (bigSep_cores (F := F) (fun c => corePay m d c (out1 m d))).trans (cores_eq m d _)

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  rw [hx, show (bigSep Finset.univ fun _ : Dev nD => (iprop(emp) : sProp 𝕄)) = iprop(emp) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main -/

theorem unscoped_held (d : Dev nD) : (unscopedBufs d (fun b => m ((SparseCore.T d).loc b)) : sProp 𝕄) = held (T d) arrs (V0 m d) := by
  have hs : (Finset.univ.filter fun b : Ref sig .tc => ¬ b.isScoped).map ⟨(Proc.tc : Proc τ).devRef, Proc.devRef_injective _⟩ = arrs := by decide
  unfold unscopedBufs held
  rw [← hs, BI.bigSep_map]
  rfl

/-- The arrays the call takes. -/
abbrev callArrs : Finset (DevRef τ sig) := {r_v1, r_v5, r_v6}
theorem held_call (d : Dev nD) (V : Valuation τ sig (Elt F)) :
    (held (T d) callArrs V : sProp 𝕄) = iprop((tLoc d ↦{fullShare} V r_v1) ∗ (xLoc d ↦{fullShare} V r_v5) ∗ oLoc d ↦{fullShare} V r_v6) := by
  unfold held callArrs
  rw [SparseCore.bigSep_insert' (by decide), SparseCore.bigSep_insert' (by decide), bigSep_singleton]

theorem held_V8 (d : Dev nD) : (held (T d) arrs (V8 m d) : sProp 𝕄)
    = iprop(((tLoc d ↦{fullShare} tabOf m d) ∗ (xLoc d ↦{fullShare} boxOf m d) ∗ oLoc d ↦{fullShare} out0 m d) ∗ held (T d) (arrs \ callArrs) (V8 m d)) := by
  rw [held_sub_split (T d) (show callArrs ⊆ arrs by decide), held_call]; rfl
theorem held_V9 (d : Dev nD) : (held (T d) arrs (V9 m d) : sProp 𝕄)
    = iprop(((tLoc d ↦{fullShare} tabOf m d) ∗ (xLoc d ↦{fullShare} boxOf m d) ∗ oLoc d ↦{fullShare} out1 m d) ∗ held (T d) (arrs \ callArrs) (V8 m d)) := by
  have h1 : V9 m d r_v1 = tabOf m d := Function.update_of_ne (show r_v1 ≠ r_v6 by decide) _ _
  have h5 : V9 m d r_v5 = boxOf m d := Function.update_of_ne (show r_v5 ≠ r_v6 by decide) _ _
  have h6 : V9 m d r_v6 = out1 m d := Function.update_self _ _ _
  rw [held_sub_split (T d) (show callArrs ⊆ arrs by decide), held_call, h1, h5, h6]
  refine congrArg _ (held_congr (T d) fun b hb => Function.update_of_ne ?_ _ _)
  rintro rfl
  exact absurd hb (by decide)

abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v9
/-- @main's result. -/
def resOf (d : Dev nD) : Buf (Elt F) (rLoc d) := V12 m d r_v9

/-- What @main leaves: its arguments as they were, its result. -/
def FIN (d : Dev nD) : sProp 𝕄 := iprop((aLoc d ↦{fullShare} m (aLoc d)) ∗ (bLoc d ↦{fullShare} m (bLoc d)) ∗ rLoc d ↦{fullShare} resOf m d)

theorem held_end (d : Dev nD) : (held (T d) arrs (V12 m d) : sProp 𝕄) ⊢ FIN m d := by
  have h0 : V12 m d r_arg0 = m (aLoc d) := (keep' m d _ (by decide)).trans (keep m d _ (by decide))
  have h1 : V12 m d r_arg1 = m (bLoc d) := (keep' m d _ (by decide)).trans (keep m d _ (by decide))
  rw [held_sub_split (T d) (show ({r_arg0, r_arg1, r_v9} : Finset (DevRef τ sig)) ⊆ arrs by decide)]
  refine sep_elim_left.trans ?_
  unfold held FIN resOf
  rw [SparseCore.bigSep_insert' (by decide), SparseCore.bigSep_insert' (by decide), bigSep_singleton, h0, h1]

set_option maxRecDepth 16384 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := arrs) sub0 (V := V0 m d)) $$ [Hb Hheld]
  · isplitl [Hb] <;> iassumption
  iintro ⟨Hb, Hheld⟩
  rw [Idealize.SL.Sem.wp_ret]; imodintro
  ihave Hheld := (Entails.of_eq (show (held (SparseCore.T d) arrs ((op0 (F := F)).result (V0 m d)) : sProp 𝕄) = held (SparseCore.T d) arrs (V1 m d) from rfl)) $$ Hheld
  iapply (wp_hlo_within 𝒱 (SparseCore.T d) none Set.univ (op := op1) (S := arrs) sub1 (V := V1 m d)) $$ [Hb Hheld]
  · isplitl [Hb] <;> iassumption
  iintro ⟨Hb, Hheld⟩
  rw [Idealize.SL.Sem.wp_ret]; imodintro
  ihave Hheld := (Entails.of_eq (show (held (SparseCore.T d) arrs ((op1 (F := F)).result (V1 m d)) : sProp 𝕄) = held (SparseCore.T d) arrs (V2 m d) from rfl)) $$ Hheld
  iapply (wp_hlo_within 𝒱 (SparseCore.T d) none Set.univ (op := op2) (S := arrs) sub2 (V := V2 m d)) $$ [Hb Hheld]
  · isplitl [Hb] <;> iassumption
  iintro ⟨Hb, Hheld⟩
  rw [Idealize.SL.Sem.wp_ret]; imodintro
  ihave Hheld := (Entails.of_eq (show (held (SparseCore.T d) arrs ((op2 (F := F)).result (V2 m d)) : sProp 𝕄) = held (SparseCore.T d) arrs (V3 m d) from rfl)) $$ Hheld
  iapply (wp_hlo_within 𝒱 (SparseCore.T d) none Set.univ (op := op3) (S := arrs) sub3 (V := V3 m d)) $$ [Hb Hheld]
  · isplitl [Hb] <;> iassumption
  iintro ⟨Hb, Hheld⟩
  rw [Idealize.SL.Sem.wp_ret]; imodintro
  ihave Hheld := (Entails.of_eq (show (held (SparseCore.T d) arrs ((op3 (F := F)).result (V3 m d)) : sProp 𝕄) = held (SparseCore.T d) arrs (V4 m d) from rfl)) $$ Hheld
  iapply (wp_hlo_within 𝒱 (SparseCore.T d) none Set.univ (op := op4) (S := arrs) sub4 (V := V4 m d)) $$ [Hb Hheld]
  · isplitl [Hb] <;> iassumption
  iintro ⟨Hb, Hheld⟩
  rw [Idealize.SL.Sem.wp_ret]; imodintro
  ihave Hheld := (Entails.of_eq (show (held (SparseCore.T d) arrs ((op4 (F := F)).result (V4 m d)) : sProp 𝕄) = held (SparseCore.T d) arrs (V5 m d) from rfl)) $$ Hheld
  iapply (wp_hlo_within 𝒱 (SparseCore.T d) none Set.univ (op := op5) (S := arrs) sub5 (V := V5 m d)) $$ [Hb Hheld]
  · isplitl [Hb] <;> iassumption
  iintro ⟨Hb, Hheld⟩
  rw [Idealize.SL.Sem.wp_ret]; imodintro
  ihave Hheld := (Entails.of_eq (show (held (SparseCore.T d) arrs ((op5 (F := F)).result (V5 m d)) : sProp 𝕄) = held (SparseCore.T d) arrs (V6 m d) from rfl)) $$ Hheld
  iapply (wp_hlo_within 𝒱 (SparseCore.T d) none Set.univ (op := op6) (S := arrs) sub6 (V := V6 m d)) $$ [Hb Hheld]
  · isplitl [Hb] <;> iassumption
  iintro ⟨Hb, Hheld⟩
  rw [Idealize.SL.Sem.wp_ret]; imodintro
  ihave Hheld := (Entails.of_eq (show (held (SparseCore.T d) arrs ((op6 (F := F)).result (V6 m d)) : sProp 𝕄) = held (SparseCore.T d) arrs (V7 m d) from rfl)) $$ Hheld
  iapply (wp_hlo_within 𝒱 (SparseCore.T d) none Set.univ (op := op7) (S := arrs) sub7 (V := V7 m d)) $$ [Hb Hheld]
  · isplitl [Hb] <;> iassumption
  iintro ⟨Hb, Hheld⟩
  rw [Idealize.SL.Sem.wp_ret]; imodintro
  ihave Hheld := (Entails.of_eq (show (held (SparseCore.T d) arrs ((op7 (F := F)).result (V7 m d)) : sProp 𝕄) = held (SparseCore.T d) arrs (V8 m d) from rfl)) $$ Hheld
  ihave Hh := (Entails.of_eq (held_V8 (F := F) m d)) $$ Hheld
  icases Hh with ⟨Hcall, Hrest⟩
  iapply ((K (F := F)).wp_run (D (F := F)) 𝒱 (EH := EH) (P := P m) κ d 0) $$ [Hst Hcall Hb Hrest Hts]
  isplitr; · iexact Hctx
  isplitl [Hst]; · iexact Hst
  isplitl [Hcall]
  · rw [st0_eq]; iexact Hcall
  iintro ⟨Hst, Hdn⟩
  ihave Hdn' := (Entails.of_eq (dn0_eq m d)) $$ Hdn
  iapply (wp_hlo_within 𝒱 (SparseCore.T d) none Set.univ (op := op8) (S := arrs) sub8 (V := V9 m d)) $$ [Hb Hdn' Hrest]
  · isplitl [Hb]; · iexact Hb
    rw [held_V9]; isplitl [Hdn'] <;> iassumption
  iintro ⟨Hb, Hheld⟩
  rw [Idealize.SL.Sem.wp_ret]; imodintro
  ihave Hheld := (Entails.of_eq (show (held (SparseCore.T d) arrs ((op8 (F := F)).result (V9 m d)) : sProp 𝕄) = held (SparseCore.T d) arrs (V10 m d) from rfl)) $$ Hheld
  iapply (wp_hlo_within 𝒱 (SparseCore.T d) none Set.univ (op := op9) (S := arrs) sub9 (V := V10 m d)) $$ [Hb Hheld]
  · isplitl [Hb]; · iexact Hb
    iexact Hheld
  iintro ⟨Hb, Hheld⟩
  rw [Idealize.SL.Sem.wp_ret]; imodintro
  ihave Hheld := (Entails.of_eq (show (held (SparseCore.T d) arrs ((op9 (F := F)).result (V10 m d)) : sProp 𝕄) = held (SparseCore.T d) arrs (V11 m d) from rfl)) $$ Hheld
  iapply (wp_hlo_within 𝒱 (SparseCore.T d) none Set.univ (op := op10) (S := arrs) sub10 (V := V11 m d)) $$ [Hb Hheld]
  · isplitl [Hb]; · iexact Hb
    iexact Hheld
  iintro ⟨Hb, Hheld⟩
  rw [Idealize.SL.Sem.wp_ret]; imodintro
  ihave Hheld := (Entails.of_eq (show (held (SparseCore.T d) arrs ((op10 (F := F)).result (V11 m d)) : sProp 𝕄) = held (SparseCore.T d) arrs (V12 m d) from rfl)) $$ Hheld
  imodintro
  isplitl [Hst]; · iexact Hst
  isplitr [Hb Hts]
  · iapply (held_end m d); iexact Hheld
  isplitl [Hb] <;> iassumption

/-! ## The run -/

/-- What the claims read of device `d`'s final state. -/
def fq (d : Dev nD) (s' : Phys nD τ sig (Elt F)) : Prop :=
  s'.mem.mem (aLoc d) = m (aLoc d) ∧ s'.mem.mem (bLoc d) = m (bLoc d) ∧ s'.mem.mem (rLoc d) = resOf m d

set_option maxRecDepth 16384 in
theorem hfin (d : Dev nD) (s' : Phys nD τ sig (Elt F)) : iprop(FIN m d ∗ SI s') ⊢ (⌜fq m d s'⌝ : sProp 𝕄) := by
  unfold FIN
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare) (f := resOf m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- The arguments kept, the result's value, every semaphore at zero. -/
def Ends : PUnit × MemSt nD τ sig (Elt F) → Prop := fun r =>
  (∀ d : Dev nD, r.2.mem (aLoc d) = m (aLoc d) ∧ r.2.mem (bLoc d) = m (bLoc d) ∧ r.2.mem (rLoc d) = resOf m d) ∧ r.2.sem = fun _ => 0

theorem run_main [∀ e, Nonempty (Elt F e)] (hX : ∀ d, InTable (boxOf m d)) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hX)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof.KerI

end
-- ==== Proof.Ideal.Range.lean ====
module

public import proofs.«01_k».proof.Proof.Ideal.Launch
public import Idealize.ShloMosaic.Lib.Routing.OpsSet

@[expose] public section

noncomputable section

/-! The boxes as the program finds them: every row the list names is the table's. -/

namespace Cert.Proof.KerI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx (ix1 ix2 ix3)

/-! ## The boxes' array -/

theorem start_zero (idx : IVec S1 32) (hidx : ∀ x, idx x = 0#32) (j : S1000x5.Idx) (a : Fin 2) :
    scatter_S1024x5_S1_S1000x5_01_n_0_0.start j idx a = 0 := by
  unfold ScatterDims.start
  split
  · rw [hidx]; rfl
  · rfl

theorem window_self (j : S1000x5.Idx) (a : Fin 2) : scatter_S1024x5_S1_S1000x5_01_n_0_0.window j a = (j a).val := by
  match a with
  | 0 => rfl
  | 1 => rfl

theorem lands_self (idx : IVec S1 32) (hidx : ∀ x, idx x = 0#32) (j : S1000x5.Idx) (k : S1024x5.Idx) :
    scatter_S1024x5_S1_S1000x5_01_n_0_0.resultIdx? j idx = some k ↔ ∀ a : Fin 2, (j a).val = (k a).val := by
  have hb : ∀ a : Fin 2, (j a).val < S1024x5.size a := by
    rw [Fin.forall_fin_two]
    have h0 : (j 0).val < 1000 := (j 0).isLt
    have h1 : (j 1).val < 5 := (j 1).isLt
    exact ⟨show (j 0).val < 1024 by omega, h1⟩
  unfold ScatterDims.resultIdx?
  rw [dif_pos (fun a => by rw [start_zero idx hidx, window_self]; have := hb a; omega)]
  constructor
  · intro h a
    have h' := congrArg Fin.val (congrFun (Option.some.inj h) a)
    simp only [start_zero idx hidx, window_self] at h'
    omega
  · intro h
    refine congrArg some (funext fun a => Fin.ext ?_)
    simp only [start_zero idx hidx, window_self]
    have := h a
    omega

theorem put_in {α : Type} (x : S1024x5.Idx → α) (idx : IVec S1 32) (hidx : ∀ x, idx x = 0#32) (u : S1000x5.Idx → α) (r : ℕ) (hr : r < 1000) (k : Fin 5) :
    Host.scatter scatter_S1024x5_S1_S1000x5_01_n_0_0 (fun _ b => b) x idx u (ix2 ⟨r, by omega⟩ k) = u (ix2 ⟨r, hr⟩ k) := by
  refine Routing.scatter_set_hit _ x idx u _ _ (fun j hj => congrArg u (funext fun a => Fin.ext ?_)) (ix2 ⟨r, hr⟩ k) ((lands_self idx hidx _ _).mpr ?_)
  · have h := (lands_self idx hidx _ _).mp hj a
    match a with
    | 0 => exact h
    | 1 => exact h
  · rw [Fin.forall_fin_two]; exact ⟨rfl, rfl⟩

theorem put_out {α : Type} (x : S1024x5.Idx → α) (idx : IVec S1 32) (hidx : ∀ x, idx x = 0#32) (u : S1000x5.Idx → α) (r : Fin 1024) (hr : 1000 ≤ r.val) (k : Fin 5) :
    Host.scatter scatter_S1024x5_S1_S1000x5_01_n_0_0 (fun _ b => b) x idx u (ix2 r k) = x (ix2 r k) := by
  refine Routing.scatter_set_miss _ x idx u _ fun j hj => ?_
  have h : (j 0).val = r.val := (lands_self idx hidx _ _).mp hj 0
  have h0 : (j 0).val < 1000 := (j 0).isLt
  omega

variable (m : (ℓ : Loc nD τ sig) → Buf (Elt F) ℓ)

theorem boxOf_eq (d : Dev nD) : boxOf m d = transpose S5x1024 [1, 0]
    (Host.scatter scatter_S1024x5_S1_S1000x5_01_n_0_0 (fun _ b => b) (broadcastInDim S1024x5 ![] bcast_S_S1024x5 (constant S_ .f32 0x00000000#32 : FVec F S_ .f32))
      (broadcastInDim S1 ![] bcast_S_S1 (constantI S_ 32 0#32)) (m (bLoc d) : FVec F S1000x5 .f32)) transposes_S1024x5_S5x1024_1_0 := by
  unfold boxOf V8 V7 V6 V5 V4 V3 V2 V1 V0
  simp (disch := decide) only [StableHlo.unary_result', StableHlo.ternary_result', StableHlo.nullary_result', StableHlo.reshape_result', StableHlo.unary_result_ne', StableHlo.nullary_result_ne', StableHlo.reshape_result_ne', StableHlo.ternary_result_ne']

theorem turn {α : Type} (f : S1024x5.Idx → α) (k : Fin 5) (r : Fin 1024) : transpose S5x1024 [1, 0] f transposes_S1024x5_S5x1024_1_0 (ix2 k r) = f (ix2 r k) := by
  refine congrArg f (funext fun a => Fin.ext ?_)
  match a with
  | 0 => rfl
  | 1 => rfl

/-- A region's number, as the program finds it. -/
theorem box_in (d : Dev nD) (k : Fin 5) (r : ℕ) (hr : r < 1000) : boxOf m d (ix2 k ⟨r, by omega⟩) = (m (bLoc d) : FVec F S1000x5 .f32) (ix2 ⟨r, hr⟩ k) := by
  rw [boxOf_eq, turn, put_in]
  exact fun _ => rfl
theorem box_out (d : Dev nD) (k : Fin 5) (r : Fin 1024) (hr : 1000 ≤ r.val) : boxOf m d (ix2 k r) = Scalar.ofBits .f32 0x00000000#32 := by
  rw [boxOf_eq, turn, put_out _ (broadcastInDim S1 ![] bcast_S_S1 (constantI S_ 32 0#32)) (fun _ => rfl) _ r hr]
  rfl

/-! ## The list's row numbers -/

theorem cell_lt (s : FVec F S16 .f32) (x : S16.Idx) : (cell s x).toNat < 32 := by
  have h : ∀ v : BitVec 32, (IntOp.minsi 31#32 (IntOp.maxsi 0#32 v)).toNat < 32 := by
    intro v
    have hv := v.isLt
    simp only [IntOp.minsi, IntOp.maxsi, BitVec.sle_eq_decide, BitVec.slt_eq_decide, decide_eq_true_eq, BitVec.toInt_eq_toNat_cond, BitVec.toNat_ofNat, Nat.reducePow, Nat.reduceMod] at *
    split_ifs at * <;> try simp only [BitVec.toNat_ofNat, Nat.reducePow, Nat.reduceMod] at *
    all_goals omega
  exact h _
theorem next_lt (i : IVec S16 32) (x : S16.Idx) (h : (i x).toNat < 32) : (next i x).toNat < 32 := by
  have h' : ∀ v : BitVec 32, v.toNat < 32 → (IntOp.minsi (v + 1#32) 31#32).toNat < 32 := by
    intro v hv
    simp only [IntOp.minsi, BitVec.sle_eq_decide, BitVec.slt_eq_decide]
    split_ifs <;> simp_all [BitVec.toInt_eq_toNat_cond, BitVec.toNat_add] <;> omega
  exact h' _ h
theorem rowOf_val (b yy xx : IVec S16 32) (x : S16.Idx) (hb : (b x).toNat < 4) (hy : (yy x).toNat < 32) (hx : (xx x).toNat < 32) :
    (rowOf (muli b (bc 1024#32)) yy xx x).toNat = 1024 * (b x).toNat + 32 * (yy x).toNat + (xx x).toNat := by
  have h : ∀ u v w : BitVec 32, u.toNat < 4 → v.toNat < 32 → w.toNat < 32 → (u * 1024#32 + v * 32#32 + w).toNat = 1024 * u.toNat + 32 * v.toNat + w.toNat := by
    intro u v w hu hv hw
    simp only [BitVec.toNat_add, BitVec.toNat_mul, BitVec.toNat_ofNat]
    omega
  exact h _ _ _ hb hy hx

theorem list_lt4096 (b x1 y1 x2 y2 : F .f32) (hb : (FloatOps.fptosi 32 b : BitVec 32).toNat < 4) (p : ℕ) : ((regOf b x1 y1 x2 y2).list p).toNat < 4096 := by
  have key : ∀ (yy xx : IVec S16 32) (x : S16.Idx), (yy x).toNat < 32 → (xx x).toNat < 32 → (rowOf (baseRow (fun _ => b)) yy xx x).toNat < 4096 := by
    intro yy xx x hy hx
    have h := rowOf_val (fptosi 32 (fun _ => b : FVec F S16 .f32)) yy xx x hb hy hx
    have hb' : (fptosi 32 (fun _ => b : FVec F S16 .f32) x).toNat < 4 := hb
    unfold baseRow
    omega
  have hk : p % 4 = 0 ∨ p % 4 = 1 ∨ p % 4 = 2 ∨ p % 4 = 3 := by omega
  unfold Reg.list
  rcases hk with e | e | e | e <;> rw [e]
  · exact key _ _ _ (cell_lt _ _) (cell_lt _ _)
  · exact key _ _ _ (cell_lt _ _) (next_lt _ _ (cell_lt _ _))
  · exact key _ _ _ (next_lt _ _ (cell_lt _ _)) (cell_lt _ _)
  · exact key _ _ _ (next_lt _ _ (cell_lt _ _)) (next_lt _ _ (cell_lt _ _))

/-- The list's words name rows of the table, where every region's image is one of the four. -/
theorem inTable (d : Dev nD) (h0 : (FloatOps.fptosi 32 (Scalar.ofBits .f32 0x00000000#32 : F .f32) : BitVec 32) = 0#32)
    (hb : ∀ r : Fin 1000, (FloatOps.fptosi 32 ((m (bLoc d) : FVec F S1000x5 .f32) (ix2 r 0)) : BitVec 32).toNat < 4) : InTable (boxOf m d) := by
  intro r hr p _
  refine list_lt4096 _ _ _ _ _ ?_ p
  by_cases h : r < 1000
  · have e : boxOf m d (ix2 0 ⟨r % 1024, Nat.mod_lt _ (by decide)⟩) = (m (bLoc d) : FVec F S1000x5 .f32) (ix2 ⟨r, h⟩ 0) := by
      rw [← box_in m d 0 r h]
      exact congrArg (fun j => boxOf m d (ix2 0 j)) (Fin.ext (Nat.mod_eq_of_lt hr))
    rw [e]
    exact hb ⟨r, h⟩
  · rw [box_out m d 0 _ (by change 1000 ≤ r % 1024; omega), h0]
    decide

end Cert.Proof.KerI

end
-- ==== Proof.Pre.lean ====
module

public import proofs.«01_k».proof.Defs
public import Idealize.ShloMosaic.Lib.ReduceAll
public import Idealize.ShloMosaic.Lib.ValueIdxCore
public import Idealize.ShloMosaic.Lib.Pipeline.Value

@[expose] public section

noncomputable section

/-! The precondition's side conditions, and what it says of a region: its image is one of the four. -/

namespace Cert.Proof.Pre

open Cert.Pre_batch_in_range
open Idealize.ShloMosaic
open Idealize.ShloMosaic.ValueIdx (ix1 ix2)

variable {F : FTy → Type} [FloatOps F]

instance preFacts : Cert.Pre_batch_in_range.Facts where
  slices_S1000x5_S1000x1_0_0 := by decide
  shapeCasts_S1000x1_S1000 := by decide
  bcast_S_S1000 := by decide
  reducesTo_S1000_S_d0 := by decide
  h_S_ := by decide

theorem image_lt (a : FVec F S4x128x32x32 .f32) (b : FVec F S1000x5 .f32) (h : fn (F := F) a b = fun _ => 1#1) (r : Fin 1000) :
    (FloatOps.fptosi 32 (b (ix2 r 0)) : BitVec 32).toNat < 4 := by
  have key : ∀ v : BitVec 32, IntOp.andi (IntOp.cmpi .sge v 0#32) (IntOp.cmpi .slt v 4#32) = 1#1 → v.toNat < 4 := by
    intro v e
    have ho : ∀ p q : Bool, IntOp.andi (BitVec.ofBool p) (BitVec.ofBool q) = 1#1 → p = true ∧ q = true := by decide
    obtain ⟨h1, h2⟩ := ho _ _ e
    simp only [BitVec.sle_eq_decide, BitVec.slt_eq_decide, decide_eq_true_eq, BitVec.toInt_eq_toNat_cond, BitVec.toNat_ofNat, Nat.reducePow, Nat.reduceMod] at h1 h2
    omega
  have : Subsingleton S_.Idx := ⟨fun x y => funext fun k => k.elim0⟩
  have e := Host.reduce_andi_all _ _ _ _ _ (congrFun h (fun k => k.elim0)) (ix1 r)
  refine key _ (Eq.trans ?_ e)
  have hs : ∀ r : Fin 1000, (shapeCast S1000 ((extractStridedSlice S1000x1 ![0, 0] · Facts.slices_S1000x5_S1000x1_0_0) b)
      Facts.shapeCasts_S1000x1_S1000) (ix1 r) = b (ix2 r 0) := by
    intro r
    refine (shapeCast_apply _ _ _ (ix2 r (0 : Fin 1)) ?_).trans (congrArg b (funext fun k => Fin.ext ?_))
    · rw [Shape.rowMajor_val_two, Shape.rowMajor_val_one]
      simp
    · match k with
      | 0 => exact Nat.zero_add _
      | 1 => rfl
  simp only [andi, cmpi, fptosi, broadcastInDim, constantI, hs]

end Cert.Proof.Pre

end
-- ==== Proof.Value.Scalar.lean ====
module

public import Idealize.ShloMosaic.PureOps.Ideal.Laws
public import Idealize.ShloMosaic.Lib.IdealHost

@[expose] public section

noncomputable section

/-! Aligning regions over the reals: the coordinates, the cells they lie in, the weights, and what one region's bin holds. -/

namespace Cert.Proof.Val

open Idealize.ShloMosaic

/-! ## The formula -/

/-- Clipping to `[0, 32]`. -/
def clip (v : ℝ) : ℝ := min 32 (max 0 v)
/-- A bin's lower edge and upper edge along one axis, of a region from `lo` whose bins have side `d`. -/
def edge (lo d : ℝ) (p : ℕ) : ℝ := clip (lo + p * d)
def edge' (lo d : ℝ) (p : ℕ) : ℝ := clip (lo + (p + 1) * d)
/-- A sample's coordinate. -/
def coord (lo d : ℝ) (p q : ℕ) : ℝ := edge lo d p + d / 4 + q * (d / 2)
/-- The cell a coordinate lies in, and the next one. -/
def cell (s : ℝ) : ℕ := (min 31 (max 0 ⌊s⌋)).toNat
def next (n : ℕ) : ℕ := min (n + 1) 31
/-- The next cell's weight and the cell's. -/
def wNext (s : ℝ) : ℝ := s - cell s
def wCell (s : ℝ) : ℝ := next (cell s) - s

/-- The blend of four neighbours. -/
def blend (sy sx : ℝ) (g : ℕ → ℕ → EReal) : EReal :=
  (wNext sy : EReal) * ((wNext sx : EReal) * g (next (cell sy)) (next (cell sx)) + (wCell sx : EReal) * g (next (cell sy)) (cell sx))
    + (wCell sy : EReal) * ((wNext sx : EReal) * g (cell sy) (next (cell sx)) + (wCell sx : EReal) * g (cell sy) (cell sx))

/-- A region's box, clipped, and its bins' sides. -/
structure Box where
  x1 : ℝ
  y1 : ℝ
  x2 : ℝ
  y2 : ℝ
def Box.w (b : Box) : ℝ := (b.x2 - b.x1) / 7
def Box.h (b : Box) : ℝ := (b.y2 - b.y1) / 7
/-- Neither the region nor its bin is empty. -/
def Box.Full (b : Box) (ph pw : ℕ) : Prop :=
  (b.x1 < b.x2 ∧ b.y1 < b.y2) ∧ edge b.y1 b.h ph < edge' b.y1 b.h ph ∧ edge b.x1 b.w pw < edge' b.x1 b.w pw
/-- A bin's sample. -/
def Box.sample (b : Box) (g : ℕ → ℕ → EReal) (ph pw my mx : ℕ) : EReal :=
  blend (coord b.y1 b.h ph my) (coord b.x1 b.w pw mx) g
open Classical in
/-- A bin's value: the largest of its four samples, zero where it is empty. -/
def Box.pool (b : Box) (g : ℕ → ℕ → EReal) (ph pw : ℕ) : EReal :=
  if b.Full ph pw then max (max (max (b.sample g ph pw 0 0) (b.sample g ph pw 0 1)) (b.sample g ph pw 1 0)) (b.sample g ph pw 1 1) else 0

/-! ## Facts of the cells -/

theorem cell_le (s : ℝ) : cell s ≤ 31 := by unfold cell; omega
theorem next_le (n : ℕ) : next n ≤ 31 := by unfold next; omega
theorem clip_nonneg (v : ℝ) : 0 ≤ clip v := le_min (by norm_num) (le_max_left _ _)

/-- At a coordinate that is not negative the next cell's weight is not negative, and the cell's weight is not, except past the last cell,
    where the two cells are one and the weights opposite. -/
theorem wNext_nonneg {s : ℝ} (h : 0 ≤ s) : 0 ≤ wNext s := by
  unfold wNext cell
  have hf : (0 : ℤ) ≤ ⌊s⌋ := Int.floor_nonneg.mpr h
  have h1 : (((min 31 (max 0 ⌊s⌋)).toNat : ℕ) : ℤ) ≤ ⌊s⌋ := by omega
  have h2 : (((min 31 (max 0 ⌊s⌋)).toNat : ℕ) : ℝ) ≤ (⌊s⌋ : ℝ) := by exact_mod_cast h1
  linarith [Int.floor_le s]
theorem wCell_cases {s : ℝ} (h : 0 ≤ s) : 0 ≤ wCell s ∨ (wCell s = -wNext s ∧ next (cell s) = cell s) := by
  have hf : (0 : ℤ) ≤ ⌊s⌋ := Int.floor_nonneg.mpr h
  by_cases hs : ⌊s⌋ ≤ 30
  · left
    unfold wCell next cell
    have h1 : (((min ((min 31 (max 0 ⌊s⌋)).toNat + 1) 31 : ℕ)) : ℤ) = ⌊s⌋ + 1 := by omega
    have h2 : (((min ((min 31 (max 0 ⌊s⌋)).toNat + 1) 31 : ℕ)) : ℝ) = (⌊s⌋ : ℝ) + 1 := by exact_mod_cast h1
    rw [h2]
    linarith [Int.lt_floor_add_one s]
  · right
    have e : next (cell s) = cell s := by unfold next cell; omega
    refine ⟨?_, e⟩
    unfold wCell wNext
    rw [e]; ring

/-! ## The blend, corner by corner -/

theorem opposite (c : ℝ) (hc : 0 ≤ c) (x y : EReal) :
    (c : EReal) * (x + y) + ((-c : ℝ) : EReal) * (x + y) = ((((-c : ℝ) : EReal) * y + ((-c : ℝ) : EReal) * x) + (c : EReal) * y) + (c : EReal) * x := by
  rcases hc.eq_or_lt with rfl | h
  · simp
  · have hn : -c < 0 := by linarith
    induction x with
    | bot => simp [EReal.coe_mul_bot_of_pos h]
    | top =>
      induction y with
      | bot => simp [EReal.coe_mul_bot_of_pos h]
      | top => simp [EReal.coe_mul_top_of_neg hn, -EReal.coe_neg]
      | coe y => simp [EReal.coe_mul_top_of_neg hn, -EReal.coe_neg]
    | coe x =>
      induction y with
      | bot => simp [EReal.coe_mul_bot_of_pos h]
      | top => simp [EReal.coe_mul_top_of_neg hn, -EReal.coe_neg]
      | coe y => norm_cast; ring

/-- The four weighted corners added in the kernel's order are the blend. -/
theorem corners_eq (a b c d : ℝ) (g11 g12 g21 g22 : EReal) (hc : 0 ≤ c) (hd : 0 ≤ d ∨ (d = -c ∧ g21 = g11 ∧ g22 = g12)) :
    ((((d : EReal) * b * g11 + (d : EReal) * a * g12) + (c : EReal) * b * g21) + (c : EReal) * a * g22)
      = (c : EReal) * ((a : EReal) * g22 + (b : EReal) * g21) + (d : EReal) * ((a : EReal) * g12 + (b : EReal) * g11) := by
  simp only [mul_assoc]
  rcases hd with hd | ⟨rfl, rfl, rfl⟩
  · rw [EReal.left_distrib_of_nonneg_of_ne_top (by exact_mod_cast hc) (EReal.coe_ne_top _), EReal.left_distrib_of_nonneg_of_ne_top (by exact_mod_cast hd) (EReal.coe_ne_top _)]
    abel
  · exact (opposite c hc _ _).symm

theorem blend_eq (sy sx : ℝ) (g : ℕ → ℕ → EReal) (h : 0 ≤ sy) :
    ((((wCell sy : EReal) * wCell sx * g (cell sy) (cell sx) + (wCell sy : EReal) * wNext sx * g (cell sy) (next (cell sx)))
      + (wNext sy : EReal) * wCell sx * g (next (cell sy)) (cell sx)) + (wNext sy : EReal) * wNext sx * g (next (cell sy)) (next (cell sx))) = blend sy sx g :=
  corners_eq _ _ _ _ _ _ _ _ (wNext_nonneg h) ((wCell_cases h).imp id fun e => ⟨e.1, by rw [e.2], by rw [e.2]⟩)

/-! ## The numbers as extended reals and as words -/

theorem lit32 : Ideal.ofBits .f32 0x42000000#32 = ((32 : ℝ) : EReal) := by simp [Ideal.ofBits, Ideal.ieee, -EReal.coe_mul]; norm_num
theorem litRatio : Ideal.ofBits .f32 0x3D000000#32 = ((1 / 32 : ℝ) : EReal) := by simp [Ideal.ofBits, Ideal.ieee, -EReal.coe_mul]; norm_num
theorem litQuarter : Ideal.ofBits .f32 0x3E800000#32 = ((1 / 4 : ℝ) : EReal) := by simp [Ideal.ofBits, Ideal.ieee, -EReal.coe_mul]; norm_num
theorem litHalf : Ideal.ofBits .f32 0x3F000000#32 = ((1 / 2 : ℝ) : EReal) := by simp [Ideal.ofBits, Ideal.ieee, -EReal.coe_mul]; norm_num
theorem litOne : Ideal.ofBits .f32 0x3F800000#32 = ((1 : ℝ) : EReal) := by simp [Ideal.ofBits, Ideal.ieee, -EReal.coe_mul]; norm_num
theorem litTwo : Ideal.ofBits .f32 0x40000000#32 = ((2 : ℝ) : EReal) := by simp [Ideal.ofBits, Ideal.ieee, -EReal.coe_mul]; norm_num
theorem litSeven : Ideal.ofBits .f32 0x40E00000#32 = ((7 : ℝ) : EReal) := by simp [Ideal.ofBits, Ideal.ieee, -EReal.coe_mul]; norm_num
theorem litBot : Ideal.ofBits .f32 0xFF800000#32 = ⊥ := by simp [Ideal.ofBits, Ideal.ieee]

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

/-- Clipping an extended real gives a real. -/
def clipE (v : EReal) : ℝ := (min ((32 : ℝ) : EReal) (max 0 v)).toReal
theorem coe_clipE (v : EReal) : min ((32 : ℝ) : EReal) (max 0 v) = (clipE v : EReal) := by
  refine (EReal.coe_toReal (ne_of_lt (lt_of_le_of_lt (min_le_left _ _) (EReal.coe_lt_top 32))) (ne_of_gt ?_)).symm
  refine lt_of_lt_of_le (EReal.bot_lt_coe 0) (le_min (by exact_mod_cast (by norm_num : (0 : ℝ) ≤ 32)) (le_max_left _ _))
theorem coe_clip (v : ℝ) : min ((32 : ℝ) : EReal) (max 0 (v : EReal)) = (clip v : EReal) := by
  rw [← EReal.coe_zero, coe_max, coe_min]; rfl

/-! ## Comparisons and selections -/

open Classical in
theorem ogt_coe (x y : ℝ) : FloatOps.cmpf (F := Ideal) (φ := .f32) .ogt (x : EReal) (y : EReal) = BitVec.ofBool (decide (y < x)) := by
  change BitVec.ofBool (decide ((y : EReal) < (x : EReal))) = _
  congr 1
  exact decide_eq_decide.mpr EReal.coe_lt_coe_iff
open Classical in
/-- A selection on four comparisons. -/
theorem select_bits {α : Type} (a b c d : Prop) (x y : α) :
    Scalar.select (IntOp.andi (IntOp.andi (BitVec.ofBool (decide a)) (BitVec.ofBool (decide b))) (IntOp.andi (BitVec.ofBool (decide c)) (BitVec.ofBool (decide d)))) x y
      = if (a ∧ b) ∧ c ∧ d then x else y := by
  by_cases ha : a <;> by_cases hb : b <;> by_cases hc : c <;> by_cases hd : d <;> simp [ha, hb, hc, hd, Scalar.select, IntOp.andi]

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem toInt_ofInt {z : ℤ} (h : -2147483648 ≤ z) (h' : z ≤ 2147483647) : (BitVec.ofInt 32 z).toInt = z := by
  rw [BitVec.toInt_ofInt]
  apply Int.bmod_eq_of_le <;> omega
theorem toInt_maxsi (a b : BitVec 32) : (IntOp.maxsi a b).toInt = max a.toInt b.toInt := by
  simp only [IntOp.maxsi, BitVec.sle_eq_decide, BitVec.slt_eq_decide, decide_eq_true_eq]
  split_ifs <;> omega
theorem toInt_minsi (a b : BitVec 32) : (IntOp.minsi a b).toInt = min a.toInt b.toInt := by
  simp only [IntOp.minsi, BitVec.sle_eq_decide, BitVec.slt_eq_decide, decide_eq_true_eq]
  split_ifs <;> omega
theorem toInt_small {n : ℕ} (h : n ≤ 31) : (BitVec.ofNat 32 n).toInt = n := by
  rw [BitVec.toInt_eq_toNat_of_lt] <;> rw [BitVec.toNat_ofNat, Nat.mod_eq_of_lt (by omega)]
  omega

/-- The kernel's cell: converted toward zero, then clipped. -/
theorem cell_word (s : ℝ) : IntOp.minsi 31#32 (IntOp.maxsi 0#32 (Ideal.fptosi 32 (s : EReal))) = BitVec.ofNat 32 (cell s) := by
  apply BitVec.eq_of_toInt_eq
  rw [toInt_small (cell_le s), toInt_minsi, toInt_maxsi]
  change min 31 (max 0 (BitVec.ofInt 32 (max (-2147483648) (min 2147483647 (if (0 : ℝ) ≤ s then ⌊s⌋ else ⌈s⌉)))).toInt) = _
  rw [toInt_ofInt (le_max_left _ _) (max_le (by norm_num) (min_le_left _ _))]
  unfold cell
  by_cases h : (0 : ℝ) ≤ s
  · rw [if_pos h]; have := Int.floor_nonneg.mpr h; omega
  · rw [if_neg h]
    have h1 : ⌈s⌉ ≤ 0 := Int.ceil_le.mpr (by push_cast; linarith)
    have h2 : ⌊s⌋ ≤ 0 := (Int.floor_le_ceil s).trans h1
    omega

/-- The reference's cell: rounded down, clipped, then converted. -/
theorem floor_word (s : ℝ) : Ideal.fptosi 32 (min ((31 : ℝ) : EReal) (max ((0 : ℝ) : EReal) (Ideal.liftRound Int.floor (s : EReal)))) = BitVec.ofNat 32 (cell s) := by
  have e : min ((31 : ℝ) : EReal) (max ((0 : ℝ) : EReal) (Ideal.liftRound Int.floor (s : EReal))) = (((min 31 (max 0 ⌊s⌋) : ℤ) : ℝ) : EReal) := by
    change min ((31 : ℝ) : EReal) (max ((0 : ℝ) : EReal) (((⌊s⌋ : ℤ) : ℝ) : EReal)) = _
    rw [coe_max, coe_min]; push_cast; rfl
  rw [e]
  apply BitVec.eq_of_toInt_eq
  rw [toInt_small (cell_le s)]
  change (BitVec.ofInt 32 (max (-2147483648) (min 2147483647 (if (0 : ℝ) ≤ ((min 31 (max 0 ⌊s⌋) : ℤ) : ℝ) then ⌊((min 31 (max 0 ⌊s⌋) : ℤ) : ℝ)⌋ else ⌈((min 31 (max 0 ⌊s⌋) : ℤ) : ℝ)⌉)))).toInt = _
  rw [toInt_ofInt (le_max_left _ _) (max_le (by norm_num) (min_le_left _ _)), Int.floor_intCast, Int.ceil_intCast, ite_self]
  unfold cell
  omega

/-- The next cell's word, as the kernel and as the reference clip it. -/
theorem next_word {n : ℕ} (h : n ≤ 31) : IntOp.minsi (BitVec.ofNat 32 n + 1#32) 31#32 = BitVec.ofNat 32 (next n) := by
  have : ∀ n : Fin 32, IntOp.minsi (BitVec.ofNat 32 n.val + 1#32) 31#32 = BitVec.ofNat 32 (next n.val) := by decide
  exact this ⟨n, by omega⟩
theorem next_word' {n : ℕ} (h : n ≤ 31) : IntOp.minsi 31#32 (IntOp.maxsi 0#32 (BitVec.ofNat 32 n + 1#32)) = BitVec.ofNat 32 (next n) := by
  have : ∀ n : Fin 32, IntOp.minsi 31#32 (IntOp.maxsi 0#32 (BitVec.ofNat 32 n.val + 1#32)) = BitVec.ofNat 32 (next n.val) := by decide
  exact this ⟨n, by omega⟩

end Cert.Proof.Val

end
-- ==== Proof.Value.Ref.lean ====
module

public import proofs.«01_k».proof.Proof.Value.Scalar
public import proofs.«01_k».proof.Proof.Gen.ReferenceIdeal.Run
public import Idealize.ShloMosaic.Lib.Pipeline.Value
public import Idealize.ShloMosaic.Lib.Pointwise.SelectCore
public import Idealize.ShloMosaic.Lib.Pointwise.Tactic

@[expose] public section

noncomputable section

/-! The reference's intermediate arrays, read at an index. -/

namespace Cert.Proof.Val.Ref

open Cert.ReferenceIdeal Cert.ReferenceIdeal.Gen Cert.ReferenceIdeal.Value Idealize.ShloMosaic Idealize.ShloMosaic.TcCoe Idealize.SL.Sem Idealize.ShloMosaic.StableHlo

variable (V : Valuation τ sig (Elt Ideal))

abbrev rois : S1000x5.Idx → EReal := V (Proc.devRef .tc main_arg1)
abbrev imgs : S4x128x32x32.Idx → EReal := V (Proc.devRef .tc main_arg0)

/-- Region `n`'s box. -/
def box (R : S1000x5.Idx → EReal) (n : Fin 1000) : Box where
  x1 := clipE (R (ix2 n 1) * ((1 / 32 : ℝ) : EReal))
  y1 := clipE (R (ix2 n 2) * ((1 / 32 : ℝ) : EReal))
  x2 := clipE (R (ix2 n 3) * ((1 / 32 : ℝ) : EReal))
  y2 := clipE (R (ix2 n 4) * ((1 / 32 : ℝ) : EReal))
abbrev bx (n : Fin 1000) : Box := box (rois V) n

theorem sitofp_nat {n : ℕ} (h : n ≤ 31) : (FloatOps.sitofp (F := Ideal) FTy.f32 (BitVec.ofNat 32 n)) = ((n : ℝ) : EReal) := by
  change (((BitVec.ofNat 32 n).toInt : ℝ) : EReal) = _
  rw [toInt_small h]; rfl

/-! ## The box -/

/-- A column cut out and read as a vector. -/
theorem column {α : Type} {K : ℕ} (X : (⟨2, ![1000, K]⟩ : Shape).Idx → α) (k : Fin K) (h : (⟨2, ![1000, K]⟩ : Shape).Slices ![0, k.val] S1000x1) (n : Fin 1000) :
    shapeCast S1000 (extractStridedSlice S1000x1 ![0, k.val] X h) shapeCasts_S1000x1_S1000 (ix1 n) = X (ix2 n k) := by
  rw [shapeCast_apply _ _ (ix1 n) (ix2 n 0) (by rw [Shape.rowMajor_val_two, Shape.rowMajor_val_one]; simp)]
  pointwise
  congr 1
  funext a
  match a with
  | ⟨0, _⟩ => exact Fin.ext (Nat.zero_add _)
  | ⟨1, _⟩ => rfl

theorem v5_at (n : Fin 1000) (k : Fin 4) : (res_main_v5 V : S1000x4.Idx → EReal) (ix2 n k) = rois V (ix2 n ⟨1 + k.val, by omega⟩) * ((1 / 32 : ℝ) : EReal) := by
  unfold res_main_v5
  pointwise
  rw [litRatio]

theorem clip_at (X : S1000.Idx → EReal) (n : Fin 1000) (x : EReal) (h : X (ix1 n) = x) :
    (minimumf (F := Ideal) (φ := .f32) (broadcastInDim S1000 ![] bcast_S_S1000 (id (constant S_ .f32 0x42000000#32))) (maximumf (broadcastInDim S1000 ![] bcast_S_S1000 (id (constant S_ .f32 0x00000000#32))) X)) (ix1 n) = (clipE x : EReal) := by
  subst h
  refine Eq.trans ?_ (coe_clipE _)
  change min (Ideal.ofBits .f32 0x42000000#32) (max (Ideal.ofBits .f32 0x00000000#32) _) = _
  rw [lit32, Ideal.ofBits_zero_f32]

theorem v8_at (n : Fin 1000) : (res_main_v8 V : S1000.Idx → EReal) (ix1 n) = ((bx V n).x1 : EReal) :=
  clip_at _ n _ ((column (K := 4) _ 0 _ n).trans (v5_at V n 0))
theorem v11_at (n : Fin 1000) : (res_main_v11 V : S1000.Idx → EReal) (ix1 n) = ((bx V n).y1 : EReal) :=
  clip_at _ n _ ((column (K := 4) _ 1 _ n).trans (v5_at V n 1))
theorem v14_at (n : Fin 1000) : (res_main_v14 V : S1000.Idx → EReal) (ix1 n) = ((bx V n).x2 : EReal) :=
  clip_at _ n _ ((column (K := 4) _ 2 _ n).trans (v5_at V n 2))
theorem v17_at (n : Fin 1000) : (res_main_v17 V : S1000.Idx → EReal) (ix1 n) = ((bx V n).y2 : EReal) :=
  clip_at _ n _ ((column (K := 4) _ 3 _ n).trans (v5_at V n 3))

theorem v23_at (n : Fin 1000) : (res_main_v23 V : S1000.Idx → EReal) (ix1 n) = ((bx V n).w : EReal) := by
  unfold res_main_v23
  pointwise
  rw [v14_at, v8_at, litSeven, ← EReal.coe_sub, div_coe _ _ (by norm_num)]; rfl
theorem v26_at (n : Fin 1000) : (res_main_v26 V : S1000.Idx → EReal) (ix1 n) = ((bx V n).h : EReal) := by
  unfold res_main_v26
  pointwise
  rw [v17_at, v11_at, litSeven, ← EReal.coe_sub, div_coe _ _ (by norm_num)]; rfl

/-! ## The bins' edges and the samples' coordinates -/

theorem v27_at (p : Fin 7) : (res_main_v27 V : S7.Idx → EReal) (ix1 p) = ((p.val : ℝ) : EReal) := by
  unfold res_main_v27
  pointwise
  exact sitofp_nat (by omega)
theorem v28_at (p : Fin 7) : (res_main_v28 V : S7.Idx → EReal) (ix1 p) = ((p.val : ℝ) : EReal) := by
  unfold res_main_v28
  pointwise
  exact sitofp_nat (by omega)
theorem v76_at (q : Fin 2) : (res_main_v76 V : S2.Idx → EReal) (ix1 q) = ((q.val : ℝ) : EReal) := by
  unfold res_main_v76
  pointwise
  exact sitofp_nat (by omega)

theorem v37_at (n : Fin 1000) (p : Fin 7) : (res_main_v37 V : S1000x7.Idx → EReal) (ix2 n p) = (edge (bx V n).x1 (bx V n).w p : EReal) := by
  unfold res_main_v37
  pointwise
  change min (Ideal.ofBits .f32 0x42000000#32) (max (Ideal.ofBits .f32 0x00000000#32) _) = _
  rw [lit32, Ideal.ofBits_zero_f32, v8_at, v27_at, v23_at, ← EReal.coe_mul, ← EReal.coe_add, coe_clip]; rfl
theorem v57_at (n : Fin 1000) (p : Fin 7) : (res_main_v57 V : S1000x7.Idx → EReal) (ix2 n p) = (edge (bx V n).y1 (bx V n).h p : EReal) := by
  unfold res_main_v57
  pointwise
  change min (Ideal.ofBits .f32 0x42000000#32) (max (Ideal.ofBits .f32 0x00000000#32) _) = _
  rw [lit32, Ideal.ofBits_zero_f32, v11_at, v28_at, v26_at, ← EReal.coe_mul, ← EReal.coe_add, coe_clip]; rfl

theorem v79_at (n : Fin 1000) (a b : Fin 1) : (res_main_v79 V : S1000x1x1.Idx → EReal) (ix3 n a b) = (((bx V n).w / 2 : ℝ) : EReal) := by
  unfold res_main_v79
  pointwise
  rw [v23_at, litTwo, div_coe _ _ (by norm_num)]
theorem v82_at (n : Fin 1000) (a b : Fin 1) : (res_main_v82 V : S1000x1x1.Idx → EReal) (ix3 n a b) = (((bx V n).h / 2 : ℝ) : EReal) := by
  unfold res_main_v82
  pointwise
  rw [v26_at, litTwo, div_coe _ _ (by norm_num)]

/-- A sample's coordinate: the third axis after the bin's two is along x, the last along y. -/
abbrev sx (n : Fin 1000) (pw : Fin 7) (mx : Fin 2) : ℝ := coord (bx V n).x1 (bx V n).w pw mx
abbrev sy (n : Fin 1000) (ph : Fin 7) (my : Fin 2) : ℝ := coord (bx V n).y1 (bx V n).h ph my

theorem v108_at (n : Fin 1000) (ph pw : Fin 7) (mx my : Fin 2) : (res_main_v108 V : S1000x7x7x2x2.Idx → EReal) (ix5 n ph pw mx my) = (sx V n pw mx : EReal) := by
  unfold res_main_v108
  pointwise
  rw [v37_at, v79_at, v76_at, litTwo, div_coe _ _ (by norm_num), ← EReal.coe_mul, ← EReal.coe_add, ← EReal.coe_add, sx, coord]
  congr 3; ring
theorem v110_at (n : Fin 1000) (ph pw : Fin 7) (mx my : Fin 2) : (res_main_v110 V : S1000x7x7x2x2.Idx → EReal) (ix5 n ph pw mx my) = (sy V n ph my : EReal) := by
  unfold res_main_v110
  pointwise
  rw [v57_at, v82_at, v76_at, litTwo, div_coe _ _ (by norm_num), ← EReal.coe_mul, ← EReal.coe_add, ← EReal.coe_add, sy, coord]
  congr 3; ring

/-! ## The cells and the weights -/

theorem v113_at (n : Fin 1000) (ph pw : Fin 7) (mx my : Fin 2) : (res_main_v113 V : S1000x7x7x2x2.Idx → BitVec 32) (ix5 n ph pw mx my) = BitVec.ofNat 32 (cell (sx V n pw mx)) := by
  unfold res_main_v113
  pointwise
  rw [v108_at, ← floor_word]
  congr 2
  exact congrArg (max · _) ((sitofp_nat (n := 0) (by norm_num)).trans (by simp))
theorem v119_at (n : Fin 1000) (ph pw : Fin 7) (mx my : Fin 2) : (res_main_v119 V : S1000x7x7x2x2.Idx → BitVec 32) (ix5 n ph pw mx my) = BitVec.ofNat 32 (cell (sy V n ph my)) := by
  unfold res_main_v119
  pointwise
  rw [v110_at, ← floor_word]
  congr 2
  exact congrArg (max · _) ((sitofp_nat (n := 0) (by norm_num)).trans (by simp))
theorem v116_at (n : Fin 1000) (ph pw : Fin 7) (mx my : Fin 2) : (res_main_v116 V : S1000x7x7x2x2.Idx → BitVec 32) (ix5 n ph pw mx my) = BitVec.ofNat 32 (next (cell (sx V n pw mx))) := by
  unfold res_main_v116
  pointwise
  rw [v113_at]
  exact next_word' (cell_le _)
theorem v122_at (n : Fin 1000) (ph pw : Fin 7) (mx my : Fin 2) : (res_main_v122 V : S1000x7x7x2x2.Idx → BitVec 32) (ix5 n ph pw mx my) = BitVec.ofNat 32 (next (cell (sy V n ph my))) := by
  unfold res_main_v122
  pointwise
  rw [v119_at]
  exact next_word' (cell_le _)

theorem v211_at (n : Fin 1000) (ph pw : Fin 7) (mx my : Fin 2) (z : Fin 1) : (res_main_v211 V : S1000x7x7x2x2x1.Idx → EReal) (ix6 n ph pw mx my z) = (wNext (sx V n pw mx) : EReal) := by
  unfold res_main_v211
  pointwise
  rw [v108_at, v113_at, sitofp_nat (cell_le _), ← EReal.coe_sub]; rfl
theorem v214_at (n : Fin 1000) (ph pw : Fin 7) (mx my : Fin 2) (z : Fin 1) : (res_main_v214 V : S1000x7x7x2x2x1.Idx → EReal) (ix6 n ph pw mx my z) = (wCell (sx V n pw mx) : EReal) := by
  unfold res_main_v214
  pointwise
  rw [v108_at, v116_at, sitofp_nat (next_le _), ← EReal.coe_sub]; rfl

theorem v123_at (b : Fin 4) (y x : Fin 32) (c : Fin 128) : (res_main_v123 V : S4x32x32x128.Idx → EReal) (ix4 b y x c) = imgs V (ix4 b c y x) := by
  unfold res_main_v123
  pointwise
theorem v124_at (n : Fin 1000) (a b c d : Fin 1) : (res_main_v124 V : S1000x1x1x1x1.Idx → BitVec 32) (ix5 n a b c d) = Ideal.fptosi 32 (rois V (ix2 n 0)) := by
  unfold res_main_v124
  pointwise
  exact congrArg (Ideal.fptosi 32) (column (K := 5) _ 0 _ n)

/-! ## The gathers -/

abbrev gd := gather_S4x32x32x128_S1000x7x7x2x2x3_S1000x7x7x2x2x128_5_012_n_n_012_5_111128

theorem siIdx_eq (n : Fin 1000) (ph pw : Fin 7) (mx my : Fin 2) (c : Fin 128) (k : Fin 3) :
    gd.siIdx (ix6 n ph pw mx my c) k = ix6 n ph pw mx my k := by
  funext a
  match a with
  | ⟨0, _⟩ => rfl
  | ⟨1, _⟩ => rfl
  | ⟨2, _⟩ => rfl
  | ⟨3, _⟩ => rfl
  | ⟨4, _⟩ => rfl
  | ⟨5, _⟩ => rfl

/-- A gather whose three words are a cell's image, row and column reads that cell. -/
theorem gather_at {α : Type} (X : S4x32x32x128.Idx → α) (I : IVec S1000x7x7x2x2x3 32) (n : Fin 1000) (ph pw : Fin 7) (mx my : Fin 2) (c : Fin 128)
    {b y x : ℕ} (hb : b < 4) (hy : y ≤ 31) (hx : x ≤ 31) (eb : I (ix6 n ph pw mx my 0) = BitVec.ofNat 32 b)
    (ey : I (ix6 n ph pw mx my 1) = BitVec.ofNat 32 y) (ex : I (ix6 n ph pw mx my 2) = BitVec.ofNat 32 x) :
    Host.gather gd X I (ix6 n ph pw mx my c) = X (ix4 ⟨b, hb⟩ ⟨y, by omega⟩ ⟨x, by omega⟩ c) := by
  unfold Host.gather
  congr 1
  funext a
  apply Fin.ext
  match a with
  | ⟨0, _⟩ =>
    change min (I (gd.siIdx (ix6 n ph pw mx my c) (0 : Fin 3))).toInt.toNat 3 + 0 + 0 = b
    rw [siIdx_eq, eb, toInt_small (by omega)]; omega
  | ⟨1, _⟩ =>
    change min (I (gd.siIdx (ix6 n ph pw mx my c) (1 : Fin 3))).toInt.toNat 31 + 0 + 0 = y
    rw [siIdx_eq, ey, toInt_small (by omega)]; omega
  | ⟨2, _⟩ =>
    change min (I (gd.siIdx (ix6 n ph pw mx my c) (2 : Fin 3))).toInt.toNat 31 + 0 + 0 = x
    rw [siIdx_eq, ex, toInt_small (by omega)]; omega
  | ⟨3, _⟩ =>
    change 0 + 0 + c.val = c.val
    omega

/-- Three words side by side. -/
abbrev triple {α : Type} (u0 u1 u2 : S1000x7x7x2x2x1.Idx → α) : S1000x7x7x2x2x3.Idx → α :=
  concatenate S1000x7x7x2x2x3 5 [⟨S1000x7x7x2x2x1, u0⟩, ⟨S1000x7x7x2x2x1, u1⟩, ⟨S1000x7x7x2x2x1, u2⟩] concatenates_S1000x7x7x2x2x1_S1000x7x7x2x2x1_S1000x7x7x2x2x1_S1000x7x7x2x2x3_d5
theorem triple_at {α : Type} (u0 u1 u2 : S1000x7x7x2x2x1.Idx → α) (n : Fin 1000) (ph pw : Fin 7) (mx my : Fin 2) :
    triple u0 u1 u2 (ix6 n ph pw mx my 0) = u0 (ix6 n ph pw mx my 0) ∧ triple u0 u1 u2 (ix6 n ph pw mx my 1) = u1 (ix6 n ph pw mx my 0)
      ∧ triple u0 u1 u2 (ix6 n ph pw mx my 2) = u2 (ix6 n ph pw mx my 0) := by
  unfold triple
  refine ⟨?_, ?_, ?_⟩
  · rw [concatenate_cons_apply]
    pointwise
  · rw [concatenate_cons_apply]
    pointwise
  · rw [concatenate_cons_apply]
    pointwise

/-- A gather's words: image, row and column, a negative one counted from the end. -/
abbrev words (B : S1000x1x1x1x1.Idx → BitVec 32) (Y X : S1000x7x7x2x2.Idx → BitVec 32) : IVec S1000x7x7x2x2x3 32 :=
  triple (broadcastInDim S1000x7x7x2x2x1 ![0, 1, 2, 3, 4] bcast_S1000x7x7x2x2_S1000x7x7x2x2x1_0_1_2_3_4 (broadcastInDim S1000x7x7x2x2 ![0, 1, 2, 3, 4] bcast_S1000x1x1x1x1_S1000x7x7x2x2_0_1_2_3_4 (select (cmpi .slt B (broadcastInDim S1000x1x1x1x1 ![] bcast_S_S1000x1x1x1x1 (constantI S_ 32 0#32))) (addi B (broadcastInDim S1000x1x1x1x1 ![] bcast_S_S1000x1x1x1x1 (constantI S_ 32 4#32))) B)))
    (broadcastInDim S1000x7x7x2x2x1 ![0, 1, 2, 3, 4] bcast_S1000x7x7x2x2_S1000x7x7x2x2x1_0_1_2_3_4 (select (cmpi .slt Y (broadcastInDim S1000x7x7x2x2 ![] bcast_S_S1000x7x7x2x2 (constantI S_ 32 0#32))) (addi Y (broadcastInDim S1000x7x7x2x2 ![] bcast_S_S1000x7x7x2x2 (constantI S_ 32 32#32))) Y))
    (broadcastInDim S1000x7x7x2x2x1 ![0, 1, 2, 3, 4] bcast_S1000x7x7x2x2_S1000x7x7x2x2x1_0_1_2_3_4 (select (cmpi .slt X (broadcastInDim S1000x7x7x2x2 ![] bcast_S_S1000x7x7x2x2 (constantI S_ 32 0#32))) (addi X (broadcastInDim S1000x7x7x2x2 ![] bcast_S_S1000x7x7x2x2 (constantI S_ 32 32#32))) X))

theorem wrap_word {n : ℕ} (h : n ≤ 31) (k : BitVec 32) : Scalar.select (IntOp.cmpi .slt (BitVec.ofNat 32 n) 0#32) (BitVec.ofNat 32 n + k) (BitVec.ofNat 32 n) = BitVec.ofNat 32 n := by
  have e : IntOp.cmpi .slt (BitVec.ofNat 32 n) 0#32 = 0#1 := by
    have : ∀ n : Fin 32, IntOp.cmpi .slt (BitVec.ofNat 32 n.val) 0#32 = 0#1 := by decide
    exact this ⟨n, by omega⟩
  rw [e]; rfl

theorem gather_words {α : Type} (A : S4x32x32x128.Idx → α) (B : S1000x1x1x1x1.Idx → BitVec 32) (Y X : S1000x7x7x2x2.Idx → BitVec 32)
    (n : Fin 1000) (ph pw : Fin 7) (mx my : Fin 2) (c : Fin 128) {b y x : ℕ} (hb : b < 4) (hy : y ≤ 31) (hx : x ≤ 31)
    (eb : B (ix5 n 0 0 0 0) = BitVec.ofNat 32 b) (ey : Y (ix5 n ph pw mx my) = BitVec.ofNat 32 y) (ex : X (ix5 n ph pw mx my) = BitVec.ofNat 32 x) :
    Host.gather gd A (words B Y X) (ix6 n ph pw mx my c) = A (ix4 ⟨b, hb⟩ ⟨y, by omega⟩ ⟨x, by omega⟩ c) := by
  refine gather_at A _ n ph pw mx my c hb hy hx ?_ ?_ ?_
  · refine (triple_at _ _ _ n ph pw mx my).1.trans ?_
    pointwise
    rw [eb]; exact wrap_word (by omega) _
  · refine (triple_at _ _ _ n ph pw mx my).2.1.trans ?_
    pointwise
    rw [ey]; exact wrap_word (by omega) _
  · refine (triple_at _ _ _ n ph pw mx my).2.2.trans ?_
    pointwise
    rw [ex]; exact wrap_word (by omega) _

/-- Region `n`'s image, channel `c`. -/
def plane (A : S4x128x32x32.Idx → EReal) (b : ℕ) (c : Fin 128) (y x : ℕ) : EReal :=
  if h : b < 4 ∧ y ≤ 31 ∧ x ≤ 31 then A (ix4 ⟨b, h.1⟩ c ⟨y, by omega⟩ ⟨x, by omega⟩) else 0
theorem plane_eq (A : S4x128x32x32.Idx → EReal) {b : ℕ} (c : Fin 128) {y x : ℕ} (hb : b < 4) (hy : y ≤ 31) (hx : x ≤ 31) :
    A (ix4 ⟨b, hb⟩ c ⟨y, by omega⟩ ⟨x, by omega⟩) = plane A b c y x := by
  unfold plane; rw [dif_pos ⟨hb, hy, hx⟩]

variable {V} in
theorem v235_at (n : Fin 1000) (ph pw : Fin 7) (mx my : Fin 2) (c : Fin 128) (hb : (Ideal.fptosi 32 (rois V (ix2 n 0))).toNat < 4) :
    (res_main_v235 V : S1000x7x7x2x2x128.Idx → EReal) (ix6 n ph pw mx my c)
      = (bx V n).sample (plane (imgs V) (Ideal.fptosi 32 (rois V (ix2 n 0))).toNat c) ph pw my mx := by
  have e0 : (res_main_v124 V : S1000x1x1x1x1.Idx → BitVec 32) (ix5 n 0 0 0 0) = BitVec.ofNat 32 (Ideal.fptosi 32 (rois V (ix2 n 0))).toNat := by
    rw [v124_at, BitVec.ofNat_toNat, BitVec.setWidth_eq]
  have g (Y X : S1000x7x7x2x2.Idx → BitVec 32) {y x : ℕ} (hy : y ≤ 31) (hx : x ≤ 31)
      (ey : Y (ix5 n ph pw mx my) = BitVec.ofNat 32 y) (ex : X (ix5 n ph pw mx my) = BitVec.ofNat 32 x) :
      Host.gather gd (res_main_v123 V : S4x32x32x128.Idx → EReal) (words (res_main_v124 V) Y X) (ix6 n ph pw mx my c)
        = plane (imgs V) (Ideal.fptosi 32 (rois V (ix2 n 0))).toNat c y x :=
    (gather_words _ _ Y X n ph pw mx my c hb hy hx e0 ey ex).trans ((v123_at V _ _ _ c).trans (plane_eq _ c hb hy hx))
  unfold res_main_v235
  pointwise
  rw [g _ _ (next_le _) (next_le _) (v122_at V ..) (v116_at V ..), g _ _ (next_le _) (cell_le _) (v122_at V ..) (v113_at V ..),
    g _ _ (cell_le _) (next_le _) (v119_at V ..) (v116_at V ..), g _ _ (cell_le _) (cell_le _) (v119_at V ..) (v113_at V ..),
    v211_at, v214_at, v110_at, v119_at, v122_at, sitofp_nat (cell_le _), sitofp_nat (next_le _), ← EReal.coe_sub, ← EReal.coe_sub]
  rfl

end Cert.Proof.Val.Ref

end
-- ==== Proof.Value.Ker.lean ====
module

public import proofs.«01_k».proof.Proof.Ideal.Range
public import proofs.«01_k».proof.Proof.Value.Ref
public import Idealize.ShloMosaic.PureOps.IdealRules

@[expose] public section

noncomputable section

/-! What the kernel's tiles compute for one region's bin, over the extended reals: the formula. -/

namespace Cert.Proof.Val.Ker

open Cert.KernelIdeal Cert.KernelIdeal.Gen Idealize.ShloMosaic
open Cert.Proof.KerI (fl fc bc ln cW samp phV pwV myV mxV scaled side regOf Reg)

/-! ## The samples' numbers -/

theorem lanes (t : Fin 196) : phV (samp (cW (t.val / 16))) (ln ⟨t.val % 16, Nat.mod_lt _ (by decide)⟩) = BitVec.ofNat 32 (t.val / 28)
    ∧ pwV (samp (cW (t.val / 16))) (ln ⟨t.val % 16, Nat.mod_lt _ (by decide)⟩) = BitVec.ofNat 32 (t.val % 28 / 4)
    ∧ myV (samp (cW (t.val / 16))) (ln ⟨t.val % 16, Nat.mod_lt _ (by decide)⟩) = BitVec.ofNat 32 (t.val % 4 / 2)
    ∧ mxV (samp (cW (t.val / 16))) (ln ⟨t.val % 16, Nat.mod_lt _ (by decide)⟩) = BitVec.ofNat 32 (t.val % 2) := by
  revert t; decide +kernel

/-! ## One lane -/

section Lane

variable {l : S16.Idx}

theorem seventh_eq : (KerI.seventh : Ideal .f32) = ((1 / 7 : ℝ) : EReal) := IdealRules.named_const.ideal_named_scalar _ _ _ _ rfl

theorem clip32_at (v : FVec Ideal S16 .f32) : KerI.clip32 v l = min ((32 : ℝ) : EReal) (max 0 (v l)) := by
  change min (Ideal.ofBits .f32 0x42000000#32) (max (Ideal.ofBits .f32 0x00000000#32) (v l)) = _
  rw [lit32, Ideal.ofBits_zero_f32]
theorem scaled_at (v : EReal) : scaled (F := Ideal) (fun _ => v) l = (clipE (v * ((1 / 32 : ℝ) : EReal)) : EReal) := by
  unfold scaled
  rw [clip32_at, ← coe_clipE]
  change min _ (max 0 (v * Ideal.ofBits .f32 0x3D000000#32)) = _
  rw [litRatio]
theorem side_at {lo hi : FVec Ideal S16 .f32} {a b : ℝ} (ha : lo l = (a : EReal)) (hb : hi l = (b : EReal)) :
    side lo hi l = (((b - a) / 7 : ℝ) : EReal) := by
  change (hi l - lo l) * (KerI.seventh : Ideal .f32) = _
  rw [ha, hb, seventh_eq, ← EReal.coe_sub, ← EReal.coe_mul]
  congr 1; ring

variable {lo d : FVec Ideal S16 .f32} {p q : IVec S16 32} {a δ : ℝ} {P Q : ℕ}

theorem edgeLo_at (ha : lo l = (a : EReal)) (hd : d l = (δ : EReal)) (hp : p l = BitVec.ofNat 32 P) (hP : P ≤ 31) :
    KerI.edgeLo lo d p l = (edge a δ P : EReal) := by
  unfold KerI.edgeLo edge
  rw [clip32_at, ← coe_clip]
  change min _ (max 0 (lo l + FloatOps.sitofp (F := Ideal) .f32 (p l) * d l)) = _
  rw [ha, hd, hp, Ref.sitofp_nat hP, ← EReal.coe_mul, ← EReal.coe_add]
theorem edgeHi_at (ha : lo l = (a : EReal)) (hd : d l = (δ : EReal)) (hp : p l = BitVec.ofNat 32 P) (hP : P ≤ 31) :
    KerI.edgeHi lo d p l = (edge' a δ P : EReal) := by
  unfold KerI.edgeHi edge'
  rw [clip32_at, ← coe_clip]
  change min _ (max 0 (lo l + (FloatOps.sitofp (F := Ideal) .f32 (p l) + Ideal.ofBits .f32 0x3F800000#32) * d l)) = _
  rw [ha, hd, hp, Ref.sitofp_nat hP, litOne, ← EReal.coe_add, ← EReal.coe_mul, ← EReal.coe_add]
theorem coord_at (ha : lo l = (a : EReal)) (hd : d l = (δ : EReal)) (hp : p l = BitVec.ofNat 32 P) (hP : P ≤ 31)
    (hq : q l = BitVec.ofNat 32 Q) (hQ : Q ≤ 31) : KerI.coord lo d p q l = (coord a δ P Q : EReal) := by
  change (KerI.edgeLo lo d p l + d l * Ideal.ofBits .f32 0x3E800000#32) + FloatOps.sitofp (F := Ideal) .f32 (q l) * (d l * Ideal.ofBits .f32 0x3F000000#32) = _
  rw [edgeLo_at ha hd hp hP, hd, hq, Ref.sitofp_nat hQ, litQuarter, litHalf, ← EReal.coe_mul, ← EReal.coe_mul, ← EReal.coe_mul, ← EReal.coe_add, ← EReal.coe_add]
  unfold coord
  congr 1; ring

variable {s : FVec Ideal S16 .f32} {σ : ℝ}

theorem cell_at (hs : s l = (σ : EReal)) : KerI.cell s l = BitVec.ofNat 32 (cell σ) := by
  change IntOp.minsi 31#32 (IntOp.maxsi 0#32 (Ideal.fptosi 32 (s l))) = _
  rw [hs, cell_word]
theorem next_at (hs : s l = (σ : EReal)) : KerI.next (KerI.cell s) l = BitVec.ofNat 32 (next (cell σ)) := by
  change IntOp.minsi (KerI.cell s l + 1#32) 31#32 = _
  rw [cell_at hs, next_word (cell_le σ)]
theorem wNext_at (hs : s l = (σ : EReal)) : KerI.wNext s l = (wNext σ : EReal) := by
  change s l - FloatOps.sitofp (F := Ideal) .f32 (KerI.cell s l) = _
  rw [cell_at hs, hs, Ref.sitofp_nat (cell_le σ), ← EReal.coe_sub]; rfl
theorem wCell_at (hs : s l = (σ : EReal)) : KerI.wCell s l = (wCell σ : EReal) := by
  change FloatOps.sitofp (F := Ideal) .f32 (KerI.next (KerI.cell s) l) - s l = _
  rw [next_at hs, hs, Ref.sitofp_nat (next_le _), ← EReal.coe_sub]; rfl

end Lane

/-! ## One sample -/

section Sample

variable (b x1 y1 x2 y2 : EReal)

/-- The box the kernel computes with. -/
def kbox : Box where
  x1 := clipE (x1 * ((1 / 32 : ℝ) : EReal))
  y1 := clipE (y1 * ((1 / 32 : ℝ) : EReal))
  x2 := clipE (x2 * ((1 / 32 : ℝ) : EReal))
  y2 := clipE (y2 * ((1 / 32 : ℝ) : EReal))

/-- The region's numbers, and its bin and the place in it, of sample `t`. -/
abbrev reg : Reg Ideal := regOf (F := Ideal) b x1 y1 x2 y2

variable (t : Fin 196)

/-- Sample `t`'s chunk's samples, and its lane. -/
abbrev vec (t : Fin 196) : IVec S16 32 := samp (cW (t.val / 16))
abbrev lane (t : Fin 196) : S16.Idx := ln ⟨t.val % 16, Nat.mod_lt _ (by decide)⟩
abbrev kY : ℝ := coord (kbox x1 y1 x2 y2).y1 (kbox x1 y1 x2 y2).h (t.val / 28) (t.val % 4 / 2)
abbrev kX : ℝ := coord (kbox x1 y1 x2 y2).x1 (kbox x1 y1 x2 y2).w (t.val % 28 / 4) (t.val % 2)

theorem by1_at (l : S16.Idx) : (reg b x1 y1 x2 y2).by1 l = ((kbox x1 y1 x2 y2).y1 : EReal) := scaled_at _
theorem bx1_at (l : S16.Idx) : (reg b x1 y1 x2 y2).bx1 l = ((kbox x1 y1 x2 y2).x1 : EReal) := scaled_at _
theorem bh_at (l : S16.Idx) : (reg b x1 y1 x2 y2).bh l = ((kbox x1 y1 x2 y2).h : EReal) := side_at (scaled_at _) (scaled_at _)
theorem bw_at (l : S16.Idx) : (reg b x1 y1 x2 y2).bw l = ((kbox x1 y1 x2 y2).w : EReal) := side_at (scaled_at _) (scaled_at _)

theorem sy_at : (reg b x1 y1 x2 y2).sy (vec t) (lane t) = (kY x1 y1 x2 y2 t : EReal) :=
  coord_at (by1_at ..) (bh_at ..) (lanes t).1 (by omega) (lanes t).2.2.1 (by omega)
theorem sx_at : (reg b x1 y1 x2 y2).sx (vec t) (lane t) = (kX x1 y1 x2 y2 t : EReal) :=
  coord_at (bx1_at ..) (bw_at ..) (lanes t).2.1 (by omega) (lanes t).2.2.2 (by omega)

open Classical in
theorem select_and {α : Type} (a b : Prop) (x y : α) :
    Scalar.select (IntOp.andi (BitVec.ofBool (decide a)) (BitVec.ofBool (decide b))) x y = if a ∧ b then x else y := by
  by_cases ha : a <;> by_cases hb : b <;> simp [ha, hb, Scalar.select, IntOp.andi]

open Classical in
theorem flag_at : KerI.binValid (reg b x1 y1 x2 y2).by1 (reg b x1 y1 x2 y2).bh (reg b x1 y1 x2 y2).bx1 (reg b x1 y1 x2 y2).bw (reg b x1 y1 x2 y2).rvf (vec t) (lane t)
    = if (kbox x1 y1 x2 y2).Full (t.val / 28) (t.val % 28 / 4) then 1 else 0 := by
  have hv : (reg b x1 y1 x2 y2).rvf (lane t) = if (kbox x1 y1 x2 y2).x1 < (kbox x1 y1 x2 y2).x2 ∧ (kbox x1 y1 x2 y2).y1 < (kbox x1 y1 x2 y2).y2 then 1 else 0 := by
    change Scalar.select (IntOp.andi (FloatOps.cmpf (F := Ideal) .ogt (scaled (F := Ideal) (fun _ => x2) (lane t)) (scaled (F := Ideal) (fun _ => x1) (lane t)))
      (FloatOps.cmpf (F := Ideal) .ogt (scaled (F := Ideal) (fun _ => y2) (lane t)) (scaled (F := Ideal) (fun _ => y1) (lane t)))) (Ideal.ofBits .f32 0x3F800000#32) (Ideal.ofBits .f32 0x00000000#32) = _
    rw [scaled_at, scaled_at, scaled_at, scaled_at, ogt_coe, ogt_coe, select_and, litOne, Ideal.ofBits_zero_f32, EReal.coe_one]
    rfl
  change Scalar.select (IntOp.andi
      (FloatOps.cmpf (F := Ideal) .ogt (KerI.edgeHi (reg b x1 y1 x2 y2).by1 (reg b x1 y1 x2 y2).bh (phV (vec t)) (lane t)) (KerI.edgeLo (reg b x1 y1 x2 y2).by1 (reg b x1 y1 x2 y2).bh (phV (vec t)) (lane t)))
      (FloatOps.cmpf (F := Ideal) .ogt (KerI.edgeHi (reg b x1 y1 x2 y2).bx1 (reg b x1 y1 x2 y2).bw (pwV (vec t)) (lane t)) (KerI.edgeLo (reg b x1 y1 x2 y2).bx1 (reg b x1 y1 x2 y2).bw (pwV (vec t)) (lane t))))
    ((reg b x1 y1 x2 y2).rvf (lane t)) (Ideal.ofBits .f32 0x00000000#32) = _
  rw [edgeHi_at (by1_at ..) (bh_at ..) (lanes t).1 (by omega), edgeLo_at (by1_at ..) (bh_at ..) (lanes t).1 (by omega),
    edgeHi_at (bx1_at ..) (bw_at ..) (lanes t).2.1 (by omega), edgeLo_at (bx1_at ..) (bw_at ..) (lanes t).2.1 (by omega),
    ogt_coe, ogt_coe, select_and, hv, Ideal.ofBits_zero_f32]
  unfold Box.Full
  split_ifs <;> first | rfl | (exfalso; tauto)

/-! ## One place of the list and of the weights -/

/-- The corner's cell along each axis. -/
def cornerY (k : ℕ) : ℕ := if k < 2 then cell (kY x1 y1 x2 y2 t) else next (cell (kY x1 y1 x2 y2 t))
def cornerX (k : ℕ) : ℕ := if k % 2 = 0 then cell (kX x1 y1 x2 y2 t) else next (cell (kX x1 y1 x2 y2 t))
/-- The corner's weight along each axis. -/
def weightY (k : ℕ) : ℝ := if k < 2 then wCell (kY x1 y1 x2 y2 t) else wNext (kY x1 y1 x2 y2 t)
def weightX (k : ℕ) : ℝ := if k % 2 = 0 then wCell (kX x1 y1 x2 y2 t) else wNext (kX x1 y1 x2 y2 t)

theorem place (k : Fin 4) : (reg b x1 y1 x2 y2).list (4 * t.val + k.val) = (reg b x1 y1 x2 y2).rows k.val (vec t) (lane t)
    ∧ (reg b x1 y1 x2 y2).wt (4 * t.val + k.val) = (reg b x1 y1 x2 y2).wts k.val (vec t) (lane t) := by
  have h1 : (4 * t.val + k.val) % 4 = k.val := by omega
  have h2 : (4 * t.val + k.val) / 64 = t.val / 16 := by omega
  have h3 : KerI.laneOf (4 * t.val + k.val) = lane t := congrArg ln (Fin.ext (show (4 * t.val + k.val) % 64 / 4 = t.val % 16 by omega))
  unfold Reg.list Reg.wt
  rw [h1, h2, h3]
  exact ⟨rfl, rfl⟩

open Classical in
theorem wt_at (k : Fin 4) : (reg b x1 y1 x2 y2).wt (4 * t.val + k.val)
    = ((weightY x1 y1 x2 y2 t k.val : EReal) * (weightX x1 y1 x2 y2 t k.val : EReal)) * (if (kbox x1 y1 x2 y2).Full (t.val / 28) (t.val % 28 / 4) then 1 else 0) := by
  rw [(place ..).2, ← flag_at b x1 y1 x2 y2 t]
  have hy := wCell_at (sy_at b x1 y1 x2 y2 t)
  have hy' := wNext_at (sy_at b x1 y1 x2 y2 t)
  have hx := wCell_at (sx_at b x1 y1 x2 y2 t)
  have hx' := wNext_at (sx_at b x1 y1 x2 y2 t)
  match k with
  | 0 => exact congrArg₂ (fun u v : EReal => u * v * _) hy hx
  | 1 => exact congrArg₂ (fun u v : EReal => u * v * _) hy hx'
  | 2 => exact congrArg₂ (fun u v : EReal => u * v * _) hy' hx
  | 3 => exact congrArg₂ (fun u v : EReal => u * v * _) hy' hx'

theorem row_at (hb : (Ideal.fptosi 32 b).toNat < 4) (k : Fin 4) : ((reg b x1 y1 x2 y2).list (4 * t.val + k.val)).toNat
    = 1024 * (Ideal.fptosi 32 b).toNat + 32 * cornerY x1 y1 x2 y2 t k.val + cornerX x1 y1 x2 y2 t k.val := by
  rw [(place ..).1]
  have hw {n : ℕ} (h : n ≤ 31) : (BitVec.ofNat 32 n).toNat = n := by rw [BitVec.toNat_ofNat, Nat.mod_eq_of_lt (by omega)]
  have key (yy xx : IVec S16 32) (Y X : ℕ) (hY : Y ≤ 31) (hX : X ≤ 31) (ey : yy (lane t) = BitVec.ofNat 32 Y) (ex : xx (lane t) = BitVec.ofNat 32 X) :
      (KerI.rowOf (KerI.baseRow (F := Ideal) (fun _ => b)) yy xx (lane t)).toNat = 1024 * (Ideal.fptosi 32 b).toNat + 32 * Y + X := by
    have h := KerI.rowOf_val (fptosi (F := Ideal) (φ := .f32) 32 (fun _ => b)) yy xx (lane t) hb (by rw [ey, hw hY]; omega) (by rw [ex, hw hX]; omega)
    rw [ey, ex, hw hY, hw hX] at h
    exact h
  have hy := cell_at (sy_at b x1 y1 x2 y2 t)
  have hy' := next_at (sy_at b x1 y1 x2 y2 t)
  have hx := cell_at (sx_at b x1 y1 x2 y2 t)
  have hx' := next_at (sx_at b x1 y1 x2 y2 t)
  match k with
  | 0 => exact key _ _ _ _ (cell_le _) (cell_le _) hy hx
  | 1 => exact key _ _ _ _ (cell_le _) (next_le _) hy hx'
  | 2 => exact key _ _ _ _ (next_le _) (cell_le _) hy' hx
  | 3 => exact key _ _ _ _ (next_le _) (next_le _) hy' hx'

/-! ## A bin -/

theorem kY_nonneg (h : (kbox x1 y1 x2 y2).Full (t.val / 28) (t.val % 28 / 4)) : 0 ≤ kY x1 y1 x2 y2 t := by
  have h0 : 0 ≤ (kbox x1 y1 x2 y2).h := by
    have := h.1.2
    unfold Box.h
    linarith
  have h1 : 0 ≤ edge (kbox x1 y1 x2 y2).y1 (kbox x1 y1 x2 y2).h (t.val / 28) := clip_nonneg _
  have h2 : (0 : ℝ) ≤ ((t.val % 4 / 2 : ℕ) : ℝ) := Nat.cast_nonneg _
  unfold kY coord
  positivity

open Classical in
/-- A sample of a bin: the blend, or zero where the bin is empty. -/
theorem sample_at (g : ℕ → ℕ → EReal) (w G : ℕ → EReal) (s : ℕ) (hw : ∀ k : Fin 4, w (4 * s + k.val) = (reg b x1 y1 x2 y2).wt (4 * t.val + k.val))
    (hG : ∀ k : Fin 4, G (4 * s + k.val) = g (cornerY x1 y1 x2 y2 t k.val) (cornerX x1 y1 x2 y2 t k.val)) :
    KerI.sampleAt (F := Ideal) w G s = if (kbox x1 y1 x2 y2).Full (t.val / 28) (t.val % 28 / 4) then (kbox x1 y1 x2 y2).sample g (t.val / 28) (t.val % 28 / 4) (t.val % 4 / 2) (t.val % 2) else 0 := by
  change ((w (4 * s + 0) * G (4 * s + 0) + w (4 * s + 1) * G (4 * s + 1)) + w (4 * s + 2) * G (4 * s + 2)) + w (4 * s + 3) * G (4 * s + 3) = _
  have w0 := (hw 0).trans (wt_at b x1 y1 x2 y2 t 0)
  have w1 := (hw 1).trans (wt_at b x1 y1 x2 y2 t 1)
  have w2 := (hw 2).trans (wt_at b x1 y1 x2 y2 t 2)
  have w3 := (hw 3).trans (wt_at b x1 y1 x2 y2 t 3)
  have g0 := hG 0
  have g1 := hG 1
  have g2 := hG 2
  have g3 := hG 3
  simp only [Fin.val_zero, Fin.val_one, Fin.val_two, show ((3 : Fin 4) : ℕ) = 3 from rfl] at w0 w1 w2 w3 g0 g1 g2 g3
  rw [w0, w1, w2, w3, g0, g1, g2, g3]
  by_cases h : (kbox x1 y1 x2 y2).Full (t.val / 28) (t.val % 28 / 4)
  · simp only [if_pos h, mul_one]
    exact blend_eq _ _ g (kY_nonneg x1 y1 x2 y2 t h)
  · simp only [if_neg h, mul_zero, zero_mul, add_zero]

theorem pool_at (g : ℕ → ℕ → EReal) (w G : ℕ → EReal) (n : Fin 49) (hw : ∀ k, w k = (reg b x1 y1 x2 y2).wt (16 * n.val + k))
    (hG : ∀ (s k : Fin 4), G (4 * s.val + k.val) = g (cornerY x1 y1 x2 y2 ⟨4 * n.val + s.val, by omega⟩ k.val) (cornerX x1 y1 x2 y2 ⟨4 * n.val + s.val, by omega⟩ k.val)) :
    KerI.poolAt (F := Ideal) w G = (kbox x1 y1 x2 y2).pool g (n.val / 7) (n.val % 7) := by
  classical
  have hs (s : Fin 4) (my mx : ℕ) (e : s.val = 2 * my + mx) (hm : mx < 2) : KerI.sampleAt (F := Ideal) w G s.val
      = if (kbox x1 y1 x2 y2).Full (n.val / 7) (n.val % 7) then (kbox x1 y1 x2 y2).sample g (n.val / 7) (n.val % 7) my mx else 0 := by
    rw [sample_at b x1 y1 x2 y2 ⟨4 * n.val + s.val, by omega⟩ g w G s.val (fun k => (hw _).trans (congrArg _ (by change _ = 4 * (4 * n.val + s.val) + k.val; omega))) (hG s)]
    have e1 : (4 * n.val + s.val) / 28 = n.val / 7 := by omega
    have e2 : (4 * n.val + s.val) % 28 / 4 = n.val % 7 := by omega
    have e3 : (4 * n.val + s.val) % 4 / 2 = my := by omega
    have e4 : (4 * n.val + s.val) % 2 = mx := by omega
    simp only [e1, e2, e3, e4]
  change max (max (max (KerI.sampleAt (F := Ideal) w G 0) (KerI.sampleAt (F := Ideal) w G 1)) (KerI.sampleAt (F := Ideal) w G 2)) (KerI.sampleAt (F := Ideal) w G 3) = _
  have h0 := hs 0 0 0 rfl (by omega)
  have h1 := hs 1 0 1 rfl (by omega)
  have h2 := hs 2 1 0 rfl (by omega)
  have h3 := hs 3 1 1 rfl (by omega)
  simp only [Fin.val_zero, Fin.val_one, Fin.val_two, show ((3 : Fin 4) : ℕ) = 3 from rfl] at h0 h1 h2 h3
  rw [h0, h1, h2, h3]
  unfold Box.pool
  by_cases h : (kbox x1 y1 x2 y2).Full (n.val / 7) (n.val % 7)
  · simp only [if_pos h]
  · simp only [if_neg h, max_self]

end Sample

end Cert.Proof.Val.Ker

end
-- ==== Proof.Value.RefOut.lean ====
module

public import proofs.«01_k».proof.Proof.Value.Ref
public import Idealize.ShloMosaic.Lib.Pointwise.Reduce

@[expose] public section

noncomputable section

/-! The reference's result: every bin's value, by the formula. -/

namespace Cert.Proof.Val.Ref

open Cert.ReferenceIdeal Cert.ReferenceIdeal.Gen Cert.ReferenceIdeal.Value Idealize.ShloMosaic Idealize.ShloMosaic.TcCoe Idealize.SL.Sem Idealize.ShloMosaic.StableHlo

/-- The result array of images and regions. -/
def result (A : S4x128x32x32.Idx → EReal) (R : S1000x5.Idx → EReal) : S1000x128x7x7.Idx → EReal := fun j =>
  (box R (j 0)).pool (plane A (Ideal.fptosi 32 (R (ix2 (j 0) 0))).toNat (j 1)) (j 2).val (j 3).val

/-- The largest over the samples' two axes. -/
theorem reduce_at (X : S1000x7x7x2x2x128.Idx → EReal) (n : Fin 1000) (ph pw : Fin 7) (c : Fin 128) :
    (Finset.univ.filter fun i => reducesTo_S1000x7x7x2x2x128_S1000x7x7x128_d3_4.drop i = ix4 n ph pw c).fold max (Ideal.ofBits .f32 0xFF800000#32) X
      = max (max (max (X (ix6 n ph pw 0 0 c)) (X (ix6 n ph pw 1 0 c))) (X (ix6 n ph pw 0 1 c))) (X (ix6 n ph pw 1 1 c)) := by
  rw [Finset.fold_filter_eq_fold_of_fiber max _ (fun k : Fin 2 × Fin 2 => (ix6 n ph pw k.1 k.2 c : S1000x7x7x2x2x128.Idx)) (fun _ _ e => Prod.ext (congrFun e 3) (congrFun e 4))]
  · have u : (Finset.univ : Finset (Fin 2 × Fin 2)) = {(1, 1), (0, 1), (1, 0), (0, 0)} := by decide
    rw [u, Finset.fold_insert (by decide), Finset.fold_insert (by decide), Finset.fold_insert (by decide), Finset.fold_singleton]
    rw [litBot, max_bot_right, max_comm (X (ix6 n ph pw 1 0 c)), max_comm (X (ix6 n ph pw 0 1 c)), max_comm (X (ix6 n ph pw 1 1 c))]
  · intro i
    constructor
    · intro e
      refine ⟨(i 3, i 4), ?_⟩
      funext a; apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => rfl
      | ⟨5, _⟩ => exact (congrArg Fin.val (congrFun e 3)).symm
    · rintro ⟨k, rfl⟩
      funext b
      match b with
      | ⟨0, _⟩ => rfl
      | ⟨1, _⟩ => rfl
      | ⟨2, _⟩ => rfl
      | ⟨3, _⟩ => rfl

variable (V : Valuation τ sig (Elt Ideal))

theorem edge'_at (v8 v27 v23 : EReal) {lo p d : ℝ} (h8 : v8 = lo) (h27 : v27 = p) (h23 : v23 = d) :
    min (id (constant (F := Ideal) S_ .f32 0x42000000#32) ix0) (max (id (constant (F := Ideal) S_ .f32 0x00000000#32) ix0) (v8 + (v27 + 1) * v23)) = (clip (lo + (p + 1) * d) : EReal) := by
  subst h8 h27 h23
  change min (Ideal.ofBits .f32 0x42000000#32) (max (Ideal.ofBits .f32 0x00000000#32) _) = _
  rw [lit32, Ideal.ofBits_zero_f32, ← EReal.coe_one, ← EReal.coe_add, ← EReal.coe_mul, ← EReal.coe_add, coe_clip]

theorem run_result (m : (ℓ : Loc nD τ sig) → Buf (Elt Ideal) ℓ) (ρ : Dev nD → PrngReg)
    (hb : ∀ (c : Dev nD) (n : Fin 1000), (Ideal.fptosi 32 ((m ((c.tc : Thread nD τ).loc main_arg1) : S1000x5.Idx → EReal) (ix2 n 0))).toNat < 4) :
    θ_run defs (onTc (τ := τ) (main (F := Ideal))) ⟨m, fun _ => 0, ρ⟩ fun r => ∀ c : Dev nD,
      r.2.mem ((c.tc : Thread nD τ).loc main_v242) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (run m ρ)
  clear h
  funext j
  obtain ⟨n, ch, ph, pw, rfl⟩ : ∃ (n : Fin 1000) (ch : Fin 128) (ph pw : Fin 7), j = ix4 n ch ph pw := ⟨_, _, _, _, eq_ix4 j⟩
  pointwise
  refine (congrArg (Scalar.select _ · _) (reduce_at _ n ph pw ch)).trans ?_
  have hv (mx my : Fin 2) := v235_at (V := launchContents m c) n ph pw mx my ch (hb c n)
  rw [hv, hv, hv, hv, edge'_at _ _ _ (v11_at ..) (v28_at ..) (v26_at ..), edge'_at _ _ _ (v8_at ..) (v27_at ..) (v23_at ..),
    v14_at, v8_at, v17_at, v11_at, v57_at, v37_at, ogt_coe, ogt_coe, ogt_coe, ogt_coe, select_bits]
  change (if _ then _ else Ideal.ofBits .f32 0x00000000#32) = _
  rw [Ideal.ofBits_zero_f32]
  change _ = (bx (launchContents m c) n).pool (plane (imgs (launchContents m c)) (Ideal.fptosi 32 (rois (launchContents m c) (ix2 n 0))).toNat ch) ph.val pw.val
  unfold Box.pool
  classical exact ite_congr rfl (fun _ => rfl) fun _ => rfl

end Cert.Proof.Val.Ref

end
-- ==== Proof.Value.KerOut.lean ====
module

public import proofs.«01_k».proof.Proof.Value.Ker
public import proofs.«01_k».proof.Proof.Value.RefOut

@[expose] public section

noncomputable section

/-! The kernel's result array is the reference's: the table's rows are the images' pixels, and every region's bins are the formula's. -/

namespace Cert.Proof.Val.Ker

open Cert.KernelIdeal Cert.KernelIdeal.Gen Idealize.ShloMosaic Idealize.SL.Sem
open Cert.Proof.KerI (V0 V1 V2 V3 V4 V5 V6 V7 V8 V9 V10 V11 V12 tabOf boxOf resVal regAt resOf aLoc bLoc rLoc)

variable (m : (ℓ : Loc nD τ sig) → Buf (Elt Ideal) ℓ) (d : Dev nD)

abbrev imgs : S4x128x32x32.Idx → EReal := m (aLoc d)
abbrev rois : S1000x5.Idx → EReal := m (bLoc d)

/-! ## The table -/

theorem tabOf_eq : tabOf m d = shapeCast S4096x128 (transpose S4x32x32x128 [0, 2, 3, 1] (imgs m d) transposes_S4x128x32x32_S4x32x32x128_0_2_3_1) shapeCasts_S4x32x32x128_S4096x128 := by
  unfold tabOf V8 V7 V6 V5 V4 V3 V2 V1 V0
  simp (disch := decide) only [StableHlo.unary_result', StableHlo.ternary_result', StableHlo.nullary_result', StableHlo.reshape_result', StableHlo.unary_result_ne', StableHlo.nullary_result_ne', StableHlo.reshape_result_ne', StableHlo.ternary_result_ne']
  rfl

theorem tab_at (r b : ℕ) (y x : ℕ) (hb : b < 4) (hy : y ≤ 31) (hx : x ≤ 31) (hr : r = 1024 * b + 32 * y + x) (c : Fin 128) :
    tabOf m d (ix2 ⟨r % 4096, Nat.mod_lt _ (by decide)⟩ c) = Ref.plane (imgs m d) b c y x := by
  rw [tabOf_eq, ← Ref.plane_eq (imgs m d) c hb hy hx]
  rw [shapeCast_apply _ _ (ix2 ⟨r % 4096, Nat.mod_lt _ (by decide)⟩ c) (ix4 ⟨b, hb⟩ ⟨y, by omega⟩ ⟨x, by omega⟩ c) (by
    rw [Shape.rowMajor_val_four, Shape.rowMajor_val_two]
    change ((b * 32 + y) * 32 + x) * 128 + c.val = (r % 4096) * 128 + c.val
    rw [show r % 4096 = (b * 32 + y) * 32 + x by omega])]
  pointwise

/-! ## A region -/

theorem cornerY_le (x1 y1 x2 y2 : EReal) (t : Fin 196) (k : ℕ) : cornerY x1 y1 x2 y2 t k ≤ 31 := by
  unfold cornerY; split_ifs
  · exact cell_le _
  · exact next_le _
theorem cornerX_le (x1 y1 x2 y2 : EReal) (t : Fin 196) (k : ℕ) : cornerX x1 y1 x2 y2 t k ≤ 31 := by
  unfold cornerX; split_ifs
  · exact cell_le _
  · exact next_le _

theorem regAt_eq (n : Fin 1000) : regAt (boxOf m d) n.val = reg (rois m d (ix2 n 0)) (rois m d (ix2 n 1)) (rois m d (ix2 n 2)) (rois m d (ix2 n 3)) (rois m d (ix2 n 4)) := by
  have h (k : Fin 5) : boxOf m d (ValueIdx.ix2 k ⟨n.val % 1024, Nat.mod_lt _ (by decide)⟩) = rois m d (ix2 n k) := by
    have e : (⟨n.val % 1024, Nat.mod_lt _ (by decide)⟩ : Fin 1024) = ⟨n.val, by omega⟩ := Fin.ext (Nat.mod_eq_of_lt (by omega))
    rw [e]
    exact KerI.box_in m d k n.val n.isLt
  unfold regAt
  simp only [h]

theorem res_at (hb : ∀ n : Fin 1000, (Ideal.fptosi 32 (rois m d (ix2 n 0))).toNat < 4) (n : Fin 1000) (ph pw : Fin 7) (c : Fin 128) :
    resVal (tabOf m d) (boxOf m d) (ix3 ⟨n.val, by omega⟩ ⟨7 * ph.val + pw.val, by omega⟩ c) = Ref.result (imgs m d) (rois m d) (ix4 n c ph pw) := by
  change KerI.roiVal (tabOf m d) (regAt (boxOf m d) n.val) (ix2 ⟨7 * ph.val + pw.val, by omega⟩ c) = _
  rw [regAt_eq]
  refine (pool_at _ _ _ _ _ (Ref.plane (imgs m d) (Ideal.fptosi 32 (rois m d (ix2 n 0))).toNat c) _ _ ⟨7 * ph.val + pw.val, by omega⟩ (fun k => rfl) fun s k => ?_).trans ?_
  · refine tab_at m d _ _ _ _ (hb n) (cornerY_le ..) (cornerX_le ..) ?_ c
    refine (congrArg (fun p => ((reg _ _ _ _ _).list p).toNat) ?_).trans (row_at _ _ _ _ _ ⟨4 * (7 * ph.val + pw.val) + s.val, by omega⟩ (hb n) k)
    change 16 * (7 * ph.val + pw.val) + (4 * s.val + k.val) = 4 * (4 * (7 * ph.val + pw.val) + s.val) + k.val
    omega
  · change (Ref.box (rois m d) n).pool _ ((7 * ph.val + pw.val) / 7) ((7 * ph.val + pw.val) % 7) = (Ref.box (rois m d) n).pool _ ph.val pw.val
    rw [show (7 * ph.val + pw.val) / 7 = ph.val by omega, show (7 * ph.val + pw.val) % 7 = pw.val by omega]
    rfl

/-! ## The result -/

theorem resOf_eq : resOf m d = transpose S1000x128x7x7 [0, 3, 1, 2] (shapeCast S1000x7x7x128 (extractStridedSlice S1000x49x128 ![0, 0, 0] (resVal (tabOf m d) (boxOf m d)) slices_S1024x49x128_S1000x49x128_0_0_0)
    shapeCasts_S1000x49x128_S1000x7x7x128) transposes_S1000x7x7x128_S1000x128x7x7_0_3_1_2 := by
  have h9 : V9 m d KerI.r_v6 = resVal (tabOf m d) (boxOf m d) := Function.update_self ..
  unfold resOf V12 V11 V10
  simp (disch := decide) only [StableHlo.unary_result', StableHlo.reshape_result', StableHlo.unary_result_ne', StableHlo.reshape_result_ne']
  rw [h9]
  rfl

theorem result_eq (hb : ∀ n : Fin 1000, (Ideal.fptosi 32 (rois m d (ix2 n 0))).toNat < 4) : resOf m d = Ref.result (imgs m d) (rois m d) := by
  rw [resOf_eq]
  funext j
  obtain ⟨n, c, ph, pw, rfl⟩ : ∃ (n : Fin 1000) (c : Fin 128) (ph pw : Fin 7), j = ix4 n c ph pw := ⟨_, _, _, _, eq_ix4 j⟩
  rw [← res_at m d hb n ph pw c]
  pointwise
  rw [shapeCast_apply _ _ (ix4 n ph pw c) (ix3 n ⟨7 * ph.val + pw.val, by omega⟩ c) (by
    rw [Shape.rowMajor_val_four, Shape.rowMajor_val_three]
    change (n.val * 49 + (7 * ph.val + pw.val)) * 128 + c.val = ((n.val * 7 + ph.val) * 7 + pw.val) * 128 + c.val
    ring)]
  pointwise

end Cert.Proof.Val.Ker

end
-- ==== Proof.lean ====
module

public import proofs.«01_k».proof.Defs
public import proofs.«01_k».proof.Proof.Range
public import proofs.«01_k».proof.Proof.Ideal.Range
public import proofs.«01_k».proof.Proof.Pre
public import Idealize.ShloMosaic.Lib.FpToIntPart
public import Idealize.ShloMosaic.PureOps.Ideal.Laws
public import proofs.«01_k».proof.Proof.Gen.ReferenceIdeal
public import proofs.«01_k».proof.Proof.Gen.ReferenceIdeal.Run
public import proofs.«01_k».proof.Proof.Value.KerOut

@[expose] public section

noncomputable section

/-! The claims, each from its program's run. -/

namespace Cert.Proof

open Idealize.ShloMosaic Idealize.SL.Sem

theorem zero_bits : (FloatOps.fptosi 32 (Scalar.ofBits .f32 0x00000000#32 : Bits .f32) : BitVec 32) = 0#32 := by
  exact (Bits.fptosi32_eq_intPart (by decide) _).trans (by decide)
theorem zero_ideal : (FloatOps.fptosi 32 (Scalar.ofBits .f32 0x00000000#32 : Ideal .f32) : BitVec 32) = 0#32 := by
  change Ideal.fptosi 32 (Ideal.ofBits .f32 0x00000000#32) = 0#32
  rw [Ideal.ofBits_zero_f32]
  change BitVec.ofInt 32 (max (-(2 ^ (32 - 1) : Nat)) (min ((2 ^ (32 - 1) : Nat) - 1) (if (0 : ℝ) ≤ 0 then ⌊(0 : ℝ)⌋ else ⌈(0 : ℝ)⌉))) = 0#32
  simp

theorem frame_p : Cert.quiescent_Kernel := fun m g h =>
  (θ_run Cert.Kernel.defs _ _).mono (fun _ e => ⟨fun c => ⟨(e.1 c).1, (e.1 c).2.1⟩, e.2⟩)
    (Ker.run_main (F := Bits) m g fun d => Ker.inTable m d zero_bits (Pre.image_lt _ _ (h d)))

theorem frame_pi : Cert.quiescent_KernelIdeal := fun m g h =>
  (θ_run Cert.KernelIdeal.defs _ _).mono (fun _ e => ⟨fun c => ⟨(e.1 c).1, (e.1 c).2.1⟩, e.2⟩)
    (KerI.run_main (F := Ideal) m g fun d => KerI.inTable m d zero_ideal (Pre.image_lt _ _ (h d)))

theorem frame_ri : Cert.quiescent_ReferenceIdeal := fun m g _ =>
  (θ_run Cert.ReferenceIdeal.defs _ _).mono (fun r e => ⟨fun c => (e c).2, sem_eq_zero_of_no_sems (by decide) r.2⟩)
    (Cert.ReferenceIdeal.Value.run (F := Ideal) m g)

theorem preserves : Cert.preserves_Kernel_KernelIdeal := IdealRules.named_const.statement _ _ _ _ _ rfl

theorem frame_ri_pre : Cert.quiescent_ReferenceIdeal_pre_batch_in_range := fun m g _ =>
  (θ_run Cert.ReferenceIdeal.defs _ _).mono (fun r e => ⟨fun c => (e c).2, sem_eq_zero_of_no_sems (by decide) r.2⟩)
    (Cert.ReferenceIdeal.Value.run (F := Ideal) m g)

theorem algebraic : Cert.algebraic_KernelIdeal_ReferenceIdeal := by
  intro m g m' g' h hm
  have hb (c : Dev Cert.KernelIdeal.nD) (n : Fin 1000) : (Ideal.fptosi 32 (Val.Ker.rois m c (ix2 n 0))).toNat < 4 := Pre.image_lt _ _ (h c) n
  refine ⟨fun c => KerI.resOf m c, ?_, ?_⟩
  · exact (θ_run Cert.KernelIdeal.defs _ _).mono (fun _ e c => ⟨(e.1 c).2.2, (e.1 c).1, (e.1 c).2.1⟩)
      (KerI.run_main (F := Ideal) m g fun d => KerI.inTable m d zero_ideal (Pre.image_lt _ _ (h d)))
  · refine (θ_run Cert.ReferenceIdeal.defs _ _).mono (fun _ e c => ⟨(e c).1.trans ?_, (e c).2⟩) (Val.Ref.run_result m' g' fun c n => ?_)
    · rw [(hm c).2]; exact hb c n
    · rw [(hm c).1, (hm c).2]; exact (Val.Ker.result_eq m c (hb c)).symm

theorem claim : Cert.Claim := ⟨Cert.Kernel.Gen.facts, Cert.KernelIdeal.Gen.facts, Cert.ReferenceIdeal.Gen.facts, Pre.preFacts,
  frame_p, frame_pi, frame_ri, frame_ri_pre, preserves, algebraic⟩

end Cert.Proof

end
